-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def bitexact_Kernel_Reference_on_casts_only [hKernel : Cert.Kernel.Facts] [hReference : Cert.Reference.Facts] [hOn_casts_only : Cert.On_casts_only.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)
      ∧ m' ((c.tc : Thread Cert.Reference.nD Cert.Reference.τ).loc Cert.Reference.main_arg9) = m ((c.tc : Thread Cert.Kernel.nD Cert.Kernel.τ).loc Cert.Kernel.main_arg9)) →
    ∃ (v0 : (c : Dev Cert.Kernel.nD) → Buf (Elt Bits) ((c.tc : Thread Cert.Kernel.nD Cert.Kernel.τ).loc Cert.Kernel.main_v4_0)) (v1 : (c : Dev Cert.Kernel.nD) → Buf (Elt Bits) ((c.tc : Thread Cert.Kernel.nD Cert.Kernel.τ).loc Cert.Kernel.main_v4_1)) (v2 : (c : Dev Cert.Kernel.nD) → Buf (Elt Bits) ((c.tc : Thread Cert.Kernel.nD Cert.Kernel.τ).loc Cert.Kernel.main_v4_2)) (v3 : (c : Dev Cert.Kernel.nD) → Buf (Elt Bits) ((c.tc : Thread Cert.Kernel.nD Cert.Kernel.τ).loc Cert.Kernel.main_v4_3)) (v4 : (c : Dev Cert.Kernel.nD) → Buf (Elt Bits) ((c.tc : Thread Cert.Kernel.nD Cert.Kernel.τ).loc Cert.Kernel.main_v4_4)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![8, 2048, 512]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 i = 1#1 → r.2.mem ((c.tc : Thread Cert.Kernel.nD Cert.Kernel.τ).loc Cert.Kernel.main_v4_0) i = v0 c i)
          ∧ (∀ i : (⟨2, ![512, 1024]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 i = 1#1 → r.2.mem ((c.tc : Thread Cert.Kernel.nD Cert.Kernel.τ).loc Cert.Kernel.main_v4_1) i = v1 c i)
          ∧ (∀ i : (⟨2, ![1024, 1024]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 i = 1#1 → r.2.mem ((c.tc : Thread Cert.Kernel.nD Cert.Kernel.τ).loc Cert.Kernel.main_v4_2) i = v2 c i)
          ∧ (∀ i : (⟨2, ![1024, 5632]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.1 i = 1#1 → r.2.mem ((c.tc : Thread Cert.Kernel.nD Cert.Kernel.τ).loc Cert.Kernel.main_v4_3) i = v3 c i)
          ∧ (∀ i : (⟨2, ![2816, 1024]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2 i = 1#1 → r.2.mem ((c.tc : Thread Cert.Kernel.nD Cert.Kernel.τ).loc Cert.Kernel.main_v4_4) i = v4 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![8, 2048, 512]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).1 i = 1#1 → r.2.mem ((c.tc : Thread Cert.Reference.nD Cert.Reference.τ).loc Cert.Reference.main_v51) i = v0 c i)
          ∧ (∀ i : (⟨2, ![512, 1024]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.1 i = 1#1 → r.2.mem ((c.tc : Thread Cert.Reference.nD Cert.Reference.τ).loc Cert.Reference.main_v53) i = v1 c i)
          ∧ (∀ i : (⟨2, ![1024, 1024]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.1 i = 1#1 → r.2.mem ((c.tc : Thread Cert.Reference.nD Cert.Reference.τ).loc Cert.Reference.main_v55) i = v2 c i)
          ∧ (∀ i : (⟨2, ![1024, 5632]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.1 i = 1#1 → r.2.mem ((c.tc : Thread Cert.Reference.nD Cert.Reference.τ).loc Cert.Reference.main_v57) i = v3 c i)
          ∧ (∀ i : (⟨2, ![2816, 1024]⟩ : Shape).Idx, (Cert.On_casts_only.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))).2.2.2.2 i = 1#1 → r.2.mem ((c.tc : Thread Cert.Reference.nD Cert.Reference.τ).loc Cert.Reference.main_v59) i = v4 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8)
          ∧ r.2.mem ((c.tc : Thread Cert.Reference.nD Cert.Reference.τ).loc Cert.Reference.main_arg9) = m' ((c.tc : Thread Cert.Reference.nD Cert.Reference.τ).loc Cert.Reference.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)) (v4 : (c : Dev Cert.Kernel2Ideal.nD) → Buf (Elt Ideal) ((c.tc : Thread Cert.Kernel2Ideal.nD Cert.Kernel2Ideal.τ).loc Cert.Kernel2Ideal.main_v26_4)) (v5 : (c : Dev Cert.Kernel2Ideal.nD) → Buf (Elt Ideal) ((c.tc : Thread Cert.Kernel2Ideal.nD Cert.Kernel2Ideal.τ).loc Cert.Kernel2Ideal.main_v26_5)) (v6 : (c : Dev Cert.Kernel2Ideal.nD) → Buf (Elt Ideal) ((c.tc : Thread Cert.Kernel2Ideal.nD Cert.Kernel2Ideal.τ).loc Cert.Kernel2Ideal.main_v26_6)) (v7 : (c : Dev Cert.Kernel2Ideal.nD) → Buf (Elt Ideal) ((c.tc : Thread Cert.Kernel2Ideal.nD Cert.Kernel2Ideal.τ).loc Cert.Kernel2Ideal.main_v26_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_v26_4) = v4 c
          ∧ r.2.mem ((c.tc : Thread Cert.Kernel2Ideal.nD Cert.Kernel2Ideal.τ).loc Cert.Kernel2Ideal.main_v26_5) = v5 c
          ∧ r.2.mem ((c.tc : Thread Cert.Kernel2Ideal.nD Cert.Kernel2Ideal.τ).loc Cert.Kernel2Ideal.main_v26_6) = v6 c
          ∧ r.2.mem ((c.tc : Thread Cert.Kernel2Ideal.nD Cert.Kernel2Ideal.τ).loc Cert.Kernel2Ideal.main_v26_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v71) = v2 c
          ∧ r.2.mem ((c.tc : Thread Cert.Reference2Ideal.nD Cert.Reference2Ideal.τ).loc Cert.Reference2Ideal.main_v73) = v3 c
          ∧ r.2.mem ((c.tc : Thread Cert.Reference2Ideal.nD Cert.Reference2Ideal.τ).loc Cert.Reference2Ideal.main_v75) = v4 c
          ∧ r.2.mem ((c.tc : Thread Cert.Reference2Ideal.nD Cert.Reference2Ideal.τ).loc Cert.Reference2Ideal.main_v76) = v5 c
          ∧ r.2.mem ((c.tc : Thread Cert.Reference2Ideal.nD Cert.Reference2Ideal.τ).loc Cert.Reference2Ideal.main_v62) = v6 c
          ∧ r.2.mem ((c.tc : Thread Cert.Reference2Ideal.nD Cert.Reference2Ideal.τ).loc Cert.Reference2Ideal.main_v77) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hOn_casts_only : Cert.On_casts_only.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ bitexact_Kernel_Reference_on_casts_only (hKernel := hKernel) (hReference := hReference) (hOn_casts_only := hOn_casts_only)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== On_casts_only.lean ====
abbrev S8x512x2048 : Shape := ⟨3, ![8, 512, 2048]⟩
abbrev S8x8x2048 : Shape := ⟨3, ![8, 8, 2048]⟩
abbrev S8x2048x64 : Shape := ⟨3, ![8, 2048, 64]⟩
abbrev S8x8x2048x64 : Shape := ⟨4, ![8, 8, 2048, 64]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S_ : Shape := ⟨0, ![]⟩
abbrev S8x2048x512 : Shape := ⟨3, ![8, 2048, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩

class Facts : Prop where
  bcast_S_S8x2048x512 : S_.BroadcastsInDim S8x2048x512 (![] : Fin 0 → Fin S8x2048x512.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8x512x2048 .bf16) (main_arg1 : FVec F S8x8x2048 .f32) (main_arg2 : FVec F S8x512x2048 .bf16) (main_arg3 : FVec F S8x2048x64 .bf16) (main_arg4 : FVec F S8x8x2048x64 .bf16) (main_arg5 : FVec F S8x512x2048 .bf16) (main_arg6 : FVec F S1x512x1024 .f32) (main_arg7 : FVec F S1x1024x1024 .f32) (main_arg8 : FVec F S1x1024x5632 .f32) (main_arg9 : FVec F S1x2816x1024 .f32) : IVec S8x2048x512 1 × IVec S512x1024 1 × IVec S1024x1024 1 × IVec S1024x5632 1 × IVec S2816x1024 1 :=
  let main_c : IVec S_ 1 := constantI S_ 1 0#1
  let main_v0 : IVec S8x2048x512 1 := broadcastInDim S8x2048x512 ![] bcast_S_S8x2048x512 main_c
  let main_c_0 : IVec S_ 1 := constantI S_ 1 1#1
  let main_v1 : IVec S512x1024 1 := broadcastInDim S512x1024 ![] bcast_S_S512x1024 main_c_0
  let main_c_1 : IVec S_ 1 := constantI S_ 1 1#1
  let main_v2 : IVec S1024x1024 1 := broadcastInDim S1024x1024 ![] bcast_S_S1024x1024 main_c_1
  let main_c_2 : IVec S_ 1 := constantI S_ 1 1#1
  let main_v3 : IVec S1024x5632 1 := broadcastInDim S1024x5632 ![] bcast_S_S1024x5632 main_c_2
  let main_c_3 : IVec S_ 1 := constantI S_ 1 1#1
  let main_v4 : IVec S2816x1024 1 := broadcastInDim S2816x1024 ![] bcast_S_S2816x1024 main_c_3
  (main_v0, main_v1, main_v2, main_v3, main_v4)
-- ==== Kernel.lean ====
abbrev S8x512x2048 : Shape := ⟨3, ![8, 512, 2048]⟩
abbrev S8x8x2048 : Shape := ⟨3, ![8, 8, 2048]⟩
abbrev S8x2048x64 : Shape := ⟨3, ![8, 2048, 64]⟩
abbrev S8x8x2048x64 : Shape := ⟨4, ![8, 8, 2048, 64]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S8x2048x512 : Shape := ⟨3, ![8, 2048, 512]⟩
abbrev S1x512x256 : Shape := ⟨3, ![1, 512, 256]⟩
abbrev S1x8x256 : Shape := ⟨3, ![1, 8, 256]⟩
abbrev S1x2048x64 : Shape := ⟨3, ![1, 2048, 64]⟩
abbrev S1x8x2048x64 : Shape := ⟨4, ![1, 8, 2048, 64]⟩
abbrev S1x512x2048 : Shape := ⟨3, ![1, 512, 2048]⟩
abbrev S16x1024 : Shape := ⟨2, ![16, 1024]⟩
abbrev S16x5632 : Shape := ⟨2, ![16, 5632]⟩
abbrev S64x1024 : Shape := ⟨2, ![64, 1024]⟩
abbrev S1x256x512 : Shape := ⟨3, ![1, 256, 512]⟩
abbrev S2048x256 : Shape := ⟨2, ![2048, 256]⟩
abbrev S8x32x8x256 : Shape := ⟨4, ![8, 32, 8, 256]⟩
abbrev S2x256x256 : Shape := ⟨3, ![2, 256, 256]⟩
abbrev S8x2048x256 : Shape := ⟨3, ![8, 2048, 256]⟩
abbrev S512x256 : Shape := ⟨2, ![512, 256]⟩
abbrev S8x256 : Shape := ⟨2, ![8, 256]⟩
abbrev S8x8x256 : Shape := ⟨3, ![8, 8, 256]⟩
abbrev S256x256 : Shape := ⟨2, ![256, 256]⟩
abbrev S1x64x64 : Shape := ⟨3, ![1, 64, 64]⟩
abbrev S64x64 : Shape := ⟨2, ![64, 64]⟩
abbrev S64x256 : Shape := ⟨2, ![64, 256]⟩
abbrev S1x64x256 : Shape := ⟨3, ![1, 64, 256]⟩
abbrev S1x256 : Shape := ⟨2, ![1, 256]⟩
abbrev S1x1x256x64 : Shape := ⟨4, ![1, 1, 256, 64]⟩
abbrev S256x64 : Shape := ⟨2, ![256, 64]⟩
abbrev S1x256x256 : Shape := ⟨3, ![1, 256, 256]⟩
abbrev S256x128 : Shape := ⟨2, ![256, 128]⟩
abbrev S32x8x128 : Shape := ⟨3, ![32, 8, 128]⟩
abbrev S1x8x128 : Shape := ⟨3, ![1, 8, 128]⟩
abbrev S8x128 : Shape := ⟨2, ![8, 128]⟩
abbrev S1x32x8x128 : Shape := ⟨4, ![1, 32, 8, 128]⟩
abbrev S1x1x8x256 : Shape := ⟨4, ![1, 1, 8, 256]⟩
abbrev S256 : Shape := ⟨1, ![256]⟩
abbrev S32x8x256 : Shape := ⟨3, ![32, 8, 256]⟩
abbrev S1x1x256 : Shape := ⟨3, ![1, 1, 256]⟩
abbrev S1 : Shape := ⟨1, ![1]⟩
abbrev S1x1x1 : Shape := ⟨3, ![1, 1, 1]⟩
abbrev S128x256 : Shape := ⟨2, ![128, 256]⟩
abbrev S32x256 : Shape := ⟨2, ![32, 256]⟩
abbrev S16x256 : Shape := ⟨2, ![16, 256]⟩
abbrev S4x256 : Shape := ⟨2, ![4, 256]⟩
abbrev S2x256 : Shape := ⟨2, ![2, 256]⟩
abbrev S256x512 : Shape := ⟨2, ![256, 512]⟩

abbrev nBuf : Space → Nat
  | .hbm => 19
  | .vmem => 37
  | .smem => 0
  | _ => 0

abbrev bufTy : (tb : Table) → Fin (tcTables nBuf tb) → BufTy
  | .hbm, ⟨0, _⟩ => ⟨S8x512x2048, .bf16⟩
  | .hbm, ⟨1, _⟩ => ⟨S8x8x2048, .f32⟩
  | .hbm, ⟨2, _⟩ => ⟨S8x512x2048, .bf16⟩
  | .hbm, ⟨3, _⟩ => ⟨S8x2048x64, .bf16⟩
  | .hbm, ⟨4, _⟩ => ⟨S8x8x2048x64, .bf16⟩
  | .hbm, ⟨5, _⟩ => ⟨S8x512x2048, .bf16⟩
  | .hbm, ⟨6, _⟩ => ⟨S1x512x1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S512x1024, .f32⟩
  | .hbm, ⟨11, _⟩ => ⟨S1024x1024, .f32⟩
  | .hbm, ⟨12, _⟩ => ⟨S1024x5632, .f32⟩
  | .hbm, ⟨13, _⟩ => ⟨S2816x1024, .f32⟩
  | .hbm, ⟨14, _⟩ => ⟨S8x2048x512, .bf16⟩
  | .hbm, ⟨15, _⟩ => ⟨S512x1024, .bf16⟩
  | .hbm, ⟨16, _⟩ => ⟨S1024x1024, .bf16⟩
  | .hbm, ⟨17, _⟩ => ⟨S1024x5632, .bf16⟩
  | .hbm, ⟨18, _⟩ => ⟨S2816x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x8x256, .f32⟩
  | .local _ .vmem, ⟨3, _⟩ => ⟨S1x8x256, .f32⟩
  | .local _ .vmem, ⟨4, _⟩ => ⟨S1x512x256, .bf16⟩
  | .local _ .vmem, ⟨5, _⟩ => ⟨S1x512x256, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x8x2048x64, .bf16⟩
  | .local _ .vmem, ⟨9, _⟩ => ⟨S1x8x2048x64, .bf16⟩
  | .local _ .vmem, ⟨10, _⟩ => ⟨S1x512x2048, .bf16⟩
  | .local _ .vmem, ⟨11, _⟩ => ⟨S1x512x2048, .bf16⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x5632, .f32⟩
  | .local _ .vmem, ⟨17, _⟩ => ⟨S16x5632, .f32⟩
  | .local _ .vmem, ⟨18, _⟩ => ⟨S64x1024, .f32⟩
  | .local _ .vmem, ⟨19, _⟩ => ⟨S64x1024, .f32⟩
  | .local _ .vmem, ⟨20, _⟩ => ⟨S1x256x512, .bf16⟩
  | .local _ .vmem, ⟨21, _⟩ => ⟨S1x256x512, .bf16⟩
  | .local _ .vmem, ⟨22, _⟩ => ⟨S16x1024, .bf16⟩
  | .local _ .vmem, ⟨23, _⟩ => ⟨S16x1024, .bf16⟩
  | .local _ .vmem, ⟨24, _⟩ => ⟨S16x1024, .bf16⟩
  | .local _ .vmem, ⟨25, _⟩ => ⟨S16x1024, .bf16⟩
  | .local _ .vmem, ⟨26, _⟩ => ⟨S16x5632, .bf16⟩
  | .local _ .vmem, ⟨27, _⟩ => ⟨S16x5632, .bf16⟩
  | .local _ .vmem, ⟨28, _⟩ => ⟨S64x1024, .bf16⟩
  | .local _ .vmem, ⟨29, _⟩ => ⟨S64x1024, .bf16⟩
  | .local _ .vmem, ⟨30, _⟩ => ⟨S2048x256, .f32⟩
  | .local _ .vmem, ⟨31, _⟩ => ⟨S8x32x8x256, .i32⟩
  | .local _ .vmem, ⟨32, _⟩ => ⟨S2x256x256, .f32⟩
  | .local _ .vmem, ⟨33, _⟩ => ⟨S8x2048x256, .f32⟩
  | .local _ .vmem, ⟨34, _⟩ => ⟨S512x256, .f32⟩
  | .local _ .vmem, ⟨35, _⟩ => ⟨S8x256, .i32⟩
  | .local _ .vmem, ⟨36, _⟩ => ⟨S8x8x256, .i32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [BitOps F]

abbrev grid0 : Pipeline.Grid := ⟨2, ![8, 8], ![false, false]⟩

@[reducible] def k0_t1_loop (i : grid0.Coords) : Scf.Loop 32 :=
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_24 : BitVec 32 := 1#32
  ⟨c0_i32_22, v34, c1_i32_24⟩
def k0_mult1 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_158 : BitVec 32 := 256#32
  let v258 : BitVec 32 := Scalar.muli v257 c256_i32_158
  let c0_i32_159 : BitVec 32 := 0#32
  let v259 : BitVec 32 := Scalar.addi v258 c0_i32_159
  v259
def k0_off1 (i : grid0.Coords) (k0_t1 : Fin (k0_t1_loop i).trips) (c0_i32_159 : BitVec 32) : Fin 3 → Nat :=
  let c0_160 : Index := 0#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_158 : BitVec 32 := 256#32
  let v258 : BitVec 32 := Scalar.muli v257 c256_i32_158
  let v259 : BitVec 32 := Scalar.addi v258 c0_i32_159
  let v260 : BitVec 32 := v259
  let v261 : Index := Scalar.indexCast v260
  let c0_161 : Index := 0#32
  ![0, v261.toNat, 0]
def k0_off2 (i : grid0.Coords) (k0_t1 : Fin (k0_t1_loop i).trips) (c0_i32_159 : BitVec 32) : Fin 2 → Nat :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_158 : BitVec 32 := 256#32
  let v258 : BitVec 32 := Scalar.muli v257 c256_i32_158
  let v259 : BitVec 32 := Scalar.addi v258 c0_i32_159
  let v260 : BitVec 32 := v259
  let v350 : Index := Scalar.indexCast v260
  let c0_208 : Index := 0#32
  ![v350.toNat, 0]
def k0_mult2 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_209 : BitVec 32 := 256#32
  let v354 : BitVec 32 := Scalar.muli v257 c256_i32_209
  let c64_i32 : BitVec 32 := 64#32
  let v355 : BitVec 32 := Scalar.addi v354 c64_i32
  v355
def k0_mult3 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_259 : BitVec 32 := 256#32
  let v450 : BitVec 32 := Scalar.muli v257 c256_i32_259
  let c128_i32 : BitVec 32 := 128#32
  let v451 : BitVec 32 := Scalar.addi v450 c128_i32
  v451
def k0_mult4 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_309 : BitVec 32 := 256#32
  let v546 : BitVec 32 := Scalar.muli v257 c256_i32_309
  let c192_i32 : BitVec 32 := 192#32
  let v547 : BitVec 32 := Scalar.addi v546 c192_i32
  v547
def k0_mult5 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_359 : BitVec 32 := 256#32
  let v642 : BitVec 32 := Scalar.muli v257 c256_i32_359
  v642
def k0_off3 (i : grid0.Coords) (k0_t1 : Fin (k0_t1_loop i).trips) : Fin 4 → Nat :=
  let c0_360 : Index := 0#32
  let c0_361 : Index := 0#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_359 : BitVec 32 := 256#32
  let v642 : BitVec 32 := Scalar.muli v257 c256_i32_359
  let v643 : BitVec 32 := v642
  let v644 : Index := Scalar.indexCast v643
  let c0_362 : Index := 0#32
  ![0, 0, v644.toNat, 0]
def k0_mult6 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_367 : BitVec 32 := 256#32
  let v650 : BitVec 32 := Scalar.muli v257 c256_i32_367
  v650
def k0_off4 (i : grid0.Coords) (k0_t1 : Fin (k0_t1_loop i).trips) : Fin 3 → Nat :=
  let c0_368 : Index := 0#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_367 : BitVec 32 := 256#32
  let v650 : BitVec 32 := Scalar.muli v257 c256_i32_367
  let v651 : BitVec 32 := v650
  let v652 : Index := Scalar.indexCast v651
  let c0_369 : Index := 0#32
  ![0, v652.toNat, 0]
def k0_mult7 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_370 : BitVec 32 := 256#32
  let v656 : BitVec 32 := Scalar.muli v257 c256_i32_370
  v656
def k0_off5 (i : grid0.Coords) (k0_t1 : Fin (k0_t1_loop i).trips) : Fin 4 → Nat :=
  let c0_371 : Index := 0#32
  let c1 : Index := 1#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_370 : BitVec 32 := 256#32
  let v656 : BitVec 32 := Scalar.muli v257 c256_i32_370
  let v657 : BitVec 32 := v656
  let v658 : Index := Scalar.indexCast v657
  let c0_372 : Index := 0#32
  ![0, 1, v658.toNat, 0]
def k0_mult8 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_377 : BitVec 32 := 256#32
  let v664 : BitVec 32 := Scalar.muli v257 c256_i32_377
  v664
def k0_off6 (i : grid0.Coords) (k0_t1 : Fin (k0_t1_loop i).trips) : Fin 3 → Nat :=
  let c1_378 : Index := 1#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_377 : BitVec 32 := 256#32
  let v664 : BitVec 32 := Scalar.muli v257 c256_i32_377
  let v665 : BitVec 32 := v664
  let v666 : Index := Scalar.indexCast v665
  let c0_379 : Index := 0#32
  ![1, v666.toNat, 0]
def k0_mult9 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_380 : BitVec 32 := 256#32
  let v670 : BitVec 32 := Scalar.muli v257 c256_i32_380
  v670
def k0_off7 (i : grid0.Coords) (k0_t1 : Fin (k0_t1_loop i).trips) : Fin 4 → Nat :=
  let c0_381 : Index := 0#32
  let c2 : Index := 2#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_380 : BitVec 32 := 256#32
  let v670 : BitVec 32 := Scalar.muli v257 c256_i32_380
  let v671 : BitVec 32 := v670
  let v672 : Index := Scalar.indexCast v671
  let c0_382 : Index := 0#32
  ![0, 2, v672.toNat, 0]
def k0_mult10 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_387 : BitVec 32 := 256#32
  let v678 : BitVec 32 := Scalar.muli v257 c256_i32_387
  v678
def k0_off8 (i : grid0.Coords) (k0_t1 : Fin (k0_t1_loop i).trips) : Fin 3 → Nat :=
  let c2_388 : Index := 2#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_387 : BitVec 32 := 256#32
  let v678 : BitVec 32 := Scalar.muli v257 c256_i32_387
  let v679 : BitVec 32 := v678
  let v680 : Index := Scalar.indexCast v679
  let c0_389 : Index := 0#32
  ![2, v680.toNat, 0]
def k0_mult11 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_390 : BitVec 32 := 256#32
  let v684 : BitVec 32 := Scalar.muli v257 c256_i32_390
  v684
def k0_off9 (i : grid0.Coords) (k0_t1 : Fin (k0_t1_loop i).trips) : Fin 4 → Nat :=
  let c0_391 : Index := 0#32
  let c3 : Index := 3#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_390 : BitVec 32 := 256#32
  let v684 : BitVec 32 := Scalar.muli v257 c256_i32_390
  let v685 : BitVec 32 := v684
  let v686 : Index := Scalar.indexCast v685
  let c0_392 : Index := 0#32
  ![0, 3, v686.toNat, 0]
def k0_mult12 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_397 : BitVec 32 := 256#32
  let v692 : BitVec 32 := Scalar.muli v257 c256_i32_397
  v692
def k0_off10 (i : grid0.Coords) (k0_t1 : Fin (k0_t1_loop i).trips) : Fin 3 → Nat :=
  let c3_398 : Index := 3#32
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_397 : BitVec 32 := 256#32
  let v692 : BitVec 32 := Scalar.muli v257 c256_i32_397
  let v693 : BitVec 32 := v692
  let v694 : Index := Scalar.indexCast v693
  let c0_399 : Index := 0#32
  ![3, v694.toNat, 0]
def k0_mult13 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_400 : BitVec 32 := 256#32
  let v698 : BitVec 32 := Scalar.muli v257 c256_i32_400
  v698
def k0_off11 (i : grid0.Coords) (k0_t1 : Fin (k0_t1_loop i).trips) : Fin 2 → Nat :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_400 : BitVec 32 := 256#32
  let v698 : BitVec 32 := Scalar.muli v257 c256_i32_400
  let v699 : BitVec 32 := v698
  let v700 : Index := Scalar.indexCast v699
  let c0_401 : Index := 0#32
  ![v700.toNat, 0]
def k0_off12 (i : grid0.Coords) (k0_t1 : Fin (k0_t1_loop i).trips) : Fin 4 → Nat :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let v1526 : Index := Scalar.indexCast v257
  let c0_639 : Index := 0#32
  let c0_640 : Index := 0#32
  let c0_641 : Index := 0#32
  ![v1526.toNat, 0, 0, 0]
def k0_mult14 (i : grid0.Coords) (k0_t1 : Fin (k0_t1_loop i).trips) : BitVec 32 :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_642 : BitVec 32 := 256#32
  let v1530 : BitVec 32 := Scalar.muli v257 c256_i32_642
  v1530
def k0_off13 (i : grid0.Coords) (k0_t1 : Fin (k0_t1_loop i).trips) : Fin 2 → Nat :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let c256_i32_642 : BitVec 32 := 256#32
  let v1530 : BitVec 32 := Scalar.muli v257 c256_i32_642
  let v1531 : BitVec 32 := v1530
  let v1532 : Index := Scalar.indexCast v1531
  let c128_643 : Index := 128#32
  ![v1532.toNat, 128]
def k0_off14 (i : grid0.Coords) (k0_t1 : Fin (k0_t1_loop i).trips) : Fin 4 → Nat :=
  let c2_i32_157 : BitVec 32 := 2#32
  let c0_i32_22 : BitVec 32 := 0#32
  let c1_i32_24 : BitVec 32 := 1#32
  let arg24 : BitVec 32 := Scf.iv c0_i32_22 c1_i32_24 k0_t1
  let v257 : BitVec 32 := Scalar.muli c2_i32_157 arg24
  let v2358 : Index := Scalar.indexCast v257
  let c0_886 : Index := 0#32
  let c0_887 : Index := 0#32
  let c128_888 : Index := 128#32
  ![v2358.toNat, 0, 0, 128]
def k0_mult15 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_889 : BitVec 32 := 256#32
  let v2362 : BitVec 32 := Scalar.muli v256 c256_i32_889
  let c0_i32_890 : BitVec 32 := 0#32
  let v2363 : BitVec 32 := Scalar.addi v2362 c0_i32_890
  v2363
def k0_off15 (i : grid0.Coords) (k0_t1 : Fin (k0_t1_loop i).trips) (c0_i32_890 : BitVec 32) : Fin 3 → Nat :=
  let c0_891 : Index := 0#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_889 : BitVec 32 := 256#32
  let v2362 : BitVec 32 := Scalar.muli v256 c256_i32_889
  let v2363 : BitVec 32 := Scalar.addi v2362 c0_i32_890
  let v2364 : BitVec 32 := v2363
  let v2365 : Index := Scalar.indexCast v2364
  let c0_892 : Index := 0#32
  ![0, v2365.toNat, 0]
def k0_off16 (i : grid0.Coords) (k0_t1 : Fin (k0_t1_loop i).trips) (c0_i32_890 : BitVec 32) : Fin 2 → Nat :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_889 : BitVec 32 := 256#32
  let v2362 : BitVec 32 := Scalar.muli v256 c256_i32_889
  let v2363 : BitVec 32 := Scalar.addi v2362 c0_i32_890
  let v2364 : BitVec 32 := v2363
  let v2454 : Index := Scalar.indexCast v2364
  let c0_939 : Index := 0#32
  ![v2454.toNat, 0]
def k0_mult16 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_940 : BitVec 32 := 256#32
  let v2458 : BitVec 32 := Scalar.muli v256 c256_i32_940
  let c64_i32_941 : BitVec 32 := 64#32
  let v2459 : BitVec 32 := Scalar.addi v2458 c64_i32_941
  v2459
def k0_mult17 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_991 : BitVec 32 := 256#32
  let v2554 : BitVec 32 := Scalar.muli v256 c256_i32_991
  let c128_i32_992 : BitVec 32 := 128#32
  let v2555 : BitVec 32 := Scalar.addi v2554 c128_i32_992
  v2555
def k0_mult18 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1042 : BitVec 32 := 256#32
  let v2650 : BitVec 32 := Scalar.muli v256 c256_i32_1042
  let c192_i32_1043 : BitVec 32 := 192#32
  let v2651 : BitVec 32 := Scalar.addi v2650 c192_i32_1043
  v2651
def k0_mult19 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1093 : BitVec 32 := 256#32
  let v2746 : BitVec 32 := Scalar.muli v256 c256_i32_1093
  v2746
def k0_off17 (i : grid0.Coords) (k0_t1 : Fin (k0_t1_loop i).trips) : Fin 4 → Nat :=
  let c0_1094 : Index := 0#32
  let c0_1095 : Index := 0#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1093 : BitVec 32 := 256#32
  let v2746 : BitVec 32 := Scalar.muli v256 c256_i32_1093
  let v2747 : BitVec 32 := v2746
  let v2748 : Index := Scalar.indexCast v2747
  let c0_1096 : Index := 0#32
  ![0, 0, v2748.toNat, 0]
def k0_mult20 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1101 : BitVec 32 := 256#32
  let v2754 : BitVec 32 := Scalar.muli v256 c256_i32_1101
  v2754
def k0_off18 (i : grid0.Coords) (k0_t1 : Fin (k0_t1_loop i).trips) : Fin 3 → Nat :=
  let c0_1102 : Index := 0#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1101 : BitVec 32 := 256#32
  let v2754 : BitVec 32 := Scalar.muli v256 c256_i32_1101
  let v2755 : BitVec 32 := v2754
  let v2756 : Index := Scalar.indexCast v2755
  let c0_1103 : Index := 0#32
  ![0, v2756.toNat, 0]
def k0_mult21 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1104 : BitVec 32 := 256#32
  let v2760 : BitVec 32 := Scalar.muli v256 c256_i32_1104
  v2760
def k0_off19 (i : grid0.Coords) (k0_t1 : Fin (k0_t1_loop i).trips) : Fin 4 → Nat :=
  let c0_1105 : Index := 0#32
  let c1_1106 : Index := 1#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1104 : BitVec 32 := 256#32
  let v2760 : BitVec 32 := Scalar.muli v256 c256_i32_1104
  let v2761 : BitVec 32 := v2760
  let v2762 : Index := Scalar.indexCast v2761
  let c0_1107 : Index := 0#32
  ![0, 1, v2762.toNat, 0]
def k0_mult22 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1112 : BitVec 32 := 256#32
  let v2768 : BitVec 32 := Scalar.muli v256 c256_i32_1112
  v2768
def k0_off20 (i : grid0.Coords) (k0_t1 : Fin (k0_t1_loop i).trips) : Fin 3 → Nat :=
  let c1_1113 : Index := 1#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1112 : BitVec 32 := 256#32
  let v2768 : BitVec 32 := Scalar.muli v256 c256_i32_1112
  let v2769 : BitVec 32 := v2768
  let v2770 : Index := Scalar.indexCast v2769
  let c0_1114 : Index := 0#32
  ![1, v2770.toNat, 0]
def k0_mult23 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1115 : BitVec 32 := 256#32
  let v2774 : BitVec 32 := Scalar.muli v256 c256_i32_1115
  v2774
def k0_off21 (i : grid0.Coords) (k0_t1 : Fin (k0_t1_loop i).trips) : Fin 4 → Nat :=
  let c0_1116 : Index := 0#32
  let c2_1117 : Index := 2#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1115 : BitVec 32 := 256#32
  let v2774 : BitVec 32 := Scalar.muli v256 c256_i32_1115
  let v2775 : BitVec 32 := v2774
  let v2776 : Index := Scalar.indexCast v2775
  let c0_1118 : Index := 0#32
  ![0, 2, v2776.toNat, 0]
def k0_mult24 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1123 : BitVec 32 := 256#32
  let v2782 : BitVec 32 := Scalar.muli v256 c256_i32_1123
  v2782
def k0_off22 (i : grid0.Coords) (k0_t1 : Fin (k0_t1_loop i).trips) : Fin 3 → Nat :=
  let c2_1124 : Index := 2#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1123 : BitVec 32 := 256#32
  let v2782 : BitVec 32 := Scalar.muli v256 c256_i32_1123
  let v2783 : BitVec 32 := v2782
  let v2784 : Index := Scalar.indexCast v2783
  let c0_1125 : Index := 0#32
  ![2, v2784.toNat, 0]
def k0_mult25 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1126 : BitVec 32 := 256#32
  let v2788 : BitVec 32 := Scalar.muli v256 c256_i32_1126
  v2788
def k0_off23 (i : grid0.Coords) (k0_t1 : Fin (k0_t1_loop i).trips) : Fin 4 → Nat :=
  let c0_1127 : Index := 0#32
  let c3_1128 : Index := 3#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1126 : BitVec 32 := 256#32
  let v2788 : BitVec 32 := Scalar.muli v256 c256_i32_1126
  let v2789 : BitVec 32 := v2788
  let v2790 : Index := Scalar.indexCast v2789
  let c0_1129 : Index := 0#32
  ![0, 3, v2790.toNat, 0]
def k0_mult26 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1134 : BitVec 32 := 256#32
  let v2796 : BitVec 32 := Scalar.muli v256 c256_i32_1134
  v2796
def k0_off24 (i : grid0.Coords) (k0_t1 : Fin (k0_t1_loop i).trips) : Fin 3 → Nat :=
  let c3_1135 : Index := 3#32
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1134 : BitVec 32 := 256#32
  let v2796 : BitVec 32 := Scalar.muli v256 c256_i32_1134
  let v2797 : BitVec 32 := v2796
  let v2798 : Index := Scalar.indexCast v2797
  let c0_1136 : Index := 0#32
  ![3, v2798.toNat, 0]
def k0_mult27 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1137 : BitVec 32 := 256#32
  let v2802 : BitVec 32 := Scalar.muli v256 c256_i32_1137
  v2802
def k0_off25 (i : grid0.Coords) (k0_t1 : Fin (k0_t1_loop i).trips) : Fin 2 → Nat :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1137 : BitVec 32 := 256#32
  let v2802 : BitVec 32 := Scalar.muli v256 c256_i32_1137
  let v2803 : BitVec 32 := v2802
  let v2804 : Index := Scalar.indexCast v2803
  let c0_1138 : Index := 0#32
  ![v2804.toNat, 0]
def k0_off26 (i : grid0.Coords) (k0_t1 : Fin (k0_t1_loop i).trips) : Fin 4 → Nat :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let v3630 : Index := Scalar.indexCast v256
  let c0_1381 : Index := 0#32
  let c0_1382 : Index := 0#32
  let c0_1383 : Index := 0#32
  ![v3630.toNat, 0, 0, 0]
def k0_mult28 (i : grid0.Coords) (k0_t1 : Fin (k0_t1_loop i).trips) : BitVec 32 :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1384 : BitVec 32 := 256#32
  let v3634 : BitVec 32 := Scalar.muli v256 c256_i32_1384
  v3634
def k0_off27 (i : grid0.Coords) (k0_t1 : Fin (k0_t1_loop i).trips) : Fin 2 → Nat :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let c256_i32_1384 : BitVec 32 := 256#32
  let v3634 : BitVec 32 := Scalar.muli v256 c256_i32_1384
  let v3635 : BitVec 32 := v3634
  let v3636 : Index := Scalar.indexCast v3635
  let c128_1385 : Index := 128#32
  ![v3636.toNat, 128]
def k0_off28 (i : grid0.Coords) (k0_t1 : Fin (k0_t1_loop i).trips) : Fin 4 → Nat :=
  let c2_i32_155 : BitVec 32 := 2#32
  let c0_i32_22 : BitVec 32 := 0#32
  let c1_i32_24 : BitVec 32 := 1#32
  let arg24 : BitVec 32 := Scf.iv c0_i32_22 c1_i32_24 k0_t1
  let v255 : BitVec 32 := Scalar.muli c2_i32_155 arg24
  let c1_i32_156 : BitVec 32 := 1#32
  let v256 : BitVec 32 := Scalar.addi v255 c1_i32_156
  let v4462 : Index := Scalar.indexCast v256
  let c0_1628 : Index := 0#32
  let c0_1629 : Index := 0#32
  let c128_1630 : Index := 128#32
  ![v4462.toNat, 0, 0, 128]
@[reducible] def k0_t2_loop (i : grid0.Coords) : Scf.Loop 32 :=
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let v31 : BitVec 32 := Scalar.addi c0_i32_22 v30
  let c1_i32_25 : BitVec 32 := 1#32
  ⟨v34, v31, c1_i32_25⟩
def k0_mult29 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_158 : BitVec 32 := 256#32
  let v258 : BitVec 32 := Scalar.muli v257 c256_i32_158
  let c0_i32_159 : BitVec 32 := 0#32
  let v259 : BitVec 32 := Scalar.addi v258 c0_i32_159
  v259
def k0_off29 (i : grid0.Coords) (k0_t2 : Fin (k0_t2_loop i).trips) (c0_i32_159 : BitVec 32) : Fin 3 → Nat :=
  let c0_160 : Index := 0#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_158 : BitVec 32 := 256#32
  let v258 : BitVec 32 := Scalar.muli v257 c256_i32_158
  let v259 : BitVec 32 := Scalar.addi v258 c0_i32_159
  let v260 : BitVec 32 := v259
  let v261 : Index := Scalar.indexCast v260
  let c0_161 : Index := 0#32
  ![0, v261.toNat, 0]
def k0_off30 (i : grid0.Coords) (k0_t2 : Fin (k0_t2_loop i).trips) (c0_i32_159 : BitVec 32) : Fin 2 → Nat :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_158 : BitVec 32 := 256#32
  let v258 : BitVec 32 := Scalar.muli v257 c256_i32_158
  let v259 : BitVec 32 := Scalar.addi v258 c0_i32_159
  let v260 : BitVec 32 := v259
  let v350 : Index := Scalar.indexCast v260
  let c0_208 : Index := 0#32
  ![v350.toNat, 0]
def k0_mult30 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_209 : BitVec 32 := 256#32
  let v354 : BitVec 32 := Scalar.muli v257 c256_i32_209
  let c64_i32 : BitVec 32 := 64#32
  let v355 : BitVec 32 := Scalar.addi v354 c64_i32
  v355
def k0_mult31 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_259 : BitVec 32 := 256#32
  let v450 : BitVec 32 := Scalar.muli v257 c256_i32_259
  let c128_i32 : BitVec 32 := 128#32
  let v451 : BitVec 32 := Scalar.addi v450 c128_i32
  v451
def k0_mult32 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_309 : BitVec 32 := 256#32
  let v546 : BitVec 32 := Scalar.muli v257 c256_i32_309
  let c192_i32 : BitVec 32 := 192#32
  let v547 : BitVec 32 := Scalar.addi v546 c192_i32
  v547
def k0_mult33 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_359 : BitVec 32 := 256#32
  let v642 : BitVec 32 := Scalar.muli v257 c256_i32_359
  v642
def k0_off31 (i : grid0.Coords) (k0_t2 : Fin (k0_t2_loop i).trips) : Fin 4 → Nat :=
  let c0_360 : Index := 0#32
  let c0_361 : Index := 0#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_359 : BitVec 32 := 256#32
  let v642 : BitVec 32 := Scalar.muli v257 c256_i32_359
  let v643 : BitVec 32 := v642
  let v644 : Index := Scalar.indexCast v643
  let c0_362 : Index := 0#32
  ![0, 0, v644.toNat, 0]
def k0_mult34 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_367 : BitVec 32 := 256#32
  let v650 : BitVec 32 := Scalar.muli v257 c256_i32_367
  v650
def k0_off32 (i : grid0.Coords) (k0_t2 : Fin (k0_t2_loop i).trips) : Fin 3 → Nat :=
  let c0_368 : Index := 0#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_367 : BitVec 32 := 256#32
  let v650 : BitVec 32 := Scalar.muli v257 c256_i32_367
  let v651 : BitVec 32 := v650
  let v652 : Index := Scalar.indexCast v651
  let c0_369 : Index := 0#32
  ![0, v652.toNat, 0]
def k0_mult35 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_370 : BitVec 32 := 256#32
  let v656 : BitVec 32 := Scalar.muli v257 c256_i32_370
  v656
def k0_off33 (i : grid0.Coords) (k0_t2 : Fin (k0_t2_loop i).trips) : Fin 4 → Nat :=
  let c0_371 : Index := 0#32
  let c1 : Index := 1#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_370 : BitVec 32 := 256#32
  let v656 : BitVec 32 := Scalar.muli v257 c256_i32_370
  let v657 : BitVec 32 := v656
  let v658 : Index := Scalar.indexCast v657
  let c0_372 : Index := 0#32
  ![0, 1, v658.toNat, 0]
def k0_mult36 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_377 : BitVec 32 := 256#32
  let v664 : BitVec 32 := Scalar.muli v257 c256_i32_377
  v664
def k0_off34 (i : grid0.Coords) (k0_t2 : Fin (k0_t2_loop i).trips) : Fin 3 → Nat :=
  let c1_378 : Index := 1#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_377 : BitVec 32 := 256#32
  let v664 : BitVec 32 := Scalar.muli v257 c256_i32_377
  let v665 : BitVec 32 := v664
  let v666 : Index := Scalar.indexCast v665
  let c0_379 : Index := 0#32
  ![1, v666.toNat, 0]
def k0_mult37 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_380 : BitVec 32 := 256#32
  let v670 : BitVec 32 := Scalar.muli v257 c256_i32_380
  v670
def k0_off35 (i : grid0.Coords) (k0_t2 : Fin (k0_t2_loop i).trips) : Fin 4 → Nat :=
  let c0_381 : Index := 0#32
  let c2 : Index := 2#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_380 : BitVec 32 := 256#32
  let v670 : BitVec 32 := Scalar.muli v257 c256_i32_380
  let v671 : BitVec 32 := v670
  let v672 : Index := Scalar.indexCast v671
  let c0_382 : Index := 0#32
  ![0, 2, v672.toNat, 0]
def k0_mult38 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_387 : BitVec 32 := 256#32
  let v678 : BitVec 32 := Scalar.muli v257 c256_i32_387
  v678
def k0_off36 (i : grid0.Coords) (k0_t2 : Fin (k0_t2_loop i).trips) : Fin 3 → Nat :=
  let c2_388 : Index := 2#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_387 : BitVec 32 := 256#32
  let v678 : BitVec 32 := Scalar.muli v257 c256_i32_387
  let v679 : BitVec 32 := v678
  let v680 : Index := Scalar.indexCast v679
  let c0_389 : Index := 0#32
  ![2, v680.toNat, 0]
def k0_mult39 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_390 : BitVec 32 := 256#32
  let v684 : BitVec 32 := Scalar.muli v257 c256_i32_390
  v684
def k0_off37 (i : grid0.Coords) (k0_t2 : Fin (k0_t2_loop i).trips) : Fin 4 → Nat :=
  let c0_391 : Index := 0#32
  let c3 : Index := 3#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_390 : BitVec 32 := 256#32
  let v684 : BitVec 32 := Scalar.muli v257 c256_i32_390
  let v685 : BitVec 32 := v684
  let v686 : Index := Scalar.indexCast v685
  let c0_392 : Index := 0#32
  ![0, 3, v686.toNat, 0]
def k0_mult40 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_397 : BitVec 32 := 256#32
  let v692 : BitVec 32 := Scalar.muli v257 c256_i32_397
  v692
def k0_off38 (i : grid0.Coords) (k0_t2 : Fin (k0_t2_loop i).trips) : Fin 3 → Nat :=
  let c3_398 : Index := 3#32
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_397 : BitVec 32 := 256#32
  let v692 : BitVec 32 := Scalar.muli v257 c256_i32_397
  let v693 : BitVec 32 := v692
  let v694 : Index := Scalar.indexCast v693
  let c0_399 : Index := 0#32
  ![3, v694.toNat, 0]
def k0_mult41 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_400 : BitVec 32 := 256#32
  let v698 : BitVec 32 := Scalar.muli v257 c256_i32_400
  v698
def k0_off39 (i : grid0.Coords) (k0_t2 : Fin (k0_t2_loop i).trips) : Fin 2 → Nat :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_400 : BitVec 32 := 256#32
  let v698 : BitVec 32 := Scalar.muli v257 c256_i32_400
  let v699 : BitVec 32 := v698
  let v700 : Index := Scalar.indexCast v699
  let c0_401 : Index := 0#32
  ![v700.toNat, 0]
def k0_off40 (i : grid0.Coords) (k0_t2 : Fin (k0_t2_loop i).trips) : Fin 4 → Nat :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let v1526 : Index := Scalar.indexCast v257
  let c0_639 : Index := 0#32
  let c0_640 : Index := 0#32
  let c0_641 : Index := 0#32
  ![v1526.toNat, 0, 0, 0]
def k0_mult42 (i : grid0.Coords) (k0_t2 : Fin (k0_t2_loop i).trips) : BitVec 32 :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_642 : BitVec 32 := 256#32
  let v1530 : BitVec 32 := Scalar.muli v257 c256_i32_642
  v1530
def k0_off41 (i : grid0.Coords) (k0_t2 : Fin (k0_t2_loop i).trips) : Fin 2 → Nat :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let c256_i32_642 : BitVec 32 := 256#32
  let v1530 : BitVec 32 := Scalar.muli v257 c256_i32_642
  let v1531 : BitVec 32 := v1530
  let v1532 : Index := Scalar.indexCast v1531
  let c128_643 : Index := 128#32
  ![v1532.toNat, 128]
def k0_off42 (i : grid0.Coords) (k0_t2 : Fin (k0_t2_loop i).trips) : Fin 4 → Nat :=
  let c2_i32_157 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v257 : BitVec 32 := Scalar.muli c2_i32_157 arg24
  let v2358 : Index := Scalar.indexCast v257
  let c0_886 : Index := 0#32
  let c0_887 : Index := 0#32
  let c128_888 : Index := 128#32
  ![v2358.toNat, 0, 0, 128]
def k0_mult43 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_889 : BitVec 32 := 256#32
  let v2362 : BitVec 32 := Scalar.muli v256 c256_i32_889
  let c0_i32_890 : BitVec 32 := 0#32
  let v2363 : BitVec 32 := Scalar.addi v2362 c0_i32_890
  v2363
def k0_off43 (i : grid0.Coords) (k0_t2 : Fin (k0_t2_loop i).trips) (c0_i32_890 : BitVec 32) : Fin 3 → Nat :=
  let c0_891 : Index := 0#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_889 : BitVec 32 := 256#32
  let v2362 : BitVec 32 := Scalar.muli v256 c256_i32_889
  let v2363 : BitVec 32 := Scalar.addi v2362 c0_i32_890
  let v2364 : BitVec 32 := v2363
  let v2365 : Index := Scalar.indexCast v2364
  let c0_892 : Index := 0#32
  ![0, v2365.toNat, 0]
def k0_off44 (i : grid0.Coords) (k0_t2 : Fin (k0_t2_loop i).trips) (c0_i32_890 : BitVec 32) : Fin 2 → Nat :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_889 : BitVec 32 := 256#32
  let v2362 : BitVec 32 := Scalar.muli v256 c256_i32_889
  let v2363 : BitVec 32 := Scalar.addi v2362 c0_i32_890
  let v2364 : BitVec 32 := v2363
  let v2454 : Index := Scalar.indexCast v2364
  let c0_939 : Index := 0#32
  ![v2454.toNat, 0]
def k0_mult44 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_940 : BitVec 32 := 256#32
  let v2458 : BitVec 32 := Scalar.muli v256 c256_i32_940
  let c64_i32_941 : BitVec 32 := 64#32
  let v2459 : BitVec 32 := Scalar.addi v2458 c64_i32_941
  v2459
def k0_mult45 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_991 : BitVec 32 := 256#32
  let v2554 : BitVec 32 := Scalar.muli v256 c256_i32_991
  let c128_i32_992 : BitVec 32 := 128#32
  let v2555 : BitVec 32 := Scalar.addi v2554 c128_i32_992
  v2555
def k0_mult46 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1042 : BitVec 32 := 256#32
  let v2650 : BitVec 32 := Scalar.muli v256 c256_i32_1042
  let c192_i32_1043 : BitVec 32 := 192#32
  let v2651 : BitVec 32 := Scalar.addi v2650 c192_i32_1043
  v2651
def k0_mult47 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1093 : BitVec 32 := 256#32
  let v2746 : BitVec 32 := Scalar.muli v256 c256_i32_1093
  v2746
def k0_off45 (i : grid0.Coords) (k0_t2 : Fin (k0_t2_loop i).trips) : Fin 4 → Nat :=
  let c0_1094 : Index := 0#32
  let c0_1095 : Index := 0#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1093 : BitVec 32 := 256#32
  let v2746 : BitVec 32 := Scalar.muli v256 c256_i32_1093
  let v2747 : BitVec 32 := v2746
  let v2748 : Index := Scalar.indexCast v2747
  let c0_1096 : Index := 0#32
  ![0, 0, v2748.toNat, 0]
def k0_mult48 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1101 : BitVec 32 := 256#32
  let v2754 : BitVec 32 := Scalar.muli v256 c256_i32_1101
  v2754
def k0_off46 (i : grid0.Coords) (k0_t2 : Fin (k0_t2_loop i).trips) : Fin 3 → Nat :=
  let c0_1102 : Index := 0#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1101 : BitVec 32 := 256#32
  let v2754 : BitVec 32 := Scalar.muli v256 c256_i32_1101
  let v2755 : BitVec 32 := v2754
  let v2756 : Index := Scalar.indexCast v2755
  let c0_1103 : Index := 0#32
  ![0, v2756.toNat, 0]
def k0_mult49 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1104 : BitVec 32 := 256#32
  let v2760 : BitVec 32 := Scalar.muli v256 c256_i32_1104
  v2760
def k0_off47 (i : grid0.Coords) (k0_t2 : Fin (k0_t2_loop i).trips) : Fin 4 → Nat :=
  let c0_1105 : Index := 0#32
  let c1_1106 : Index := 1#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1104 : BitVec 32 := 256#32
  let v2760 : BitVec 32 := Scalar.muli v256 c256_i32_1104
  let v2761 : BitVec 32 := v2760
  let v2762 : Index := Scalar.indexCast v2761
  let c0_1107 : Index := 0#32
  ![0, 1, v2762.toNat, 0]
def k0_mult50 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1112 : BitVec 32 := 256#32
  let v2768 : BitVec 32 := Scalar.muli v256 c256_i32_1112
  v2768
def k0_off48 (i : grid0.Coords) (k0_t2 : Fin (k0_t2_loop i).trips) : Fin 3 → Nat :=
  let c1_1113 : Index := 1#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1112 : BitVec 32 := 256#32
  let v2768 : BitVec 32 := Scalar.muli v256 c256_i32_1112
  let v2769 : BitVec 32 := v2768
  let v2770 : Index := Scalar.indexCast v2769
  let c0_1114 : Index := 0#32
  ![1, v2770.toNat, 0]
def k0_mult51 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1115 : BitVec 32 := 256#32
  let v2774 : BitVec 32 := Scalar.muli v256 c256_i32_1115
  v2774
def k0_off49 (i : grid0.Coords) (k0_t2 : Fin (k0_t2_loop i).trips) : Fin 4 → Nat :=
  let c0_1116 : Index := 0#32
  let c2_1117 : Index := 2#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1115 : BitVec 32 := 256#32
  let v2774 : BitVec 32 := Scalar.muli v256 c256_i32_1115
  let v2775 : BitVec 32 := v2774
  let v2776 : Index := Scalar.indexCast v2775
  let c0_1118 : Index := 0#32
  ![0, 2, v2776.toNat, 0]
def k0_mult52 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1123 : BitVec 32 := 256#32
  let v2782 : BitVec 32 := Scalar.muli v256 c256_i32_1123
  v2782
def k0_off50 (i : grid0.Coords) (k0_t2 : Fin (k0_t2_loop i).trips) : Fin 3 → Nat :=
  let c2_1124 : Index := 2#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1123 : BitVec 32 := 256#32
  let v2782 : BitVec 32 := Scalar.muli v256 c256_i32_1123
  let v2783 : BitVec 32 := v2782
  let v2784 : Index := Scalar.indexCast v2783
  let c0_1125 : Index := 0#32
  ![2, v2784.toNat, 0]
def k0_mult53 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1126 : BitVec 32 := 256#32
  let v2788 : BitVec 32 := Scalar.muli v256 c256_i32_1126
  v2788
def k0_off51 (i : grid0.Coords) (k0_t2 : Fin (k0_t2_loop i).trips) : Fin 4 → Nat :=
  let c0_1127 : Index := 0#32
  let c3_1128 : Index := 3#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1126 : BitVec 32 := 256#32
  let v2788 : BitVec 32 := Scalar.muli v256 c256_i32_1126
  let v2789 : BitVec 32 := v2788
  let v2790 : Index := Scalar.indexCast v2789
  let c0_1129 : Index := 0#32
  ![0, 3, v2790.toNat, 0]
def k0_mult54 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1134 : BitVec 32 := 256#32
  let v2796 : BitVec 32 := Scalar.muli v256 c256_i32_1134
  v2796
def k0_off52 (i : grid0.Coords) (k0_t2 : Fin (k0_t2_loop i).trips) : Fin 3 → Nat :=
  let c3_1135 : Index := 3#32
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1134 : BitVec 32 := 256#32
  let v2796 : BitVec 32 := Scalar.muli v256 c256_i32_1134
  let v2797 : BitVec 32 := v2796
  let v2798 : Index := Scalar.indexCast v2797
  let c0_1136 : Index := 0#32
  ![3, v2798.toNat, 0]
def k0_mult55 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1137 : BitVec 32 := 256#32
  let v2802 : BitVec 32 := Scalar.muli v256 c256_i32_1137
  v2802
def k0_off53 (i : grid0.Coords) (k0_t2 : Fin (k0_t2_loop i).trips) : Fin 2 → Nat :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1137 : BitVec 32 := 256#32
  let v2802 : BitVec 32 := Scalar.muli v256 c256_i32_1137
  let v2803 : BitVec 32 := v2802
  let v2804 : Index := Scalar.indexCast v2803
  let c0_1138 : Index := 0#32
  ![v2804.toNat, 0]
def k0_off54 (i : grid0.Coords) (k0_t2 : Fin (k0_t2_loop i).trips) : Fin 4 → Nat :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let v3630 : Index := Scalar.indexCast v256
  let c0_1381 : Index := 0#32
  let c0_1382 : Index := 0#32
  let c0_1383 : Index := 0#32
  ![v3630.toNat, 0, 0, 0]
def k0_mult56 (i : grid0.Coords) (k0_t2 : Fin (k0_t2_loop i).trips) : BitVec 32 :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1384 : BitVec 32 := 256#32
  let v3634 : BitVec 32 := Scalar.muli v256 c256_i32_1384
  v3634
def k0_off55 (i : grid0.Coords) (k0_t2 : Fin (k0_t2_loop i).trips) : Fin 2 → Nat :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let c256_i32_1384 : BitVec 32 := 256#32
  let v3634 : BitVec 32 := Scalar.muli v256 c256_i32_1384
  let v3635 : BitVec 32 := v3634
  let v3636 : Index := Scalar.indexCast v3635
  let c128_1385 : Index := 128#32
  ![v3636.toNat, 128]
def k0_off56 (i : grid0.Coords) (k0_t2 : Fin (k0_t2_loop i).trips) : Fin 4 → Nat :=
  let c2_i32_155 : BitVec 32 := 2#32
  let c0_i32_22 : BitVec 32 := 0#32
  let arg1 : BitVec 32 := BitVec.ofNat 32 (i 1).val
  let c1_i32 : BitVec 32 := 1#32
  let v16 : BitVec 32 := Scalar.addi arg1 c1_i32
  let c1_i32_20 : BitVec 32 := 1#32
  let v29 : BitVec 32 := Scalar.shrui v16 c1_i32_20
  let v30 : BitVec 32 := Scalar.subi v29 c0_i32_22
  let c1_i32_23 : BitVec 32 := 1#32
  let v32 : BitVec 32 := Scalar.divsi v30 c1_i32_23
  let v33 : BitVec 32 := Scalar.muli v32 c1_i32_23
  let v34 : BitVec 32 := Scalar.addi c0_i32_22 v33
  let c1_i32_25 : BitVec 32 := 1#32
  let arg24 : BitVec 32 := Scf.iv v34 c1_i32_25 k0_t2
  let v255 : BitVec 32 := Scalar.muli c2_i32_155 arg24
  let c1_i32_156 : BitVec 32 := 1#32
  let v256 : BitVec 32 := Scalar.addi v255 c1_i32_156
  let v4462 : Index := Scalar.indexCast v256
  let c0_1628 : Index := 0#32
  let c0_1629 : Index := 0#32
  let c128_1630 : Index := 128#32
  ![v4462.toNat, 0, 0, 128]
def k0_cond2 (i : grid0.Coords) : BitVec 1 :=
  let arg1 : BitVec 32 := BitVec.ofNat 32 (i 1).val
  let c1_i32 : BitVec 32 := 1#32
  let v16 : BitVec 32 := Scalar.addi arg1 c1_i32
  let c1_i32_26 : BitVec 32 := 1#32
  let v35 : BitVec 32 := Scalar.andi v16 c1_i32_26
  let c1_i32_27 : BitVec 32 := 1#32
  let v36 : BitVec 1 := Scalar.cmpi .eq v35 c1_i32_27
  let v37 : BitVec 32 := Scalar.extui v36
  let c0_i32_28 : BitVec 32 := 0#32
  let v38 : BitVec 1 := Scalar.cmpi .ne v37 c0_i32_28
  v38

def k0_mult57 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let c0_i32_157 : BitVec 32 := 0#32
  let v257 : BitVec 32 := Scalar.addi v256 c0_i32_157
  v257
def k0_off57 (i : grid0.Coords) (c0_i32_157 : BitVec 32) : Fin 3 → Nat :=
  let c0_158 : Index := 0#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := Scalar.addi v256 c0_i32_157
  let v258 : BitVec 32 := v257
  let v259 : Index := Scalar.indexCast v258
  let c0_159 : Index := 0#32
  ![0, v259.toNat, 0]
def k0_off58 (i : grid0.Coords) (c0_i32_157 : BitVec 32) : Fin 2 → Nat :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := Scalar.addi v256 c0_i32_157
  let v258 : BitVec 32 := v257
  let v348 : Index := Scalar.indexCast v258
  let c0_206 : Index := 0#32
  ![v348.toNat, 0]
def k0_mult58 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_207 : BitVec 32 := 256#32
  let v352 : BitVec 32 := Scalar.muli v255 c256_i32_207
  let c64_i32 : BitVec 32 := 64#32
  let v353 : BitVec 32 := Scalar.addi v352 c64_i32
  v353
def k0_mult59 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_257 : BitVec 32 := 256#32
  let v448 : BitVec 32 := Scalar.muli v255 c256_i32_257
  let c128_i32 : BitVec 32 := 128#32
  let v449 : BitVec 32 := Scalar.addi v448 c128_i32
  v449
def k0_mult60 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_307 : BitVec 32 := 256#32
  let v544 : BitVec 32 := Scalar.muli v255 c256_i32_307
  let c192_i32 : BitVec 32 := 192#32
  let v545 : BitVec 32 := Scalar.addi v544 c192_i32
  v545
def k0_mult61 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_357 : BitVec 32 := 256#32
  let v640 : BitVec 32 := Scalar.muli v255 c256_i32_357
  v640
def k0_off59 (i : grid0.Coords) : Fin 4 → Nat :=
  let c0_358 : Index := 0#32
  let c0_359 : Index := 0#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_357 : BitVec 32 := 256#32
  let v640 : BitVec 32 := Scalar.muli v255 c256_i32_357
  let v641 : BitVec 32 := v640
  let v642 : Index := Scalar.indexCast v641
  let c0_360 : Index := 0#32
  ![0, 0, v642.toNat, 0]
def k0_mult62 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_365 : BitVec 32 := 256#32
  let v648 : BitVec 32 := Scalar.muli v255 c256_i32_365
  v648
def k0_off60 (i : grid0.Coords) : Fin 3 → Nat :=
  let c0_366 : Index := 0#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_365 : BitVec 32 := 256#32
  let v648 : BitVec 32 := Scalar.muli v255 c256_i32_365
  let v649 : BitVec 32 := v648
  let v650 : Index := Scalar.indexCast v649
  let c0_367 : Index := 0#32
  ![0, v650.toNat, 0]
def k0_mult63 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_368 : BitVec 32 := 256#32
  let v654 : BitVec 32 := Scalar.muli v255 c256_i32_368
  v654
def k0_off61 (i : grid0.Coords) : Fin 4 → Nat :=
  let c0_369 : Index := 0#32
  let c1 : Index := 1#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_368 : BitVec 32 := 256#32
  let v654 : BitVec 32 := Scalar.muli v255 c256_i32_368
  let v655 : BitVec 32 := v654
  let v656 : Index := Scalar.indexCast v655
  let c0_370 : Index := 0#32
  ![0, 1, v656.toNat, 0]
def k0_mult64 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_375 : BitVec 32 := 256#32
  let v662 : BitVec 32 := Scalar.muli v255 c256_i32_375
  v662
def k0_off62 (i : grid0.Coords) : Fin 3 → Nat :=
  let c1_376 : Index := 1#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_375 : BitVec 32 := 256#32
  let v662 : BitVec 32 := Scalar.muli v255 c256_i32_375
  let v663 : BitVec 32 := v662
  let v664 : Index := Scalar.indexCast v663
  let c0_377 : Index := 0#32
  ![1, v664.toNat, 0]
def k0_mult65 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_378 : BitVec 32 := 256#32
  let v668 : BitVec 32 := Scalar.muli v255 c256_i32_378
  v668
def k0_off63 (i : grid0.Coords) : Fin 4 → Nat :=
  let c0_379 : Index := 0#32
  let c2 : Index := 2#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_378 : BitVec 32 := 256#32
  let v668 : BitVec 32 := Scalar.muli v255 c256_i32_378
  let v669 : BitVec 32 := v668
  let v670 : Index := Scalar.indexCast v669
  let c0_380 : Index := 0#32
  ![0, 2, v670.toNat, 0]
def k0_mult66 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_385 : BitVec 32 := 256#32
  let v676 : BitVec 32 := Scalar.muli v255 c256_i32_385
  v676
def k0_off64 (i : grid0.Coords) : Fin 3 → Nat :=
  let c2_386 : Index := 2#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_385 : BitVec 32 := 256#32
  let v676 : BitVec 32 := Scalar.muli v255 c256_i32_385
  let v677 : BitVec 32 := v676
  let v678 : Index := Scalar.indexCast v677
  let c0_387 : Index := 0#32
  ![2, v678.toNat, 0]
def k0_mult67 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_388 : BitVec 32 := 256#32
  let v682 : BitVec 32 := Scalar.muli v255 c256_i32_388
  v682
def k0_off65 (i : grid0.Coords) : Fin 4 → Nat :=
  let c0_389 : Index := 0#32
  let c3 : Index := 3#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_388 : BitVec 32 := 256#32
  let v682 : BitVec 32 := Scalar.muli v255 c256_i32_388
  let v683 : BitVec 32 := v682
  let v684 : Index := Scalar.indexCast v683
  let c0_390 : Index := 0#32
  ![0, 3, v684.toNat, 0]
def k0_mult68 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_395 : BitVec 32 := 256#32
  let v690 : BitVec 32 := Scalar.muli v255 c256_i32_395
  v690
def k0_off66 (i : grid0.Coords) : Fin 3 → Nat :=
  let c3_396 : Index := 3#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_395 : BitVec 32 := 256#32
  let v690 : BitVec 32 := Scalar.muli v255 c256_i32_395
  let v691 : BitVec 32 := v690
  let v692 : Index := Scalar.indexCast v691
  let c0_397 : Index := 0#32
  ![3, v692.toNat, 0]
def k0_mult69 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_398 : BitVec 32 := 256#32
  let v696 : BitVec 32 := Scalar.muli v255 c256_i32_398
  v696
def k0_off67 (i : grid0.Coords) : Fin 2 → Nat :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_398 : BitVec 32 := 256#32
  let v696 : BitVec 32 := Scalar.muli v255 c256_i32_398
  let v697 : BitVec 32 := v696
  let v698 : Index := Scalar.indexCast v697
  let c0_399 : Index := 0#32
  ![v698.toNat, 0]
def k0_off68 (i : grid0.Coords) : Fin 4 → Nat :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let v1524 : Index := Scalar.indexCast v255
  let c0_637 : Index := 0#32
  let c0_638 : Index := 0#32
  let c0_639 : Index := 0#32
  ![v1524.toNat, 0, 0, 0]
def k0_mult70 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_640 : BitVec 32 := 256#32
  let v1528 : BitVec 32 := Scalar.muli v255 c256_i32_640
  v1528
def k0_off69 (i : grid0.Coords) : Fin 2 → Nat :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_640 : BitVec 32 := 256#32
  let v1528 : BitVec 32 := Scalar.muli v255 c256_i32_640
  let v1529 : BitVec 32 := v1528
  let v1530 : Index := Scalar.indexCast v1529
  let c128_641 : Index := 128#32
  ![v1530.toNat, 128]
def k0_off70 (i : grid0.Coords) : Fin 4 → Nat :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let v2356 : Index := Scalar.indexCast v255
  let c0_884 : Index := 0#32
  let c0_885 : Index := 0#32
  let c128_886 : Index := 128#32
  ![v2356.toNat, 0, 0, 128]
@[reducible] def k0_t3_loop : Scf.Loop 32 :=
  let c0_i32_48 : BitVec 32 := 0#32
  let c32_i32 : BitVec 32 := 32#32
  let v65 : BitVec 32 := Scalar.addi c0_i32_48 c32_i32
  let c1_i32_49 : BitVec 32 := 1#32
  ⟨c0_i32_48, v65, c1_i32_49⟩
def k0_off71 (k0_t3 : Fin k0_t3_loop.trips) : Fin 4 → Nat :=
  let c0_155 : Index := 0#32
  let c0_i32_48 : BitVec 32 := 0#32
  let c1_i32_49 : BitVec 32 := 1#32
  let arg24 : BitVec 32 := Scf.iv c0_i32_48 c1_i32_49 k0_t3
  let v255 : Index := Scalar.indexCast arg24
  let c0_156 : Index := 0#32
  let c0_157 : Index := 0#32
  ![0, v255.toNat, 0, 0]
def k0_off72 (k0_t3 : Fin k0_t3_loop.trips) : Fin 4 → Nat :=
  let c1 : Index := 1#32
  let c0_i32_48 : BitVec 32 := 0#32
  let c1_i32_49 : BitVec 32 := 1#32
  let arg24 : BitVec 32 := Scf.iv c0_i32_48 c1_i32_49 k0_t3
  let v259 : Index := Scalar.indexCast arg24
  let c0_158 : Index := 0#32
  let c0_159 : Index := 0#32
  ![1, v259.toNat, 0, 0]
def k0_off73 (k0_t3 : Fin k0_t3_loop.trips) : Fin 4 → Nat :=
  let c2 : Index := 2#32
  let c0_i32_48 : BitVec 32 := 0#32
  let c1_i32_49 : BitVec 32 := 1#32
  let arg24 : BitVec 32 := Scf.iv c0_i32_48 c1_i32_49 k0_t3
  let v263 : Index := Scalar.indexCast arg24
  let c0_160 : Index := 0#32
  let c0_161 : Index := 0#32
  ![2, v263.toNat, 0, 0]
def k0_off74 (k0_t3 : Fin k0_t3_loop.trips) : Fin 4 → Nat :=
  let c3 : Index := 3#32
  let c0_i32_48 : BitVec 32 := 0#32
  let c1_i32_49 : BitVec 32 := 1#32
  let arg24 : BitVec 32 := Scf.iv c0_i32_48 c1_i32_49 k0_t3
  let v267 : Index := Scalar.indexCast arg24
  let c0_162 : Index := 0#32
  let c0_163 : Index := 0#32
  ![3, v267.toNat, 0, 0]
def k0_off75 (k0_t3 : Fin k0_t3_loop.trips) : Fin 4 → Nat :=
  let c4 : Index := 4#32
  let c0_i32_48 : BitVec 32 := 0#32
  let c1_i32_49 : BitVec 32 := 1#32
  let arg24 : BitVec 32 := Scf.iv c0_i32_48 c1_i32_49 k0_t3
  let v271 : Index := Scalar.indexCast arg24
  let c0_164 : Index := 0#32
  let c0_165 : Index := 0#32
  ![4, v271.toNat, 0, 0]
def k0_off76 (k0_t3 : Fin k0_t3_loop.trips) : Fin 4 → Nat :=
  let c5 : Index := 5#32
  let c0_i32_48 : BitVec 32 := 0#32
  let c1_i32_49 : BitVec 32 := 1#32
  let arg24 : BitVec 32 := Scf.iv c0_i32_48 c1_i32_49 k0_t3
  let v275 : Index := Scalar.indexCast arg24
  let c0_166 : Index := 0#32
  let c0_167 : Index := 0#32
  ![5, v275.toNat, 0, 0]
def k0_off77 (k0_t3 : Fin k0_t3_loop.trips) : Fin 4 → Nat :=
  let c6 : Index := 6#32
  let c0_i32_48 : BitVec 32 := 0#32
  let c1_i32_49 : BitVec 32 := 1#32
  let arg24 : BitVec 32 := Scf.iv c0_i32_48 c1_i32_49 k0_t3
  let v279 : Index := Scalar.indexCast arg24
  let c0_168 : Index := 0#32
  let c0_169 : Index := 0#32
  ![6, v279.toNat, 0, 0]
def k0_off78 (k0_t3 : Fin k0_t3_loop.trips) : Fin 4 → Nat :=
  let c7 : Index := 7#32
  let c0_i32_48 : BitVec 32 := 0#32
  let c1_i32_49 : BitVec 32 := 1#32
  let arg24 : BitVec 32 := Scf.iv c0_i32_48 c1_i32_49 k0_t3
  let v283 : Index := Scalar.indexCast arg24
  let c0_170 : Index := 0#32
  let c0_171 : Index := 0#32
  ![7, v283.toNat, 0, 0]
@[reducible] def k0_t4_loop (i : grid0.Coords) : Scf.Loop 32 :=
  let c0_i32_55 : BitVec 32 := 0#32
  let arg1 : BitVec 32 := BitVec.ofNat 32 (i 1).val
  let c1_i32 : BitVec 32 := 1#32
  let v16 : BitVec 32 := Scalar.addi arg1 c1_i32
  let c1_i32_54 : BitVec 32 := 1#32
  let v80 : BitVec 32 := Scalar.shrui v16 c1_i32_54
  let v81 : BitVec 32 := Scalar.subi v80 c0_i32_55
  let c1_i32_56 : BitVec 32 := 1#32
  let v83 : BitVec 32 := Scalar.divsi v81 c1_i32_56
  let v84 : BitVec 32 := Scalar.muli v83 c1_i32_56
  let v85 : BitVec 32 := Scalar.addi c0_i32_55 v84
  let c1_i32_57 : BitVec 32 := 1#32
  ⟨c0_i32_55, v85, c1_i32_57⟩
def k0_mult71 (i : grid0.Coords) (k0_t4 : Fin (k0_t4_loop i).trips) : BitVec 32 :=
  let c2_i32_157 : BitVec 32 := 2#32
  let c0_i32_55 : BitVec 32 := 0#32
  let c1_i32_57 : BitVec 32 := 1#32
  let arg24 : BitVec 32 := Scf.iv c0_i32_55 c1_i32_57 k0_t4
  let v257 : BitVec 32 := Scalar.muli c2_i32_157 arg24
  let c256_i32_158 : BitVec 32 := 256#32
  let v258 : BitVec 32 := Scalar.muli v257 c256_i32_158
  v258
def k0_off79 (i : grid0.Coords) (k0_t4 : Fin (k0_t4_loop i).trips) : Fin 2 → Nat :=
  let c2_i32_157 : BitVec 32 := 2#32
  let c0_i32_55 : BitVec 32 := 0#32
  let c1_i32_57 : BitVec 32 := 1#32
  let arg24 : BitVec 32 := Scf.iv c0_i32_55 c1_i32_57 k0_t4
  let v257 : BitVec 32 := Scalar.muli c2_i32_157 arg24
  let c256_i32_158 : BitVec 32 := 256#32
  let v258 : BitVec 32 := Scalar.muli v257 c256_i32_158
  let v259 : BitVec 32 := v258
  let v260 : Index := Scalar.indexCast v259
  let c0_159 : Index := 0#32
  ![v260.toNat, 0]
def k0_mult72 (i : grid0.Coords) (k0_t4 : Fin (k0_t4_loop i).trips) : BitVec 32 :=
  let c2_i32_155 : BitVec 32 := 2#32
  let c0_i32_55 : BitVec 32 := 0#32
  let c1_i32_57 : BitVec 32 := 1#32
  let arg24 : BitVec 32 := Scf.iv c0_i32_55 c1_i32_57 k0_t4
  let v255 : BitVec 32 := Scalar.muli c2_i32_155 arg24
  let c1_i32_156 : BitVec 32 := 1#32
  let v256 : BitVec 32 := Scalar.addi v255 c1_i32_156
  let c256_i32_163 : BitVec 32 := 256#32
  let v274 : BitVec 32 := Scalar.muli v256 c256_i32_163
  v274
def k0_off80 (i : grid0.Coords) (k0_t4 : Fin (k0_t4_loop i).trips) : Fin 2 → Nat :=
  let c2_i32_155 : BitVec 32 := 2#32
  let c0_i32_55 : BitVec 32 := 0#32
  let c1_i32_57 : BitVec 32 := 1#32
  let arg24 : BitVec 32 := Scf.iv c0_i32_55 c1_i32_57 k0_t4
  let v255 : BitVec 32 := Scalar.muli c2_i32_155 arg24
  let c1_i32_156 : BitVec 32 := 1#32
  let v256 : BitVec 32 := Scalar.addi v255 c1_i32_156
  let c256_i32_163 : BitVec 32 := 256#32
  let v274 : BitVec 32 := Scalar.muli v256 c256_i32_163
  let v275 : BitVec 32 := v274
  let v276 : Index := Scalar.indexCast v275
  let c0_164 : Index := 0#32
  ![v276.toNat, 0]
@[reducible] def k0_t5_loop (i : grid0.Coords) : Scf.Loop 32 :=
  let c0_i32_55 : BitVec 32 := 0#32
  let arg1 : BitVec 32 := BitVec.ofNat 32 (i 1).val
  let c1_i32 : BitVec 32 := 1#32
  let v16 : BitVec 32 := Scalar.addi arg1 c1_i32
  let c1_i32_54 : BitVec 32 := 1#32
  let v80 : BitVec 32 := Scalar.shrui v16 c1_i32_54
  let v81 : BitVec 32 := Scalar.subi v80 c0_i32_55
  let c1_i32_56 : BitVec 32 := 1#32
  let v83 : BitVec 32 := Scalar.divsi v81 c1_i32_56
  let v84 : BitVec 32 := Scalar.muli v83 c1_i32_56
  let v85 : BitVec 32 := Scalar.addi c0_i32_55 v84
  let v82 : BitVec 32 := Scalar.addi c0_i32_55 v81
  let c1_i32_58 : BitVec 32 := 1#32
  ⟨v85, v82, c1_i32_58⟩
def k0_mult73 (i : grid0.Coords) (k0_t5 : Fin (k0_t5_loop i).trips) : BitVec 32 :=
  let c2_i32_157 : BitVec 32 := 2#32
  let c0_i32_55 : BitVec 32 := 0#32
  let arg1 : BitVec 32 := BitVec.ofNat 32 (i 1).val
  let c1_i32 : BitVec 32 := 1#32
  let v16 : BitVec 32 := Scalar.addi arg1 c1_i32
  let c1_i32_54 : BitVec 32 := 1#32
  let v80 : BitVec 32 := Scalar.shrui v16 c1_i32_54
  let v81 : BitVec 32 := Scalar.subi v80 c0_i32_55
  let c1_i32_56 : BitVec 32 := 1#32
  let v83 : BitVec 32 := Scalar.divsi v81 c1_i32_56
  let v84 : BitVec 32 := Scalar.muli v83 c1_i32_56
  let v85 : BitVec 32 := Scalar.addi c0_i32_55 v84
  let c1_i32_58 : BitVec 32 := 1#32
  let arg24 : BitVec 32 := Scf.iv v85 c1_i32_58 k0_t5
  let v257 : BitVec 32 := Scalar.muli c2_i32_157 arg24
  let c256_i32_158 : BitVec 32 := 256#32
  let v258 : BitVec 32 := Scalar.muli v257 c256_i32_158
  v258
def k0_off81 (i : grid0.Coords) (k0_t5 : Fin (k0_t5_loop i).trips) : Fin 2 → Nat :=
  let c2_i32_157 : BitVec 32 := 2#32
  let c0_i32_55 : BitVec 32 := 0#32
  let arg1 : BitVec 32 := BitVec.ofNat 32 (i 1).val
  let c1_i32 : BitVec 32 := 1#32
  let v16 : BitVec 32 := Scalar.addi arg1 c1_i32
  let c1_i32_54 : BitVec 32 := 1#32
  let v80 : BitVec 32 := Scalar.shrui v16 c1_i32_54
  let v81 : BitVec 32 := Scalar.subi v80 c0_i32_55
  let c1_i32_56 : BitVec 32 := 1#32
  let v83 : BitVec 32 := Scalar.divsi v81 c1_i32_56
  let v84 : BitVec 32 := Scalar.muli v83 c1_i32_56
  let v85 : BitVec 32 := Scalar.addi c0_i32_55 v84
  let c1_i32_58 : BitVec 32 := 1#32
  let arg24 : BitVec 32 := Scf.iv v85 c1_i32_58 k0_t5
  let v257 : BitVec 32 := Scalar.muli c2_i32_157 arg24
  let c256_i32_158 : BitVec 32 := 256#32
  let v258 : BitVec 32 := Scalar.muli v257 c256_i32_158
  let v259 : BitVec 32 := v258
  let v260 : Index := Scalar.indexCast v259
  let c0_159 : Index := 0#32
  ![v260.toNat, 0]
def k0_mult74 (i : grid0.Coords) (k0_t5 : Fin (k0_t5_loop i).trips) : BitVec 32 :=
  let c2_i32_155 : BitVec 32 := 2#32
  let c0_i32_55 : BitVec 32 := 0#32
  let arg1 : BitVec 32 := BitVec.ofNat 32 (i 1).val
  let c1_i32 : BitVec 32 := 1#32
  let v16 : BitVec 32 := Scalar.addi arg1 c1_i32
  let c1_i32_54 : BitVec 32 := 1#32
  let v80 : BitVec 32 := Scalar.shrui v16 c1_i32_54
  let v81 : BitVec 32 := Scalar.subi v80 c0_i32_55
  let c1_i32_56 : BitVec 32 := 1#32
  let v83 : BitVec 32 := Scalar.divsi v81 c1_i32_56
  let v84 : BitVec 32 := Scalar.muli v83 c1_i32_56
  let v85 : BitVec 32 := Scalar.addi c0_i32_55 v84
  let c1_i32_58 : BitVec 32 := 1#32
  let arg24 : BitVec 32 := Scf.iv v85 c1_i32_58 k0_t5
  let v255 : BitVec 32 := Scalar.muli c2_i32_155 arg24
  let c1_i32_156 : BitVec 32 := 1#32
  let v256 : BitVec 32 := Scalar.addi v255 c1_i32_156
  let c256_i32_163 : BitVec 32 := 256#32
  let v274 : BitVec 32 := Scalar.muli v256 c256_i32_163
  v274
def k0_off82 (i : grid0.Coords) (k0_t5 : Fin (k0_t5_loop i).trips) : Fin 2 → Nat :=
  let c2_i32_155 : BitVec 32 := 2#32
  let c0_i32_55 : BitVec 32 := 0#32
  let arg1 : BitVec 32 := BitVec.ofNat 32 (i 1).val
  let c1_i32 : BitVec 32 := 1#32
  let v16 : BitVec 32 := Scalar.addi arg1 c1_i32
  let c1_i32_54 : BitVec 32 := 1#32
  let v80 : BitVec 32 := Scalar.shrui v16 c1_i32_54
  let v81 : BitVec 32 := Scalar.subi v80 c0_i32_55
  let c1_i32_56 : BitVec 32 := 1#32
  let v83 : BitVec 32 := Scalar.divsi v81 c1_i32_56
  let v84 : BitVec 32 := Scalar.muli v83 c1_i32_56
  let v85 : BitVec 32 := Scalar.addi c0_i32_55 v84
  let c1_i32_58 : BitVec 32 := 1#32
  let arg24 : BitVec 32 := Scf.iv v85 c1_i32_58 k0_t5
  let v255 : BitVec 32 := Scalar.muli c2_i32_155 arg24
  let c1_i32_156 : BitVec 32 := 1#32
  let v256 : BitVec 32 := Scalar.addi v255 c1_i32_156
  let c256_i32_163 : BitVec 32 := 256#32
  let v274 : BitVec 32 := Scalar.muli v256 c256_i32_163
  let v275 : BitVec 32 := v274
  let v276 : Index := Scalar.indexCast v275
  let c0_164 : Index := 0#32
  ![v276.toNat, 0]
def k0_cond3 (i : grid0.Coords) : BitVec 1 :=
  let arg1 : BitVec 32 := BitVec.ofNat 32 (i 1).val
  let c1_i32 : BitVec 32 := 1#32
  let v16 : BitVec 32 := Scalar.addi arg1 c1_i32
  let c1_i32_59 : BitVec 32 := 1#32
  let v88 : BitVec 32 := Scalar.andi v16 c1_i32_59
  let c1_i32_60 : BitVec 32 := 1#32
  let v89 : BitVec 1 := Scalar.cmpi .eq v88 c1_i32_60
  let v90 : BitVec 32 := Scalar.extui v89
  let c0_i32_61 : BitVec 32 := 0#32
  let v91 : BitVec 1 := Scalar.cmpi .ne v90 c0_i32_61
  v91

def k0_mult75 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  v256
def k0_off83 (i : grid0.Coords) : Fin 2 → Nat :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v258 : Index := Scalar.indexCast v257
  let c0_157 : Index := 0#32
  ![v258.toNat, 0]
@[reducible] def k0_t6_loop (i : grid0.Coords) : Scf.Loop 32 :=
  let c0_i32_158 : BitVec 32 := 0#32
  let arg1 : BitVec 32 := BitVec.ofNat 32 (i 1).val
  let c1_i32 : BitVec 32 := 1#32
  let v16 : BitVec 32 := Scalar.addi arg1 c1_i32
  let c1_i32_157 : BitVec 32 := 1#32
  let v257 : BitVec 32 := Scalar.shrui v16 c1_i32_157
  let v258 : BitVec 32 := Scalar.subi v257 c0_i32_158
  let c1_i32_159 : BitVec 32 := 1#32
  let v260 : BitVec 32 := Scalar.divsi v258 c1_i32_159
  let v261 : BitVec 32 := Scalar.muli v260 c1_i32_159
  let v262 : BitVec 32 := Scalar.addi c0_i32_158 v261
  let c1_i32_160 : BitVec 32 := 1#32
  ⟨c0_i32_158, v262, c1_i32_160⟩
def k0_mult76 (i : grid0.Coords) (k0_t6 : Fin (k0_t6_loop i).trips) : BitVec 32 :=
  let c2_i32_182 : BitVec 32 := 2#32
  let c0_i32_158 : BitVec 32 := 0#32
  let c1_i32_160 : BitVec 32 := 1#32
  let arg28 : BitVec 32 := Scf.iv c0_i32_158 c1_i32_160 k0_t6
  let v300 : BitVec 32 := Scalar.muli c2_i32_182 arg28
  let c256_i32_183 : BitVec 32 := 256#32
  let v301 : BitVec 32 := Scalar.muli v300 c256_i32_183
  v301
def k0_off84 (i : grid0.Coords) (k0_t6 : Fin (k0_t6_loop i).trips) : Fin 2 → Nat :=
  let c2_i32_182 : BitVec 32 := 2#32
  let c0_i32_158 : BitVec 32 := 0#32
  let c1_i32_160 : BitVec 32 := 1#32
  let arg28 : BitVec 32 := Scf.iv c0_i32_158 c1_i32_160 k0_t6
  let v300 : BitVec 32 := Scalar.muli c2_i32_182 arg28
  let c256_i32_183 : BitVec 32 := 256#32
  let v301 : BitVec 32 := Scalar.muli v300 c256_i32_183
  let v302 : BitVec 32 := v301
  let v303 : Index := Scalar.indexCast v302
  let c0_184 : Index := 0#32
  ![v303.toNat, 0]
def k0_mult77 (i : grid0.Coords) (k0_t6 : Fin (k0_t6_loop i).trips) : BitVec 32 :=
  let c2_i32_180 : BitVec 32 := 2#32
  let c0_i32_158 : BitVec 32 := 0#32
  let c1_i32_160 : BitVec 32 := 1#32
  let arg28 : BitVec 32 := Scf.iv c0_i32_158 c1_i32_160 k0_t6
  let v298 : BitVec 32 := Scalar.muli c2_i32_180 arg28
  let c1_i32_181 : BitVec 32 := 1#32
  let v299 : BitVec 32 := Scalar.addi v298 c1_i32_181
  let c256_i32_187 : BitVec 32 := 256#32
  let v381 : BitVec 32 := Scalar.muli v299 c256_i32_187
  v381
def k0_off85 (i : grid0.Coords) (k0_t6 : Fin (k0_t6_loop i).trips) : Fin 2 → Nat :=
  let c2_i32_180 : BitVec 32 := 2#32
  let c0_i32_158 : BitVec 32 := 0#32
  let c1_i32_160 : BitVec 32 := 1#32
  let arg28 : BitVec 32 := Scf.iv c0_i32_158 c1_i32_160 k0_t6
  let v298 : BitVec 32 := Scalar.muli c2_i32_180 arg28
  let c1_i32_181 : BitVec 32 := 1#32
  let v299 : BitVec 32 := Scalar.addi v298 c1_i32_181
  let c256_i32_187 : BitVec 32 := 256#32
  let v381 : BitVec 32 := Scalar.muli v299 c256_i32_187
  let v382 : BitVec 32 := v381
  let v383 : Index := Scalar.indexCast v382
  let c0_188 : Index := 0#32
  ![v383.toNat, 0]
@[reducible] def k0_t7_loop (i : grid0.Coords) : Scf.Loop 32 :=
  let c0_i32_158 : BitVec 32 := 0#32
  let arg1 : BitVec 32 := BitVec.ofNat 32 (i 1).val
  let c1_i32 : BitVec 32 := 1#32
  let v16 : BitVec 32 := Scalar.addi arg1 c1_i32
  let c1_i32_157 : BitVec 32 := 1#32
  let v257 : BitVec 32 := Scalar.shrui v16 c1_i32_157
  let v258 : BitVec 32 := Scalar.subi v257 c0_i32_158
  let c1_i32_159 : BitVec 32 := 1#32
  let v260 : BitVec 32 := Scalar.divsi v258 c1_i32_159
  let v261 : BitVec 32 := Scalar.muli v260 c1_i32_159
  let v262 : BitVec 32 := Scalar.addi c0_i32_158 v261
  let v259 : BitVec 32 := Scalar.addi c0_i32_158 v258
  let c1_i32_161 : BitVec 32 := 1#32
  ⟨v262, v259, c1_i32_161⟩
def k0_mult78 (i : grid0.Coords) (k0_t7 : Fin (k0_t7_loop i).trips) : BitVec 32 :=
  let c2_i32_182 : BitVec 32 := 2#32
  let c0_i32_158 : BitVec 32 := 0#32
  let arg1 : BitVec 32 := BitVec.ofNat 32 (i 1).val
  let c1_i32 : BitVec 32 := 1#32
  let v16 : BitVec 32 := Scalar.addi arg1 c1_i32
  let c1_i32_157 : BitVec 32 := 1#32
  let v257 : BitVec 32 := Scalar.shrui v16 c1_i32_157
  let v258 : BitVec 32 := Scalar.subi v257 c0_i32_158
  let c1_i32_159 : BitVec 32 := 1#32
  let v260 : BitVec 32 := Scalar.divsi v258 c1_i32_159
  let v261 : BitVec 32 := Scalar.muli v260 c1_i32_159
  let v262 : BitVec 32 := Scalar.addi c0_i32_158 v261
  let c1_i32_161 : BitVec 32 := 1#32
  let arg28 : BitVec 32 := Scf.iv v262 c1_i32_161 k0_t7
  let v300 : BitVec 32 := Scalar.muli c2_i32_182 arg28
  let c256_i32_183 : BitVec 32 := 256#32
  let v301 : BitVec 32 := Scalar.muli v300 c256_i32_183
  v301
def k0_off86 (i : grid0.Coords) (k0_t7 : Fin (k0_t7_loop i).trips) : Fin 2 → Nat :=
  let c2_i32_182 : BitVec 32 := 2#32
  let c0_i32_158 : BitVec 32 := 0#32
  let arg1 : BitVec 32 := BitVec.ofNat 32 (i 1).val
  let c1_i32 : BitVec 32 := 1#32
  let v16 : BitVec 32 := Scalar.addi arg1 c1_i32
  let c1_i32_157 : BitVec 32 := 1#32
  let v257 : BitVec 32 := Scalar.shrui v16 c1_i32_157
  let v258 : BitVec 32 := Scalar.subi v257 c0_i32_158
  let c1_i32_159 : BitVec 32 := 1#32
  let v260 : BitVec 32 := Scalar.divsi v258 c1_i32_159
  let v261 : BitVec 32 := Scalar.muli v260 c1_i32_159
  let v262 : BitVec 32 := Scalar.addi c0_i32_158 v261
  let c1_i32_161 : BitVec 32 := 1#32
  let arg28 : BitVec 32 := Scf.iv v262 c1_i32_161 k0_t7
  let v300 : BitVec 32 := Scalar.muli c2_i32_182 arg28
  let c256_i32_183 : BitVec 32 := 256#32
  let v301 : BitVec 32 := Scalar.muli v300 c256_i32_183
  let v302 : BitVec 32 := v301
  let v303 : Index := Scalar.indexCast v302
  let c0_184 : Index := 0#32
  ![v303.toNat, 0]
def k0_mult79 (i : grid0.Coords) (k0_t7 : Fin (k0_t7_loop i).trips) : BitVec 32 :=
  let c2_i32_180 : BitVec 32 := 2#32
  let c0_i32_158 : BitVec 32 := 0#32
  let arg1 : BitVec 32 := BitVec.ofNat 32 (i 1).val
  let c1_i32 : BitVec 32 := 1#32
  let v16 : BitVec 32 := Scalar.addi arg1 c1_i32
  let c1_i32_157 : BitVec 32 := 1#32
  let v257 : BitVec 32 := Scalar.shrui v16 c1_i32_157
  let v258 : BitVec 32 := Scalar.subi v257 c0_i32_158
  let c1_i32_159 : BitVec 32 := 1#32
  let v260 : BitVec 32 := Scalar.divsi v258 c1_i32_159
  let v261 : BitVec 32 := Scalar.muli v260 c1_i32_159
  let v262 : BitVec 32 := Scalar.addi c0_i32_158 v261
  let c1_i32_161 : BitVec 32 := 1#32
  let arg28 : BitVec 32 := Scf.iv v262 c1_i32_161 k0_t7
  let v298 : BitVec 32 := Scalar.muli c2_i32_180 arg28
  let c1_i32_181 : BitVec 32 := 1#32
  let v299 : BitVec 32 := Scalar.addi v298 c1_i32_181
  let c256_i32_187 : BitVec 32 := 256#32
  let v381 : BitVec 32 := Scalar.muli v299 c256_i32_187
  v381
def k0_off87 (i : grid0.Coords) (k0_t7 : Fin (k0_t7_loop i).trips) : Fin 2 → Nat :=
  let c2_i32_180 : BitVec 32 := 2#32
  let c0_i32_158 : BitVec 32 := 0#32
  let arg1 : BitVec 32 := BitVec.ofNat 32 (i 1).val
  let c1_i32 : BitVec 32 := 1#32
  let v16 : BitVec 32 := Scalar.addi arg1 c1_i32
  let c1_i32_157 : BitVec 32 := 1#32
  let v257 : BitVec 32 := Scalar.shrui v16 c1_i32_157
  let v258 : BitVec 32 := Scalar.subi v257 c0_i32_158
  let c1_i32_159 : BitVec 32 := 1#32
  let v260 : BitVec 32 := Scalar.divsi v258 c1_i32_159
  let v261 : BitVec 32 := Scalar.muli v260 c1_i32_159
  let v262 : BitVec 32 := Scalar.addi c0_i32_158 v261
  let c1_i32_161 : BitVec 32 := 1#32
  let arg28 : BitVec 32 := Scf.iv v262 c1_i32_161 k0_t7
  let v298 : BitVec 32 := Scalar.muli c2_i32_180 arg28
  let c1_i32_181 : BitVec 32 := 1#32
  let v299 : BitVec 32 := Scalar.addi v298 c1_i32_181
  let c256_i32_187 : BitVec 32 := 256#32
  let v381 : BitVec 32 := Scalar.muli v299 c256_i32_187
  let v382 : BitVec 32 := v381
  let v383 : Index := Scalar.indexCast v382
  let c0_188 : Index := 0#32
  ![v383.toNat, 0]
def k0_cond4 (i : grid0.Coords) : BitVec 1 :=
  let arg1 : BitVec 32 := BitVec.ofNat 32 (i 1).val
  let c1_i32 : BitVec 32 := 1#32
  let v16 : BitVec 32 := Scalar.addi arg1 c1_i32
  let c1_i32_162 : BitVec 32 := 1#32
  let v265 : BitVec 32 := Scalar.andi v16 c1_i32_162
  let c1_i32_163 : BitVec 32 := 1#32
  let v266 : BitVec 1 := Scalar.cmpi .eq v265 c1_i32_163
  let v267 : BitVec 32 := Scalar.extui v266
  let c0_i32_164 : BitVec 32 := 0#32
  let v268 : BitVec 1 := Scalar.cmpi .ne v267 c0_i32_164
  v268

def k0_mult80 (i : grid0.Coords) : BitVec 32 :=
  let arg1 : BitVec 32 := BitVec.ofNat 32 (i 1).val
  let c1_i32 : BitVec 32 := 1#32
  let v16 : BitVec 32 := Scalar.addi arg1 c1_i32
  let c1_i32_180 : BitVec 32 := 1#32
  let v298 : BitVec 32 := Scalar.subi v16 c1_i32_180
  let c256_i32_181 : BitVec 32 := 256#32
  let v299 : BitVec 32 := Scalar.muli v298 c256_i32_181
  v299
def k0_off88 (i : grid0.Coords) : Fin 2 → Nat :=
  let arg1 : BitVec 32 := BitVec.ofNat 32 (i 1).val
  let c1_i32 : BitVec 32 := 1#32
  let v16 : BitVec 32 := Scalar.addi arg1 c1_i32
  let c1_i32_180 : BitVec 32 := 1#32
  let v298 : BitVec 32 := Scalar.subi v16 c1_i32_180
  let c256_i32_181 : BitVec 32 := 256#32
  let v299 : BitVec 32 := Scalar.muli v298 c256_i32_181
  let v300 : BitVec 32 := v299
  let v301 : Index := Scalar.indexCast v300
  let c0_182 : Index := 0#32
  ![v301.toNat, 0]
@[reducible] def k0_t8_loop (i : grid0.Coords) : Scf.Loop 32 :=
  let c0_i32_169 : BitVec 32 := 0#32
  let arg1 : BitVec 32 := BitVec.ofNat 32 (i 1).val
  let c1_i32 : BitVec 32 := 1#32
  let v16 : BitVec 32 := Scalar.addi arg1 c1_i32
  let c1_i32_168 : BitVec 32 := 1#32
  let v277 : BitVec 32 := Scalar.shrui v16 c1_i32_168
  let v278 : BitVec 32 := Scalar.subi v277 c0_i32_169
  let c1_i32_170 : BitVec 32 := 1#32
  let v280 : BitVec 32 := Scalar.divsi v278 c1_i32_170
  let v281 : BitVec 32 := Scalar.muli v280 c1_i32_170
  let v282 : BitVec 32 := Scalar.addi c0_i32_169 v281
  let c1_i32_171 : BitVec 32 := 1#32
  ⟨c0_i32_169, v282, c1_i32_171⟩
def k0_mult81 (i : grid0.Coords) (k0_t8 : Fin (k0_t8_loop i).trips) : BitVec 32 :=
  let c2_i32_182 : BitVec 32 := 2#32
  let c0_i32_169 : BitVec 32 := 0#32
  let c1_i32_171 : BitVec 32 := 1#32
  let arg28 : BitVec 32 := Scf.iv c0_i32_169 c1_i32_171 k0_t8
  let v300 : BitVec 32 := Scalar.muli c2_i32_182 arg28
  let c256_i32_183 : BitVec 32 := 256#32
  let v301 : BitVec 32 := Scalar.muli v300 c256_i32_183
  v301
def k0_off89 (i : grid0.Coords) (k0_t8 : Fin (k0_t8_loop i).trips) : Fin 2 → Nat :=
  let c2_i32_182 : BitVec 32 := 2#32
  let c0_i32_169 : BitVec 32 := 0#32
  let c1_i32_171 : BitVec 32 := 1#32
  let arg28 : BitVec 32 := Scf.iv c0_i32_169 c1_i32_171 k0_t8
  let v300 : BitVec 32 := Scalar.muli c2_i32_182 arg28
  let c256_i32_183 : BitVec 32 := 256#32
  let v301 : BitVec 32 := Scalar.muli v300 c256_i32_183
  let v302 : BitVec 32 := v301
  let v303 : Index := Scalar.indexCast v302
  let c0_184 : Index := 0#32
  ![v303.toNat, 0]
def k0_mult82 (i : grid0.Coords) (k0_t8 : Fin (k0_t8_loop i).trips) : BitVec 32 :=
  let c2_i32_180 : BitVec 32 := 2#32
  let c0_i32_169 : BitVec 32 := 0#32
  let c1_i32_171 : BitVec 32 := 1#32
  let arg28 : BitVec 32 := Scf.iv c0_i32_169 c1_i32_171 k0_t8
  let v298 : BitVec 32 := Scalar.muli c2_i32_180 arg28
  let c1_i32_181 : BitVec 32 := 1#32
  let v299 : BitVec 32 := Scalar.addi v298 c1_i32_181
  let c256_i32_188 : BitVec 32 := 256#32
  let v317 : BitVec 32 := Scalar.muli v299 c256_i32_188
  v317
def k0_off90 (i : grid0.Coords) (k0_t8 : Fin (k0_t8_loop i).trips) : Fin 2 → Nat :=
  let c2_i32_180 : BitVec 32 := 2#32
  let c0_i32_169 : BitVec 32 := 0#32
  let c1_i32_171 : BitVec 32 := 1#32
  let arg28 : BitVec 32 := Scf.iv c0_i32_169 c1_i32_171 k0_t8
  let v298 : BitVec 32 := Scalar.muli c2_i32_180 arg28
  let c1_i32_181 : BitVec 32 := 1#32
  let v299 : BitVec 32 := Scalar.addi v298 c1_i32_181
  let c256_i32_188 : BitVec 32 := 256#32
  let v317 : BitVec 32 := Scalar.muli v299 c256_i32_188
  let v318 : BitVec 32 := v317
  let v319 : Index := Scalar.indexCast v318
  let c0_189 : Index := 0#32
  ![v319.toNat, 0]
@[reducible] def k0_t9_loop (i : grid0.Coords) : Scf.Loop 32 :=
  let c0_i32_169 : BitVec 32 := 0#32
  let arg1 : BitVec 32 := BitVec.ofNat 32 (i 1).val
  let c1_i32 : BitVec 32 := 1#32
  let v16 : BitVec 32 := Scalar.addi arg1 c1_i32
  let c1_i32_168 : BitVec 32 := 1#32
  let v277 : BitVec 32 := Scalar.shrui v16 c1_i32_168
  let v278 : BitVec 32 := Scalar.subi v277 c0_i32_169
  let c1_i32_170 : BitVec 32 := 1#32
  let v280 : BitVec 32 := Scalar.divsi v278 c1_i32_170
  let v281 : BitVec 32 := Scalar.muli v280 c1_i32_170
  let v282 : BitVec 32 := Scalar.addi c0_i32_169 v281
  let v279 : BitVec 32 := Scalar.addi c0_i32_169 v278
  let c1_i32_172 : BitVec 32 := 1#32
  ⟨v282, v279, c1_i32_172⟩
def k0_mult83 (i : grid0.Coords) (k0_t9 : Fin (k0_t9_loop i).trips) : BitVec 32 :=
  let c2_i32_182 : BitVec 32 := 2#32
  let c0_i32_169 : BitVec 32 := 0#32
  let arg1 : BitVec 32 := BitVec.ofNat 32 (i 1).val
  let c1_i32 : BitVec 32 := 1#32
  let v16 : BitVec 32 := Scalar.addi arg1 c1_i32
  let c1_i32_168 : BitVec 32 := 1#32
  let v277 : BitVec 32 := Scalar.shrui v16 c1_i32_168
  let v278 : BitVec 32 := Scalar.subi v277 c0_i32_169
  let c1_i32_170 : BitVec 32 := 1#32
  let v280 : BitVec 32 := Scalar.divsi v278 c1_i32_170
  let v281 : BitVec 32 := Scalar.muli v280 c1_i32_170
  let v282 : BitVec 32 := Scalar.addi c0_i32_169 v281
  let c1_i32_172 : BitVec 32 := 1#32
  let arg28 : BitVec 32 := Scf.iv v282 c1_i32_172 k0_t9
  let v300 : BitVec 32 := Scalar.muli c2_i32_182 arg28
  let c256_i32_183 : BitVec 32 := 256#32
  let v301 : BitVec 32 := Scalar.muli v300 c256_i32_183
  v301
def k0_off91 (i : grid0.Coords) (k0_t9 : Fin (k0_t9_loop i).trips) : Fin 2 → Nat :=
  let c2_i32_182 : BitVec 32 := 2#32
  let c0_i32_169 : BitVec 32 := 0#32
  let arg1 : BitVec 32 := BitVec.ofNat 32 (i 1).val
  let c1_i32 : BitVec 32 := 1#32
  let v16 : BitVec 32 := Scalar.addi arg1 c1_i32
  let c1_i32_168 : BitVec 32 := 1#32
  let v277 : BitVec 32 := Scalar.shrui v16 c1_i32_168
  let v278 : BitVec 32 := Scalar.subi v277 c0_i32_169
  let c1_i32_170 : BitVec 32 := 1#32
  let v280 : BitVec 32 := Scalar.divsi v278 c1_i32_170
  let v281 : BitVec 32 := Scalar.muli v280 c1_i32_170
  let v282 : BitVec 32 := Scalar.addi c0_i32_169 v281
  let c1_i32_172 : BitVec 32 := 1#32
  let arg28 : BitVec 32 := Scf.iv v282 c1_i32_172 k0_t9
  let v300 : BitVec 32 := Scalar.muli c2_i32_182 arg28
  let c256_i32_183 : BitVec 32 := 256#32
  let v301 : BitVec 32 := Scalar.muli v300 c256_i32_183
  let v302 : BitVec 32 := v301
  let v303 : Index := Scalar.indexCast v302
  let c0_184 : Index := 0#32
  ![v303.toNat, 0]
def k0_mult84 (i : grid0.Coords) (k0_t9 : Fin (k0_t9_loop i).trips) : BitVec 32 :=
  let c2_i32_180 : BitVec 32 := 2#32
  let c0_i32_169 : BitVec 32 := 0#32
  let arg1 : BitVec 32 := BitVec.ofNat 32 (i 1).val
  let c1_i32 : BitVec 32 := 1#32
  let v16 : BitVec 32 := Scalar.addi arg1 c1_i32
  let c1_i32_168 : BitVec 32 := 1#32
  let v277 : BitVec 32 := Scalar.shrui v16 c1_i32_168
  let v278 : BitVec 32 := Scalar.subi v277 c0_i32_169
  let c1_i32_170 : BitVec 32 := 1#32
  let v280 : BitVec 32 := Scalar.divsi v278 c1_i32_170
  let v281 : BitVec 32 := Scalar.muli v280 c1_i32_170
  let v282 : BitVec 32 := Scalar.addi c0_i32_169 v281
  let c1_i32_172 : BitVec 32 := 1#32
  let arg28 : BitVec 32 := Scf.iv v282 c1_i32_172 k0_t9
  let v298 : BitVec 32 := Scalar.muli c2_i32_180 arg28
  let c1_i32_181 : BitVec 32 := 1#32
  let v299 : BitVec 32 := Scalar.addi v298 c1_i32_181
  let c256_i32_188 : BitVec 32 := 256#32
  let v317 : BitVec 32 := Scalar.muli v299 c256_i32_188
  v317
def k0_off92 (i : grid0.Coords) (k0_t9 : Fin (k0_t9_loop i).trips) : Fin 2 → Nat :=
  let c2_i32_180 : BitVec 32 := 2#32
  let c0_i32_169 : BitVec 32 := 0#32
  let arg1 : BitVec 32 := BitVec.ofNat 32 (i 1).val
  let c1_i32 : BitVec 32 := 1#32
  let v16 : BitVec 32 := Scalar.addi arg1 c1_i32
  let c1_i32_168 : BitVec 32 := 1#32
  let v277 : BitVec 32 := Scalar.shrui v16 c1_i32_168
  let v278 : BitVec 32 := Scalar.subi v277 c0_i32_169
  let c1_i32_170 : BitVec 32 := 1#32
  let v280 : BitVec 32 := Scalar.divsi v278 c1_i32_170
  let v281 : BitVec 32 := Scalar.muli v280 c1_i32_170
  let v282 : BitVec 32 := Scalar.addi c0_i32_169 v281
  let c1_i32_172 : BitVec 32 := 1#32
  let arg28 : BitVec 32 := Scf.iv v282 c1_i32_172 k0_t9
  let v298 : BitVec 32 := Scalar.muli c2_i32_180 arg28
  let c1_i32_181 : BitVec 32 := 1#32
  let v299 : BitVec 32 := Scalar.addi v298 c1_i32_181
  let c256_i32_188 : BitVec 32 := 256#32
  let v317 : BitVec 32 := Scalar.muli v299 c256_i32_188
  let v318 : BitVec 32 := v317
  let v319 : Index := Scalar.indexCast v318
  let c0_189 : Index := 0#32
  ![v319.toNat, 0]
def k0_cond5 (i : grid0.Coords) : BitVec 1 :=
  let arg1 : BitVec 32 := BitVec.ofNat 32 (i 1).val
  let c1_i32 : BitVec 32 := 1#32
  let v16 : BitVec 32 := Scalar.addi arg1 c1_i32
  let c1_i32_173 : BitVec 32 := 1#32
  let v285 : BitVec 32 := Scalar.andi v16 c1_i32_173
  let c1_i32_174 : BitVec 32 := 1#32
  let v286 : BitVec 1 := Scalar.cmpi .eq v285 c1_i32_174
  let v287 : BitVec 32 := Scalar.extui v286
  let c0_i32_175 : BitVec 32 := 0#32
  let v288 : BitVec 1 := Scalar.cmpi .ne v287 c0_i32_175
  v288

def k0_mult85 (i : grid0.Coords) : BitVec 32 :=
  let arg1 : BitVec 32 := BitVec.ofNat 32 (i 1).val
  let c1_i32 : BitVec 32 := 1#32
  let v16 : BitVec 32 := Scalar.addi arg1 c1_i32
  let c1_i32_180 : BitVec 32 := 1#32
  let v298 : BitVec 32 := Scalar.subi v16 c1_i32_180
  let c256_i32_181 : BitVec 32 := 256#32
  let v299 : BitVec 32 := Scalar.muli v298 c256_i32_181
  v299
def k0_off93 (i : grid0.Coords) : Fin 2 → Nat :=
  let arg1 : BitVec 32 := BitVec.ofNat 32 (i 1).val
  let c1_i32 : BitVec 32 := 1#32
  let v16 : BitVec 32 := Scalar.addi arg1 c1_i32
  let c1_i32_180 : BitVec 32 := 1#32
  let v298 : BitVec 32 := Scalar.subi v16 c1_i32_180
  let c256_i32_181 : BitVec 32 := 256#32
  let v299 : BitVec 32 := Scalar.muli v298 c256_i32_181
  let v300 : BitVec 32 := v299
  let v301 : Index := Scalar.indexCast v300
  let c0_182 : Index := 0#32
  ![v301.toNat, 0]
@[reducible] def k0_t10_loop (i : grid0.Coords) : Scf.Loop 32 :=
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let c1_i32_163 : BitVec 32 := 1#32
  ⟨c0_i32_161, v265, c1_i32_163⟩
def k0_mult86 (i : grid0.Coords) (k0_t10 : Fin (k0_t10_loop i).trips) : BitVec 32 :=
  let c2_i32_194 : BitVec 32 := 2#32
  let c0_i32_161 : BitVec 32 := 0#32
  let c1_i32_163 : BitVec 32 := 1#32
  let arg24 : BitVec 32 := Scf.iv c0_i32_161 c1_i32_163 k0_t10
  let v299 : BitVec 32 := Scalar.muli c2_i32_194 arg24
  let c256_i32_195 : BitVec 32 := 256#32
  let v300 : BitVec 32 := Scalar.muli v299 c256_i32_195
  v300
def k0_off94 (i : grid0.Coords) (k0_t10 : Fin (k0_t10_loop i).trips) : Fin 2 → Nat :=
  let c2_i32_194 : BitVec 32 := 2#32
  let c0_i32_161 : BitVec 32 := 0#32
  let c1_i32_163 : BitVec 32 := 1#32
  let arg24 : BitVec 32 := Scf.iv c0_i32_161 c1_i32_163 k0_t10
  let v299 : BitVec 32 := Scalar.muli c2_i32_194 arg24
  let c256_i32_195 : BitVec 32 := 256#32
  let v300 : BitVec 32 := Scalar.muli v299 c256_i32_195
  let v301 : BitVec 32 := v300
  let v302 : Index := Scalar.indexCast v301
  let c0_196 : Index := 0#32
  ![v302.toNat, 0]
def k0_off95 (i : grid0.Coords) (k0_t10 : Fin (k0_t10_loop i).trips) : Fin 3 → Nat :=
  let c2_i32_194 : BitVec 32 := 2#32
  let c0_i32_161 : BitVec 32 := 0#32
  let c1_i32_163 : BitVec 32 := 1#32
  let arg24 : BitVec 32 := Scf.iv c0_i32_161 c1_i32_163 k0_t10
  let v299 : BitVec 32 := Scalar.muli c2_i32_194 arg24
  let v500 : Index := Scalar.indexCast v299
  let c0_238 : Index := 0#32
  let c0_239 : Index := 0#32
  ![v500.toNat, 0, 0]
def k0_mult87 (i : grid0.Coords) (k0_t10 : Fin (k0_t10_loop i).trips) : BitVec 32 :=
  let c2_i32_192 : BitVec 32 := 2#32
  let c0_i32_161 : BitVec 32 := 0#32
  let c1_i32_163 : BitVec 32 := 1#32
  let arg24 : BitVec 32 := Scf.iv c0_i32_161 c1_i32_163 k0_t10
  let v297 : BitVec 32 := Scalar.muli c2_i32_192 arg24
  let c1_i32_193 : BitVec 32 := 1#32
  let v298 : BitVec 32 := Scalar.addi v297 c1_i32_193
  let c256_i32_240 : BitVec 32 := 256#32
  let v504 : BitVec 32 := Scalar.muli v298 c256_i32_240
  v504
def k0_off96 (i : grid0.Coords) (k0_t10 : Fin (k0_t10_loop i).trips) : Fin 2 → Nat :=
  let c2_i32_192 : BitVec 32 := 2#32
  let c0_i32_161 : BitVec 32 := 0#32
  let c1_i32_163 : BitVec 32 := 1#32
  let arg24 : BitVec 32 := Scf.iv c0_i32_161 c1_i32_163 k0_t10
  let v297 : BitVec 32 := Scalar.muli c2_i32_192 arg24
  let c1_i32_193 : BitVec 32 := 1#32
  let v298 : BitVec 32 := Scalar.addi v297 c1_i32_193
  let c256_i32_240 : BitVec 32 := 256#32
  let v504 : BitVec 32 := Scalar.muli v298 c256_i32_240
  let v505 : BitVec 32 := v504
  let v506 : Index := Scalar.indexCast v505
  let c0_241 : Index := 0#32
  ![v506.toNat, 0]
def k0_off97 (i : grid0.Coords) (k0_t10 : Fin (k0_t10_loop i).trips) : Fin 3 → Nat :=
  let c2_i32_192 : BitVec 32 := 2#32
  let c0_i32_161 : BitVec 32 := 0#32
  let c1_i32_163 : BitVec 32 := 1#32
  let arg24 : BitVec 32 := Scf.iv c0_i32_161 c1_i32_163 k0_t10
  let v297 : BitVec 32 := Scalar.muli c2_i32_192 arg24
  let c1_i32_193 : BitVec 32 := 1#32
  let v298 : BitVec 32 := Scalar.addi v297 c1_i32_193
  let v704 : Index := Scalar.indexCast v298
  let c0_307 : Index := 0#32
  let c0_308 : Index := 0#32
  ![v704.toNat, 0, 0]
@[reducible] def k0_t11_loop (i : grid0.Coords) : Scf.Loop 32 :=
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let v262 : BitVec 32 := Scalar.addi c0_i32_161 v261
  let c1_i32_164 : BitVec 32 := 1#32
  ⟨v265, v262, c1_i32_164⟩
def k0_mult88 (i : grid0.Coords) (k0_t11 : Fin (k0_t11_loop i).trips) : BitVec 32 :=
  let c2_i32_194 : BitVec 32 := 2#32
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let c1_i32_164 : BitVec 32 := 1#32
  let arg24 : BitVec 32 := Scf.iv v265 c1_i32_164 k0_t11
  let v299 : BitVec 32 := Scalar.muli c2_i32_194 arg24
  let c256_i32_195 : BitVec 32 := 256#32
  let v300 : BitVec 32 := Scalar.muli v299 c256_i32_195
  v300
def k0_off98 (i : grid0.Coords) (k0_t11 : Fin (k0_t11_loop i).trips) : Fin 2 → Nat :=
  let c2_i32_194 : BitVec 32 := 2#32
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let c1_i32_164 : BitVec 32 := 1#32
  let arg24 : BitVec 32 := Scf.iv v265 c1_i32_164 k0_t11
  let v299 : BitVec 32 := Scalar.muli c2_i32_194 arg24
  let c256_i32_195 : BitVec 32 := 256#32
  let v300 : BitVec 32 := Scalar.muli v299 c256_i32_195
  let v301 : BitVec 32 := v300
  let v302 : Index := Scalar.indexCast v301
  let c0_196 : Index := 0#32
  ![v302.toNat, 0]
def k0_off99 (i : grid0.Coords) (k0_t11 : Fin (k0_t11_loop i).trips) : Fin 3 → Nat :=
  let c2_i32_194 : BitVec 32 := 2#32
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let c1_i32_164 : BitVec 32 := 1#32
  let arg24 : BitVec 32 := Scf.iv v265 c1_i32_164 k0_t11
  let v299 : BitVec 32 := Scalar.muli c2_i32_194 arg24
  let v500 : Index := Scalar.indexCast v299
  let c0_238 : Index := 0#32
  let c0_239 : Index := 0#32
  ![v500.toNat, 0, 0]
def k0_mult89 (i : grid0.Coords) (k0_t11 : Fin (k0_t11_loop i).trips) : BitVec 32 :=
  let c2_i32_192 : BitVec 32 := 2#32
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let c1_i32_164 : BitVec 32 := 1#32
  let arg24 : BitVec 32 := Scf.iv v265 c1_i32_164 k0_t11
  let v297 : BitVec 32 := Scalar.muli c2_i32_192 arg24
  let c1_i32_193 : BitVec 32 := 1#32
  let v298 : BitVec 32 := Scalar.addi v297 c1_i32_193
  let c256_i32_240 : BitVec 32 := 256#32
  let v504 : BitVec 32 := Scalar.muli v298 c256_i32_240
  v504
def k0_off100 (i : grid0.Coords) (k0_t11 : Fin (k0_t11_loop i).trips) : Fin 2 → Nat :=
  let c2_i32_192 : BitVec 32 := 2#32
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let c1_i32_164 : BitVec 32 := 1#32
  let arg24 : BitVec 32 := Scf.iv v265 c1_i32_164 k0_t11
  let v297 : BitVec 32 := Scalar.muli c2_i32_192 arg24
  let c1_i32_193 : BitVec 32 := 1#32
  let v298 : BitVec 32 := Scalar.addi v297 c1_i32_193
  let c256_i32_240 : BitVec 32 := 256#32
  let v504 : BitVec 32 := Scalar.muli v298 c256_i32_240
  let v505 : BitVec 32 := v504
  let v506 : Index := Scalar.indexCast v505
  let c0_241 : Index := 0#32
  ![v506.toNat, 0]
def k0_off101 (i : grid0.Coords) (k0_t11 : Fin (k0_t11_loop i).trips) : Fin 3 → Nat :=
  let c2_i32_192 : BitVec 32 := 2#32
  let c0_i32_161 : BitVec 32 := 0#32
  let arg1 : BitVec 32 := BitVec.ofNat 32 (i 1).val
  let c1_i32 : BitVec 32 := 1#32
  let v16 : BitVec 32 := Scalar.addi arg1 c1_i32
  let c1_i32_159 : BitVec 32 := 1#32
  let v260 : BitVec 32 := Scalar.shrui v16 c1_i32_159
  let v261 : BitVec 32 := Scalar.subi v260 c0_i32_161
  let c1_i32_162 : BitVec 32 := 1#32
  let v263 : BitVec 32 := Scalar.divsi v261 c1_i32_162
  let v264 : BitVec 32 := Scalar.muli v263 c1_i32_162
  let v265 : BitVec 32 := Scalar.addi c0_i32_161 v264
  let c1_i32_164 : BitVec 32 := 1#32
  let arg24 : BitVec 32 := Scf.iv v265 c1_i32_164 k0_t11
  let v297 : BitVec 32 := Scalar.muli c2_i32_192 arg24
  let c1_i32_193 : BitVec 32 := 1#32
  let v298 : BitVec 32 := Scalar.addi v297 c1_i32_193
  let v704 : Index := Scalar.indexCast v298
  let c0_307 : Index := 0#32
  let c0_308 : Index := 0#32
  ![v704.toNat, 0, 0]
def k0_cond7 (i : grid0.Coords) : BitVec 1 :=
  let arg1 : BitVec 32 := BitVec.ofNat 32 (i 1).val
  let c1_i32 : BitVec 32 := 1#32
  let v16 : BitVec 32 := Scalar.addi arg1 c1_i32
  let c1_i32_165 : BitVec 32 := 1#32
  let v266 : BitVec 32 := Scalar.andi v16 c1_i32_165
  let c1_i32_166 : BitVec 32 := 1#32
  let v267 : BitVec 1 := Scalar.cmpi .eq v266 c1_i32_166
  let v268 : BitVec 32 := Scalar.extui v267
  let c0_i32_167 : BitVec 32 := 0#32
  let v269 : BitVec 1 := Scalar.cmpi .ne v268 c0_i32_167
  v269

def k0_mult90 (i : grid0.Coords) : BitVec 32 :=
  let arg1 : BitVec 32 := BitVec.ofNat 32 (i 1).val
  let c1_i32 : BitVec 32 := 1#32
  let v16 : BitVec 32 := Scalar.addi arg1 c1_i32
  let c1_i32_192 : BitVec 32 := 1#32
  let v297 : BitVec 32 := Scalar.subi v16 c1_i32_192
  let c256_i32_193 : BitVec 32 := 256#32
  let v298 : BitVec 32 := Scalar.muli v297 c256_i32_193
  v298
def k0_off102 (i : grid0.Coords) : Fin 2 → Nat :=
  let arg1 : BitVec 32 := BitVec.ofNat 32 (i 1).val
  let c1_i32 : BitVec 32 := 1#32
  let v16 : BitVec 32 := Scalar.addi arg1 c1_i32
  let c1_i32_192 : BitVec 32 := 1#32
  let v297 : BitVec 32 := Scalar.subi v16 c1_i32_192
  let c256_i32_193 : BitVec 32 := 256#32
  let v298 : BitVec 32 := Scalar.muli v297 c256_i32_193
  let v299 : BitVec 32 := v298
  let v300 : Index := Scalar.indexCast v299
  let c0_194 : Index := 0#32
  ![v300.toNat, 0]
def k0_off103 (i : grid0.Coords) : Fin 3 → Nat :=
  let arg1 : BitVec 32 := BitVec.ofNat 32 (i 1).val
  let c1_i32 : BitVec 32 := 1#32
  let v16 : BitVec 32 := Scalar.addi arg1 c1_i32
  let c1_i32_192 : BitVec 32 := 1#32
  let v297 : BitVec 32 := Scalar.subi v16 c1_i32_192
  let v498 : Index := Scalar.indexCast v297
  let c0_236 : Index := 0#32
  let c0_237 : Index := 0#32
  ![v498.toNat, 0, 0]
@[reducible] def k0_t12_loop : Scf.Loop 32 :=
  let c0_i32_186 : BitVec 32 := 0#32
  let c11_i32 : BitVec 32 := 11#32
  let v287 : BitVec 32 := Scalar.addi c0_i32_186 c11_i32
  let c1_i32_187 : BitVec 32 := 1#32
  ⟨c0_i32_186, v287, c1_i32_187⟩
@[reducible] def k0_t13_loop (i : grid0.Coords) : Scf.Loop 32 :=
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_85 : BitVec 32 := 1#32
  ⟨c0_i32_83, v136, c1_i32_85⟩
def k0_mult91 (i : grid0.Coords) (k0_t13 : Fin (k0_t13_loop i).trips) : BitVec 32 :=
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  v258
def k0_off104 (i : grid0.Coords) (k0_t13 : Fin (k0_t13_loop i).trips) : Fin 2 → Nat :=
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v260 : Index := Scalar.indexCast v259
  let c0_159 : Index := 0#32
  ![v260.toNat, 0]
def k0_off105 (i : grid0.Coords) (k0_t13 : Fin (k0_t13_loop i).trips) : Fin 3 → Nat :=
  let c0_165 : Index := 0#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v278 : Index := Scalar.indexCast v259
  let c0_166 : Index := 0#32
  ![0, v278.toNat, 0]
def k0_off106 (i : grid0.Coords) (k0_t13 : Fin (k0_t13_loop i).trips) : Fin 3 → Nat :=
  let c1 : Index := 1#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v291 : Index := Scalar.indexCast v259
  let c0_173 : Index := 0#32
  ![1, v291.toNat, 0]
def k0_off107 (i : grid0.Coords) (k0_t13 : Fin (k0_t13_loop i).trips) : Fin 3 → Nat :=
  let c2 : Index := 2#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v304 : Index := Scalar.indexCast v259
  let c0_180 : Index := 0#32
  ![2, v304.toNat, 0]
def k0_off108 (i : grid0.Coords) (k0_t13 : Fin (k0_t13_loop i).trips) : Fin 3 → Nat :=
  let c3 : Index := 3#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v317 : Index := Scalar.indexCast v259
  let c0_187 : Index := 0#32
  ![3, v317.toNat, 0]
def k0_off109 (i : grid0.Coords) (k0_t13 : Fin (k0_t13_loop i).trips) : Fin 4 → Nat :=
  let c0_194 : Index := 0#32
  let c4 : Index := 4#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v330 : Index := Scalar.indexCast v259
  let c0_195 : Index := 0#32
  ![0, 4, v330.toNat, 0]
def k0_off110 (i : grid0.Coords) (k0_t13 : Fin (k0_t13_loop i).trips) : Fin 3 → Nat :=
  let c4_203 : Index := 4#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v339 : Index := Scalar.indexCast v259
  let c0_204 : Index := 0#32
  ![4, v339.toNat, 0]
def k0_off111 (i : grid0.Coords) (k0_t13 : Fin (k0_t13_loop i).trips) : Fin 4 → Nat :=
  let c0_206 : Index := 0#32
  let c5 : Index := 5#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v346 : Index := Scalar.indexCast v259
  let c0_207 : Index := 0#32
  ![0, 5, v346.toNat, 0]
def k0_off112 (i : grid0.Coords) (k0_t13 : Fin (k0_t13_loop i).trips) : Fin 3 → Nat :=
  let c5_215 : Index := 5#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v355 : Index := Scalar.indexCast v259
  let c0_216 : Index := 0#32
  ![5, v355.toNat, 0]
def k0_off113 (i : grid0.Coords) (k0_t13 : Fin (k0_t13_loop i).trips) : Fin 4 → Nat :=
  let c0_218 : Index := 0#32
  let c6 : Index := 6#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v362 : Index := Scalar.indexCast v259
  let c0_219 : Index := 0#32
  ![0, 6, v362.toNat, 0]
def k0_off114 (i : grid0.Coords) (k0_t13 : Fin (k0_t13_loop i).trips) : Fin 3 → Nat :=
  let c6_227 : Index := 6#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v371 : Index := Scalar.indexCast v259
  let c0_228 : Index := 0#32
  ![6, v371.toNat, 0]
def k0_off115 (i : grid0.Coords) (k0_t13 : Fin (k0_t13_loop i).trips) : Fin 4 → Nat :=
  let c0_230 : Index := 0#32
  let c7 : Index := 7#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v378 : Index := Scalar.indexCast v259
  let c0_231 : Index := 0#32
  ![0, 7, v378.toNat, 0]
def k0_off116 (i : grid0.Coords) (k0_t13 : Fin (k0_t13_loop i).trips) : Fin 3 → Nat :=
  let c7_239 : Index := 7#32
  let c2_i32_157 : BitVec 32 := 2#32
  let c0_i32_83 : BitVec 32 := 0#32
  let c1_i32_85 : BitVec 32 := 1#32
  let arg24 : BitVec 32 := Scf.iv c0_i32_83 c1_i32_85 k0_t13
  let v257 : BitVec 32 := Scalar.muli c2_i32_157 arg24
  let c256_i32_158 : BitVec 32 := 256#32
  let v258 : BitVec 32 := Scalar.muli v257 c256_i32_158
  let v259 : BitVec 32 := v258
  let v387 : Index := Scalar.indexCast v259
  let c0_240 : Index := 0#32
  ![7, v387.toNat, 0]
def k0_mult92 (i : grid0.Coords) (k0_t13 : Fin (k0_t13_loop i).trips) : BitVec 32 :=
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  v394
def k0_off117 (i : grid0.Coords) (k0_t13 : Fin (k0_t13_loop i).trips) : Fin 2 → Nat :=
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v396 : Index := Scalar.indexCast v395
  let c0_243 : Index := 0#32
  ![v396.toNat, 0]
def k0_off118 (i : grid0.Coords) (k0_t13 : Fin (k0_t13_loop i).trips) : Fin 3 → Nat :=
  let c0_249 : Index := 0#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v414 : Index := Scalar.indexCast v395
  let c0_250 : Index := 0#32
  ![0, v414.toNat, 0]
def k0_off119 (i : grid0.Coords) (k0_t13 : Fin (k0_t13_loop i).trips) : Fin 3 → Nat :=
  let c1_257 : Index := 1#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v427 : Index := Scalar.indexCast v395
  let c0_258 : Index := 0#32
  ![1, v427.toNat, 0]
def k0_off120 (i : grid0.Coords) (k0_t13 : Fin (k0_t13_loop i).trips) : Fin 3 → Nat :=
  let c2_265 : Index := 2#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v440 : Index := Scalar.indexCast v395
  let c0_266 : Index := 0#32
  ![2, v440.toNat, 0]
def k0_off121 (i : grid0.Coords) (k0_t13 : Fin (k0_t13_loop i).trips) : Fin 3 → Nat :=
  let c3_273 : Index := 3#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v453 : Index := Scalar.indexCast v395
  let c0_274 : Index := 0#32
  ![3, v453.toNat, 0]
def k0_off122 (i : grid0.Coords) (k0_t13 : Fin (k0_t13_loop i).trips) : Fin 4 → Nat :=
  let c0_281 : Index := 0#32
  let c4_282 : Index := 4#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v466 : Index := Scalar.indexCast v395
  let c0_283 : Index := 0#32
  ![0, 4, v466.toNat, 0]
def k0_off123 (i : grid0.Coords) (k0_t13 : Fin (k0_t13_loop i).trips) : Fin 3 → Nat :=
  let c4_291 : Index := 4#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v475 : Index := Scalar.indexCast v395
  let c0_292 : Index := 0#32
  ![4, v475.toNat, 0]
def k0_off124 (i : grid0.Coords) (k0_t13 : Fin (k0_t13_loop i).trips) : Fin 4 → Nat :=
  let c0_294 : Index := 0#32
  let c5_295 : Index := 5#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v482 : Index := Scalar.indexCast v395
  let c0_296 : Index := 0#32
  ![0, 5, v482.toNat, 0]
def k0_off125 (i : grid0.Coords) (k0_t13 : Fin (k0_t13_loop i).trips) : Fin 3 → Nat :=
  let c5_304 : Index := 5#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v491 : Index := Scalar.indexCast v395
  let c0_305 : Index := 0#32
  ![5, v491.toNat, 0]
def k0_off126 (i : grid0.Coords) (k0_t13 : Fin (k0_t13_loop i).trips) : Fin 4 → Nat :=
  let c0_307 : Index := 0#32
  let c6_308 : Index := 6#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v498 : Index := Scalar.indexCast v395
  let c0_309 : Index := 0#32
  ![0, 6, v498.toNat, 0]
def k0_off127 (i : grid0.Coords) (k0_t13 : Fin (k0_t13_loop i).trips) : Fin 3 → Nat :=
  let c6_317 : Index := 6#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v507 : Index := Scalar.indexCast v395
  let c0_318 : Index := 0#32
  ![6, v507.toNat, 0]
def k0_off128 (i : grid0.Coords) (k0_t13 : Fin (k0_t13_loop i).trips) : Fin 4 → Nat :=
  let c0_320 : Index := 0#32
  let c7_321 : Index := 7#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v514 : Index := Scalar.indexCast v395
  let c0_322 : Index := 0#32
  ![0, 7, v514.toNat, 0]
def k0_off129 (i : grid0.Coords) (k0_t13 : Fin (k0_t13_loop i).trips) : Fin 3 → Nat :=
  let c7_330 : Index := 7#32
  let c2_i32_155 : BitVec 32 := 2#32
  let c0_i32_83 : BitVec 32 := 0#32
  let c1_i32_85 : BitVec 32 := 1#32
  let arg24 : BitVec 32 := Scf.iv c0_i32_83 c1_i32_85 k0_t13
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v523 : Index := Scalar.indexCast v395
  let c0_331 : Index := 0#32
  ![7, v523.toNat, 0]
@[reducible] def k0_t14_loop (i : grid0.Coords) : Scf.Loop 32 :=
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let v133 : BitVec 32 := Scalar.addi c0_i32_83 v132
  let c1_i32_86 : BitVec 32 := 1#32
  ⟨v136, v133, c1_i32_86⟩
def k0_mult93 (i : grid0.Coords) (k0_t14 : Fin (k0_t14_loop i).trips) : BitVec 32 :=
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  v258
def k0_off130 (i : grid0.Coords) (k0_t14 : Fin (k0_t14_loop i).trips) : Fin 2 → Nat :=
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v260 : Index := Scalar.indexCast v259
  let c0_159 : Index := 0#32
  ![v260.toNat, 0]
def k0_off131 (i : grid0.Coords) (k0_t14 : Fin (k0_t14_loop i).trips) : Fin 3 → Nat :=
  let c0_165 : Index := 0#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v278 : Index := Scalar.indexCast v259
  let c0_166 : Index := 0#32
  ![0, v278.toNat, 0]
def k0_off132 (i : grid0.Coords) (k0_t14 : Fin (k0_t14_loop i).trips) : Fin 3 → Nat :=
  let c1 : Index := 1#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v291 : Index := Scalar.indexCast v259
  let c0_173 : Index := 0#32
  ![1, v291.toNat, 0]
def k0_off133 (i : grid0.Coords) (k0_t14 : Fin (k0_t14_loop i).trips) : Fin 3 → Nat :=
  let c2 : Index := 2#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v304 : Index := Scalar.indexCast v259
  let c0_180 : Index := 0#32
  ![2, v304.toNat, 0]
def k0_off134 (i : grid0.Coords) (k0_t14 : Fin (k0_t14_loop i).trips) : Fin 3 → Nat :=
  let c3 : Index := 3#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v317 : Index := Scalar.indexCast v259
  let c0_187 : Index := 0#32
  ![3, v317.toNat, 0]
def k0_off135 (i : grid0.Coords) (k0_t14 : Fin (k0_t14_loop i).trips) : Fin 4 → Nat :=
  let c0_194 : Index := 0#32
  let c4 : Index := 4#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v330 : Index := Scalar.indexCast v259
  let c0_195 : Index := 0#32
  ![0, 4, v330.toNat, 0]
def k0_off136 (i : grid0.Coords) (k0_t14 : Fin (k0_t14_loop i).trips) : Fin 3 → Nat :=
  let c4_203 : Index := 4#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v339 : Index := Scalar.indexCast v259
  let c0_204 : Index := 0#32
  ![4, v339.toNat, 0]
def k0_off137 (i : grid0.Coords) (k0_t14 : Fin (k0_t14_loop i).trips) : Fin 4 → Nat :=
  let c0_206 : Index := 0#32
  let c5 : Index := 5#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v346 : Index := Scalar.indexCast v259
  let c0_207 : Index := 0#32
  ![0, 5, v346.toNat, 0]
def k0_off138 (i : grid0.Coords) (k0_t14 : Fin (k0_t14_loop i).trips) : Fin 3 → Nat :=
  let c5_215 : Index := 5#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v355 : Index := Scalar.indexCast v259
  let c0_216 : Index := 0#32
  ![5, v355.toNat, 0]
def k0_off139 (i : grid0.Coords) (k0_t14 : Fin (k0_t14_loop i).trips) : Fin 4 → Nat :=
  let c0_218 : Index := 0#32
  let c6 : Index := 6#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v362 : Index := Scalar.indexCast v259
  let c0_219 : Index := 0#32
  ![0, 6, v362.toNat, 0]
def k0_off140 (i : grid0.Coords) (k0_t14 : Fin (k0_t14_loop i).trips) : Fin 3 → Nat :=
  let c6_227 : Index := 6#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v371 : Index := Scalar.indexCast v259
  let c0_228 : Index := 0#32
  ![6, v371.toNat, 0]
def k0_off141 (i : grid0.Coords) (k0_t14 : Fin (k0_t14_loop i).trips) : Fin 4 → Nat :=
  let c0_230 : Index := 0#32
  let c7 : Index := 7#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v378 : Index := Scalar.indexCast v259
  let c0_231 : Index := 0#32
  ![0, 7, v378.toNat, 0]
def k0_off142 (i : grid0.Coords) (k0_t14 : Fin (k0_t14_loop i).trips) : Fin 3 → Nat :=
  let c7_239 : Index := 7#32
  let c2_i32_157 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v257 : BitVec 32 := Scalar.muli c2_i32_157 arg24
  let c256_i32_158 : BitVec 32 := 256#32
  let v258 : BitVec 32 := Scalar.muli v257 c256_i32_158
  let v259 : BitVec 32 := v258
  let v387 : Index := Scalar.indexCast v259
  let c0_240 : Index := 0#32
  ![7, v387.toNat, 0]
def k0_mult94 (i : grid0.Coords) (k0_t14 : Fin (k0_t14_loop i).trips) : BitVec 32 :=
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  v394
def k0_off143 (i : grid0.Coords) (k0_t14 : Fin (k0_t14_loop i).trips) : Fin 2 → Nat :=
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v396 : Index := Scalar.indexCast v395
  let c0_243 : Index := 0#32
  ![v396.toNat, 0]
def k0_off144 (i : grid0.Coords) (k0_t14 : Fin (k0_t14_loop i).trips) : Fin 3 → Nat :=
  let c0_249 : Index := 0#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v414 : Index := Scalar.indexCast v395
  let c0_250 : Index := 0#32
  ![0, v414.toNat, 0]
def k0_off145 (i : grid0.Coords) (k0_t14 : Fin (k0_t14_loop i).trips) : Fin 3 → Nat :=
  let c1_257 : Index := 1#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v427 : Index := Scalar.indexCast v395
  let c0_258 : Index := 0#32
  ![1, v427.toNat, 0]
def k0_off146 (i : grid0.Coords) (k0_t14 : Fin (k0_t14_loop i).trips) : Fin 3 → Nat :=
  let c2_265 : Index := 2#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v440 : Index := Scalar.indexCast v395
  let c0_266 : Index := 0#32
  ![2, v440.toNat, 0]
def k0_off147 (i : grid0.Coords) (k0_t14 : Fin (k0_t14_loop i).trips) : Fin 3 → Nat :=
  let c3_273 : Index := 3#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v453 : Index := Scalar.indexCast v395
  let c0_274 : Index := 0#32
  ![3, v453.toNat, 0]
def k0_off148 (i : grid0.Coords) (k0_t14 : Fin (k0_t14_loop i).trips) : Fin 4 → Nat :=
  let c0_281 : Index := 0#32
  let c4_282 : Index := 4#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v466 : Index := Scalar.indexCast v395
  let c0_283 : Index := 0#32
  ![0, 4, v466.toNat, 0]
def k0_off149 (i : grid0.Coords) (k0_t14 : Fin (k0_t14_loop i).trips) : Fin 3 → Nat :=
  let c4_291 : Index := 4#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v475 : Index := Scalar.indexCast v395
  let c0_292 : Index := 0#32
  ![4, v475.toNat, 0]
def k0_off150 (i : grid0.Coords) (k0_t14 : Fin (k0_t14_loop i).trips) : Fin 4 → Nat :=
  let c0_294 : Index := 0#32
  let c5_295 : Index := 5#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v482 : Index := Scalar.indexCast v395
  let c0_296 : Index := 0#32
  ![0, 5, v482.toNat, 0]
def k0_off151 (i : grid0.Coords) (k0_t14 : Fin (k0_t14_loop i).trips) : Fin 3 → Nat :=
  let c5_304 : Index := 5#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v491 : Index := Scalar.indexCast v395
  let c0_305 : Index := 0#32
  ![5, v491.toNat, 0]
def k0_off152 (i : grid0.Coords) (k0_t14 : Fin (k0_t14_loop i).trips) : Fin 4 → Nat :=
  let c0_307 : Index := 0#32
  let c6_308 : Index := 6#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v498 : Index := Scalar.indexCast v395
  let c0_309 : Index := 0#32
  ![0, 6, v498.toNat, 0]
def k0_off153 (i : grid0.Coords) (k0_t14 : Fin (k0_t14_loop i).trips) : Fin 3 → Nat :=
  let c6_317 : Index := 6#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v507 : Index := Scalar.indexCast v395
  let c0_318 : Index := 0#32
  ![6, v507.toNat, 0]
def k0_off154 (i : grid0.Coords) (k0_t14 : Fin (k0_t14_loop i).trips) : Fin 4 → Nat :=
  let c0_320 : Index := 0#32
  let c7_321 : Index := 7#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v514 : Index := Scalar.indexCast v395
  let c0_322 : Index := 0#32
  ![0, 7, v514.toNat, 0]
def k0_off155 (i : grid0.Coords) (k0_t14 : Fin (k0_t14_loop i).trips) : Fin 3 → Nat :=
  let c7_330 : Index := 7#32
  let c2_i32_155 : BitVec 32 := 2#32
  let c0_i32_83 : BitVec 32 := 0#32
  let arg1 : BitVec 32 := BitVec.ofNat 32 (i 1).val
  let c1_i32 : BitVec 32 := 1#32
  let v16 : BitVec 32 := Scalar.addi arg1 c1_i32
  let c1_i32_82 : BitVec 32 := 1#32
  let v131 : BitVec 32 := Scalar.shrui v16 c1_i32_82
  let v132 : BitVec 32 := Scalar.subi v131 c0_i32_83
  let c1_i32_84 : BitVec 32 := 1#32
  let v134 : BitVec 32 := Scalar.divsi v132 c1_i32_84
  let v135 : BitVec 32 := Scalar.muli v134 c1_i32_84
  let v136 : BitVec 32 := Scalar.addi c0_i32_83 v135
  let c1_i32_86 : BitVec 32 := 1#32
  let arg24 : BitVec 32 := Scf.iv v136 c1_i32_86 k0_t14
  let v255 : BitVec 32 := Scalar.muli c2_i32_155 arg24
  let c1_i32_156 : BitVec 32 := 1#32
  let v256 : BitVec 32 := Scalar.addi v255 c1_i32_156
  let c256_i32_242 : BitVec 32 := 256#32
  let v394 : BitVec 32 := Scalar.muli v256 c256_i32_242
  let v395 : BitVec 32 := v394
  let v523 : Index := Scalar.indexCast v395
  let c0_331 : Index := 0#32
  ![7, v523.toNat, 0]
def k0_cond8 (i : grid0.Coords) : BitVec 1 :=
  let arg1 : BitVec 32 := BitVec.ofNat 32 (i 1).val
  let c1_i32 : BitVec 32 := 1#32
  let v16 : BitVec 32 := Scalar.addi arg1 c1_i32
  let c1_i32_87 : BitVec 32 := 1#32
  let v139 : BitVec 32 := Scalar.andi v16 c1_i32_87
  let c1_i32_88 : BitVec 32 := 1#32
  let v140 : BitVec 1 := Scalar.cmpi .eq v139 c1_i32_88
  let v141 : BitVec 32 := Scalar.extui v140
  let c0_i32_89 : BitVec 32 := 0#32
  let v142 : BitVec 1 := Scalar.cmpi .ne v141 c0_i32_89
  v142

def k0_mult95 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  v256
def k0_off156 (i : grid0.Coords) : Fin 2 → Nat :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v258 : Index := Scalar.indexCast v257
  let c0_157 : Index := 0#32
  ![v258.toNat, 0]
def k0_off157 (i : grid0.Coords) : Fin 3 → Nat :=
  let c0_163 : Index := 0#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v276 : Index := Scalar.indexCast v257
  let c0_164 : Index := 0#32
  ![0, v276.toNat, 0]
def k0_off158 (i : grid0.Coords) : Fin 3 → Nat :=
  let c1 : Index := 1#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v289 : Index := Scalar.indexCast v257
  let c0_171 : Index := 0#32
  ![1, v289.toNat, 0]
def k0_off159 (i : grid0.Coords) : Fin 3 → Nat :=
  let c2 : Index := 2#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v302 : Index := Scalar.indexCast v257
  let c0_178 : Index := 0#32
  ![2, v302.toNat, 0]
def k0_off160 (i : grid0.Coords) : Fin 3 → Nat :=
  let c3 : Index := 3#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v315 : Index := Scalar.indexCast v257
  let c0_185 : Index := 0#32
  ![3, v315.toNat, 0]
def k0_off161 (i : grid0.Coords) : Fin 4 → Nat :=
  let c0_192 : Index := 0#32
  let c4 : Index := 4#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v328 : Index := Scalar.indexCast v257
  let c0_193 : Index := 0#32
  ![0, 4, v328.toNat, 0]
def k0_off162 (i : grid0.Coords) : Fin 3 → Nat :=
  let c4_201 : Index := 4#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v337 : Index := Scalar.indexCast v257
  let c0_202 : Index := 0#32
  ![4, v337.toNat, 0]
def k0_off163 (i : grid0.Coords) : Fin 4 → Nat :=
  let c0_204 : Index := 0#32
  let c5 : Index := 5#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v344 : Index := Scalar.indexCast v257
  let c0_205 : Index := 0#32
  ![0, 5, v344.toNat, 0]
def k0_off164 (i : grid0.Coords) : Fin 3 → Nat :=
  let c5_213 : Index := 5#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v353 : Index := Scalar.indexCast v257
  let c0_214 : Index := 0#32
  ![5, v353.toNat, 0]
def k0_off165 (i : grid0.Coords) : Fin 4 → Nat :=
  let c0_216 : Index := 0#32
  let c6 : Index := 6#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v360 : Index := Scalar.indexCast v257
  let c0_217 : Index := 0#32
  ![0, 6, v360.toNat, 0]
def k0_off166 (i : grid0.Coords) : Fin 3 → Nat :=
  let c6_225 : Index := 6#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v369 : Index := Scalar.indexCast v257
  let c0_226 : Index := 0#32
  ![6, v369.toNat, 0]
def k0_off167 (i : grid0.Coords) : Fin 4 → Nat :=
  let c0_228 : Index := 0#32
  let c7 : Index := 7#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v376 : Index := Scalar.indexCast v257
  let c0_229 : Index := 0#32
  ![0, 7, v376.toNat, 0]
def k0_off168 (i : grid0.Coords) : Fin 3 → Nat :=
  let c7_237 : Index := 7#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v385 : Index := Scalar.indexCast v257
  let c0_238 : Index := 0#32
  ![7, v385.toNat, 0]
@[reducible] def k0_t15_loop (i : grid0.Coords) : Scf.Loop 32 :=
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_112 : BitVec 32 := 1#32
  ⟨c0_i32_110, v177, c1_i32_112⟩
def k0_mult96 (i : grid0.Coords) (k0_t15 : Fin (k0_t15_loop i).trips) : BitVec 32 :=
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  v258
def k0_off169 (i : grid0.Coords) (k0_t15 : Fin (k0_t15_loop i).trips) : Fin 3 → Nat :=
  let c0_159 : Index := 0#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v260 : Index := Scalar.indexCast v259
  let c0_160 : Index := 0#32
  ![0, v260.toNat, 0]
def k0_off170 (i : grid0.Coords) (k0_t15 : Fin (k0_t15_loop i).trips) : Fin 3 → Nat :=
  let c0_164 : Index := 0#32
  let c0_165 : Index := 0#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v270 : Index := Scalar.indexCast v259
  ![0, 0, v270.toNat]
def k0_off171 (i : grid0.Coords) (k0_t15 : Fin (k0_t15_loop i).trips) : Fin 3 → Nat :=
  let c1 : Index := 1#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v279 : Index := Scalar.indexCast v259
  let c0_169 : Index := 0#32
  ![1, v279.toNat, 0]
def k0_off172 (i : grid0.Coords) (k0_t15 : Fin (k0_t15_loop i).trips) : Fin 3 → Nat :=
  let c0_173 : Index := 0#32
  let c64_174 : Index := 64#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v289 : Index := Scalar.indexCast v259
  ![0, 64, v289.toNat]
def k0_off173 (i : grid0.Coords) (k0_t15 : Fin (k0_t15_loop i).trips) : Fin 3 → Nat :=
  let c2 : Index := 2#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v298 : Index := Scalar.indexCast v259
  let c0_178 : Index := 0#32
  ![2, v298.toNat, 0]
def k0_off174 (i : grid0.Coords) (k0_t15 : Fin (k0_t15_loop i).trips) : Fin 3 → Nat :=
  let c0_182 : Index := 0#32
  let c128_183 : Index := 128#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v308 : Index := Scalar.indexCast v259
  ![0, 128, v308.toNat]
def k0_off175 (i : grid0.Coords) (k0_t15 : Fin (k0_t15_loop i).trips) : Fin 3 → Nat :=
  let c3 : Index := 3#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v317 : Index := Scalar.indexCast v259
  let c0_187 : Index := 0#32
  ![3, v317.toNat, 0]
def k0_off176 (i : grid0.Coords) (k0_t15 : Fin (k0_t15_loop i).trips) : Fin 3 → Nat :=
  let c0_191 : Index := 0#32
  let c192_192 : Index := 192#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v327 : Index := Scalar.indexCast v259
  ![0, 192, v327.toNat]
def k0_off177 (i : grid0.Coords) (k0_t15 : Fin (k0_t15_loop i).trips) : Fin 3 → Nat :=
  let c4 : Index := 4#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v336 : Index := Scalar.indexCast v259
  let c0_196 : Index := 0#32
  ![4, v336.toNat, 0]
def k0_off178 (i : grid0.Coords) (k0_t15 : Fin (k0_t15_loop i).trips) : Fin 3 → Nat :=
  let c0_200 : Index := 0#32
  let c256_201 : Index := 256#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v346 : Index := Scalar.indexCast v259
  ![0, 256, v346.toNat]
def k0_off179 (i : grid0.Coords) (k0_t15 : Fin (k0_t15_loop i).trips) : Fin 3 → Nat :=
  let c5 : Index := 5#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v355 : Index := Scalar.indexCast v259
  let c0_205 : Index := 0#32
  ![5, v355.toNat, 0]
def k0_off180 (i : grid0.Coords) (k0_t15 : Fin (k0_t15_loop i).trips) : Fin 3 → Nat :=
  let c0_209 : Index := 0#32
  let c320_210 : Index := 320#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v365 : Index := Scalar.indexCast v259
  ![0, 320, v365.toNat]
def k0_off181 (i : grid0.Coords) (k0_t15 : Fin (k0_t15_loop i).trips) : Fin 3 → Nat :=
  let c6 : Index := 6#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v374 : Index := Scalar.indexCast v259
  let c0_214 : Index := 0#32
  ![6, v374.toNat, 0]
def k0_off182 (i : grid0.Coords) (k0_t15 : Fin (k0_t15_loop i).trips) : Fin 3 → Nat :=
  let c0_218 : Index := 0#32
  let c384_219 : Index := 384#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v384 : Index := Scalar.indexCast v259
  ![0, 384, v384.toNat]
def k0_off183 (i : grid0.Coords) (k0_t15 : Fin (k0_t15_loop i).trips) : Fin 3 → Nat :=
  let c7 : Index := 7#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v393 : Index := Scalar.indexCast v259
  let c0_223 : Index := 0#32
  ![7, v393.toNat, 0]
def k0_off184 (i : grid0.Coords) (k0_t15 : Fin (k0_t15_loop i).trips) : Fin 3 → Nat :=
  let c0_227 : Index := 0#32
  let c448_228 : Index := 448#32
  let c2_i32_157 : BitVec 32 := 2#32
  let c0_i32_110 : BitVec 32 := 0#32
  let c1_i32_112 : BitVec 32 := 1#32
  let arg24 : BitVec 32 := Scf.iv c0_i32_110 c1_i32_112 k0_t15
  let v257 : BitVec 32 := Scalar.muli c2_i32_157 arg24
  let c256_i32_158 : BitVec 32 := 256#32
  let v258 : BitVec 32 := Scalar.muli v257 c256_i32_158
  let v259 : BitVec 32 := v258
  let v403 : Index := Scalar.indexCast v259
  ![0, 448, v403.toNat]
def k0_mult97 (i : grid0.Coords) (k0_t15 : Fin (k0_t15_loop i).trips) : BitVec 32 :=
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  v412
def k0_off185 (i : grid0.Coords) (k0_t15 : Fin (k0_t15_loop i).trips) : Fin 3 → Nat :=
  let c0_233 : Index := 0#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v414 : Index := Scalar.indexCast v413
  let c0_234 : Index := 0#32
  ![0, v414.toNat, 0]
def k0_off186 (i : grid0.Coords) (k0_t15 : Fin (k0_t15_loop i).trips) : Fin 3 → Nat :=
  let c0_238 : Index := 0#32
  let c0_239 : Index := 0#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v424 : Index := Scalar.indexCast v413
  ![0, 0, v424.toNat]
def k0_off187 (i : grid0.Coords) (k0_t15 : Fin (k0_t15_loop i).trips) : Fin 3 → Nat :=
  let c1_243 : Index := 1#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v433 : Index := Scalar.indexCast v413
  let c0_244 : Index := 0#32
  ![1, v433.toNat, 0]
def k0_off188 (i : grid0.Coords) (k0_t15 : Fin (k0_t15_loop i).trips) : Fin 3 → Nat :=
  let c0_248 : Index := 0#32
  let c64_249 : Index := 64#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v443 : Index := Scalar.indexCast v413
  ![0, 64, v443.toNat]
def k0_off189 (i : grid0.Coords) (k0_t15 : Fin (k0_t15_loop i).trips) : Fin 3 → Nat :=
  let c2_253 : Index := 2#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v452 : Index := Scalar.indexCast v413
  let c0_254 : Index := 0#32
  ![2, v452.toNat, 0]
def k0_off190 (i : grid0.Coords) (k0_t15 : Fin (k0_t15_loop i).trips) : Fin 3 → Nat :=
  let c0_258 : Index := 0#32
  let c128_259 : Index := 128#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v462 : Index := Scalar.indexCast v413
  ![0, 128, v462.toNat]
def k0_off191 (i : grid0.Coords) (k0_t15 : Fin (k0_t15_loop i).trips) : Fin 3 → Nat :=
  let c3_263 : Index := 3#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v471 : Index := Scalar.indexCast v413
  let c0_264 : Index := 0#32
  ![3, v471.toNat, 0]
def k0_off192 (i : grid0.Coords) (k0_t15 : Fin (k0_t15_loop i).trips) : Fin 3 → Nat :=
  let c0_268 : Index := 0#32
  let c192_269 : Index := 192#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v481 : Index := Scalar.indexCast v413
  ![0, 192, v481.toNat]
def k0_off193 (i : grid0.Coords) (k0_t15 : Fin (k0_t15_loop i).trips) : Fin 3 → Nat :=
  let c4_273 : Index := 4#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v490 : Index := Scalar.indexCast v413
  let c0_274 : Index := 0#32
  ![4, v490.toNat, 0]
def k0_off194 (i : grid0.Coords) (k0_t15 : Fin (k0_t15_loop i).trips) : Fin 3 → Nat :=
  let c0_278 : Index := 0#32
  let c256_279 : Index := 256#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v500 : Index := Scalar.indexCast v413
  ![0, 256, v500.toNat]
def k0_off195 (i : grid0.Coords) (k0_t15 : Fin (k0_t15_loop i).trips) : Fin 3 → Nat :=
  let c5_283 : Index := 5#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v509 : Index := Scalar.indexCast v413
  let c0_284 : Index := 0#32
  ![5, v509.toNat, 0]
def k0_off196 (i : grid0.Coords) (k0_t15 : Fin (k0_t15_loop i).trips) : Fin 3 → Nat :=
  let c0_288 : Index := 0#32
  let c320_289 : Index := 320#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v519 : Index := Scalar.indexCast v413
  ![0, 320, v519.toNat]
def k0_off197 (i : grid0.Coords) (k0_t15 : Fin (k0_t15_loop i).trips) : Fin 3 → Nat :=
  let c6_293 : Index := 6#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v528 : Index := Scalar.indexCast v413
  let c0_294 : Index := 0#32
  ![6, v528.toNat, 0]
def k0_off198 (i : grid0.Coords) (k0_t15 : Fin (k0_t15_loop i).trips) : Fin 3 → Nat :=
  let c0_298 : Index := 0#32
  let c384_299 : Index := 384#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v538 : Index := Scalar.indexCast v413
  ![0, 384, v538.toNat]
def k0_off199 (i : grid0.Coords) (k0_t15 : Fin (k0_t15_loop i).trips) : Fin 3 → Nat :=
  let c7_303 : Index := 7#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v547 : Index := Scalar.indexCast v413
  let c0_304 : Index := 0#32
  ![7, v547.toNat, 0]
def k0_off200 (i : grid0.Coords) (k0_t15 : Fin (k0_t15_loop i).trips) : Fin 3 → Nat :=
  let c0_308 : Index := 0#32
  let c448_309 : Index := 448#32
  let c2_i32_155 : BitVec 32 := 2#32
  let c0_i32_110 : BitVec 32 := 0#32
  let c1_i32_112 : BitVec 32 := 1#32
  let arg24 : BitVec 32 := Scf.iv c0_i32_110 c1_i32_112 k0_t15
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v557 : Index := Scalar.indexCast v413
  ![0, 448, v557.toNat]
@[reducible] def k0_t16_loop (i : grid0.Coords) : Scf.Loop 32 :=
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let v174 : BitVec 32 := Scalar.addi c0_i32_110 v173
  let c1_i32_113 : BitVec 32 := 1#32
  ⟨v177, v174, c1_i32_113⟩
def k0_mult98 (i : grid0.Coords) (k0_t16 : Fin (k0_t16_loop i).trips) : BitVec 32 :=
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  v258
def k0_off201 (i : grid0.Coords) (k0_t16 : Fin (k0_t16_loop i).trips) : Fin 3 → Nat :=
  let c0_159 : Index := 0#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v260 : Index := Scalar.indexCast v259
  let c0_160 : Index := 0#32
  ![0, v260.toNat, 0]
def k0_off202 (i : grid0.Coords) (k0_t16 : Fin (k0_t16_loop i).trips) : Fin 3 → Nat :=
  let c0_164 : Index := 0#32
  let c0_165 : Index := 0#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v270 : Index := Scalar.indexCast v259
  ![0, 0, v270.toNat]
def k0_off203 (i : grid0.Coords) (k0_t16 : Fin (k0_t16_loop i).trips) : Fin 3 → Nat :=
  let c1 : Index := 1#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v279 : Index := Scalar.indexCast v259
  let c0_169 : Index := 0#32
  ![1, v279.toNat, 0]
def k0_off204 (i : grid0.Coords) (k0_t16 : Fin (k0_t16_loop i).trips) : Fin 3 → Nat :=
  let c0_173 : Index := 0#32
  let c64_174 : Index := 64#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v289 : Index := Scalar.indexCast v259
  ![0, 64, v289.toNat]
def k0_off205 (i : grid0.Coords) (k0_t16 : Fin (k0_t16_loop i).trips) : Fin 3 → Nat :=
  let c2 : Index := 2#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v298 : Index := Scalar.indexCast v259
  let c0_178 : Index := 0#32
  ![2, v298.toNat, 0]
def k0_off206 (i : grid0.Coords) (k0_t16 : Fin (k0_t16_loop i).trips) : Fin 3 → Nat :=
  let c0_182 : Index := 0#32
  let c128_183 : Index := 128#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v308 : Index := Scalar.indexCast v259
  ![0, 128, v308.toNat]
def k0_off207 (i : grid0.Coords) (k0_t16 : Fin (k0_t16_loop i).trips) : Fin 3 → Nat :=
  let c3 : Index := 3#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v317 : Index := Scalar.indexCast v259
  let c0_187 : Index := 0#32
  ![3, v317.toNat, 0]
def k0_off208 (i : grid0.Coords) (k0_t16 : Fin (k0_t16_loop i).trips) : Fin 3 → Nat :=
  let c0_191 : Index := 0#32
  let c192_192 : Index := 192#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v327 : Index := Scalar.indexCast v259
  ![0, 192, v327.toNat]
def k0_off209 (i : grid0.Coords) (k0_t16 : Fin (k0_t16_loop i).trips) : Fin 3 → Nat :=
  let c4 : Index := 4#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v336 : Index := Scalar.indexCast v259
  let c0_196 : Index := 0#32
  ![4, v336.toNat, 0]
def k0_off210 (i : grid0.Coords) (k0_t16 : Fin (k0_t16_loop i).trips) : Fin 3 → Nat :=
  let c0_200 : Index := 0#32
  let c256_201 : Index := 256#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v346 : Index := Scalar.indexCast v259
  ![0, 256, v346.toNat]
def k0_off211 (i : grid0.Coords) (k0_t16 : Fin (k0_t16_loop i).trips) : Fin 3 → Nat :=
  let c5 : Index := 5#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v355 : Index := Scalar.indexCast v259
  let c0_205 : Index := 0#32
  ![5, v355.toNat, 0]
def k0_off212 (i : grid0.Coords) (k0_t16 : Fin (k0_t16_loop i).trips) : Fin 3 → Nat :=
  let c0_209 : Index := 0#32
  let c320_210 : Index := 320#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v365 : Index := Scalar.indexCast v259
  ![0, 320, v365.toNat]
def k0_off213 (i : grid0.Coords) (k0_t16 : Fin (k0_t16_loop i).trips) : Fin 3 → Nat :=
  let c6 : Index := 6#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v374 : Index := Scalar.indexCast v259
  let c0_214 : Index := 0#32
  ![6, v374.toNat, 0]
def k0_off214 (i : grid0.Coords) (k0_t16 : Fin (k0_t16_loop i).trips) : Fin 3 → Nat :=
  let c0_218 : Index := 0#32
  let c384_219 : Index := 384#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v384 : Index := Scalar.indexCast v259
  ![0, 384, v384.toNat]
def k0_off215 (i : grid0.Coords) (k0_t16 : Fin (k0_t16_loop i).trips) : Fin 3 → Nat :=
  let c7 : Index := 7#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v393 : Index := Scalar.indexCast v259
  let c0_223 : Index := 0#32
  ![7, v393.toNat, 0]
def k0_off216 (i : grid0.Coords) (k0_t16 : Fin (k0_t16_loop i).trips) : Fin 3 → Nat :=
  let c0_227 : Index := 0#32
  let c448_228 : Index := 448#32
  let c2_i32_157 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v257 : BitVec 32 := Scalar.muli c2_i32_157 arg24
  let c256_i32_158 : BitVec 32 := 256#32
  let v258 : BitVec 32 := Scalar.muli v257 c256_i32_158
  let v259 : BitVec 32 := v258
  let v403 : Index := Scalar.indexCast v259
  ![0, 448, v403.toNat]
def k0_mult99 (i : grid0.Coords) (k0_t16 : Fin (k0_t16_loop i).trips) : BitVec 32 :=
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  v412
def k0_off217 (i : grid0.Coords) (k0_t16 : Fin (k0_t16_loop i).trips) : Fin 3 → Nat :=
  let c0_233 : Index := 0#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v414 : Index := Scalar.indexCast v413
  let c0_234 : Index := 0#32
  ![0, v414.toNat, 0]
def k0_off218 (i : grid0.Coords) (k0_t16 : Fin (k0_t16_loop i).trips) : Fin 3 → Nat :=
  let c0_238 : Index := 0#32
  let c0_239 : Index := 0#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v424 : Index := Scalar.indexCast v413
  ![0, 0, v424.toNat]
def k0_off219 (i : grid0.Coords) (k0_t16 : Fin (k0_t16_loop i).trips) : Fin 3 → Nat :=
  let c1_243 : Index := 1#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v433 : Index := Scalar.indexCast v413
  let c0_244 : Index := 0#32
  ![1, v433.toNat, 0]
def k0_off220 (i : grid0.Coords) (k0_t16 : Fin (k0_t16_loop i).trips) : Fin 3 → Nat :=
  let c0_248 : Index := 0#32
  let c64_249 : Index := 64#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v443 : Index := Scalar.indexCast v413
  ![0, 64, v443.toNat]
def k0_off221 (i : grid0.Coords) (k0_t16 : Fin (k0_t16_loop i).trips) : Fin 3 → Nat :=
  let c2_253 : Index := 2#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v452 : Index := Scalar.indexCast v413
  let c0_254 : Index := 0#32
  ![2, v452.toNat, 0]
def k0_off222 (i : grid0.Coords) (k0_t16 : Fin (k0_t16_loop i).trips) : Fin 3 → Nat :=
  let c0_258 : Index := 0#32
  let c128_259 : Index := 128#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v462 : Index := Scalar.indexCast v413
  ![0, 128, v462.toNat]
def k0_off223 (i : grid0.Coords) (k0_t16 : Fin (k0_t16_loop i).trips) : Fin 3 → Nat :=
  let c3_263 : Index := 3#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v471 : Index := Scalar.indexCast v413
  let c0_264 : Index := 0#32
  ![3, v471.toNat, 0]
def k0_off224 (i : grid0.Coords) (k0_t16 : Fin (k0_t16_loop i).trips) : Fin 3 → Nat :=
  let c0_268 : Index := 0#32
  let c192_269 : Index := 192#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v481 : Index := Scalar.indexCast v413
  ![0, 192, v481.toNat]
def k0_off225 (i : grid0.Coords) (k0_t16 : Fin (k0_t16_loop i).trips) : Fin 3 → Nat :=
  let c4_273 : Index := 4#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v490 : Index := Scalar.indexCast v413
  let c0_274 : Index := 0#32
  ![4, v490.toNat, 0]
def k0_off226 (i : grid0.Coords) (k0_t16 : Fin (k0_t16_loop i).trips) : Fin 3 → Nat :=
  let c0_278 : Index := 0#32
  let c256_279 : Index := 256#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v500 : Index := Scalar.indexCast v413
  ![0, 256, v500.toNat]
def k0_off227 (i : grid0.Coords) (k0_t16 : Fin (k0_t16_loop i).trips) : Fin 3 → Nat :=
  let c5_283 : Index := 5#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v509 : Index := Scalar.indexCast v413
  let c0_284 : Index := 0#32
  ![5, v509.toNat, 0]
def k0_off228 (i : grid0.Coords) (k0_t16 : Fin (k0_t16_loop i).trips) : Fin 3 → Nat :=
  let c0_288 : Index := 0#32
  let c320_289 : Index := 320#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v519 : Index := Scalar.indexCast v413
  ![0, 320, v519.toNat]
def k0_off229 (i : grid0.Coords) (k0_t16 : Fin (k0_t16_loop i).trips) : Fin 3 → Nat :=
  let c6_293 : Index := 6#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v528 : Index := Scalar.indexCast v413
  let c0_294 : Index := 0#32
  ![6, v528.toNat, 0]
def k0_off230 (i : grid0.Coords) (k0_t16 : Fin (k0_t16_loop i).trips) : Fin 3 → Nat :=
  let c0_298 : Index := 0#32
  let c384_299 : Index := 384#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v538 : Index := Scalar.indexCast v413
  ![0, 384, v538.toNat]
def k0_off231 (i : grid0.Coords) (k0_t16 : Fin (k0_t16_loop i).trips) : Fin 3 → Nat :=
  let c7_303 : Index := 7#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v547 : Index := Scalar.indexCast v413
  let c0_304 : Index := 0#32
  ![7, v547.toNat, 0]
def k0_off232 (i : grid0.Coords) (k0_t16 : Fin (k0_t16_loop i).trips) : Fin 3 → Nat :=
  let c0_308 : Index := 0#32
  let c448_309 : Index := 448#32
  let c2_i32_155 : BitVec 32 := 2#32
  let c0_i32_110 : BitVec 32 := 0#32
  let arg1 : BitVec 32 := BitVec.ofNat 32 (i 1).val
  let c1_i32 : BitVec 32 := 1#32
  let v16 : BitVec 32 := Scalar.addi arg1 c1_i32
  let c1_i32_109 : BitVec 32 := 1#32
  let v172 : BitVec 32 := Scalar.shrui v16 c1_i32_109
  let v173 : BitVec 32 := Scalar.subi v172 c0_i32_110
  let c1_i32_111 : BitVec 32 := 1#32
  let v175 : BitVec 32 := Scalar.divsi v173 c1_i32_111
  let v176 : BitVec 32 := Scalar.muli v175 c1_i32_111
  let v177 : BitVec 32 := Scalar.addi c0_i32_110 v176
  let c1_i32_113 : BitVec 32 := 1#32
  let arg24 : BitVec 32 := Scf.iv v177 c1_i32_113 k0_t16
  let v255 : BitVec 32 := Scalar.muli c2_i32_155 arg24
  let c1_i32_156 : BitVec 32 := 1#32
  let v256 : BitVec 32 := Scalar.addi v255 c1_i32_156
  let c256_i32_232 : BitVec 32 := 256#32
  let v412 : BitVec 32 := Scalar.muli v256 c256_i32_232
  let v413 : BitVec 32 := v412
  let v557 : Index := Scalar.indexCast v413
  ![0, 448, v557.toNat]
def k0_cond9 (i : grid0.Coords) : BitVec 1 :=
  let arg1 : BitVec 32 := BitVec.ofNat 32 (i 1).val
  let c1_i32 : BitVec 32 := 1#32
  let v16 : BitVec 32 := Scalar.addi arg1 c1_i32
  let c1_i32_114 : BitVec 32 := 1#32
  let v180 : BitVec 32 := Scalar.andi v16 c1_i32_114
  let c1_i32_115 : BitVec 32 := 1#32
  let v181 : BitVec 1 := Scalar.cmpi .eq v180 c1_i32_115
  let v182 : BitVec 32 := Scalar.extui v181
  let c0_i32_116 : BitVec 32 := 0#32
  let v183 : BitVec 1 := Scalar.cmpi .ne v182 c0_i32_116
  v183

def k0_mult100 (i : grid0.Coords) : BitVec 32 :=
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  v256
def k0_off233 (i : grid0.Coords) : Fin 3 → Nat :=
  let c0_157 : Index := 0#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v258 : Index := Scalar.indexCast v257
  let c0_158 : Index := 0#32
  ![0, v258.toNat, 0]
def k0_off234 (i : grid0.Coords) : Fin 3 → Nat :=
  let c0_162 : Index := 0#32
  let c0_163 : Index := 0#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v268 : Index := Scalar.indexCast v257
  ![0, 0, v268.toNat]
def k0_off235 (i : grid0.Coords) : Fin 3 → Nat :=
  let c1 : Index := 1#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v277 : Index := Scalar.indexCast v257
  let c0_167 : Index := 0#32
  ![1, v277.toNat, 0]
def k0_off236 (i : grid0.Coords) : Fin 3 → Nat :=
  let c0_171 : Index := 0#32
  let c64_172 : Index := 64#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v287 : Index := Scalar.indexCast v257
  ![0, 64, v287.toNat]
def k0_off237 (i : grid0.Coords) : Fin 3 → Nat :=
  let c2 : Index := 2#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v296 : Index := Scalar.indexCast v257
  let c0_176 : Index := 0#32
  ![2, v296.toNat, 0]
def k0_off238 (i : grid0.Coords) : Fin 3 → Nat :=
  let c0_180 : Index := 0#32
  let c128_181 : Index := 128#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v306 : Index := Scalar.indexCast v257
  ![0, 128, v306.toNat]
def k0_off239 (i : grid0.Coords) : Fin 3 → Nat :=
  let c3 : Index := 3#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v315 : Index := Scalar.indexCast v257
  let c0_185 : Index := 0#32
  ![3, v315.toNat, 0]
def k0_off240 (i : grid0.Coords) : Fin 3 → Nat :=
  let c0_189 : Index := 0#32
  let c192_190 : Index := 192#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v325 : Index := Scalar.indexCast v257
  ![0, 192, v325.toNat]
def k0_off241 (i : grid0.Coords) : Fin 3 → Nat :=
  let c4 : Index := 4#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v334 : Index := Scalar.indexCast v257
  let c0_194 : Index := 0#32
  ![4, v334.toNat, 0]
def k0_off242 (i : grid0.Coords) : Fin 3 → Nat :=
  let c0_198 : Index := 0#32
  let c256_199 : Index := 256#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v344 : Index := Scalar.indexCast v257
  ![0, 256, v344.toNat]
def k0_off243 (i : grid0.Coords) : Fin 3 → Nat :=
  let c5 : Index := 5#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v353 : Index := Scalar.indexCast v257
  let c0_203 : Index := 0#32
  ![5, v353.toNat, 0]
def k0_off244 (i : grid0.Coords) : Fin 3 → Nat :=
  let c0_207 : Index := 0#32
  let c320_208 : Index := 320#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v363 : Index := Scalar.indexCast v257
  ![0, 320, v363.toNat]
def k0_off245 (i : grid0.Coords) : Fin 3 → Nat :=
  let c6 : Index := 6#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v372 : Index := Scalar.indexCast v257
  let c0_212 : Index := 0#32
  ![6, v372.toNat, 0]
def k0_off246 (i : grid0.Coords) : Fin 3 → Nat :=
  let c0_216 : Index := 0#32
  let c384_217 : Index := 384#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v382 : Index := Scalar.indexCast v257
  ![0, 384, v382.toNat]
def k0_off247 (i : grid0.Coords) : Fin 3 → Nat :=
  let c7 : Index := 7#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v391 : Index := Scalar.indexCast v257
  let c0_221 : Index := 0#32
  ![7, v391.toNat, 0]
def k0_off248 (i : grid0.Coords) : Fin 3 → Nat :=
  let c0_225 : Index := 0#32
  let c448_226 : Index := 448#32
  let arg1 : BitVec 32 := BitVec.ofNat 32 (i 1).val
  let c1_i32 : BitVec 32 := 1#32
  let v16 : BitVec 32 := Scalar.addi arg1 c1_i32
  let c1_i32_155 : BitVec 32 := 1#32
  let v255 : BitVec 32 := Scalar.subi v16 c1_i32_155
  let c256_i32_156 : BitVec 32 := 256#32
  let v256 : BitVec 32 := Scalar.muli v255 c256_i32_156
  let v257 : BitVec 32 := v256
  let v401 : Index := Scalar.indexCast v257
  ![0, 448, v401.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference.lean ====
abbrev S8x512x2048 : Shape := ⟨3, ![8, 512, 2048]⟩
abbrev S8x8x2048 : Shape := ⟨3, ![8, 8, 2048]⟩
abbrev S8x2048x64 : Shape := ⟨3, ![8, 2048, 64]⟩
abbrev S8x8x2048x64 : Shape := ⟨4, ![8, 8, 2048, 64]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S8x8x64x2048 : Shape := ⟨4, ![8, 8, 64, 2048]⟩
abbrev S8x2048x8x2048 : Shape := ⟨4, ![8, 2048, 8, 2048]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S8x2048x256 : Shape := ⟨3, ![8, 2048, 256]⟩
abbrev S8x8x2048x2048 : Shape := ⟨4, ![8, 8, 2048, 2048]⟩
abbrev S8x1x2048x256 : Shape := ⟨4, ![8, 1, 2048, 256]⟩
abbrev S8x8x2048x256 : Shape := ⟨4, ![8, 8, 2048, 256]⟩
abbrev S8x8x2048x256x1 : Shape := ⟨5, ![8, 8, 2048, 256, 1]⟩
abbrev S1 : Shape := ⟨1, ![1]⟩
abbrev S1x1x1x1x1 : Shape := ⟨5, ![1, 1, 1, 1, 1]⟩
abbrev S8x8x2048x1 : Shape := ⟨4, ![8, 8, 2048, 1]⟩
abbrev S8x2048x256x1 : Shape := ⟨4, ![8, 2048, 256, 1]⟩
abbrev S8x8x64x2048x256 : Shape := ⟨5, ![8, 8, 64, 2048, 256]⟩
abbrev S8x2048x8x64 : Shape := ⟨4, ![8, 2048, 8, 64]⟩
abbrev S8x2048x512 : Shape := ⟨3, ![8, 2048, 512]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩

abbrev nBuf : Space → Nat
  | .hbm => 109
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S8x8x2048, .f32⟩
  | .hbm, ⟨2, _⟩ => ⟨S8x512x2048, .bf16⟩
  | .hbm, ⟨3, _⟩ => ⟨S8x2048x64, .bf16⟩
  | .hbm, ⟨4, _⟩ => ⟨S8x8x2048x64, .bf16⟩
  | .hbm, ⟨5, _⟩ => ⟨S8x512x2048, .bf16⟩
  | .hbm, ⟨6, _⟩ => ⟨S1x512x1024, .f32⟩
  | .hbm, ⟨7, _⟩ => ⟨S1x1024x1024, .f32⟩
  | .hbm, ⟨8, _⟩ => ⟨S1x1024x5632, .f32⟩
  | .hbm, ⟨9, _⟩ => ⟨S1x2816x1024, .f32⟩
  | .hbm, ⟨10, _⟩ => ⟨S8x8x64x2048, .bf16⟩
  | .hbm, ⟨11, _⟩ => ⟨S8x8x64x2048, .f32⟩
  | .hbm, ⟨12, _⟩ => ⟨S8x2048x64, .f32⟩
  | .hbm, ⟨13, _⟩ => ⟨S8x2048x8x2048, .f32⟩
  | .hbm, ⟨14, _⟩ => ⟨S8x2048x8x2048, .f32⟩
  | .hbm, ⟨15, _⟩ => ⟨S_, .f32⟩
  | .hbm, ⟨16, _⟩ => ⟨S8x8x2048, .f32⟩
  | .hbm, ⟨17, _⟩ => ⟨S8x8x2048, .f32⟩
  | .hbm, ⟨18, _⟩ => ⟨S_, .f32⟩
  | .hbm, ⟨19, _⟩ => ⟨S8x8x2048, .f32⟩
  | .hbm, ⟨20, _⟩ => ⟨S8x8x2048, .f32⟩
  | .hbm, ⟨21, _⟩ => ⟨S_, .f32⟩
  | .hbm, ⟨22, _⟩ => ⟨S8x2048x8x2048, .f32⟩
  | .hbm, ⟨23, _⟩ => ⟨S8x2048x8x2048, .f32⟩
  | .hbm, ⟨24, _⟩ => ⟨S8x2048x2048, .f32⟩
  | .hbm, ⟨25, _⟩ => ⟨S2048, .i32⟩
  | .hbm, ⟨26, _⟩ => ⟨S1x2048, .i32⟩
  | .hbm, ⟨27, _⟩ => ⟨S2048, .i32⟩
  | .hbm, ⟨28, _⟩ => ⟨S2048x1, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S1x2048x2048, .i1⟩
  | .hbm, ⟨33, _⟩ => ⟨S_, .f32⟩
  | .hbm, ⟨34, _⟩ => ⟨S_, .f32⟩
  | .hbm, ⟨35, _⟩ => ⟨S8x2048x2048, .i1⟩
  | .hbm, ⟨36, _⟩ => ⟨S8x2048x2048, .f32⟩
  | .hbm, ⟨37, _⟩ => ⟨S8x2048x2048, .f32⟩
  | .hbm, ⟨38, _⟩ => ⟨S8x2048x256, .f32⟩
  | .hbm, ⟨39, _⟩ => ⟨S8x2048x256, .i32⟩
  | .hbm, ⟨40, _⟩ => ⟨S8x2048x256, .i1⟩
  | .hbm, ⟨41, _⟩ => ⟨S8x8x64x2048, .bf16⟩
  | .hbm, ⟨42, _⟩ => ⟨S8x8x64x2048, .bf16⟩
  | .hbm, ⟨43, _⟩ => ⟨S8x8x2048x2048, .f32⟩
  | .hbm, ⟨44, _⟩ => ⟨S8x1x2048x256, .i32⟩
  | .hbm, ⟨45, _⟩ => ⟨S8x8x2048x256, .i32⟩
  | .hbm, ⟨46, _⟩ => ⟨S_, .i32⟩
  | .hbm, ⟨47, _⟩ => ⟨S8x8x2048x256, .i32⟩
  | .hbm, ⟨48, _⟩ => ⟨S8x8x2048x256, .i1⟩
  | .hbm, ⟨49, _⟩ => ⟨S_, .i32⟩
  | .hbm, ⟨50, _⟩ => ⟨S8x8x2048x256, .i32⟩
  | .hbm, ⟨51, _⟩ => ⟨S8x8x2048x256, .i32⟩
  | .hbm, ⟨52, _⟩ => ⟨S8x8x2048x256, .i32⟩
  | .hbm, ⟨53, _⟩ => ⟨S8x8x2048x256x1, .i32⟩
  | .hbm, ⟨54, _⟩ => ⟨S1, .i32⟩
  | .hbm, ⟨55, _⟩ => ⟨S_, .i32⟩
  | .hbm, ⟨56, _⟩ => ⟨S8x8x2048x256x1, .i32⟩
  | .hbm, ⟨57, _⟩ => ⟨S8x8x2048x256x1, .i1⟩
  | .hbm, ⟨58, _⟩ => ⟨S1x1x1x1x1, .i32⟩
  | .hbm, ⟨59, _⟩ => ⟨S8x8x2048x256x1, .i32⟩
  | .hbm, ⟨60, _⟩ => ⟨S8x8x2048x256x1, .i1⟩
  | .hbm, ⟨61, _⟩ => ⟨S8x8x2048x256x1, .i1⟩
  | .hbm, ⟨62, _⟩ => ⟨S_, .i1⟩
  | .hbm, ⟨63, _⟩ => ⟨S8x8x2048x256, .i1⟩
  | .hbm, ⟨64, _⟩ => ⟨S8x8x2048x256, .f32⟩
  | .hbm, ⟨65, _⟩ => ⟨S_, .f32⟩
  | .hbm, ⟨66, _⟩ => ⟨S8x8x2048x256, .f32⟩
  | .hbm, ⟨67, _⟩ => ⟨S8x8x2048x256, .f32⟩
  | .hbm, ⟨68, _⟩ => ⟨S8x1x2048x256, .i1⟩
  | .hbm, ⟨69, _⟩ => ⟨S_, .f32⟩
  | .hbm, ⟨70, _⟩ => ⟨S_, .f32⟩
  | .hbm, ⟨71, _⟩ => ⟨S8x8x2048x256, .i1⟩
  | .hbm, ⟨72, _⟩ => ⟨S8x8x2048x256, .f32⟩
  | .hbm, ⟨73, _⟩ => ⟨S8x8x2048x256, .f32⟩
  | .hbm, ⟨74, _⟩ => ⟨S_, .f32⟩
  | .hbm, ⟨75, _⟩ => ⟨S8x8x2048, .f32⟩
  | .hbm, ⟨76, _⟩ => ⟨S8x8x2048x1, .f32⟩
  | .hbm, ⟨77, _⟩ => ⟨S8x8x2048x256, .f32⟩
  | .hbm, ⟨78, _⟩ => ⟨S8x8x2048x256, .f32⟩
  | .hbm, ⟨79, _⟩ => ⟨S_, .f32⟩
  | .hbm, ⟨80, _⟩ => ⟨S8x8x2048x256, .f32⟩
  | .hbm, ⟨81, _⟩ => ⟨S8x8x2048x256, .f32⟩
  | .hbm, ⟨82, _⟩ => ⟨S8x8x2048x256, .f32⟩
  | .hbm, ⟨83, _⟩ => ⟨S_, .f32⟩
  | .hbm, ⟨84, _⟩ => ⟨S8x8x2048, .f32⟩
  | .hbm, ⟨85, _⟩ => ⟨S8x8x2048x1, .f32⟩
  | .hbm, ⟨86, _⟩ => ⟨S8x8x2048x256, .f32⟩
  | .hbm, ⟨87, _⟩ => ⟨S8x8x2048x256, .f32⟩
  | .hbm, ⟨88, _⟩ => ⟨S8x8x2048x256, .bf16⟩
  | .hbm, ⟨89, _⟩ => ⟨S_, .i32⟩
  | .hbm, ⟨90, _⟩ => ⟨S8x2048x256, .i32⟩
  | .hbm, ⟨91, _⟩ => ⟨S8x2048x256, .i1⟩
  | .hbm, ⟨92, _⟩ => ⟨S_, .i32⟩
  | .hbm, ⟨93, _⟩ => ⟨S8x2048x256, .i32⟩
  | .hbm, ⟨94, _⟩ => ⟨S8x2048x256, .i32⟩
  | .hbm, ⟨95, _⟩ => ⟨S8x2048x256, .i32⟩
  | .hbm, ⟨96, _⟩ => ⟨S8x2048x256x1, .i32⟩
  | .hbm, ⟨97, _⟩ => ⟨S8x8x64x2048x256, .bf16⟩
  | .hbm, ⟨98, _⟩ => ⟨S8x2048x8x64, .f32⟩
  | .hbm, ⟨99, _⟩ => ⟨S8x2048x512, .f32⟩
  | .hbm, ⟨100, _⟩ => ⟨S8x2048x512, .bf16⟩
  | .hbm, ⟨101, _⟩ => ⟨S512x1024, .f32⟩
  | .hbm, ⟨102, _⟩ => ⟨S512x1024, .bf16⟩
  | .hbm, ⟨103, _⟩ => ⟨S1024x1024, .f32⟩
  | .hbm, ⟨104, _⟩ => ⟨S1024x1024, .bf16⟩
  | .hbm, ⟨105, _⟩ => ⟨S1024x5632, .f32⟩
  | .hbm, ⟨106, _⟩ => ⟨S1024x5632, .bf16⟩
  | .hbm, ⟨107, _⟩ => ⟨S2816x1024, .f32⟩
  | .hbm, ⟨108, _⟩ => ⟨S2816x1024, .bf16⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v20 : Ref sig .tc := ⟨.hbm, 37, rfl⟩
abbrev main_values : Ref sig .tc := ⟨.hbm, 38, rfl⟩
abbrev main_indices : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v27 : Ref sig .tc := ⟨.hbm, 67, rfl⟩
abbrev main_v28 : Ref sig .tc := ⟨.hbm, 68, rfl⟩
abbrev main_cst_3 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v29 : Ref sig .tc := ⟨.hbm, 73, rfl⟩
abbrev main_cst_4 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_5 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_6 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_c : Ref sig .tc := ⟨.hbm, 89, rfl⟩
abbrev main_v42 : Ref sig .tc := ⟨.hbm, 90, rfl⟩
abbrev main_v43 : Ref sig .tc := ⟨.hbm, 91, rfl⟩
abbrev main_c_7 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩

abbrev nD : Nat := 1
abbrev τ : Topo := Topo.v7x

variable {F : FTy → Type} [BitOps F]
-- ==== Kernel2.lean ====
abbrev S8x2048x1024 : Shape := ⟨3, ![8, 2048, 1024]⟩
abbrev S1x1024 : Shape := ⟨2, ![1, 1024]⟩
abbrev S1x1024x5704 : Shape := ⟨3, ![1, 1024, 5704]⟩
abbrev S1x2048 : Shape := ⟨2, ![1, 2048]⟩
abbrev S1x3x512 : Shape := ⟨3, ![1, 3, 512]⟩
abbrev S1x512x1024 : Shape := ⟨3, ![1, 512, 1024]⟩
abbrev S1024x5704 : Shape := ⟨2, ![1024, 5704]⟩
abbrev S1024x512 : Shape := ⟨2, ![1024, 512]⟩
abbrev S512x1024 : Shape := ⟨2, ![512, 1024]⟩
abbrev S1024x8 : Shape := ⟨2, ![1024, 8]⟩
abbrev S8x1024 : Shape := ⟨2, ![8, 1024]⟩
abbrev S_ : Shape := ⟨0, ![]⟩
abbrev S16x1024 : Shape := ⟨2, ![16, 1024]⟩
abbrev S1024x64 : Shape := ⟨2, ![1024, 64]⟩
abbrev S1024x128 : Shape := ⟨2, ![1024, 128]⟩
abbrev S1024x1536 : Shape := ⟨2, ![1024, 1536]⟩
abbrev S1024x2048 : Shape := ⟨2, ![1024, 2048]⟩
abbrev S3x512 : Shape := ⟨2, ![3, 512]⟩
abbrev S8x8x2048x64 : Shape := ⟨4, ![8, 8, 2048, 64]⟩
abbrev S8x2048x64 : Shape := ⟨3, ![8, 2048, 64]⟩
abbrev S8x512x2048 : Shape := ⟨3, ![8, 512, 2048]⟩
abbrev S8x8x2048 : Shape := ⟨3, ![8, 8, 2048]⟩
abbrev S1x8x512x64 : Shape := ⟨4, ![1, 8, 512, 64]⟩
abbrev S1x512x64 : Shape := ⟨3, ![1, 512, 64]⟩
abbrev S1x512x512 : Shape := ⟨3, ![1, 512, 512]⟩
abbrev S1x8x512 : Shape := ⟨3, ![1, 8, 512]⟩
abbrev S520x512 : Shape := ⟨2, ![520, 512]⟩
abbrev S512 : Shape := ⟨1, ![512]⟩
abbrev S512x1 : Shape := ⟨2, ![512, 1]⟩
abbrev S512x1536 : Shape := ⟨2, ![512, 1536]⟩
abbrev S512x512 : Shape := ⟨2, ![512, 512]⟩
abbrev S8x512 : Shape := ⟨2, ![8, 512]⟩
abbrev S1x512 : Shape := ⟨2, ![1, 512]⟩
abbrev S512x2048 : Shape := ⟨2, ![512, 2048]⟩
abbrev S16x512 : Shape := ⟨2, ![16, 512]⟩
abbrev S512x64 : Shape := ⟨2, ![512, 64]⟩
abbrev S1x1x512x64 : Shape := ⟨4, ![1, 1, 512, 64]⟩
abbrev S512x128 : Shape := ⟨2, ![512, 128]⟩

abbrev nBuf : Space → Nat
  | .hbm => 44
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5704, .f32⟩
  | .hbm, ⟨3, _⟩ => ⟨S1x2048, .f32⟩
  | .hbm, ⟨4, _⟩ => ⟨S1x3x512, .f32⟩
  | .hbm, ⟨5, _⟩ => ⟨S1x512x1024, .f32⟩
  | .hbm, ⟨6, _⟩ => ⟨S1024x5704, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S1024x512, .f32⟩
  | .hbm, ⟨11, _⟩ => ⟨S512x1024, .f32⟩
  | .hbm, ⟨12, _⟩ => ⟨S512x1024, .bf16⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x8, .f32⟩
  | .hbm, ⟨17, _⟩ => ⟨S8x1024, .f32⟩
  | .hbm, ⟨18, _⟩ => ⟨S_, .i32⟩
  | .hbm, ⟨19, _⟩ => ⟨S_, .f32⟩
  | .hbm, ⟨20, _⟩ => ⟨S16x1024, .f32⟩
  | .hbm, ⟨21, _⟩ => ⟨S16x1024, .bf16⟩
  | .hbm, ⟨22, _⟩ => ⟨S1024x512, .f32⟩
  | .hbm, ⟨23, _⟩ => ⟨S1024x512, .bf16⟩
  | .hbm, ⟨24, _⟩ => ⟨S1024x64, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x128, .bf16⟩
  | .hbm, ⟨29, _⟩ => ⟨S1024x1536, .f32⟩
  | .hbm, ⟨30, _⟩ => ⟨S1024x1536, .bf16⟩
  | .hbm, ⟨31, _⟩ => ⟨S1024x2048, .f32⟩
  | .hbm, ⟨32, _⟩ => ⟨S1024x2048, .bf16⟩
  | .hbm, ⟨33, _⟩ => ⟨S3x512, .f32⟩
  | .hbm, ⟨34, _⟩ => ⟨S512x1024, .f32⟩
  | .hbm, ⟨35, _⟩ => ⟨S512x1024, .bf16⟩
  | .hbm, ⟨36, _⟩ => ⟨S8x8x2048x64, .bf16⟩
  | .hbm, ⟨37, _⟩ => ⟨S8x2048x64, .bf16⟩
  | .hbm, ⟨38, _⟩ => ⟨S8x512x2048, .bf16⟩
  | .hbm, ⟨39, _⟩ => ⟨S8x512x2048, .bf16⟩
  | .hbm, ⟨40, _⟩ => ⟨S8x512x2048, .bf16⟩
  | .hbm, ⟨41, _⟩ => ⟨S8x8x2048, .f32⟩
  | .hbm, ⟨42, _⟩ => ⟨S8x2048x1024, .f32⟩
  | .hbm, ⟨43, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1024x128, .bf16⟩
  | .local _ .vmem, ⟨5, _⟩ => ⟨S1024x1536, .bf16⟩
  | .local _ .vmem, ⟨6, _⟩ => ⟨S1024x2048, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S1x2048, .f32⟩
  | .local _ .vmem, ⟨12, _⟩ => ⟨S3x512, .f32⟩
  | .local _ .vmem, ⟨13, _⟩ => ⟨S512x1024, .bf16⟩
  | .local _ .vmem, ⟨14, _⟩ => ⟨S1x8x512x64, .bf16⟩
  | .local _ .vmem, ⟨15, _⟩ => ⟨S1x8x512x64, .bf16⟩
  | .local _ .vmem, ⟨16, _⟩ => ⟨S1x512x64, .bf16⟩
  | .local _ .vmem, ⟨17, _⟩ => ⟨S1x512x64, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x8x512, .f32⟩
  | .local _ .vmem, ⟨25, _⟩ => ⟨S1x8x512, .f32⟩
  | .local _ .vmem, ⟨26, _⟩ => ⟨S1x512x1024, .f32⟩
  | .local _ .vmem, ⟨27, _⟩ => ⟨S1x512x1024, .f32⟩
  | .local _ .vmem, ⟨28, _⟩ => ⟨S1x512x1024, .f32⟩
  | .local _ .vmem, ⟨29, _⟩ => ⟨S1x512x1024, .f32⟩
  | .local _ .vmem, ⟨30, _⟩ => ⟨S520x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev main_v26_3 : Ref sig .tc := ⟨.hbm, 39, rfl⟩
abbrev main_v26_4 : Ref sig .tc := ⟨.hbm, 40, rfl⟩
abbrev main_v26_5 : Ref sig .tc := ⟨.hbm, 41, rfl⟩
abbrev main_v26_6 : Ref sig .tc := ⟨.hbm, 42, rfl⟩
abbrev main_v26_7 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S3x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S8x2048x1024 : Shape := ⟨3, ![8, 2048, 1024]⟩
abbrev S1x1024 : Shape := ⟨2, ![1, 1024]⟩
abbrev S1x1024x5704 : Shape := ⟨3, ![1, 1024, 5704]⟩
abbrev S1x2048 : Shape := ⟨2, ![1, 2048]⟩
abbrev S1x3x512 : Shape := ⟨3, ![1, 3, 512]⟩
abbrev S1x512x1024 : Shape := ⟨3, ![1, 512, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5704 : Shape := ⟨2, ![1024, 5704]⟩
abbrev S8x2048x5704 : Shape := ⟨3, ![8, 2048, 5704]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x2048 : Shape := ⟨3, ![8, 2048, 2048]⟩
abbrev S3x512 : Shape := ⟨2, ![3, 512]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩
abbrev S512x1024 : Shape := ⟨2, ![512, 1024]⟩
abbrev S2048 : Shape := ⟨1, ![2048]⟩
abbrev S1x1x2048 : Shape := ⟨3, ![1, 1, 2048]⟩
abbrev S8x2048x8x64 : Shape := ⟨4, ![8, 2048, 8, 64]⟩
abbrev S8x8x2048x64 : Shape := ⟨4, ![8, 8, 2048, 64]⟩
abbrev S8x512x2048 : Shape := ⟨3, ![8, 512, 2048]⟩
abbrev S8x8x2048 : Shape := ⟨3, ![8, 8, 2048]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5704, .f32⟩
  | .hbm, ⟨3, _⟩ => ⟨S1x2048, .f32⟩
  | .hbm, ⟨4, _⟩ => ⟨S1x3x512, .f32⟩
  | .hbm, ⟨5, _⟩ => ⟨S1x512x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1024x5704, .f32⟩
  | .hbm, ⟨24, _⟩ => ⟨S8x2048x5704, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x512, .f32⟩
  | .hbm, ⟨29, _⟩ => ⟨S8x2048x64, .f32⟩
  | .hbm, ⟨30, _⟩ => ⟨S8x2048x8, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x2048, .f32⟩
  | .hbm, ⟨35, _⟩ => ⟨S8x2048x512, .f32⟩
  | .hbm, ⟨36, _⟩ => ⟨S3x512, .f32⟩
  | .hbm, ⟨37, _⟩ => ⟨S_, .i32⟩
  | .hbm, ⟨38, _⟩ => ⟨S_, .f32⟩
  | .hbm, ⟨39, _⟩ => ⟨S8x2050x512, .f32⟩
  | .hbm, ⟨40, _⟩ => ⟨S8x2048x512, .f32⟩
  | .hbm, ⟨41, _⟩ => ⟨S1x512, .f32⟩
  | .hbm, ⟨42, _⟩ => ⟨S512, .f32⟩
  | .hbm, ⟨43, _⟩ => ⟨S1x1x512, .f32⟩
  | .hbm, ⟨44, _⟩ => ⟨S8x2048x512, .f32⟩
  | .hbm, ⟨45, _⟩ => ⟨S8x2048x512, .f32⟩
  | .hbm, ⟨46, _⟩ => ⟨S8x2048x512, .f32⟩
  | .hbm, ⟨47, _⟩ => ⟨S1x512, .f32⟩
  | .hbm, ⟨48, _⟩ => ⟨S512, .f32⟩
  | .hbm, ⟨49, _⟩ => ⟨S1x1x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x512, .f32⟩
  | .hbm, ⟨54, _⟩ => ⟨S1x512, .f32⟩
  | .hbm, ⟨55, _⟩ => ⟨S512, .f32⟩
  | .hbm, ⟨56, _⟩ => ⟨S1x1x512, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S8x2048x512, .f32⟩
  | .hbm, ⟨61, _⟩ => ⟨S512x1024, .f32⟩
  | .hbm, ⟨62, _⟩ => ⟨S8x2048x1024, .f32⟩
  | .hbm, ⟨63, _⟩ => ⟨S2048, .f32⟩
  | .hbm, ⟨64, _⟩ => ⟨S1x1x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048x2048, .f32⟩
  | .hbm, ⟨71, _⟩ => ⟨S8x2048x2048, .f32⟩
  | .hbm, ⟨72, _⟩ => ⟨S_, .f32⟩
  | .hbm, ⟨73, _⟩ => ⟨S8x2048x2048, .f32⟩
  | .hbm, ⟨74, _⟩ => ⟨S8x2048x2048, .f32⟩
  | .hbm, ⟨75, _⟩ => ⟨S8x2048x1024, .f32⟩
  | .hbm, ⟨76, _⟩ => ⟨S8x2048x1024, .f32⟩
  | .hbm, ⟨77, _⟩ => ⟨S8x2048x8x64, .f32⟩
  | .hbm, ⟨78, _⟩ => ⟨S8x8x2048x64, .f32⟩
  | .hbm, ⟨79, _⟩ => ⟨S_, .f32⟩
  | .hbm, ⟨80, _⟩ => ⟨S8x2048x512, .f32⟩
  | .hbm, ⟨81, _⟩ => ⟨S8x2048x512, .f32⟩
  | .hbm, ⟨82, _⟩ => ⟨S8x8x2048x64, .bf16⟩
  | .hbm, ⟨83, _⟩ => ⟨S8x2048x64, .bf16⟩
  | .hbm, ⟨84, _⟩ => ⟨S8x512x2048, .f32⟩
  | .hbm, ⟨85, _⟩ => ⟨S8x512x2048, .bf16⟩
  | .hbm, ⟨86, _⟩ => ⟨S8x512x2048, .f32⟩
  | .hbm, ⟨87, _⟩ => ⟨S8x512x2048, .bf16⟩
  | .hbm, ⟨88, _⟩ => ⟨S8x512x2048, .f32⟩
  | .hbm, ⟨89, _⟩ => ⟨S8x512x2048, .bf16⟩
  | .hbm, ⟨90, _⟩ => ⟨S8x8x2048, .f32⟩
  | .hbm, ⟨91, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_2 : Ref sig .tc := ⟨.hbm, 69, rfl⟩
abbrev main_v58 : Ref sig .tc := ⟨.hbm, 70, rfl⟩
abbrev main_v59 : Ref sig .tc := ⟨.hbm, 71, rfl⟩
abbrev main_cst_3 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_4 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S3x5632 : Shape := ⟨2, ![3, 5632]⟩
abbrev S1x256x1024 : Shape := ⟨3, ![1, 256, 1024]⟩
abbrev S1x256x512 : Shape := ⟨3, ![1, 256, 512]⟩
abbrev S11x264x256 : Shape := ⟨3, ![11, 264, 256]⟩
abbrev S2x256x1024 : Shape := ⟨3, ![2, 256, 1024]⟩
abbrev S256x1024 : Shape := ⟨2, ![256, 1024]⟩
abbrev S8x256 : Shape := ⟨2, ![8, 256]⟩
abbrev S1x8x256 : Shape := ⟨3, ![1, 8, 256]⟩
abbrev S1024x256 : Shape := ⟨2, ![1024, 256]⟩
abbrev S256x256 : Shape := ⟨2, ![256, 256]⟩
abbrev S1x264x256 : Shape := ⟨3, ![1, 264, 256]⟩
abbrev S264x256 : Shape := ⟨2, ![264, 256]⟩
abbrev S3x256 : Shape := ⟨2, ![3, 256]⟩
abbrev S1x256 : Shape := ⟨2, ![1, 256]⟩
abbrev S256x512 : Shape := ⟨2, ![256, 512]⟩
abbrev S256 : Shape := ⟨1, ![256]⟩
abbrev S256x1 : Shape := ⟨2, ![256, 1]⟩
abbrev S256x768 : Shape := ⟨2, ![256, 768]⟩
abbrev S768x1024 : Shape := ⟨2, ![768, 1024]⟩

abbrev nBuf : Space → Nat
  | .hbm => 22
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x1024, .f32⟩
  | .hbm, ⟨3, _⟩ => ⟨S8x2048x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x2816x1024, .f32⟩
  | .hbm, ⟨10, _⟩ => ⟨S1024, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S1024x5632, .f32⟩
  | .hbm, ⟨16, _⟩ => ⟨S1024x5632, .bf16⟩
  | .hbm, ⟨17, _⟩ => ⟨S2816x1024, .f32⟩
  | .hbm, ⟨18, _⟩ => ⟨S2816x1024, .bf16⟩
  | .hbm, ⟨19, _⟩ => ⟨S3x5632, .f32⟩
  | .hbm, ⟨20, _⟩ => ⟨S1x1024, .f32⟩
  | .hbm, ⟨21, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S3x5632, .f32⟩
  | .local _ .vmem, ⟨13, _⟩ => ⟨S2816x1024, .bf16⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | .local _ .vmem, ⟨17, _⟩ => ⟨S11x264x256, .f32⟩
  | .local _ .vmem, ⟨18, _⟩ => ⟨S11x264x256, .f32⟩
  | .local _ .vmem, ⟨19, _⟩ => ⟨S2x256x1024, .f32⟩
  | .local _ .vmem, ⟨20, _⟩ => ⟨S2x256x1024, .bf16⟩
  | .local _ .vmem, ⟨21, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.remsi v0 c2_i32
  let v13 : Index := Scalar.indexCast v1
  let c0 : Index := 0#32
  let c0_6 : Index := 0#32
  ![v13.toNat, 0, 0]
def k0_off2 (i : grid0.Coords) : Fin 3 → Nat :=
  let arg0 : BitVec 32 := BitVec.ofNat 32 (i 0).val
  let c2_i32_0 : BitVec 32 := 2#32
  let v2 : BitVec 32 := Scalar.remsi arg0 c2_i32_0
  let v770 : Index := Scalar.indexCast v2
  let c0_527 : Index := 0#32
  let c0_528 : Index := 0#32
  ![v770.toNat, 0, 0]
def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let c0_i32_7 : BitVec 32 := 0#32
  let v19 : BitVec 1 := Scalar.cmpi .eq c8_i32_6 c0_i32_7
  let c1_i32_8 : BitVec 32 := 1#32
  let v20 : BitVec 32 := Scalar.select v19 c1_i32_8 c8_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x2048x1024 : Shape := ⟨3, ![8, 2048, 1024]⟩
abbrev S8x2048x512 : Shape := ⟨3, ![8, 2048, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S3x5632 : Shape := ⟨2, ![3, 5632]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩
abbrev S2816x1024 : Shape := ⟨2, ![2816, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x1024, .f32⟩
  | .hbm, ⟨3, _⟩ => ⟨S8x2048x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x3x5632, .f32⟩
  | .hbm, ⟨9, _⟩ => ⟨S1x2816x1024, .f32⟩
  | .hbm, ⟨10, _⟩ => ⟨S1024, .f32⟩
  | .hbm, ⟨11, _⟩ => ⟨S8x2048x512, .f32⟩
  | .hbm, ⟨12, _⟩ => ⟨S512x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1024x1024, .f32⟩
  | .hbm, ⟨17, _⟩ => ⟨S8x2048x1024, .f32⟩
  | .hbm, ⟨18, _⟩ => ⟨S8x2048x1024, .f32⟩
  | .hbm, ⟨19, _⟩ => ⟨S1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S1024x5632, .f32⟩
  | .hbm, ⟨37, _⟩ => ⟨S8x2048x5632, .f32⟩
  | .hbm, ⟨38, _⟩ => ⟨S3x5632, .f32⟩
  | .hbm, ⟨39, _⟩ => ⟨S_, .i32⟩
  | .hbm, ⟨40, _⟩ => ⟨S_, .f32⟩
  | .hbm, ⟨41, _⟩ => ⟨S8x2050x5632, .f32⟩
  | .hbm, ⟨42, _⟩ => ⟨S8x2048x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S8x2048x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S8x2048x5632, .f32⟩
  | .hbm, ⟨60, _⟩ => ⟨S8x2048x5632, .f32⟩
  | .hbm, ⟨61, _⟩ => ⟨S8x2048x5632, .f32⟩
  | .hbm, ⟨62, _⟩ => ⟨S8x2048x2816, .f32⟩
  | .hbm, ⟨63, _⟩ => ⟨S8x2048x2816, .f32⟩
  | .hbm, ⟨64, _⟩ => ⟨S8x2048x2816, .f32⟩
  | .hbm, ⟨65, _⟩ => ⟨S8x2048x2816, .f32⟩
  | .hbm, ⟨66, _⟩ => ⟨S_, .f32⟩
  | .hbm, ⟨67, _⟩ => ⟨S8x2048x2816, .f32⟩
  | .hbm, ⟨68, _⟩ => ⟨S8x2048x2816, .f32⟩
  | .hbm, ⟨69, _⟩ => ⟨S_, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S8x2048x2816, .f32⟩
  | .hbm, ⟨74, _⟩ => ⟨S2816x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S8x2048x1, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S8x2048x1024, .f32⟩
  | .hbm, ⟨92, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_2 : Ref sig .tc := ⟨.hbm, 78, rfl⟩
abbrev main_v54 : Ref sig .tc := ⟨.hbm, 79, rfl⟩
abbrev main_v55 : Ref sig .tc := ⟨.hbm, 80, rfl⟩
abbrev main_cst_3 : Ref sig .tc := ⟨.hbm, 81, rfl⟩
abbrev main_v56 : Ref sig .tc := ⟨.hbm, 82, rfl⟩
abbrev main_v57 : Ref sig .tc := ⟨.hbm, 83, rfl⟩
abbrev main_cst_4 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]
-- ==== Proof.Attn.Safe.lean ====
/-
  A judgement for bodies whose values are of no interest: `Safe c bd R p` says that the program `p`, run on core `c`
  under the call bound `bd` from the resource `R`, runs to its end and gives `R` back whatever it read. One rule per
  form of a printed body: a return, a sequence, a load of a buffer `R` lets be read, a store to a buffer `R` lets be
  overwritten, a conditional, a counted loop.
-/
module

public import proofs.«01_k».proof.Proof.Gen.Kernel
public import Idealize.ShloMosaic.Lib.Tactic
public import Idealize.ShloMosaic.Lib.Pipeline.Kit

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The resource algebra: the pipeline's staging cells, nothing beside. -/
abbrev UU (nD : Nat) (τ : Topo) : Type := UR sig nD τ

local notation "𝕄" => MT nD τ sig Unit (Elt F) ℕ (UU nD τ) ℕ

/-- The call bound's order: the natural numbers. -/
abbrev 𝒱₀ : Variants := Variants.nat

/-- The buffer under memref `M` held whole at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- `R` lets the buffer under `M` be read. -/
def CanRead (c : Dev nD) (R : sProp 𝕄) {sp : Space} {S : Shape} {e : EltTy} (M : Memref sig .tc sp S e) : Prop :=
  R ⊢ iprop(∃ f, pt c M f ∗ (pt c M f -∗ R))

/-- `R` lets the buffer under `M` be read and overwritten. -/
def CanUse (c : Dev nD) (R : sProp 𝕄) {sp : Space} {S : Shape} {e : EltTy} (M : Memref sig .tc sp S e) : Prop :=
  R ⊢ iprop(∃ f, pt c M f ∗ (∀ f', pt c M f' -∗ R))

/-- A program that keeps the resource `R`. -/
def Safe (c : Dev nD) (bd : Option ℕ) (R : sProp 𝕄) {α : Type} (p : Prog (TpuEff nD τ sig (Elt F) (Λ₀ F) .tc) α) : Prop :=
  R ⊢ wp frame (wpE (defs₀ (F := F)) 𝒱₀ (c : Thread nD τ) bd) Set.univ p (fun _ => R)

variable {c : Dev nD} {bd : Option ℕ} {R : sProp (MT nD τ sig Unit (Elt F) ℕ (UU nD τ) ℕ)} {α β : Type}

/-- What may be overwritten may be read. -/
theorem CanUse.read {sp : Space} {S : Shape} {e : EltTy} {M : Memref sig .tc sp S e} (h : CanUse (F := F) c R M) : CanRead (F := F) c R M := by
  unfold CanRead
  refine h.trans ?_
  iintro ⟨%f, H, Hk⟩
  iexists f
  isplitl [H]; · iexact H
  iintro H
  iapply Hk; iexact H

/-- A return keeps anything. -/
theorem Safe.ret (a : α) : Safe (F := F) c bd R (Prog.ret a) := by
  unfold Safe; rw [wp_ret]
  iintro H; imodintro; iexact H

/-- A sequence keeps what its parts keep, the second at every value of the first. -/
theorem Safe.bind {p : Prog (TpuEff nD τ sig (Elt F) (Λ₀ F) .tc) α} {k : α → Prog (TpuEff nD τ sig (Elt F) (Λ₀ F) .tc) β}
    (hp : Safe (F := F) c bd R p) (hk : ∀ a, Safe (F := F) c bd R (k a)) : Safe (F := F) c bd R (p >>= k) := by
  unfold Safe at *
  rw [wp_bind]
  iintro H
  iapply (wp_wand_r frame (wpE (defs₀ (F := F)) 𝒱₀ (c : Thread nD τ) bd) Set.univ)
  isplitl [H]
  · iapply hp; iexact H
  · iintro %a H; iapply (hk a); iexact H

/-- A load of a readable buffer. -/
theorem Safe.load {cs : CoreSpace} {S : Shape} {e : EltTy} {M : Memref sig .tc cs S e} (h : CanRead (F := F) c R M) {r : LoadRect S}
    {hl : M.view.LoadsAt r} : Safe (F := F) c bd R (Prog.lift (TpuEff.load M r hl)) := by
  unfold Safe
  refine h.trans ?_
  iintro ⟨%f, H, Hk⟩
  unfold Prog.lift
  iapply (wp_load 𝒱₀ (c : Thread nD τ) bd Set.univ (m := M) (Finset.subset_univ _)) $$ H
  iintro H
  rw [wp_ret]; imodintro
  iapply Hk; iexact H

/-- A store to a writable buffer. -/
theorem Safe.store {cs : CoreSpace} {S : Shape} {e : EltTy} {M : Memref sig .tc cs S e} (h : CanUse (F := F) c R M) {r : Rect S}
    {w : r.shape.Idx → Elt F e} {Mk : Finset r.shape.Idx} {hx : (M.access r).Stores Mk} {hm : Mk = Finset.univ ∨ ∀ a, r.stride a = 1} :
    Safe (F := F) c bd R (Prog.lift (TpuEff.store M r w Mk hx hm)) := by
  unfold Safe
  refine h.trans ?_
  iintro ⟨%f, H, Hk⟩
  unfold Prog.lift
  iapply (wp_store 𝒱₀ (c : Thread nD τ) bd Set.univ (m := M) (r := r) (Mk := Mk) (Finset.subset_univ _)) $$ H
  iintro H
  rw [wp_ret]; imodintro
  iapply Hk; iexact H

/-- A conditional, either way. -/
theorem Safe.dite {C : Prop} [Decidable C] {t : C → Prog (TpuEff nD τ sig (Elt F) (Λ₀ F) .tc) α} {e : ¬ C → Prog (TpuEff nD τ sig (Elt F) (Λ₀ F) .tc) α}
    (ht : ∀ h, Safe (F := F) c bd R (t h)) (he : ∀ h, Safe (F := F) c bd R (e h)) : Safe (F := F) c bd R (if h : C then t h else e h) := by
  by_cases h : C
  · rw [dif_pos h]; exact ht h
  · rw [dif_neg h]; exact he h

/-- A counted loop, each trip from any values carried. -/
theorem Safe.for {w : ℕ} {lb ub st : BitVec w} {hok : Scf.OK lb ub st} {init : α} {body : Fin (Scf.trips lb ub st) → α → Prog (TpuEff nD τ sig (Elt F) (Λ₀ F) .tc) α}
    (hb : ∀ k acc, Safe (F := F) c bd R (body k acc)) : Safe (F := F) c bd R (Scf.for lb ub st hok init body) := by
  unfold Safe at *
  iintro H
  iapply (Scf.wp_for frame (wpE (defs₀ (F := F)) 𝒱₀ (c : Thread nD τ) bd) Set.univ lb ub st hok init body (fun _ _ => R) hb)
  isplitl [H]; · iexact H
  iintro %acc H; iexact H

/-- A return, written as the monad's. -/
theorem Safe.pure (a : α) : Safe (F := F) c bd R (Pure.pure a) := Safe.ret a

/-- A conditional whose branches do not name its condition. -/
theorem Safe.ite {C : Prop} [Decidable C] {t e : Prog (TpuEff nD τ sig (Elt F) (Λ₀ F) .tc) α}
    (ht : C → Safe (F := F) c bd R t) (he : ¬ C → Safe (F := F) c bd R e) : Safe (F := F) c bd R (if C then t else e) := by
  by_cases h : C
  · rw [if_pos h]; exact ht h
  · rw [if_neg h]; exact he h

/-- A call of a label whose body is safe at a bound below the caller's. -/
theorem Safe.call {ℓ : (Λ₀ F).Label} {a : (Λ₀ F).Args ℓ} (v : ℕ) (hv : ∀ u ∈ bd, v < u)
    (h : Safe (F := F) c (some v) R (defs₀ (F := F) .tc ℓ a)) : Safe (F := F) c bd R (Prog.lift (TpuEff.call ℓ a)) := by
  unfold Safe at *
  unfold Prog.lift
  iintro H
  iapply (wp_call 𝒱₀ (c : Thread nD τ) bd Set.univ v hv)
  iapply (wp_wand_r frame (wpE (defs₀ (F := F)) 𝒱₀ (c : Thread nD τ) (some v)) Set.univ)
  isplitl [H]; · iapply h; iexact H
  iintro %x H
  rw [wp_ret]; imodintro; iexact H

end Cert.Proof.Attn

end
-- ==== Proof.Attn.Steps.lean ====
/-
  Steps of a body whose values matter: a load of a whole buffer that holds known contents, a store over a whole buffer,
  and the pair of them that casts one buffer into another; and how a resource made of several buffers lets each be used.
-/
module

public import proofs.«01_k».proof.Proof.Attn.Safe
public import Idealize.ShloMosaic.Lib.Pipeline.FrameBody
public import Idealize.ShloMosaic.Lib.Pipeline.Value

@[expose] public section

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UU nD τ) ℕ

/-- The buffer under `M`, at some contents. -/
def anyAt (c : Dev nD) {sp : Space} {S : Shape} {e : EltTy} (M : Memref sig .tc sp S e) : sProp 𝕄 := iprop(∃ f, pt c M f)

/-- The buffer under `M`, at contents through which `M` reads `X`. -/
def holdsAt (c : Dev nD) {sp : Space} {S : Shape} {e : EltTy} (M : Memref sig .tc sp S e) (X : S.Idx → Elt F e) : sProp 𝕄 :=
  iprop(∃ f, ⌜M.view.read (Elt F) f = X⌝ ∗ pt c M f)

variable {c : Dev nD} {bd : Option ℕ} {α β : Type}
  {R P D : sProp (MT nD τ sig Unit (Elt F) ℕ (UU nD τ) ℕ)}
  {Q : β → sProp (MT nD τ sig Unit (Elt F) ℕ (UU nD τ) ℕ)}

/-- A buffer at some contents may be used. -/
theorem CanUse.any {sp : Space} {S : Shape} {e : EltTy} {M : Memref sig .tc sp S e} : CanUse (F := F) c (anyAt c M) M := by
  unfold CanUse anyAt
  iintro ⟨%f, H⟩
  iexists f
  isplitl [H]; · iexact H
  iintro %f' H; iexists f'; iexact H

/-- What the left part lets be used. -/
theorem CanUse.left {sp : Space} {S : Shape} {e : EltTy} {M : Memref sig .tc sp S e} (h : CanUse (F := F) c P M) : CanUse (F := F) c iprop(P ∗ R) M := by
  unfold CanUse at h ⊢
  iintro ⟨HP, HR⟩
  ihave H := h $$ HP
  icases H with ⟨%f, H, Hk⟩
  iexists f
  isplitl [H]; · iexact H
  iintro %f' H
  isplitr [HR]; · iapply Hk; iexact H
  iexact HR

/-- What the right part lets be used. -/
theorem CanUse.right {sp : Space} {S : Shape} {e : EltTy} {M : Memref sig .tc sp S e} (h : CanUse (F := F) c R M) : CanUse (F := F) c iprop(P ∗ R) M := by
  unfold CanUse at h ⊢
  iintro ⟨HP, HR⟩
  ihave H := h $$ HR
  icases H with ⟨%f, H, Hk⟩
  iexists f
  isplitl [H]; · iexact H
  iintro %f' H
  isplitl [HP]; · iexact HP
  iapply Hk; iexact H

/-- A program that keeps `R` keeps anything beside it. -/
theorem Safe.beside {p : Prog (TpuEff nD τ sig (Elt F) (Λ₀ F) .tc) α} (h : Safe (F := F) c bd R p) : Safe (F := F) c bd iprop(D ∗ R) p := by
  unfold Safe at *
  iintro ⟨HD, HR⟩
  iapply (wp_frame_l frame (wpE (defs₀ (F := F)) 𝒱₀ (c : Thread nD τ) bd) Set.univ)
  isplitl [HD]; · iexact HD
  iapply h; iexact HR

/-- A load of the whole of a buffer that holds `X`. -/
theorem load_step {S : Shape} {e : EltTy} {M : Memref sig .tc .vmem S e} {X : S.Idx → Elt F e} {off : Fin S.rank → ℕ} (h0 : off = fun _ => 0)
    {inb : ∀ a, off a + S.size a ≤ S.size a} {hl : M.view.LoadsAt (Rect.unit (s := S) off S.size inb).toLoadRect}
    {k : (S.Idx → Elt F e) → Prog (TpuEff nD τ sig (Elt F) (Λ₀ F) .tc) β}
    (hk : iprop(D ∗ holdsAt c M X ∗ P) ⊢ wp frame (wpE (defs₀ (F := F)) 𝒱₀ (c : Thread nD τ) bd) Set.univ (k X) Q) :
    iprop(D ∗ holdsAt c M X ∗ P) ⊢ wp frame (wpE (defs₀ (F := F)) 𝒱₀ (c : Thread nD τ) bd) Set.univ
      (Prog.lift (TpuEff.load M (Rect.unit (s := S) off S.size inb).toLoadRect hl) >>= k) Q := by
  iintro ⟨HD, HM, HP⟩
  unfold holdsAt
  icases HM with ⟨%f, %hf, H⟩
  unfold Prog.lift
  iapply (wp_load 𝒱₀ (c : Thread nD τ) bd Set.univ (m := M) (Finset.subset_univ _)) $$ H
  iintro H
  rw [View.readAt_eq_ld, View.ld_unit_zero h0, hf]
  iapply hk
  isplitl [HD]; · iexact HD
  isplitl [H]
  · unfold holdsAt; iexists f; isplitr; · ipureintro; exact hf
    iexact H
  iexact HP

/-- A load of a buffer whose contents are not known, its result not used. -/
theorem drop_step {S : Shape} {e : EltTy} {N : Memref sig .tc .vmem S e} {T : Shape} {e' : EltTy} {M' : Memref sig .tc .vmem T e'} {X : T.Idx → Elt F e'}
    {r : LoadRect S} {hl : N.view.LoadsAt r} {k : Prog (TpuEff nD τ sig (Elt F) (Λ₀ F) .tc) β}
    (hk : iprop(D ∗ holdsAt c M' X ∗ anyAt c N ∗ P) ⊢ wp frame (wpE (defs₀ (F := F)) 𝒱₀ (c : Thread nD τ) bd) Set.univ k Q) :
    iprop(D ∗ holdsAt c M' X ∗ anyAt c N ∗ P) ⊢ wp frame (wpE (defs₀ (F := F)) 𝒱₀ (c : Thread nD τ) bd) Set.univ
      (Prog.lift (TpuEff.load N r hl) >>= fun _ => k) Q := by
  iintro ⟨HD, HM, HN, HP⟩
  unfold anyAt
  icases HN with ⟨%f, H⟩
  unfold Prog.lift
  iapply (wp_load 𝒱₀ (c : Thread nD τ) bd Set.univ (m := N) (Finset.subset_univ _)) $$ H
  iintro H
  iapply hk
  isplitl [HD]; · iexact HD
  isplitl [HM]; · iexact HM
  isplitl [H]; · unfold anyAt; iexists f; iexact H
  iexact HP

/-- A store over the whole of a buffer leaves what was stored. -/
theorem store_step {S : Shape} {e : EltTy} {N : Memref sig .tc .vmem S e} {T : Shape} {e' : EltTy} {M' : Memref sig .tc .vmem T e'} {X : T.Idx → Elt F e'}
    {off : Fin S.rank → ℕ} (h0 : off = fun _ => 0)
    {inb : ∀ a, off a + S.size a ≤ S.size a} {w : S.Idx → Elt F e} {hx : (N.access (Rect.unit (s := S) off S.size inb)).Stores Finset.univ}
    {hm : (Finset.univ : Finset (Rect.unit (s := S) off S.size inb).shape.Idx) = Finset.univ ∨ ∀ a, (Rect.unit (s := S) off S.size inb).stride a = 1}
    {k : PUnit → Prog (TpuEff nD τ sig (Elt F) (Λ₀ F) .tc) β}
    (hk : iprop((D ∗ holdsAt c M' X ∗ holdsAt c N w) ∗ P) ⊢ wp frame (wpE (defs₀ (F := F)) 𝒱₀ (c : Thread nD τ) bd) Set.univ (k ⟨⟩) Q) :
    iprop(D ∗ holdsAt c M' X ∗ anyAt c N ∗ P) ⊢ wp frame (wpE (defs₀ (F := F)) 𝒱₀ (c : Thread nD τ) bd) Set.univ
      (Prog.lift (TpuEff.store N (Rect.unit (s := S) off S.size inb) w Finset.univ hx hm) >>= k) Q := by
  iintro ⟨HD, HM, HN, HP⟩
  unfold anyAt
  icases HN with ⟨%f, H⟩
  unfold Prog.lift
  iapply (wp_store 𝒱₀ (c : Thread nD τ) bd Set.univ (m := N) (r := Rect.unit (s := S) off S.size inb) (Mk := Finset.univ) (Finset.subset_univ _)) $$ H
  iintro H
  iapply hk
  isplitr [HP]
  · isplitl [HD]; · iexact HD
    isplitl [HM]; · iexact HM
    unfold holdsAt
    iexists _
    isplitr
    rotate_left
    · iexact H
    · ipureintro
      subst h0
      exact View.read_writes_whole N.view f w
  iexact HP

end Cert.Proof.Attn

end
-- ==== Proof.Attn.While.lean ====
/-
  The walk's while body keeps its resources, and the call of its label ends: a step counter bounded by 256 goes up by
  one at each call.
-/
module

public import proofs.«01_k».proof.Proof.Attn.Safe

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The walk's step, every loop and conditional of it, keeps what lets the scores be read. -/
theorem safe_step (i : grid0.Coords) (arg17 : Memref sig .tc .vmem S2048x256 .f32) (harg17 : arg17.IsWhole) (h17 : CanRead (F := F) c R arg17)
    (arg24 : FVec F S1x256 .f32) (arg25 : IVec S1x256 32) (arg26 : IVec S1x256 32) (arg27 : BitVec 32) (v16 : BitVec 32) :
    Safe (F := F) c bd R (k0_part321 i arg17 harg17 arg24 arg25 arg26 arg27 v16) := by
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

/-- The condition's second half: the loop goes on only below 256 steps. -/
theorem lt_of_cond (a b : BitVec 32) (v : BitVec 1) (h : Scalar.andi v (Scalar.cmpi .slt a b) = 1#1) : a.toInt < b.toInt := by
  by_contra hn
  have hs : Scalar.cmpi .slt a b = 0#1 := by
    show BitVec.ofBool (decide (a.toInt < b.toInt)) = 0#1
    rw [decide_eq_false hn]; rfl
  rw [hs] at h
  have h0 : Scalar.andi v 0#1 = 0#1 := by unfold Scalar.andi; exact BitVec.and_zero
  rw [h0] at h
  exact absurd h (by decide)

/-- One step up, below 256. -/
theorem toInt_succ (a : BitVec 32) (h : a.toInt < 256) : (Scalar.addi a 1#32).toInt = a.toInt + 1 := by
  have h1 := BitVec.le_toInt a
  show (a + 1#32).toInt = _
  rw [BitVec.toInt_add, show (1#32 : BitVec 32).toInt = 1 from by decide, Int.bmod_eq_of_le] <;> omega

/-- The while's label at a counter with at most `n` steps to go, entered at bound `n`: it returns. -/
theorem safe_while (i : grid0.Coords) (arg17 : Memref sig .tc .vmem S2048x256 .f32) (harg17 : arg17.IsWhole) (h17 : CanRead (F := F) c R arg17) (n : ℕ) :
    ∀ (arg24 : FVec F S1x256 .f32) (arg25 : IVec S1x256 32) (arg26 : IVec S1x256 32) (arg27 : BitVec 32), 256 - arg27.toInt ≤ n →
      Safe (F := F) c (some n) R (cc0_while1 i arg17 harg17 arg24 arg25 arg26 arg27) := by
  induction n with
  | zero =>
    intro arg24 arg25 arg26 arg27 hn
    unfold cc0_while1
    refine Safe.ite (fun hc => ?_) (fun _ => Safe.pure _)
    have := lt_of_cond _ _ _ hc
    rw [show (256#32 : BitVec 32).toInt = 256 from by decide] at this
    omega
  | succ n ih =>
    intro arg24 arg25 arg26 arg27 hn
    unfold cc0_while1
    refine Safe.ite (fun hc => ?_) (fun _ => Safe.pure _)
    have h256 := lt_of_cond _ _ _ hc
    rw [show (256#32 : BitVec 32).toInt = 256 from by decide] at h256
    refine Safe.bind (safe_step i arg17 harg17 h17 _ _ _ _ _) (fun v => ?_)
    refine Safe.call n (fun u hu => by cases hu; exact Nat.lt_succ_self n) ?_
    exact ih _ _ _ _ (by have := toInt_succ arg27 h256; omega)

end Cert.Proof.Attn

end
-- ==== Proof.Attn.Part310.lean ====
/-
  The indexer's scores, each chunk of keys, and their bit planes. Whatever is read, the resources are kept.
-/
module

public import proofs.«01_k».proof.Proof.Attn.While

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The indexer's scores, each chunk of keys, and their bit planes. -/
theorem safe_part310 (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (arg1 : BitVec 32) (v16 : BitVec 32) (v19 : IVec S256x256 32) (v23 : FVec F S8x256 .f32)
    (h2 : CanRead (F := F) c R arg2) (h3 : CanRead (F := F) c R arg3) (h4 : CanRead (F := F) c R arg4) (h5 : CanRead (F := F) c R arg5) (h6 : CanRead (F := F) c R arg6) (h7 : CanRead (F := F) c R arg7) (h12 : CanUse (F := F) c R arg12) (h17 : CanUse (F := F) c R arg17) (h18 : CanUse (F := F) c R arg18) (h19 : CanUse (F := F) c R arg19) (h20 : CanUse (F := F) c R arg20) (h21 : CanUse (F := F) c R arg21) (h22 : CanUse (F := F) c R arg22) (h23 : CanUse (F := F) c R arg23) :
    Safe (F := F) c bd R (k0_part310 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v16 v19 v23) := by
  have r12 := h12.read
  have r17 := h17.read
  have r18 := h18.read
  have r19 := h19.read
  have r20 := h20.read
  have r21 := h21.read
  have r22 := h22.read
  have r23 := h23.read
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

end Cert.Proof.Attn

end
-- ==== Proof.Attn.Part311.lean ====
/-
  The radix select over the bit planes and the counts of its result. Whatever is read, the resources are kept.
-/
module

public import proofs.«01_k».proof.Proof.Attn.While

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The radix select over the bit planes and the counts of its result. -/
theorem safe_part311 (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (v16 : BitVec 32) (v41 : IVec S8x256 32) (v44 : IVec S8x256 32) (v47 : IVec S8x256 32) (v50 : IVec S8x256 32) (v53 : IVec S8x256 32) (v56 : IVec S8x256 32) (v57 : BitVec 1)
    (h2 : CanRead (F := F) c R arg2) (h3 : CanRead (F := F) c R arg3) (h4 : CanRead (F := F) c R arg4) (h5 : CanRead (F := F) c R arg5) (h6 : CanRead (F := F) c R arg6) (h7 : CanRead (F := F) c R arg7) (h12 : CanUse (F := F) c R arg12) (h17 : CanUse (F := F) c R arg17) (h18 : CanUse (F := F) c R arg18) (h19 : CanUse (F := F) c R arg19) (h20 : CanUse (F := F) c R arg20) (h21 : CanUse (F := F) c R arg21) (h22 : CanUse (F := F) c R arg22) (h23 : CanUse (F := F) c R arg23) :
    Safe (F := F) c bd R (k0_part311 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v16 v41 v44 v47 v50 v53 v56 v57) := by
  have r12 := h12.read
  have r17 := h17.read
  have r18 := h18.read
  have r19 := h19.read
  have r20 := h20.read
  have r21 := h21.read
  have r22 := h22.read
  have r23 := h23.read
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

end Cert.Proof.Attn

end
-- ==== Proof.Attn.Part312.lean ====
/-
  The walk to the threshold, the ties, the limits. Whatever is read, the resources are kept.
-/
module

public import proofs.«01_k».proof.Proof.Attn.While

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The walk to the threshold, the ties, the limits. -/
theorem safe_part312 (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (v16 : BitVec 32) (v78 : FVec F S1x256 .f32) (v92 : IVec S8x256 32)
    (h2 : CanRead (F := F) c R arg2) (h3 : CanRead (F := F) c R arg3) (h4 : CanRead (F := F) c R arg4) (h5 : CanRead (F := F) c R arg5) (h6 : CanRead (F := F) c R arg6) (h7 : CanRead (F := F) c R arg7) (h12 : CanUse (F := F) c R arg12) (h17 : CanUse (F := F) c R arg17) (h18 : CanUse (F := F) c R arg18) (h19 : CanUse (F := F) c R arg19) (h20 : CanUse (F := F) c R arg20) (h21 : CanUse (F := F) c R arg21) (h22 : CanUse (F := F) c R arg22) (h23 : CanUse (F := F) c R arg23) :
    Safe (F := F) c none R (k0_part312 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v16 v78 v92) := by
  have r12 := h12.read
  have r17 := h17.read
  have r18 := h18.read
  have r19 := h19.read
  have r20 := h20.read
  have r21 := h21.read
  have r22 := h22.read
  have r23 := h23.read
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _
    | refine Safe.call (ℓ := (1 : (Λ₀ F).Label)) 256 (fun u hu => by cases hu) ?_
    | exact safe_while _ _ _ r17 256 _ _ _ _ (by decide)

end Cert.Proof.Attn

end
-- ==== Proof.Attn.Part313.lean ====
/-
  The logits of the selected keys, both loops. Whatever is read, the resources are kept.
-/
module

public import proofs.«01_k».proof.Proof.Attn.While

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The logits of the selected keys, both loops. -/
theorem safe_part313 (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (v16 : BitVec 32) (v17 : IVec S256x256 32) (v107 : FVec F S1x256 .f32) (v122 : Vec F S1x256 .i32) (v123 : FVec F S8x256 .f32) (v124 : FVec F S8x256 .f32) (v125 : FVec F S8x256 .f32) (v126 : FVec F S8x256 .f32) (v127 : FVec F S8x256 .f32) (v128 : FVec F S8x256 .f32)
    (h2 : CanRead (F := F) c R arg2) (h3 : CanRead (F := F) c R arg3) (h4 : CanRead (F := F) c R arg4) (h5 : CanRead (F := F) c R arg5) (h6 : CanRead (F := F) c R arg6) (h7 : CanRead (F := F) c R arg7) (h12 : CanUse (F := F) c R arg12) (h17 : CanUse (F := F) c R arg17) (h18 : CanUse (F := F) c R arg18) (h19 : CanUse (F := F) c R arg19) (h20 : CanUse (F := F) c R arg20) (h21 : CanUse (F := F) c R arg21) (h22 : CanUse (F := F) c R arg22) (h23 : CanUse (F := F) c R arg23) :
    Safe (F := F) c bd R (k0_part313 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v16 v17 v107 v122 v123 v124 v125 v126 v127 v128) := by
  have r12 := h12.read
  have r17 := h17.read
  have r18 := h18.read
  have r19 := h19.read
  have r20 := h20.read
  have r21 := h21.read
  have r22 := h22.read
  have r23 := h23.read
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

end Cert.Proof.Attn

end
-- ==== Proof.Attn.Part314.lean ====
/-
  The weights and the values' products, the first half. Whatever is read, the resources are kept.
-/
module

public import proofs.«01_k».proof.Proof.Attn.While

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The weights and the values' products, the first half. -/
theorem safe_part314 (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (v16 : BitVec 32) (v145 : FVec F S1x256 .f32) (v147 : FVec F S1x256 .f32) (v149 : FVec F S1x256 .f32) (v151 : FVec F S1x256 .f32) (v153 : FVec F S1x256 .f32) (v155 : FVec F S1x256 .f32) (v157 : FVec F S1x256 .f32) (v159 : FVec F S1x256 .f32) (v164 : FVec F S8x256 .f32) (cst_102 : F .f32)
    (h2 : CanRead (F := F) c R arg2) (h3 : CanRead (F := F) c R arg3) (h4 : CanRead (F := F) c R arg4) (h5 : CanRead (F := F) c R arg5) (h6 : CanRead (F := F) c R arg6) (h7 : CanRead (F := F) c R arg7) (h12 : CanUse (F := F) c R arg12) (h17 : CanUse (F := F) c R arg17) (h18 : CanUse (F := F) c R arg18) (h19 : CanUse (F := F) c R arg19) (h20 : CanUse (F := F) c R arg20) (h21 : CanUse (F := F) c R arg21) (h22 : CanUse (F := F) c R arg22) (h23 : CanUse (F := F) c R arg23) :
    Safe (F := F) c bd R (k0_part314 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v16 v145 v147 v149 v151 v153 v155 v157 v159 v164 cst_102) := by
  have r12 := h12.read
  have r17 := h17.read
  have r18 := h18.read
  have r19 := h19.read
  have r20 := h20.read
  have r21 := h21.read
  have r22 := h22.read
  have r23 := h23.read
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

end Cert.Proof.Attn

end
-- ==== Proof.Attn.Part315.lean ====
/-
  The values' products, the second half. Whatever is read, the resources are kept.
-/
module

public import proofs.«01_k».proof.Proof.Attn.While

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The values' products, the second half. -/
theorem safe_part315 (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (v184_2 : FVec F S8x256 .f32) (v184_3 : FVec F S8x256 .f32) (v184_4 : FVec F S8x256 .f32) (v184_5 : FVec F S8x256 .f32) (v197 : FVec F S64x256 .f32)
    (h2 : CanRead (F := F) c R arg2) (h3 : CanRead (F := F) c R arg3) (h4 : CanRead (F := F) c R arg4) (h5 : CanRead (F := F) c R arg5) (h6 : CanRead (F := F) c R arg6) (h7 : CanRead (F := F) c R arg7) (h12 : CanUse (F := F) c R arg12) (h17 : CanUse (F := F) c R arg17) (h18 : CanUse (F := F) c R arg18) (h19 : CanUse (F := F) c R arg19) (h20 : CanUse (F := F) c R arg20) (h21 : CanUse (F := F) c R arg21) (h22 : CanUse (F := F) c R arg22) (h23 : CanUse (F := F) c R arg23) :
    Safe (F := F) c bd R (k0_part315 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v184_2 v184_3 v184_4 v184_5 v197) := by
  have r12 := h12.read
  have r17 := h17.read
  have r18 := h18.read
  have r19 := h19.read
  have r20 := h20.read
  have r21 := h21.read
  have r22 := h22.read
  have r23 := h23.read
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

end Cert.Proof.Attn

end
-- ==== Proof.Attn.Body.lean ====
/-
  The kernel's body at a grid point: it casts its four weight blocks, and keeps every other buffer at some contents.
-/
module

public import proofs.«01_k».proof.Proof.Attn.Steps
public import proofs.«01_k».proof.Proof.Attn.Part310
public import proofs.«01_k».proof.Proof.Attn.Part311
public import proofs.«01_k».proof.Proof.Attn.Part312
public import proofs.«01_k».proof.Proof.Attn.Part313
public import proofs.«01_k».proof.Proof.Attn.Part314
public import proofs.«01_k».proof.Proof.Attn.Part315

@[expose] public section

set_option maxRecDepth 65536
set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]
variable {c : Dev nD} {bd : Option ℕ} {R : sProp (MT nD τ sig Unit (Elt F) ℕ (UU nD τ) ℕ)}

/-- The cast of a block to bf16, element by element. -/
def cast16 {S : Shape} (X : FVec F S .f32) : FVec F S .bf16 := truncf .bf16 X bitsLt_bf16_f32

/-- The buffers whose contents are not followed: the attention's inputs, its output and its scratch. -/
def others (c : Dev nD) (arg2 : Memref sig .tc .vmem S1x512x256 .bf16) (arg3 : Memref sig .tc .vmem S1x8x256 .f32) (arg4 : Memref sig .tc .vmem S1x512x256 .bf16) (arg5 : Memref sig .tc .vmem S1x2048x64 .bf16) (arg6 : Memref sig .tc .vmem S1x8x2048x64 .bf16) (arg7 : Memref sig .tc .vmem S1x512x2048 .bf16) (arg12 : Memref sig .tc .vmem S1x256x512 .bf16) (arg17 : Memref sig .tc .vmem S2048x256 .f32) (arg18 : Memref sig .tc .vmem S8x32x8x256 .i32) (arg19 : Memref sig .tc .vmem S2x256x256 .f32) (arg20 : Memref sig .tc .vmem S8x2048x256 .f32) (arg21 : Memref sig .tc .vmem S512x256 .f32) (arg22 : Memref sig .tc .vmem S8x256 .i32) (arg23 : Memref sig .tc .vmem S8x8x256 .i32) : sProp (MT nD τ sig Unit (Elt F) ℕ (UU nD τ) ℕ) :=
  iprop(anyAt c arg2 ∗ anyAt c arg3 ∗ anyAt c arg4 ∗ anyAt c arg5 ∗ anyAt c arg6 ∗ anyAt c arg7 ∗ anyAt c arg12 ∗ anyAt c arg17 ∗ anyAt c arg18 ∗ anyAt c arg19 ∗ anyAt c arg20 ∗ anyAt c arg21 ∗ anyAt c arg22 ∗ anyAt c arg23)

/-- The four weight blocks and their casts, once the body has written them. -/
def castDone (c : Dev nD) (arg8 : Memref sig .tc .vmem S16x1024 .f32) (arg13 : Memref sig .tc .vmem S16x1024 .bf16) (arg9 : Memref sig .tc .vmem S16x1024 .f32) (arg14 : Memref sig .tc .vmem S16x1024 .bf16) (arg10 : Memref sig .tc .vmem S16x5632 .f32) (arg15 : Memref sig .tc .vmem S16x5632 .bf16) (arg11 : Memref sig .tc .vmem S64x1024 .f32) (arg16 : Memref sig .tc .vmem S64x1024 .bf16) (X8 : FVec F S16x1024 .f32) (X9 : FVec F S16x1024 .f32) (X10 : FVec F S16x5632 .f32) (X11 : FVec F S64x1024 .f32) : sProp (MT nD τ sig Unit (Elt F) ℕ (UU nD τ) ℕ) :=
  iprop((((emp ∗ holdsAt c arg8 X8 ∗ holdsAt c arg13 (cast16 X8)) ∗ holdsAt c arg9 X9 ∗ holdsAt c arg14 (cast16 X9)) ∗ holdsAt c arg10 X10 ∗ holdsAt c arg15 (cast16 X10)) ∗ holdsAt c arg11 X11 ∗ holdsAt c arg16 (cast16 X11))

/-- The body's first part casts the four weight blocks, and keeps everything else. -/
theorem run_part309 (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (X8 : FVec F S16x1024 .f32) (X9 : FVec F S16x1024 .f32) (X10 : FVec F S16x5632 .f32) (X11 : FVec F S64x1024 .f32) :
    iprop(emp ∗ holdsAt c arg8 X8 ∗ anyAt c arg13 ∗ holdsAt c arg9 X9 ∗ anyAt c arg14 ∗ holdsAt c arg10 X10 ∗ anyAt c arg15 ∗ holdsAt c arg11 X11 ∗ anyAt c arg16 ∗ others (F := F) c arg2 arg3 arg4 arg5 arg6 arg7 arg12 arg17 arg18 arg19 arg20 arg21 arg22 arg23)
      ⊢ wp frame (wpE (defs₀ (F := F)) 𝒱₀ (c : Thread nD τ) bd) Set.univ (k0_part309 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => iprop(castDone (F := F) c arg8 arg13 arg9 arg14 arg10 arg15 arg11 arg16 X8 X9 X10 X11 ∗ others (F := F) c arg2 arg3 arg4 arg5 arg6 arg7 arg12 arg17 arg18 arg19 arg20 arg21 arg22 arg23)) := by
  have u2 : CanUse (F := F) c (others (F := F) c arg2 arg3 arg4 arg5 arg6 arg7 arg12 arg17 arg18 arg19 arg20 arg21 arg22 arg23) arg2 := CanUse.left .any
  have u3 : CanUse (F := F) c (others (F := F) c arg2 arg3 arg4 arg5 arg6 arg7 arg12 arg17 arg18 arg19 arg20 arg21 arg22 arg23) arg3 := CanUse.right (CanUse.left .any)
  have u4 : CanUse (F := F) c (others (F := F) c arg2 arg3 arg4 arg5 arg6 arg7 arg12 arg17 arg18 arg19 arg20 arg21 arg22 arg23) arg4 := CanUse.right (CanUse.right (CanUse.left .any))
  have u5 : CanUse (F := F) c (others (F := F) c arg2 arg3 arg4 arg5 arg6 arg7 arg12 arg17 arg18 arg19 arg20 arg21 arg22 arg23) arg5 := CanUse.right (CanUse.right (CanUse.right (CanUse.left .any)))
  have u6 : CanUse (F := F) c (others (F := F) c arg2 arg3 arg4 arg5 arg6 arg7 arg12 arg17 arg18 arg19 arg20 arg21 arg22 arg23) arg6 := CanUse.right (CanUse.right (CanUse.right (CanUse.right (CanUse.left .any))))
  have u7 : CanUse (F := F) c (others (F := F) c arg2 arg3 arg4 arg5 arg6 arg7 arg12 arg17 arg18 arg19 arg20 arg21 arg22 arg23) arg7 := CanUse.right (CanUse.right (CanUse.right (CanUse.right (CanUse.right (CanUse.left .any)))))
  have u12 : CanUse (F := F) c (others (F := F) c arg2 arg3 arg4 arg5 arg6 arg7 arg12 arg17 arg18 arg19 arg20 arg21 arg22 arg23) arg12 := CanUse.right (CanUse.right (CanUse.right (CanUse.right (CanUse.right (CanUse.right (CanUse.left .any))))))
  have u17 : CanUse (F := F) c (others (F := F) c arg2 arg3 arg4 arg5 arg6 arg7 arg12 arg17 arg18 arg19 arg20 arg21 arg22 arg23) arg17 := CanUse.right (CanUse.right (CanUse.right (CanUse.right (CanUse.right (CanUse.right (CanUse.right (CanUse.left .any)))))))
  have u18 : CanUse (F := F) c (others (F := F) c arg2 arg3 arg4 arg5 arg6 arg7 arg12 arg17 arg18 arg19 arg20 arg21 arg22 arg23) arg18 := CanUse.right (CanUse.right (CanUse.right (CanUse.right (CanUse.right (CanUse.right (CanUse.right (CanUse.right (CanUse.left .any))))))))
  have u19 : CanUse (F := F) c (others (F := F) c arg2 arg3 arg4 arg5 arg6 arg7 arg12 arg17 arg18 arg19 arg20 arg21 arg22 arg23) arg19 := CanUse.right (CanUse.right (CanUse.right (CanUse.right (CanUse.right (CanUse.right (CanUse.right (CanUse.right (CanUse.right (CanUse.left .any)))))))))
  have u20 : CanUse (F := F) c (others (F := F) c arg2 arg3 arg4 arg5 arg6 arg7 arg12 arg17 arg18 arg19 arg20 arg21 arg22 arg23) arg20 := CanUse.right (CanUse.right (CanUse.right (CanUse.right (CanUse.right (CanUse.right (CanUse.right (CanUse.right (CanUse.right (CanUse.right (CanUse.left .any))))))))))
  have u21 : CanUse (F := F) c (others (F := F) c arg2 arg3 arg4 arg5 arg6 arg7 arg12 arg17 arg18 arg19 arg20 arg21 arg22 arg23) arg21 := CanUse.right (CanUse.right (CanUse.right (CanUse.right (CanUse.right (CanUse.right (CanUse.right (CanUse.right (CanUse.right (CanUse.right (CanUse.right (CanUse.left .any)))))))))))
  have u22 : CanUse (F := F) c (others (F := F) c arg2 arg3 arg4 arg5 arg6 arg7 arg12 arg17 arg18 arg19 arg20 arg21 arg22 arg23) arg22 := CanUse.right (CanUse.right (CanUse.right (CanUse.right (CanUse.right (CanUse.right (CanUse.right (CanUse.right (CanUse.right (CanUse.right (CanUse.right (CanUse.right (CanUse.left .any))))))))))))
  have u23 : CanUse (F := F) c (others (F := F) c arg2 arg3 arg4 arg5 arg6 arg7 arg12 arg17 arg18 arg19 arg20 arg21 arg22 arg23) arg23 := CanUse.right (CanUse.right (CanUse.right (CanUse.right (CanUse.right (CanUse.right (CanUse.right (CanUse.right (CanUse.right (CanUse.right (CanUse.right (CanUse.right (CanUse.right (CanUse.any)))))))))))))
  have w3 : CanRead (F := F) c iprop(castDone (F := F) c arg8 arg13 arg9 arg14 arg10 arg15 arg11 arg16 X8 X9 X10 X11 ∗ others (F := F) c arg2 arg3 arg4 arg5 arg6 arg7 arg12 arg17 arg18 arg19 arg20 arg21 arg22 arg23) arg3 := (CanUse.right u3).read
  have w18 : CanUse (F := F) c iprop(castDone (F := F) c arg8 arg13 arg9 arg14 arg10 arg15 arg11 arg16 X8 X9 X10 X11 ∗ others (F := F) c arg2 arg3 arg4 arg5 arg6 arg7 arg12 arg17 arg18 arg19 arg20 arg21 arg22 arg23) arg18 := CanUse.right u18
  have w18r := w18.read
  have z2 : (![0, 0] : Fin 2 → ℕ) = fun _ => 0 := by funext a; fin_cases a <;> rfl
  unfold k0_part309
  refine load_step z2 ?_
  rw [shapeCast_self]
  refine drop_step ?_
  refine store_step z2 ?_
  refine load_step z2 ?_
  rw [shapeCast_self]
  refine drop_step ?_
  refine store_step z2 ?_
  refine load_step z2 ?_
  rw [shapeCast_self]
  refine drop_step ?_
  refine store_step z2 ?_
  refine load_step z2 ?_
  rw [shapeCast_self]
  refine drop_step ?_
  refine store_step z2 ?_
  show Safe (F := F) c bd iprop(castDone (F := F) c arg8 arg13 arg9 arg14 arg10 arg15 arg11 arg16 X8 X9 X10 X11 ∗ others (F := F) c arg2 arg3 arg4 arg5 arg6 arg7 arg12 arg17 arg18 arg19 arg20 arg21 arg22 arg23) _
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

/-- The whole body: the four casts exact, everything else kept at some contents. -/
theorem run_body (i : grid0.Coords) (arg2 : Memref sig .tc .vmem S1x512x256 .bf16) (harg2 : arg2.IsWhole) (arg3 : Memref sig .tc .vmem S1x8x256 .f32) (harg3 : arg3.IsWhole) (arg4 : Memref sig .tc .vmem S1x512x256 .bf16) (harg4 : arg4.IsWhole) (arg5 : Memref sig .tc .vmem S1x2048x64 .bf16) (harg5 : arg5.IsWhole) (arg6 : Memref sig .tc .vmem S1x8x2048x64 .bf16) (harg6 : arg6.IsWhole) (arg7 : Memref sig .tc .vmem S1x512x2048 .bf16) (harg7 : arg7.IsWhole) (arg8 : Memref sig .tc .vmem S16x1024 .f32) (harg8 : arg8.IsWhole) (arg9 : Memref sig .tc .vmem S16x1024 .f32) (harg9 : arg9.IsWhole) (arg10 : Memref sig .tc .vmem S16x5632 .f32) (harg10 : arg10.IsWhole) (arg11 : Memref sig .tc .vmem S64x1024 .f32) (harg11 : arg11.IsWhole) (arg12 : Memref sig .tc .vmem S1x256x512 .bf16) (harg12 : arg12.IsWhole) (arg13 : Memref sig .tc .vmem S16x1024 .bf16) (harg13 : arg13.IsWhole) (arg14 : Memref sig .tc .vmem S16x1024 .bf16) (harg14 : arg14.IsWhole) (arg15 : Memref sig .tc .vmem S16x5632 .bf16) (harg15 : arg15.IsWhole) (arg16 : Memref sig .tc .vmem S64x1024 .bf16) (harg16 : arg16.IsWhole) (arg17 : Memref sig .tc .vmem S2048x256 .f32) (harg17 : arg17.IsWhole) (arg18 : Memref sig .tc .vmem S8x32x8x256 .i32) (harg18 : arg18.IsWhole) (arg19 : Memref sig .tc .vmem S2x256x256 .f32) (harg19 : arg19.IsWhole) (arg20 : Memref sig .tc .vmem S8x2048x256 .f32) (harg20 : arg20.IsWhole) (arg21 : Memref sig .tc .vmem S512x256 .f32) (harg21 : arg21.IsWhole) (arg22 : Memref sig .tc .vmem S8x256 .i32) (harg22 : arg22.IsWhole) (arg23 : Memref sig .tc .vmem S8x8x256 .i32) (harg23 : arg23.IsWhole) (X8 : FVec F S16x1024 .f32) (X9 : FVec F S16x1024 .f32) (X10 : FVec F S16x5632 .f32) (X11 : FVec F S64x1024 .f32) :
    iprop(emp ∗ holdsAt c arg8 X8 ∗ anyAt c arg13 ∗ holdsAt c arg9 X9 ∗ anyAt c arg14 ∗ holdsAt c arg10 X10 ∗ anyAt c arg15 ∗ holdsAt c arg11 X11 ∗ anyAt c arg16 ∗ others (F := F) c arg2 arg3 arg4 arg5 arg6 arg7 arg12 arg17 arg18 arg19 arg20 arg21 arg22 arg23)
      ⊢ wp frame (wpE (defs₀ (F := F)) 𝒱₀ (c : Thread nD τ) none) Set.univ (cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23)
          (fun _ => iprop(castDone (F := F) c arg8 arg13 arg9 arg14 arg10 arg15 arg11 arg16 X8 X9 X10 X11 ∗ others (F := F) c arg2 arg3 arg4 arg5 arg6 arg7 arg12 arg17 arg18 arg19 arg20 arg21 arg22 arg23)) := by
  have u2 : CanUse (F := F) c (others (F := F) c arg2 arg3 arg4 arg5 arg6 arg7 arg12 arg17 arg18 arg19 arg20 arg21 arg22 arg23) arg2 := CanUse.left .any
  have u3 : CanUse (F := F) c (others (F := F) c arg2 arg3 arg4 arg5 arg6 arg7 arg12 arg17 arg18 arg19 arg20 arg21 arg22 arg23) arg3 := CanUse.right (CanUse.left .any)
  have u4 : CanUse (F := F) c (others (F := F) c arg2 arg3 arg4 arg5 arg6 arg7 arg12 arg17 arg18 arg19 arg20 arg21 arg22 arg23) arg4 := CanUse.right (CanUse.right (CanUse.left .any))
  have u5 : CanUse (F := F) c (others (F := F) c arg2 arg3 arg4 arg5 arg6 arg7 arg12 arg17 arg18 arg19 arg20 arg21 arg22 arg23) arg5 := CanUse.right (CanUse.right (CanUse.right (CanUse.left .any)))
  have u6 : CanUse (F := F) c (others (F := F) c arg2 arg3 arg4 arg5 arg6 arg7 arg12 arg17 arg18 arg19 arg20 arg21 arg22 arg23) arg6 := CanUse.right (CanUse.right (CanUse.right (CanUse.right (CanUse.left .any))))
  have u7 : CanUse (F := F) c (others (F := F) c arg2 arg3 arg4 arg5 arg6 arg7 arg12 arg17 arg18 arg19 arg20 arg21 arg22 arg23) arg7 := CanUse.right (CanUse.right (CanUse.right (CanUse.right (CanUse.right (CanUse.left .any)))))
  have u12 : CanUse (F := F) c (others (F := F) c arg2 arg3 arg4 arg5 arg6 arg7 arg12 arg17 arg18 arg19 arg20 arg21 arg22 arg23) arg12 := CanUse.right (CanUse.right (CanUse.right (CanUse.right (CanUse.right (CanUse.right (CanUse.left .any))))))
  have u17 : CanUse (F := F) c (others (F := F) c arg2 arg3 arg4 arg5 arg6 arg7 arg12 arg17 arg18 arg19 arg20 arg21 arg22 arg23) arg17 := CanUse.right (CanUse.right (CanUse.right (CanUse.right (CanUse.right (CanUse.right (CanUse.right (CanUse.left .any)))))))
  have u18 : CanUse (F := F) c (others (F := F) c arg2 arg3 arg4 arg5 arg6 arg7 arg12 arg17 arg18 arg19 arg20 arg21 arg22 arg23) arg18 := CanUse.right (CanUse.right (CanUse.right (CanUse.right (CanUse.right (CanUse.right (CanUse.right (CanUse.right (CanUse.left .any))))))))
  have u19 : CanUse (F := F) c (others (F := F) c arg2 arg3 arg4 arg5 arg6 arg7 arg12 arg17 arg18 arg19 arg20 arg21 arg22 arg23) arg19 := CanUse.right (CanUse.right (CanUse.right (CanUse.right (CanUse.right (CanUse.right (CanUse.right (CanUse.right (CanUse.right (CanUse.left .any)))))))))
  have u20 : CanUse (F := F) c (others (F := F) c arg2 arg3 arg4 arg5 arg6 arg7 arg12 arg17 arg18 arg19 arg20 arg21 arg22 arg23) arg20 := CanUse.right (CanUse.right (CanUse.right (CanUse.right (CanUse.right (CanUse.right (CanUse.right (CanUse.right (CanUse.right (CanUse.right (CanUse.left .any))))))))))
  have u21 : CanUse (F := F) c (others (F := F) c arg2 arg3 arg4 arg5 arg6 arg7 arg12 arg17 arg18 arg19 arg20 arg21 arg22 arg23) arg21 := CanUse.right (CanUse.right (CanUse.right (CanUse.right (CanUse.right (CanUse.right (CanUse.right (CanUse.right (CanUse.right (CanUse.right (CanUse.right (CanUse.left .any)))))))))))
  have u22 : CanUse (F := F) c (others (F := F) c arg2 arg3 arg4 arg5 arg6 arg7 arg12 arg17 arg18 arg19 arg20 arg21 arg22 arg23) arg22 := CanUse.right (CanUse.right (CanUse.right (CanUse.right (CanUse.right (CanUse.right (CanUse.right (CanUse.right (CanUse.right (CanUse.right (CanUse.right (CanUse.right (CanUse.left .any))))))))))))
  have u23 : CanUse (F := F) c (others (F := F) c arg2 arg3 arg4 arg5 arg6 arg7 arg12 arg17 arg18 arg19 arg20 arg21 arg22 arg23) arg23 := CanUse.right (CanUse.right (CanUse.right (CanUse.right (CanUse.right (CanUse.right (CanUse.right (CanUse.right (CanUse.right (CanUse.right (CanUse.right (CanUse.right (CanUse.right (CanUse.any)))))))))))))
  have hrest : ∀ (a1 : BitVec 32) (v16 : BitVec 32) (v17 : IVec S256x256 32) (v19 : IVec S256x256 32) (v23 : FVec F S8x256 .f32), True := fun _ _ _ _ _ => trivial
  unfold cc0_attn
  rw [wp_bind]
  refine (run_part309 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X8 X9 X10 X11).trans (wp_mono _ _ _ fun a => ?_)
  obtain ⟨a1, v16, v17, v19, v23⟩ := a
  refine Safe.beside (F := F) ?_
  refine Safe.bind (safe_part310 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ u2.read u3.read u4.read u5.read u6.read u7.read u12 u17 u18 u19 u20 u21 u22 u23) (fun a => ?_)
  refine Safe.bind (safe_part311 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ u2.read u3.read u4.read u5.read u6.read u7.read u12 u17 u18 u19 u20 u21 u22 u23) (fun a => ?_)
  refine Safe.bind (safe_part312 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ u2.read u3.read u4.read u5.read u6.read u7.read u12 u17 u18 u19 u20 u21 u22 u23) (fun a => ?_)
  refine Safe.bind (safe_part313 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ u2.read u3.read u4.read u5.read u6.read u7.read u12 u17 u18 u19 u20 u21 u22 u23) (fun a => ?_)
  refine Safe.bind (safe_part314 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ _ _ _ _ _ _ u2.read u3.read u4.read u5.read u6.read u7.read u12 u17 u18 u19 u20 u21 u22 u23) (fun a => ?_)
  refine Safe.bind (safe_part315 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 _ _ _ _ _ u2.read u3.read u4.read u5.read u6.read u7.read u12 u17 u18 u19 u20 u21 u22 u23) (fun a => ?_)
  have r12 := u12.read
  have r21 := u21.read
  repeat' first
    | with_reducible refine Safe.bind ?_ (fun _ => ?_)
    | with_reducible exact Safe.load (by assumption)
    | with_reducible exact Safe.store (by assumption)
    | with_reducible exact Safe.pure _
    | with_reducible refine Safe.for (fun _ _ => ?_)
    | with_reducible refine Safe.dite (fun _ => ?_) (fun _ => ?_)
    | with_reducible refine Safe.ite (fun _ => ?_) (fun _ => ?_)
    | refine Safe.bind ?_ (fun _ => ?_)
    | exact Safe.pure _

end Cert.Proof.Attn

end
-- ==== Proof.Attn.Run.lean ====
/-
  The run of the attention call: every execution terminates, the arguments are as they were, and each of the four cast
  results holds, block by block, the cast of its weight.
-/
module

public import proofs.«01_k».proof.Proof.Attn.Body
public import proofs.«01_k».proof.Proof.Gen.Kernel.Launch
public import proofs.«01_k».proof.Proof.Gen.Kernel.Points

@[expose] public section

set_option maxHeartbeats 0

noncomputable section

namespace Cert.Proof.Attn

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

/-- The buffers when the region is entered: the four weights reshaped, everything else as at launch. -/
abbrev V0 (m : (ℓ : Loc nD τ sig) → Buf (Elt F) ℓ) (c : Dev nD) (b : Ref sig .tc) : Buf (Elt F) ((c.tc : Thread nD τ).loc b) :=
  StableHlo.after (hostOps0 (F := F)) (fun b => m (c, b)) b

/-- The block of window `w`'s array at point `t`. -/
abbrev blkOf (m : (ℓ : Loc nD τ sig) → Buf (Elt F) ℓ) (c : Dev nD) (w : Fin 15) (t : Fin (cfg0 (F := F)).N) :=
  (((cfg0 (F := F)).win w).blk t).view.read (Elt F) (V0 m c (Pipeline.arrRef spec0 w))

/-- Which windows' contents are not followed: the attention's inputs and its output. -/
def fgt : Fin 15 → Bool := fun | 6 => false | 7 => false | 8 => false | 9 => false | 11 => false | 12 => false | 13 => false | 14 => false | _ => true

/-- What each followed window's staging buffer holds after the body: a weight block its block, a cast its cast. -/
def aft (m : (ℓ : Loc nD τ sig) → Buf (Elt F) ℓ) (c : Dev nD) :
    (w : Fin 15) → Fin (cfg0 (F := F)).N → ((cfg0 (F := F)).win w).block.Idx → Elt F ((cfg0 (F := F)).win w).elt
  | 6, t => (blkOf m c 6 t : FVec F S16x1024 .f32)
  | 7, t => (blkOf m c 7 t : FVec F S16x1024 .f32)
  | 8, t => (blkOf m c 8 t : FVec F S16x5632 .f32)
  | 9, t => (blkOf m c 9 t : FVec F S64x1024 .f32)
  | 11, t => cast16 (blkOf m c 6 t : FVec F S16x1024 .f32)
  | 12, t => cast16 (blkOf m c 7 t : FVec F S16x1024 .f32)
  | 13, t => cast16 (blkOf m c 8 t : FVec F S16x5632 .f32)
  | 14, t => cast16 (blkOf m c 9 t : FVec F S64x1024 .f32)
  | _, _ => fun _ => Classical.arbitrary _

/-- The proof's data. -/
def dats (m : (ℓ : Loc nD τ sig) → Buf (Elt F) ℓ) (p : Fin 1) (c : Dev nD) : Pipeline.Dat τ (Elt F) Unit ℕ (UU nD τ) ℕ (cfgs (F := F) p) c :=
  match p with
  | 0 => { A := fun w => V0 m c (Pipeline.arrRef spec0 w), after := aft m c, Φ := fun _ => Pipeline.ΦA spec0 c, q := fun _ => fullShare, owed := fun _ => 0 }
  | ⟨_ + 1, h⟩ => absurd h (Nat.not_lt.2 (Nat.le_add_left _ _))

/-- What is owned of a whole buffer at some contents, as its points-to. -/
theorem any_of_owns {c : Dev nD} {sp : Space} {S : Shape} {e : EltTy} {M : Memref sig .tc sp S e} (h : M.IsWhole) :
    iprop(∃ X, owns (c : Thread nD τ) M fullShare X) ⊢ (anyAt (F := F) c M) := by
  unfold anyAt owns
  rw [h.set_eq_univ]
  iintro ⟨%X, %f, -, H⟩
  iexists f; iexact H

/-- A whole buffer at some contents, owned. -/
theorem owns_of_any {c : Dev nD} {sp : Space} {S : Shape} {e : EltTy} {M : Memref sig .tc sp S e} (h : M.IsWhole) :
    (anyAt (F := F) c M) ⊢ iprop(∃ X, owns (c : Thread nD τ) M fullShare X) := by
  unfold anyAt owns
  rw [h.set_eq_univ]
  iintro ⟨%f, H⟩
  iexists _, f
  isplitr; · ipureintro; rfl
  iexact H

/-- A whole buffer owned at `X`. -/
theorem holds_eq_owns {c : Dev nD} {sp : Space} {S : Shape} {e : EltTy} {M : Memref sig .tc sp S e} (h : M.IsWhole) (X : S.Idx → Elt F e) :
    (owns (c : Thread nD τ) M fullShare X) = holdsAt (F := F) c M X := by
  unfold holdsAt owns
  rw [h.set_eq_univ]

/-- The weights' buffers hold their blocks when the body runs, fetched at this point or kept from an earlier one. -/
theorem before6 (m : (ℓ : Loc nD τ sig) → Buf (Elt F) ℓ) (c : Dev nD) (t : Fin (cfg0 (F := F)).N) (d) : (dats m 0 c).before (6 : Fin 15) t d = blkOf m c 6 t :=
  Pipeline.Dat.before_in_eq_fetched (dats m 0 c) 6 rfl (fun _ => rfl) (fun _ _ _ => rfl) (fun _ => rfl) t d
theorem before7 (m : (ℓ : Loc nD τ sig) → Buf (Elt F) ℓ) (c : Dev nD) (t : Fin (cfg0 (F := F)).N) (d) : (dats m 0 c).before (7 : Fin 15) t d = blkOf m c 7 t :=
  Pipeline.Dat.before_in_eq_fetched (dats m 0 c) 7 rfl (fun _ => rfl) (fun _ _ _ => rfl) (fun _ => rfl) t d
theorem before8 (m : (ℓ : Loc nD τ sig) → Buf (Elt F) ℓ) (c : Dev nD) (t : Fin (cfg0 (F := F)).N) (d) : (dats m 0 c).before (8 : Fin 15) t d = blkOf m c 8 t :=
  Pipeline.Dat.before_in_eq_fetched (dats m 0 c) 8 rfl (fun _ => rfl) (fun _ _ _ => rfl) (fun _ => rfl) t d
theorem before9 (m : (ℓ : Loc nD τ sig) → Buf (Elt F) ℓ) (c : Dev nD) (t : Fin (cfg0 (F := F)).N) (d) : (dats m 0 c).before (9 : Fin 15) t d = blkOf m c 9 t :=
  Pipeline.Dat.before_in_eq_fetched (dats m 0 c) 9 rfl (fun _ => rfl) (fun _ _ _ => rfl) (fun _ => rfl) t d

/-- Owned at some contents of a family, at some contents. -/
theorem any_of_before {c : Dev nD} {sp : Space} {S : Shape} {e : EltTy} {M : Memref sig .tc sp S e} (h : M.IsWhole) {ι : Type} (g : ι → S.Idx → Elt F e) :
    iprop(∃ d, owns (c : Thread nD τ) M fullShare (g d)) ⊢ (anyAt (F := F) c M) := by
  refine BIBase.Entails.trans ?_ (any_of_owns h)
  iintro ⟨%d, H⟩
  iexists _; iexact H

/-- Owned at contents that are `X` whatever the family's index. -/
theorem holds_of_before {c : Dev nD} {sp : Space} {S : Shape} {e : EltTy} {M : Memref sig .tc sp S e} (h : M.IsWhole) {ι : Type} (g : ι → S.Idx → Elt F e)
    (X : S.Idx → Elt F e) (hg : ∀ d, g d = X) :
    iprop(∃ d, owns (c : Thread nD τ) M fullShare (g d)) ⊢ (holdsAt (F := F) c M X) := by
  iintro ⟨%d, H⟩
  iapply (Entails.of_eq ((congrArg _ (hg d)).trans (holds_eq_owns h X)))
  iexact H

/-- A scratch buffer at some contents. -/
theorem scratch_eq (c : Dev nD) (b : Ref sig .tc) :
    iprop(∃ f : Buf (Elt F) ((c : Thread nD τ).loc b), ((c : Thread nD τ).loc b) ↦{fullShare} f) = anyAt (F := F) c (Memref.whole b) := rfl

/-- The body at a grid point takes the pipeline's buffers to what the proof's data say. -/
theorem body0 (m : (ℓ : Loc nD τ sig) → Buf (Elt F) ℓ) (c : Dev nD) :
    Pipeline.BodyObligationLoose (dats m 0 c) (defs₀ (F := F)) 𝒱₀ () Set.univ fgt := by
  intro t
  rw [bigSep_W0, bigSep_W0]
  simp only [fgt]
  change iprop(Pipeline.ΦA spec0 c ∗ _) ⊢ wp _ _ _ (bodyAt0 t) (fun _ => iprop(Pipeline.ΦA spec0 c ∗ _))
  unfold Pipeline.ΦA
  rw [scopedRest0_eq]
  have hw : ∀ (w : Fin 15) (s : Fin (spec0 w).nbuf), ((spec0 w).stage s).IsWhole := stage_whole0
  iintro ⟨⟨⟨S0, S1, S2, S3, S4, S5, S6⟩, HP⟩, HO, H0, H1, H2, H3, H4, H5, H6, H7, H8, H9, H10, H11, H12, H13, H14⟩
  ihave H0 := (any_of_owns (hw 0 _)) $$ H0
  ihave H1 := (any_of_owns (hw 1 _)) $$ H1
  ihave H2 := (any_of_owns (hw 2 _)) $$ H2
  ihave H3 := (any_of_owns (hw 3 _)) $$ H3
  ihave H4 := (any_of_owns (hw 4 _)) $$ H4
  ihave H5 := (any_of_owns (hw 5 _)) $$ H5
  ihave H10 := (any_of_owns (hw 10 _)) $$ H10
  ihave H6 := (holds_of_before (c := c) (M := stage0_6 ((cfgs (F := F) 0).slots t 6)) (hw 6 _) _ _ (before6 m c t)) $$ H6
  ihave H7 := (holds_of_before (c := c) (M := stage0_7 ((cfgs (F := F) 0).slots t 7)) (hw 7 _) _ _ (before7 m c t)) $$ H7
  ihave H8 := (holds_of_before (c := c) (M := stage0_8 ((cfgs (F := F) 0).slots t 8)) (hw 8 _) _ _ (before8 m c t)) $$ H8
  ihave H9 := (holds_of_before (c := c) (M := stage0_9 ((cfgs (F := F) 0).slots t 9)) (hw 9 _) _ _ (before9 m c t)) $$ H9
  ihave H11 := (any_of_before (hw 11 _) _) $$ H11
  ihave H12 := (any_of_before (hw 12 _) _) $$ H12
  ihave H13 := (any_of_before (hw 13 _) _) $$ H13
  ihave H14 := (any_of_before (hw 14 _) _) $$ H14
  iapply (wp_wand_r frame (wpE (defs₀ (F := F)) 𝒱₀ (c : Thread nD τ) none) Set.univ)
  isplitl [S0 S1 S2 S3 S4 S5 S6 H0 H1 H2 H3 H4 H5 H6 H7 H8 H9 H10 H11 H12 H13 H14]
  · unfold bodyAt0
    iapply (run_body (c := c) (X8 := blkOf m c 6 t) (X9 := blkOf m c 7 t) (X10 := blkOf m c 8 t) (X11 := blkOf m c 9 t))
    isplitr
    · iempintro
    isplitl [H6]; · iexact H6
    isplitl [H11]; · iexact H11
    isplitl [H7]; · iexact H7
    isplitl [H12]; · iexact H12
    isplitl [H8]; · iexact H8
    isplitl [H13]; · iexact H13
    isplitl [H9]; · iexact H9
    isplitl [H14]; · iexact H14
    unfold others
    isplitl [H0]; · iexact H0
    isplitl [H1]; · iexact H1
    isplitl [H2]; · iexact H2
    isplitl [H3]; · iexact H3
    isplitl [H4]; · iexact H4
    isplitl [H5]; · iexact H5
    isplitl [H10]; · iexact H10
    isplitl [S0]; · iapply (Entails.of_eq (scratch_eq c cc0_scratch0)); iexact S0
    isplitl [S1]; · iapply (Entails.of_eq (scratch_eq c cc0_scratch1)); iexact S1
    isplitl [S2]; · iapply (Entails.of_eq (scratch_eq c cc0_scratch2)); iexact S2
    isplitl [S3]; · iapply (Entails.of_eq (scratch_eq c cc0_scratch3)); iexact S3
    isplitl [S4]; · iapply (Entails.of_eq (scratch_eq c cc0_scratch4)); iexact S4
    isplitl [S5]; · iapply (Entails.of_eq (scratch_eq c cc0_scratch5)); iexact S5
    iapply (Entails.of_eq (scratch_eq c cc0_scratch6)); iexact S6
  iintro %_
  unfold castDone others
  iintro ⟨⟨⟨⟨⟨-, H6, H11⟩, H7, H12⟩, H8, H13⟩, H9, H14⟩, H0, H1, H2, H3, H4, H5, H10, S0, S1, S2, S3, S4, S5, S6⟩
  ihave H0 := (owns_of_any (c := c) (M := win0_0.stage ((cfg0 (F := F)).slots t 0)) (hw 0 _)) $$ H0
  ihave H1 := (owns_of_any (c := c) (M := win0_1.stage ((cfg0 (F := F)).slots t 1)) (hw 1 _)) $$ H1
  ihave H2 := (owns_of_any (c := c) (M := win0_2.stage ((cfg0 (F := F)).slots t 2)) (hw 2 _)) $$ H2
  ihave H3 := (owns_of_any (c := c) (M := win0_3.stage ((cfg0 (F := F)).slots t 3)) (hw 3 _)) $$ H3
  ihave H4 := (owns_of_any (c := c) (M := win0_4.stage ((cfg0 (F := F)).slots t 4)) (hw 4 _)) $$ H4
  ihave H5 := (owns_of_any (c := c) (M := win0_5.stage ((cfg0 (F := F)).slots t 5)) (hw 5 _)) $$ H5
  ihave H10 := (owns_of_any (c := c) (M := win0_10.stage ((cfg0 (F := F)).slots t 10)) (hw 10 _)) $$ H10
  isplitl [S0 S1 S2 S3 S4 S5 S6 HP]
  · isplitr [HP]
    · isplitl [S0]; · iapply (Entails.of_eq (scratch_eq c cc0_scratch0).symm); iexact S0
      isplitl [S1]; · iapply (Entails.of_eq (scratch_eq c cc0_scratch1).symm); iexact S1
      isplitl [S2]; · iapply (Entails.of_eq (scratch_eq c cc0_scratch2).symm); iexact S2
      isplitl [S3]; · iapply (Entails.of_eq (scratch_eq c cc0_scratch3).symm); iexact S3
      isplitl [S4]; · iapply (Entails.of_eq (scratch_eq c cc0_scratch4).symm); iexact S4
      isplitl [S5]; · iapply (Entails.of_eq (scratch_eq c cc0_scratch5).symm); iexact S5
      iapply (Entails.of_eq (scratch_eq c cc0_scratch6).symm); iexact S6
    iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iapply (Entails.of_eq (holds_eq_owns (c := c) (M := win0_6.stage ((cfg0 (F := F)).slots t 6)) (hw 6 _) _).symm); iexact H6
  isplitl [H7]; · iapply (Entails.of_eq (holds_eq_owns (c := c) (M := win0_7.stage ((cfg0 (F := F)).slots t 7)) (hw 7 _) _).symm); iexact H7
  isplitl [H8]; · iapply (Entails.of_eq (holds_eq_owns (c := c) (M := win0_8.stage ((cfg0 (F := F)).slots t 8)) (hw 8 _) _).symm); iexact H8
  isplitl [H9]; · iapply (Entails.of_eq (holds_eq_owns (c := c) (M := win0_9.stage ((cfg0 (F := F)).slots t 9)) (hw 9 _) _).symm); iexact H9
  isplitl [H10]; · iexact H10
  isplitl [H11]; · iapply (Entails.of_eq (holds_eq_owns (c := c) (M := win0_11.stage ((cfg0 (F := F)).slots t 11)) (hw 11 _) _).symm); iexact H11
  isplitl [H12]; · iapply (Entails.of_eq (holds_eq_owns (c := c) (M := win0_12.stage ((cfg0 (F := F)).slots t 12)) (hw 12 _) _).symm); iexact H12
  isplitl [H13]; · iapply (Entails.of_eq (holds_eq_owns (c := c) (M := win0_13.stage ((cfg0 (F := F)).slots t 13)) (hw 13 _) _).symm); iexact H13
  iapply (Entails.of_eq (holds_eq_owns (c := c) (M := win0_14.stage ((cfg0 (F := F)).slots t 14)) (hw 14 _) _).symm); iexact H14

/-- The run: it ends, with every counter at zero, each array at contents the proof's data allow and every other buffer as
    the region found it. -/
theorem run_main (m : (ℓ : Loc nD τ sig) → Buf (Elt F) ℓ) (g : Dev nD → PrngReg) :
    θ_run (defs (F := F)) (onTc (main (F := F))) ⟨m, fun _ => 0, g⟩ (fun r =>
      Pipeline.RDat.FramePost (cfgs (F := F) 0) (fun c => (dats m 0 c).toRForget fgt) (V0 m) r ∧ r.2.sem = fun _ => 0) :=
  Pipeline.θ_run_frame_forget (cfgs (F := F)) (dats m) 0 launch0 (defs₀ (F := F)) 𝒱₀ fgt m g main (fun c => body0 m c)
    (fun c => (dats m 0 c).share_full fun _ => rfl) (fun _ _ => rfl) (V0 m) (Pipeline.hmain_prefix (cfgs (F := F)) 0 (defs₀ (F := F)) 𝒱₀ m main hostOps0 hostOps0_sub ⟨rfl, rfl, rfl, rfl⟩ main_chain)
    (fun _ _ => rfl) (fun _ _ => rfl) (Q' := _)

end Cert.Proof.Attn

end
-- ==== Proof.Attn.Final.lean ====
/-
  What the attention call's run leaves in the arrays: its arguments as they were.
-/
module

public import proofs.«01_k».proof.Proof.Attn.Run
public import Idealize.ShloMosaic.Lib.Claim

@[expose] public section

set_option maxHeartbeats 0

noncomputable section

namespace Cert.Proof.Attn

open Cert.Kernel Cert.Kernel.Gen

open Idealize.ShloMosaic
open Idealize.ShloMosaic.TcCoe
open Idealize.SL.Sem

variable {F : FTy → Type} [BitOps F]

/-- An array read through an input window of the attention call ends as the region found it. -/
theorem arr_in (m : (ℓ : Loc nD τ sig) → Buf (Elt F) ℓ) {r : PUnit × MemSt nD τ sig (Elt F)}
    (h : Pipeline.RDat.FramePost (cfgs (F := F) 0) (fun c => (dats m 0 c).toRForget fgt) (V0 m) r) (c : Dev nD)
    (w : Fin 15) (hw : ((cfg0 (F := F)).win w).isOut = false) :
    r.2.mem (((cfg0 (F := F)).spec w).arr.view.loc (c.tc : Thread nD τ)) = V0 m c (Pipeline.arrRef spec0 w) :=
  Pipeline.RDat.FramePost.arr_in h c w hw

/-- The arguments end as they were. -/
theorem args_kept (m : (ℓ : Loc nD τ sig) → Buf (Elt F) ℓ) {r : PUnit × MemSt nD τ sig (Elt F)}
    (h : Pipeline.RDat.FramePost (cfgs (F := F) 0) (fun c => (dats m 0 c).toRForget fgt) (V0 m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine ⟨(arr_in m h c 0 rfl).trans ?_, (arr_in m h c 1 rfl).trans ?_, (arr_in m h c 2 rfl).trans ?_, (arr_in m h c 3 rfl).trans ?_, (arr_in m h c 4 rfl).trans ?_, (arr_in m h c 5 rfl).trans ?_, ((h c).2 main_arg6 (Pipeline.mem_restRefs_of _ (by decide) (show ∀ w : Fin 15, (spec0 w).arr.view.ref ≠ _ by decide))).trans ?_, ((h c).2 main_arg7 (Pipeline.mem_restRefs_of _ (by decide) (show ∀ w : Fin 15, (spec0 w).arr.view.ref ≠ _ by decide))).trans ?_, ((h c).2 main_arg8 (Pipeline.mem_restRefs_of _ (by decide) (show ∀ w : Fin 15, (spec0 w).arr.view.ref ≠ _ by decide))).trans ?_, ((h c).2 main_arg9 (Pipeline.mem_restRefs_of _ (by decide) (show ∀ w : Fin 15, (spec0 w).arr.view.ref ≠ _ by decide))).trans ?_⟩
  all_goals unfold_abbrev_sides; after_results

end Cert.Proof.Attn

end
-- ==== Proof.Attn.Outs.lean ====
/-
  What the attention call's run leaves in the four cast results: each weight, cast.
-/
module

public import proofs.«01_k».proof.Proof.Attn.Final
public import Idealize.ShloMosaic.Lib.Pipeline.ValueKit

@[expose] public section

set_option maxHeartbeats 0

noncomputable section

namespace Cert.Proof.Attn

open Cert.Kernel Cert.Kernel.Gen

open Idealize.ShloMosaic
open Idealize.ShloMosaic.TcCoe
open Idealize.SL.Sem

variable {F : FTy → Type} [BitOps F]

/-- A followed window's array ends as the proof's data compute it. -/
theorem arr_out (m : (ℓ : Loc nD τ sig) → Buf (Elt F) ℓ) {r : PUnit × MemSt nD τ sig (Elt F)}
    (h : Pipeline.RDat.FramePost (cfgs (F := F) 0) (fun c => (dats m 0 c).toRForget fgt) (V0 m) r) (c : Dev nD)
    (w : Fin 15) (hw : fgt w = false) :
    r.2.mem (((cfg0 (F := F)).spec w).arr.view.loc (c.tc : Thread nD τ)) = (dats m 0 c).arrAt w (cfg0 (F := F)).N :=
  ((dats m 0 c).toRForget_arrAt_iff hw _ _).mp ((h c).1 w)

/-- The first cast result: the attention's output weight, cast. -/
theorem out11 (m : (ℓ : Loc nD τ sig) → Buf (Elt F) ℓ) (c : Dev nD) :
    (dats m 0 c).arrAt 11 (cfg0 (F := F)).N = (cast16 (V0 m c main_v0 : FVec F S512x1024 .f32) : FVec F S512x1024 .bf16) := by
  refine (dats m 0 c).arrAt_eq_of_covers 11 _ (show win0_11.Covers by decide +kernel) fun t hf y => ?_
  rfl

/-- The second: the mixer's output weight, cast. -/
theorem out12 (m : (ℓ : Loc nD τ sig) → Buf (Elt F) ℓ) (c : Dev nD) :
    (dats m 0 c).arrAt 12 (cfg0 (F := F)).N = (cast16 (V0 m c main_v1 : FVec F S1024x1024 .f32) : FVec F S1024x1024 .bf16) := by
  refine (dats m 0 c).arrAt_eq_of_covers 12 _ (show win0_12.Covers by decide +kernel) fun t hf y => ?_
  rfl

/-- The third: the up projection's weight, cast. -/
theorem out13 (m : (ℓ : Loc nD τ sig) → Buf (Elt F) ℓ) (c : Dev nD) :
    (dats m 0 c).arrAt 13 (cfg0 (F := F)).N = (cast16 (V0 m c main_v2 : FVec F S1024x5632 .f32) : FVec F S1024x5632 .bf16) := by
  refine (dats m 0 c).arrAt_eq_of_covers 13 _ (show win0_13.Covers by decide +kernel) fun t hf y => ?_
  rfl

/-- The fourth: the down projection's weight, cast. -/
theorem out14 (m : (ℓ : Loc nD τ sig) → Buf (Elt F) ℓ) (c : Dev nD) :
    (dats m 0 c).arrAt 14 (cfg0 (F := F)).N = (cast16 (V0 m c main_v3 : FVec F S2816x1024 .f32) : FVec F S2816x1024 .bf16) := by
  refine (dats m 0 c).arrAt_eq_of_covers 14 _ (show win0_14.Covers by decide +kernel) fun t hf y => ?_
  rfl

/-- A reshaped weight as the region finds it. -/
theorem V0_v0 (m : (ℓ : Loc nD τ sig) → Buf (Elt F) ℓ) (c : Dev nD) :
    V0 m c main_v0 = shapeCast _ (m ((c.tc : Thread nD τ).loc main_arg6)) shapeCasts_S1x512x1024_S512x1024 := by
  unfold_abbrev_sides; after_results; rfl

/-- A reshaped weight as the region finds it. -/
theorem V0_v1 (m : (ℓ : Loc nD τ sig) → Buf (Elt F) ℓ) (c : Dev nD) :
    V0 m c main_v1 = shapeCast _ (m ((c.tc : Thread nD τ).loc main_arg7)) shapeCasts_S1x1024x1024_S1024x1024 := by
  unfold_abbrev_sides; after_results; rfl

/-- A reshaped weight as the region finds it. -/
theorem V0_v2 (m : (ℓ : Loc nD τ sig) → Buf (Elt F) ℓ) (c : Dev nD) :
    V0 m c main_v2 = shapeCast _ (m ((c.tc : Thread nD τ).loc main_arg8)) shapeCasts_S1x1024x5632_S1024x5632 := by
  unfold_abbrev_sides; after_results; rfl

/-- A reshaped weight as the region finds it. -/
theorem V0_v3 (m : (ℓ : Loc nD τ sig) → Buf (Elt F) ℓ) (c : Dev nD) :
    V0 m c main_v3 = shapeCast _ (m ((c.tc : Thread nD τ).loc main_arg9)) shapeCasts_S1x2816x1024_S2816x1024 := by
  unfold_abbrev_sides; after_results; rfl

/-- The run's whole result: each cast result is its weight cast, the arguments are as they were, and every counter is zero. -/
theorem run_all (m : (ℓ : Loc nD τ sig) → Buf (Elt F) ℓ) (g : Dev nD → PrngReg) :
    θ_run (defs (F := F)) (onTc (main (F := F))) ⟨m, fun _ => 0, g⟩ (fun r => (∀ c : Dev nD,
      r.2.mem ((c.tc : Thread nD τ).loc main_v4_1) = truncf .bf16 (shapeCast _ (m ((c.tc : Thread nD τ).loc main_arg6)) shapeCasts_S1x512x1024_S512x1024) bitsLt_bf16_f32
      ∧ r.2.mem ((c.tc : Thread nD τ).loc main_v4_2) = truncf .bf16 (shapeCast _ (m ((c.tc : Thread nD τ).loc main_arg7)) shapeCasts_S1x1024x1024_S1024x1024) bitsLt_bf16_f32
      ∧ r.2.mem ((c.tc : Thread nD τ).loc main_v4_3) = truncf .bf16 (shapeCast _ (m ((c.tc : Thread nD τ).loc main_arg8)) shapeCasts_S1x1024x5632_S1024x5632) bitsLt_bf16_f32
      ∧ r.2.mem ((c.tc : Thread nD τ).loc main_v4_4) = truncf .bf16 (shapeCast _ (m ((c.tc : Thread nD τ).loc main_arg9)) shapeCasts_S1x2816x1024_S2816x1024) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run (defs (F := F)) _ _).mono (fun r h => ⟨fun c => ?_, h.2⟩) (run_main m g)
  refine ⟨(arr_out m h.1 c 11 rfl).trans ((out11 m c).trans ?_), (arr_out m h.1 c 12 rfl).trans ((out12 m c).trans ?_), (arr_out m h.1 c 13 rfl).trans ((out13 m c).trans ?_), (arr_out m h.1 c 14 rfl).trans ((out14 m c).trans ?_), ?_⟩
  · rw [V0_v0]; rfl
  · rw [V0_v1]; rfl
  · rw [V0_v2]; rfl
  · rw [V0_v3]; rfl
  exact args_kept m h.1 c

end Cert.Proof.Attn

end
-- ==== Proof.Attn.Exact.lean ====
/-
  The attention call's two claims: its frame, and its four cast results equal to the reference's bit by bit.
-/
module

public import proofs.«01_k».proof.Defs
public import proofs.«01_k».proof.Proof.Attn.Outs
public import proofs.«01_k».proof.Proof.Gen.Reference.Run
public import proofs.«01_k».proof.Proof.Gen.On_casts_only

@[expose] public section

set_option maxHeartbeats 0

noncomputable section

namespace Cert.Proof.Attn

open Idealize.ShloMosaic Idealize.SL.Sem

/-- The attention call ends with its arguments as they were and every counter at zero. -/
theorem frame_kernel : Cert.quiescent_Kernel := fun m g _ =>
  (θ_run Cert.Kernel.defs _ _).mono (fun _ h => ⟨fun c => (h.1 c).2.2.2.2, h.2⟩) (run_all (F := Bits) m g)

/-- The four casts of the attention call are the reference's, bit by bit; the mask selects nothing of the attention itself. -/
theorem casts_exact : Cert.bitexact_Kernel_Reference_on_casts_only := by
  intro m g m' g' _ ha
  refine ⟨fun c => Classical.arbitrary _, _, _, _, _,
    (θ_run Cert.Kernel.defs _ _).mono (fun r h c => ⟨fun i hi => absurd hi (show ¬ ((0#1 : BitVec 1) = 1#1) by decide), fun i _ => congrFun (h.1 c).1 i, fun i _ => congrFun (h.1 c).2.1 i,
      fun i _ => congrFun (h.1 c).2.2.1 i, fun i _ => congrFun (h.1 c).2.2.2.1 i, (h.1 c).2.2.2.2⟩) (run_all (F := Bits) m g), ?_⟩
  refine (θ_run Cert.Reference.defs _ _).mono (fun r h c => ?_) (Cert.Reference.Value.run (F := Bits) m' g')
  obtain ⟨-, h1, h2, h3, h4, hk⟩ := h c
  obtain ⟨-, -, -, -, -, -, a6, a7, a8, a9⟩ := ha c
  rw [a6] at h1
  rw [a7] at h2
  rw [a8] at h3
  rw [a9] at h4
  exact ⟨fun i hi => absurd hi (show ¬ ((0#1 : BitVec 1) = 1#1) by decide), fun i _ => congrFun h1 i, fun i _ => congrFun h2 i, fun i _ => congrFun h3 i, fun i _ => congrFun h4 i, hk⟩

end Cert.Proof.Attn

end
-- ==== Proof.Proj.Ref.lean ====
/-
  The projection reference's results, as terms of its arguments.
-/
module

public import proofs.«01_k».proof.Proof.Gen.Reference2Ideal.Run
public import Idealize.ShloMosaic.Lib.IdealHost
public import Idealize.ShloMosaic.Lib.Pointwise

@[expose] public section

set_option maxHeartbeats 0

noncomputable section

namespace Cert.Proof.Proj

open Cert.Reference2Ideal Cert.Reference2Ideal.Gen

open Idealize.ShloMosaic
open Idealize.ShloMosaic.TcCoe
open Idealize.SL.Sem

/-- The reference's first normalisation. -/
def rXn (X : FVec Ideal S8x2048x1024 .f32) (G : FVec Ideal S1x1024 .f32) : FVec Ideal S8x2048x1024 .f32 :=
  mulf (mulf X (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ G shapeCasts_S1x1024_S1024)))

/-- The reference's projection of its normalised tokens. -/
def rProj (X : FVec Ideal S8x2048x1024 .f32) (G : FVec Ideal S1x1024 .f32) (W : FVec Ideal S1x1024x5704 .f32) : FVec Ideal S8x2048x5704 .f32 :=
  Host.dotGeneral dot_S8x2048x1024_S1024x5704_S8x2048x5704_2_0_01_1_n_n none (rXn X G) (shapeCast _ W shapeCasts_S1x1024x5704_S1024x5704)

/-- A normalised token's feature, by the formula. -/
def sXn (X : FVec Ideal S8x2048x1024 .f32) (G : FVec Ideal S1x1024 .f32) (b : Fin 8) (s : Fin 2048) (k : Fin 1024) : EReal :=
  X (ix3 b s k) * Ideal.rsqrt (Ideal.div (∑ x, X (ix3 b s x) * X (ix3 b s x)) (Ideal.ofBits FTy.f32 1149239296#32) + Ideal.ofBits FTy.f32 897988541#32) * G (ix2 0 k)

/-- A column of the projection, by the formula. -/
def sProj (X : FVec Ideal S8x2048x1024 .f32) (G : FVec Ideal S1x1024 .f32) (W : FVec Ideal S1x1024x5704 .f32) (b : Fin 8) (s : Fin 2048) (e : Fin 5704) : EReal :=
  ∑ k : Fin 1024, sXn X G b s k * W (ix3 0 k e)

/-- The reference's projection is the formula's. -/
theorem rProj_at (X : FVec Ideal S8x2048x1024 .f32) (G : FVec Ideal S1x1024 .f32) (W : FVec Ideal S1x1024x5704 .f32) (b : Fin 8) (s : Fin 2048) (e : Fin 5704) :
    rProj X G W (ix3 b s e) = sProj X G W b s e := by
  unfold rProj sProj
  pointwise
  refine Finset.sum_congr rfl fun k _ => ?_
  congr 1
  unfold rXn sXn
  pointwise

/-- The reference's keys, heads first. -/
def rK (X : FVec Ideal S8x2048x1024 .f32) (G : FVec Ideal S1x1024 .f32) (W : FVec Ideal S1x1024x5704 .f32) : FVec Ideal S8x8x2048x64 .bf16 :=
  truncf .bf16 (transpose S8x8x2048x64 [0, 2, 1, 3] (shapeCast _ (extractStridedSlice S8x2048x512 ![0, 0, 512] (rProj X G W) slices_S8x2048x5704_S8x2048x512_0_0_512) shapeCasts_S8x2048x512_S8x2048x8x64) transposes_S8x2048x8x64_S8x8x2048x64_0_2_1_3) bitsLt_bf16_f32

/-- The reference's index keys. -/
def rIk (X : FVec Ideal S8x2048x1024 .f32) (G : FVec Ideal S1x1024 .f32) (W : FVec Ideal S1x1024x5704 .f32) : FVec Ideal S8x2048x64 .bf16 :=
  truncf .bf16 (extractStridedSlice S8x2048x64 ![0, 0, 2048] (rProj X G W) slices_S8x2048x5704_S8x2048x64_0_0_2048) bitsLt_bf16_f32

/-- The reference's scaled queries, features first. -/
def rQ (X : FVec Ideal S8x2048x1024 .f32) (G : FVec Ideal S1x1024 .f32) (W : FVec Ideal S1x1024x5704 .f32) : FVec Ideal S8x512x2048 .bf16 :=
  truncf .bf16 (transpose S8x512x2048 [0, 2, 1] (mulf (extractStridedSlice S8x2048x512 ![0, 0, 0] (rProj X G W) slices_S8x2048x5704_S8x2048x512_0_0_0) (broadcastInDim S8x2048x512 ![] bcast_S_S8x2048x512 (constant S_ .f32 0x3E38AA3B#32))) transposes_S8x2048x512_S8x512x2048_0_2_1) bitsLt_bf16_f32

/-- The reference's values, features first. -/
def rV (X : FVec Ideal S8x2048x1024 .f32) (G : FVec Ideal S1x1024 .f32) (W : FVec Ideal S1x1024x5704 .f32) : FVec Ideal S8x512x2048 .bf16 :=
  truncf .bf16 (transpose S8x512x2048 [0, 2, 1] (extractStridedSlice S8x2048x512 ![0, 0, 1024] (rProj X G W) slices_S8x2048x5704_S8x2048x512_0_0_1024) transposes_S8x2048x512_S8x512x2048_0_2_1) bitsLt_bf16_f32

/-- The reference's index queries, features first. -/
def rIq (X : FVec Ideal S8x2048x1024 .f32) (G : FVec Ideal S1x1024 .f32) (W : FVec Ideal S1x1024x5704 .f32) : FVec Ideal S8x512x2048 .bf16 :=
  truncf .bf16 (transpose S8x512x2048 [0, 2, 1] (extractStridedSlice S8x2048x512 ![0, 0, 1536] (rProj X G W) slices_S8x2048x5704_S8x2048x512_0_0_1536) transposes_S8x2048x512_S8x512x2048_0_2_1) bitsLt_bf16_f32

/-- The reference's index weights, heads first. -/
def rIw (X : FVec Ideal S8x2048x1024 .f32) (G : FVec Ideal S1x1024 .f32) (W : FVec Ideal S1x1024x5704 .f32) : FVec Ideal S8x8x2048 .f32 :=
  transpose S8x8x2048 [0, 2, 1] (extractStridedSlice S8x2048x8 ![0, 0, 2112] (rProj X G W) slices_S8x2048x5704_S8x2048x8_0_0_2112) transposes_S8x2048x8_S8x8x2048_0_2_1

/-- The reference's gates. -/
def rSig (X : FVec Ideal S8x2048x1024 .f32) (G : FVec Ideal S1x1024 .f32) (W : FVec Ideal S1x1024x5704 .f32) (B : FVec Ideal S1x2048 .f32) : FVec Ideal S8x2048x2048 .f32 :=
  Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (addf (extractStridedSlice S8x2048x2048 ![0, 0, 3656] (rProj X G W) slices_S8x2048x5704_S8x2048x2048_0_0_3656) (broadcastInDim S8x2048x2048 ![0, 1, 2] bcast_S1x1x2048_S8x2048x2048_0_1_2 (broadcastInDim S1x1x2048 ![2] bcast_S2048_S1x1x2048_2 (shapeCast _ B shapeCasts_S1x2048_S2048)))))))

/-- The reference's attention gate. -/
def rGa (X : FVec Ideal S8x2048x1024 .f32) (G : FVec Ideal S1x1024 .f32) (W : FVec Ideal S1x1024x5704 .f32) (B : FVec Ideal S1x2048 .f32) : FVec Ideal S8x2048x1024 .f32 :=
  extractStridedSlice S8x2048x1024 ![0, 0, 0] (rSig X G W B) slices_S8x2048x2048_S8x2048x1024_0_0_0

/-- The convolution branch's gated input, two zero rows first. -/
def rPad (X : FVec Ideal S8x2048x1024 .f32) (G : FVec Ideal S1x1024 .f32) (W : FVec Ideal S1x1024x5704 .f32) : FVec Ideal S8x2050x512 .f32 :=
  pad S8x2050x512 ![0, 2, 0] ![0, 0, 0] ![0, 0, 0] (mulf (extractStridedSlice S8x2048x512 ![0, 0, 3144] (rProj X G W) slices_S8x2048x5704_S8x2048x512_0_0_3144) (extractStridedSlice S8x2048x512 ![0, 0, 2120] (rProj X G W) slices_S8x2048x5704_S8x2048x512_0_0_2120)) (sitofp .f32 (constantI S_ 32 0#32)) pads_S8x2048x512_S8x2050x512_000_200_000 h_S_

/-- The reference's convolution branch under its gate. -/
def rMc (X : FVec Ideal S8x2048x1024 .f32) (G : FVec Ideal S1x1024 .f32) (W : FVec Ideal S1x1024x5704 .f32) (B : FVec Ideal S1x2048 .f32) (C : FVec Ideal S1x3x512 .f32) (O : FVec Ideal S1x512x1024 .f32) : FVec Ideal S8x2048x1024 .f32 :=
  mulf (extractStridedSlice S8x2048x1024 ![0, 0, 1024] (rSig X G W B) slices_S8x2048x2048_S8x2048x1024_0_0_1024) (Host.dotGeneral dot_S8x2048x512_S512x1024_S8x2048x1024_2_0_01_1_n_n none (mulf (extractStridedSlice S8x2048x512 ![0, 0, 2632] (rProj X G W) slices_S8x2048x5704_S8x2048x512_0_0_2632) (addf (addf (mulf (extractStridedSlice S8x2048x512 ![0, 0, 0] (rPad X G W) slices_S8x2050x512_S8x2048x512_0_0_0) (broadcastInDim S8x2048x512 ![0, 1, 2] bcast_S1x1x512_S8x2048x512_0_1_2 (broadcastInDim S1x1x512 ![2] bcast_S512_S1x1x512_2 (shapeCast _ (extractStridedSlice S1x512 ![0, 0] (shapeCast _ C shapeCasts_S1x3x512_S3x512) slices_S3x512_S1x512_0_0) shapeCasts_S1x512_S512)))) (mulf (extractStridedSlice S8x2048x512 ![0, 1, 0] (rPad X G W) slices_S8x2050x512_S8x2048x512_0_1_0) (broadcastInDim S8x2048x512 ![0, 1, 2] bcast_S1x1x512_S8x2048x512_0_1_2 (broadcastInDim S1x1x512 ![2] bcast_S512_S1x1x512_2 (shapeCast _ (extractStridedSlice S1x512 ![1, 0] (shapeCast _ C shapeCasts_S1x3x512_S3x512) slices_S3x512_S1x512_1_0) shapeCasts_S1x512_S512))))) (mulf (extractStridedSlice S8x2048x512 ![0, 2, 0] (rPad X G W) slices_S8x2050x512_S8x2048x512_0_2_0) (broadcastInDim S8x2048x512 ![0, 1, 2] bcast_S1x1x512_S8x2048x512_0_1_2 (broadcastInDim S1x1x512 ![2] bcast_S512_S1x1x512_2 (shapeCast _ (extractStridedSlice S1x512 ![2, 0] (shapeCast _ C shapeCasts_S1x3x512_S3x512) slices_S3x512_S1x512_2_0) shapeCasts_S1x512_S512)))))) (shapeCast _ O shapeCasts_S1x512x1024_S512x1024))

/-- The gated input's element, by the formula. -/
def sU (X : FVec Ideal S8x2048x1024 .f32) (G : FVec Ideal S1x1024 .f32) (W : FVec Ideal S1x1024x5704 .f32) (b : Fin 8) (s : Fin 2048) (e : Fin 512) : EReal :=
  sProj X G W b s ⟨3144 + e.val, by omega⟩ * sProj X G W b s ⟨2120 + e.val, by omega⟩

/-- The gated input two rows later, zero in the first two rows. -/
def sPad (X : FVec Ideal S8x2048x1024 .f32) (G : FVec Ideal S1x1024 .f32) (W : FVec Ideal S1x1024x5704 .f32) (b : Fin 8) (p : Fin 2050) (e : Fin 512) : EReal :=
  if h : 2 ≤ p.val then sU X G W b ⟨p.val - 2, by omega⟩ e else 0

/-- The reference's padded input is the formula's. -/
theorem rPad_at (X : FVec Ideal S8x2048x1024 .f32) (G : FVec Ideal S1x1024 .f32) (W : FVec Ideal S1x1024x5704 .f32) (b : Fin 8) (p : Fin 2050) (e : Fin 512) : rPad X G W (ix3 b p e) = sPad X G W b p e := by
  unfold rPad sPad
  pointwise
  simp only [rProj_at]
  by_cases h : 2 ≤ p.val
  · rw [dif_pos h, dif_pos ⟨h, by omega⟩]
    rfl
  · rw [dif_neg h, dif_neg fun h' => h h'.1]
    show (((0#32 : BitVec 32).toInt : ℝ) : EReal) = 0
    simp

/-- The gate, by the formula. -/
def sSig (X : FVec Ideal S8x2048x1024 .f32) (G : FVec Ideal S1x1024 .f32) (W : FVec Ideal S1x1024x5704 .f32) (B : FVec Ideal S1x2048 .f32) (b : Fin 8) (s : Fin 2048) (e : Fin 2048) : EReal :=
  Ideal.logistic (sProj X G W b s ⟨3656 + e.val, by omega⟩ + B (ix2 0 e))

/-- The reference's gates are the formula's. -/
theorem rSig_at (X : FVec Ideal S8x2048x1024 .f32) (G : FVec Ideal S1x1024 .f32) (W : FVec Ideal S1x1024x5704 .f32) (B : FVec Ideal S1x2048 .f32) (b : Fin 8) (s : Fin 2048) (e : Fin 2048) : rSig X G W B (ix3 b s e) = sSig X G W B b s e := by
  unfold rSig sSig
  pointwise
  simp only [rProj_at]
  rfl

/-- The reference's convolution branch, at an index. -/
theorem rMc_at (X : FVec Ideal S8x2048x1024 .f32) (G : FVec Ideal S1x1024 .f32) (W : FVec Ideal S1x1024x5704 .f32) (B : FVec Ideal S1x2048 .f32) (C : FVec Ideal S1x3x512 .f32) (O : FVec Ideal S1x512x1024 .f32) (b : Fin 8) (s : Fin 2048) (d : Fin 1024) :
    rMc X G W B C O (ix3 b s d) = sSig X G W B b s ⟨1024 + d.val, by omega⟩ * ∑ e : Fin 512, sProj X G W b s ⟨2632 + e.val, by omega⟩ *
      (sPad X G W b ⟨s.val, by omega⟩ e * C (ix3 0 0 e) + sPad X G W b ⟨1 + s.val, by omega⟩ e * C (ix3 0 1 e) + sPad X G W b ⟨2 + s.val, by omega⟩ e * C (ix3 0 2 e)) * O (ix3 0 e d) := by
  unfold rMc
  pointwise
  simp only [rProj_at, rPad_at, rSig_at]

end Cert.Proof.Proj

end
-- ==== Proof.Proj.Blk.lean ====
/-
  The projection call's input blocks, read at an index off its arguments.
-/
module

public import proofs.«01_k».proof.Proof.Gen.Kernel2Ideal.Value
public import Idealize.ShloMosaic.Lib.Pipeline.ValueKit
public import Idealize.ShloMosaic.Lib.Pointwise
public import Idealize.ShloMosaic.Lib.StableHlo.ReadAt

@[expose] public section

set_option maxHeartbeats 0

noncomputable section

namespace Cert.Proof.Proj

open Cert.Kernel2Ideal Cert.Kernel2Ideal.Gen

open Idealize.ShloMosaic
open Idealize.ShloMosaic.TcCoe
open Idealize.SL.Sem

variable (m : (ℓ : Loc nD τ sig) → Buf (Elt Ideal) ℓ) (c : Dev nD)

/-- The token block's place at each point. -/
theorem idx0 : ∀ t : Fin cfg0.N, win0_0.index t = ![t.val / 4, t.val % 4, 0] := by decide +kernel

/-- The token block. -/
theorem blk0 (t : Fin cfg0.N) (r : Fin 512) (k : Fin 1024) (b : Fin 8) (s : Fin 2048) (hb : b.val = t.val / 4)
    (hs : s.val = 512 * (t.val % 4) + r.val) :
    iblk m c 0 t (ix3 0 r k) = m (c.tc.loc main_arg0) (ix3 b s k) := by
  blk_ext! [iblk, V_main_arg0, idx0 t]

/-- The first normalisation's weights lie at the origin at each point. -/
theorem idx1 : ∀ t : Fin cfg0.N, win0_1.index t = ![0, 0] := by decide +kernel

/-- The first normalisation's weights. -/
theorem blk1 (t : Fin cfg0.N) (k : Fin 1024) : iblk m c 1 t (ix2 0 k) = m (c.tc.loc main_arg1) (ix2 0 k) := by
  blk_ext! [iblk, V_main_arg1, idx1 t]

/-- The keys' columns lie at the origin at each point. -/
theorem idx2 : ∀ t : Fin cfg0.N, win0_2.index t = ![0, 0] := by decide +kernel

/-- The keys' columns, read at an index. -/
theorem blk2 (t : Fin cfg0.N) (k : Fin 1024) (j : Fin 512) (e : Fin 5704) (he : e.val = 512 + j.val) :
    iblk m c 2 t (ix2 k j) = m (c.tc.loc main_arg2) (ix3 0 k e) := by
  have h : iblk m c 2 t (ix2 k j) = V m c main_v15 (ix2 k j) := by blk_ext! [iblk, idx2 t]
  rw [h]; unfold V; after_reads_at
  blk_ext

/-- The index keys' columns lie at the origin at each point. -/
theorem idx3 : ∀ t : Fin cfg0.N, win0_3.index t = ![0, 0] := by decide +kernel

/-- The index keys' columns, read at an index. -/
theorem blk3 (t : Fin cfg0.N) (k : Fin 1024) (j : Fin 128) (hj : j.val < 64) (e : Fin 5704) (he : e.val = 2048 + j.val) :
    iblk m c 3 t (ix2 k j) = m (c.tc.loc main_arg2) (ix3 0 k e) := by
  have h : iblk m c 3 t (ix2 k j) = V m c main_v18 (ix2 k j) := by blk_ext! [iblk, idx3 t]
  rw [h]; unfold V; after_reads_at
  rw [dif_pos hj]
  blk_ext

/-- The convolution branch's columns lie at the origin at each point. -/
theorem idx4 : ∀ t : Fin cfg0.N, win0_4.index t = ![0, 0] := by decide +kernel

/-- The convolution branch's columns, read at an index. -/
theorem blk4 (t : Fin cfg0.N) (k : Fin 1024) (j : Fin 1536) (e : Fin 5704) (he : e.val = 2120 + j.val) :
    iblk m c 4 t (ix2 k j) = m (c.tc.loc main_arg2) (ix3 0 k e) := by
  have h : iblk m c 4 t (ix2 k j) = V m c main_v20 (ix2 k j) := by blk_ext! [iblk, idx4 t]
  rw [h]; unfold V; after_reads_at
  blk_ext

/-- The gates' columns lie at the origin at each point. -/
theorem idx5 : ∀ t : Fin cfg0.N, win0_5.index t = ![0, 0] := by decide +kernel

/-- The gates' columns, read at an index. -/
theorem blk5 (t : Fin cfg0.N) (k : Fin 1024) (j : Fin 2048) (e : Fin 5704) (he : e.val = 3656 + j.val) :
    iblk m c 5 t (ix2 k j) = m (c.tc.loc main_arg2) (ix3 0 k e) := by
  have h : iblk m c 5 t (ix2 k j) = V m c main_v22 (ix2 k j) := by blk_ext! [iblk, idx5 t]
  rw [h]; unfold V; after_reads_at
  blk_ext

/-- The queries' columns lie at the origin at each point. -/
theorem idx6 : ∀ t : Fin cfg0.N, win0_6.index t = ![0, 0] := by decide +kernel

/-- The queries' columns, read at an index. -/
theorem blk6 (t : Fin cfg0.N) (j : Fin 512) (k : Fin 1024) (e : Fin 5704) (he : e.val = 0 + j.val) :
    iblk m c 6 t (ix2 j k) = m (c.tc.loc main_arg2) (ix3 0 k e) := by
  have h : iblk m c 6 t (ix2 j k) = V m c main_v3 (ix2 j k) := by blk_ext! [iblk, idx6 t]
  rw [h]; unfold V; after_reads_at
  blk_ext

/-- The values' columns lie at the origin at each point. -/
theorem idx7 : ∀ t : Fin cfg0.N, win0_7.index t = ![0, 0] := by decide +kernel

/-- The values' columns, read at an index. -/
theorem blk7 (t : Fin cfg0.N) (j : Fin 512) (k : Fin 1024) (e : Fin 5704) (he : e.val = 1024 + j.val) :
    iblk m c 7 t (ix2 j k) = m (c.tc.loc main_arg2) (ix3 0 k e) := by
  have h : iblk m c 7 t (ix2 j k) = V m c main_v6 (ix2 j k) := by blk_ext! [iblk, idx7 t]
  rw [h]; unfold V; after_reads_at
  blk_ext

/-- The index queries' columns lie at the origin at each point. -/
theorem idx8 : ∀ t : Fin cfg0.N, win0_8.index t = ![0, 0] := by decide +kernel

/-- The index queries' columns, read at an index. -/
theorem blk8 (t : Fin cfg0.N) (j : Fin 512) (k : Fin 1024) (e : Fin 5704) (he : e.val = 1536 + j.val) :
    iblk m c 8 t (ix2 j k) = m (c.tc.loc main_arg2) (ix3 0 k e) := by
  have h : iblk m c 8 t (ix2 j k) = V m c main_v9 (ix2 j k) := by blk_ext! [iblk, idx8 t]
  rw [h]; unfold V; after_reads_at
  blk_ext

/-- The index weights' columns lie at the origin at each point. -/
theorem idx9 : ∀ t : Fin cfg0.N, win0_9.index t = ![0, 0] := by decide +kernel

/-- The index weights' columns, read at an index. -/
theorem blk9 (t : Fin cfg0.N) (j : Fin 16) (k : Fin 1024) (hj : j.val < 8) (e : Fin 5704) (he : e.val = 2112 + j.val) :
    iblk m c 9 t (ix2 j k) = m (c.tc.loc main_arg2) (ix3 0 k e) := by
  have h : iblk m c 9 t (ix2 j k) = V m c main_v13 (ix2 j k) := by blk_ext! [iblk, idx9 t]
  rw [h]; unfold V; after_reads_at
  rw [dif_pos hj]
  blk_ext

/-- The gates' biases lie at the origin at each point. -/
theorem idx10 : ∀ t : Fin cfg0.N, win0_10.index t = ![0, 0] := by decide +kernel

/-- The gates' biases. -/
theorem blk10 (t : Fin cfg0.N) (k : Fin 2048) : iblk m c 10 t (ix2 0 k) = m (c.tc.loc main_arg3) (ix2 0 k) := by
  blk_ext! [iblk, V_main_arg3, idx10 t]

/-- The convolution's taps lie at the origin at each point. -/
theorem idx11 : ∀ t : Fin cfg0.N, win0_11.index t = ![0, 0] := by decide +kernel

/-- The convolution's taps, read at an index. -/
theorem blk11 (t : Fin cfg0.N) (j : Fin 3) (k : Fin 512)  :
    iblk m c 11 t (ix2 j k) = m (c.tc.loc main_arg4) (ix3 0 j k) := by
  have h : iblk m c 11 t (ix2 j k) = V m c main_v23 (ix2 j k) := by blk_ext! [iblk, idx11 t]
  rw [h]; unfold V; after_reads_at

/-- The convolution branch's output weight lie at the origin at each point. -/
theorem idx12 : ∀ t : Fin cfg0.N, win0_12.index t = ![0, 0] := by decide +kernel

/-- The convolution branch's output weight, read at an index. -/
theorem blk12 (t : Fin cfg0.N) (j : Fin 512) (k : Fin 1024)  :
    iblk m c 12 t (ix2 j k) = m (c.tc.loc main_arg5) (ix3 0 j k) := by
  have h : iblk m c 12 t (ix2 j k) = V m c main_v25 (ix2 j k) := by blk_ext! [iblk, idx12 t]
  rw [h]; unfold V; after_reads_at

end Cert.Proof.Proj

end
-- ==== Proof.Proj.Pieces.lean ====
/-
  Reading, at an index, what a list of unit-stride stores leaves.
-/
module

public import Idealize.ShloMosaic.Lib.WritesUnit
public import Idealize.ShloMosaic.Lib.Pipeline.FrameBody

@[expose] public section

noncomputable section

namespace Cert.Proof.Proj

open Idealize.ShloMosaic
open Idealize.SL.Sem

variable {s : Shape} {e : EltTy} {Val : EltTy → Type}

/-- Under the last store, its payload is read. -/
theorem canon_hit [∀ e, Nonempty (Val e)] {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : y = (Rect.unit off size inb).emb x := by
    funext a
    apply Fin.ext
    show (y a).val = off a + 1 * (x a).val
    rw [hx a, Nat.one_mul]
  rw [hy]
  exact View.canon_cons_emb _ w L x

/-- Off the last store, the earlier ones are read. -/
theorem canon_miss [∀ e, Nonempty (Val e)] {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  apply View.canon_cons_of_not_mem
  intro h
  have := (Rect.mem_set_unit (inb := inb)).mp h a
  omega

end Cert.Proof.Proj

end
-- ==== Proof.Proj.Value.lean ====
/-
  The projection call's results are its reference's.
-/
module

public import proofs.«01_k».proof.Proof.Proj.Ref
public import proofs.«01_k».proof.Proof.Proj.Blk
public import proofs.«01_k».proof.Proof.Proj.Pieces
public import Idealize.ShloMosaic.Lib.Pipeline.ReadBack

@[expose] public section

set_option maxHeartbeats 0

noncomputable section

namespace Cert.Proof.Proj

open Cert.Kernel2Ideal Cert.Kernel2Ideal.Gen

open Idealize.ShloMosaic
open Idealize.ShloMosaic.TcCoe
open Idealize.SL.Sem

variable (m : (ℓ : Loc nD τ sig) → Buf (Elt Ideal) ℓ) (c : Dev nD)

/-- A normalised token of the block is the formula's. -/
theorem xn_at (t : Fin cfg0.N) (r : Fin 512) (k : Fin 1024) (b : Fin 8) (s : Fin 2048) (hb : b.val = t.val / 4)
    (hs : s.val = 512 * (t.val % 4) + r.val) :
    k0_pay4 (iblk m c 0 t) (iblk m c 1 t) (ix2 r k) = sXn (m (c.tc.loc main_arg0)) (m (c.tc.loc main_arg1)) b s k := by
  pointwise [k0_pay4]
  simp only [blk0 m c t r _ b s hb hs, blk1 m c t]
  rfl

/-- Where the block of the index keys goes. -/
theorem idx14 : ∀ t : Fin cfg0.N, win0_14.index t = ![t.val / 4, t.val % 4, 0] := by decide +kernel

/-- The index keys: the reference's. -/
theorem out14 :
    (dats m 0 c).arrAt 14 cfg0.N = rIk (m (c.tc.loc main_arg0)) (m (c.tc.loc main_arg1)) (m (c.tc.loc main_arg2)) := by
  refine (dats m 0 c).arrAt_eq_of_covers 14 _ (show win0_14.Covers by decide +kernel) fun t hf y => ?_
  blk_simp
  rw [after0_14]
  have hh : (outsAt0 m c t.val t.isLt).2.1 = k0_pay2 (k0_pay4 (iblk m c 0 t) (iblk m c 1 t)) (iblk m c 3 t) := by
    by_cases h : t.val % 4 = 0
    · rw [outsAt0_A m c t h]
      dsimp only
      frame_out
    · rw [outsAt0_B m c t h]
      dsimp only
      frame_out
  rw [hh]
  have hN : t.val < 32 := t.isLt
  idx_vars y
  have e : ((View.whole main_v26_1).slice (win0_14.rect t)).emb (ix3 y0 y1 y2) = ix3 (⟨t.val / 4, by omega⟩ : Fin 8) (⟨512 * (t.val % 4) + y1.val, by omega⟩ : Fin 2048) y2 := by
    blk_ext [idx14 t]
  rw [e]
  pointwise [rIk, k0_pay2]
  rw [rProj_at]
  show (_ : EReal) = _
  refine Finset.sum_congr rfl fun k _ => ?_
  rw [blk3 m c t k ⟨y2.val, by omega⟩ (by exact y2.isLt) ⟨2048 + y2.val, by omega⟩ (by first | rfl | simp), xn_at m c t y1 k ⟨t.val / 4, by omega⟩ ⟨512 * (t.val % 4) + y1.val, by omega⟩ rfl rfl]

/-- Where the block of the scaled queries goes. -/
theorem idx15 : ∀ t : Fin cfg0.N, win0_15.index t = ![t.val / 4, 0, t.val % 4] := by decide +kernel

/-- The scaled queries: the reference's. -/
theorem out15 :
    (dats m 0 c).arrAt 15 cfg0.N = rQ (m (c.tc.loc main_arg0)) (m (c.tc.loc main_arg1)) (m (c.tc.loc main_arg2)) := by
  refine (dats m 0 c).arrAt_eq_of_covers 15 _ (show win0_15.Covers by decide +kernel) fun t hf y => ?_
  blk_simp
  rw [after0_15]
  have hh : (outsAt0 m c t.val t.isLt).2.2.1 = k0_pay14 (k0_pay4 (iblk m c 0 t) (iblk m c 1 t)) (iblk m c 6 t) := by
    by_cases h : t.val % 4 = 0
    · rw [outsAt0_A m c t h]
      dsimp only
      frame_out
    · rw [outsAt0_B m c t h]
      dsimp only
      frame_out
  rw [hh]
  have hN : t.val < 32 := t.isLt
  idx_vars y
  have e : ((View.whole main_v26_2).slice (win0_15.rect t)).emb (ix3 y0 y1 y2) = ix3 (⟨t.val / 4, by omega⟩ : Fin 8) y1 (⟨512 * (t.val % 4) + y2.val, by omega⟩ : Fin 2048) := by
    blk_ext [idx15 t]
  rw [e]
  pointwise [rQ, k0_pay14]
  rw [rProj_at]
  congr 1
  show (_ : EReal) = _
  refine Finset.sum_congr rfl fun k _ => ?_
  rw [blk6 m c t y1 k ⟨y1.val, by omega⟩ (by first | rfl | simp), xn_at m c t y2 k ⟨t.val / 4, by omega⟩ ⟨512 * (t.val % 4) + y2.val, by omega⟩ rfl rfl, mul_comm]

/-- Where the block of the values goes. -/
theorem idx16 : ∀ t : Fin cfg0.N, win0_16.index t = ![t.val / 4, 0, t.val % 4] := by decide +kernel

/-- The values: the reference's. -/
theorem out16 :
    (dats m 0 c).arrAt 16 cfg0.N = rV (m (c.tc.loc main_arg0)) (m (c.tc.loc main_arg1)) (m (c.tc.loc main_arg2)) := by
  refine (dats m 0 c).arrAt_eq_of_covers 16 _ (show win0_16.Covers by decide +kernel) fun t hf y => ?_
  blk_simp
  rw [after0_16]
  have hh : (outsAt0 m c t.val t.isLt).2.2.2.1 = k0_pay16 (k0_pay4 (iblk m c 0 t) (iblk m c 1 t)) (k0_pay15 (iblk m c 7 t)) (constant S512x512 .f32 0x00000000#32) := by
    by_cases h : t.val % 4 = 0
    · rw [outsAt0_A m c t h]
      dsimp only
      frame_out
    · rw [outsAt0_B m c t h]
      dsimp only
      frame_out
  rw [hh]
  have hN : t.val < 32 := t.isLt
  idx_vars y
  have e : ((View.whole main_v26_3).slice (win0_16.rect t)).emb (ix3 y0 y1 y2) = ix3 (⟨t.val / 4, by omega⟩ : Fin 8) y1 (⟨512 * (t.val % 4) + y2.val, by omega⟩ : Fin 2048) := by
    blk_ext [idx16 t]
  rw [e]
  pointwise [rV, k0_pay16, k0_pay15]
  rw [rProj_at]
  show (_ : EReal) = _
  refine Finset.sum_congr rfl fun k _ => ?_
  rw [blk7 m c t y1 k ⟨1024 + y1.val, by omega⟩ (by first | rfl | simp), xn_at m c t y2 k ⟨t.val / 4, by omega⟩ ⟨512 * (t.val % 4) + y2.val, by omega⟩ rfl rfl, mul_comm]

/-- Where the block of the index queries goes. -/
theorem idx17 : ∀ t : Fin cfg0.N, win0_17.index t = ![t.val / 4, 0, t.val % 4] := by decide +kernel

/-- The index queries: the reference's. -/
theorem out17 :
    (dats m 0 c).arrAt 17 cfg0.N = rIq (m (c.tc.loc main_arg0)) (m (c.tc.loc main_arg1)) (m (c.tc.loc main_arg2)) := by
  refine (dats m 0 c).arrAt_eq_of_covers 17 _ (show win0_17.Covers by decide +kernel) fun t hf y => ?_
  blk_simp
  rw [after0_17]
  have hh : (outsAt0 m c t.val t.isLt).2.2.2.2.1 = k0_pay17 (k0_pay4 (iblk m c 0 t) (iblk m c 1 t)) (iblk m c 8 t) := by
    by_cases h : t.val % 4 = 0
    · rw [outsAt0_A m c t h]
      dsimp only
      frame_out
    · rw [outsAt0_B m c t h]
      dsimp only
      frame_out
  rw [hh]
  have hN : t.val < 32 := t.isLt
  idx_vars y
  have e : ((View.whole main_v26_4).slice (win0_17.rect t)).emb (ix3 y0 y1 y2) = ix3 (⟨t.val / 4, by omega⟩ : Fin 8) y1 (⟨512 * (t.val % 4) + y2.val, by omega⟩ : Fin 2048) := by
    blk_ext [idx17 t]
  rw [e]
  pointwise [rIq, k0_pay17]
  rw [rProj_at]
  show (_ : EReal) = _
  refine Finset.sum_congr rfl fun k _ => ?_
  rw [blk8 m c t y1 k ⟨1536 + y1.val, by omega⟩ (by first | rfl | simp), xn_at m c t y2 k ⟨t.val / 4, by omega⟩ ⟨512 * (t.val % 4) + y2.val, by omega⟩ rfl rfl, mul_comm]

/-- Where the block of the index weights goes. -/
theorem idx18 : ∀ t : Fin cfg0.N, win0_18.index t = ![t.val / 4, 0, t.val % 4] := by decide +kernel

/-- The index weights: the reference's. -/
theorem out18 :
    (dats m 0 c).arrAt 18 cfg0.N = rIw (m (c.tc.loc main_arg0)) (m (c.tc.loc main_arg1)) (m (c.tc.loc main_arg2)) := by
  refine (dats m 0 c).arrAt_eq_of_covers 18 _ (show win0_18.Covers by decide +kernel) fun t hf y => ?_
  blk_simp
  rw [after0_18]
  have hh : (outsAt0 m c t.val t.isLt).2.2.2.2.2.1 = k0_pay18 (k0_pay4 (iblk m c 0 t) (iblk m c 1 t)) (iblk m c 9 t) := by
    by_cases h : t.val % 4 = 0
    · rw [outsAt0_A m c t h]
      dsimp only
      frame_out
    · rw [outsAt0_B m c t h]
      dsimp only
      frame_out
  rw [hh]
  have hN : t.val < 32 := t.isLt
  idx_vars y
  have e : ((View.whole main_v26_5).slice (win0_18.rect t)).emb (ix3 y0 y1 y2) = ix3 (⟨t.val / 4, by omega⟩ : Fin 8) y1 (⟨512 * (t.val % 4) + y2.val, by omega⟩ : Fin 2048) := by
    blk_ext [idx18 t]
  rw [e]
  pointwise [rIw, k0_pay18]
  rw [rProj_at]
  show (_ : EReal) = _
  refine Finset.sum_congr rfl fun k _ => ?_
  rw [blk9 m c t ⟨y1.val, by omega⟩ k (by exact y1.isLt) ⟨2112 + y1.val, by omega⟩ (by first | rfl | simp), xn_at m c t y2 k ⟨t.val / 4, by omega⟩ ⟨512 * (t.val % 4) + y2.val, by omega⟩ rfl rfl, mul_comm]

/-- The block's gates are the formula's. -/
theorem sig_at (t : Fin cfg0.N) (r : Fin 512) (e : Fin 2048) (b : Fin 8) (s : Fin 2048) (hb : b.val = t.val / 4)
    (hs : s.val = 512 * (t.val % 4) + r.val) :
    k0_pay12 (k0_pay4 (iblk m c 0 t) (iblk m c 1 t)) (iblk m c 5 t) (iblk m c 10 t) (ix2 r e) = sSig (m (c.tc.loc main_arg0)) (m (c.tc.loc main_arg1)) (m (c.tc.loc main_arg2)) (m (c.tc.loc main_arg3)) b s e := by
  pointwise [k0_pay12]
  unfold sSig sProj
  rw [blk10]
  congr 2
  refine Finset.sum_congr rfl fun k _ => ?_
  rw [xn_at m c t r k b s hb hs, blk5 m c t k e ⟨3656 + e.val, by omega⟩ rfl]

/-- Where the block of the attention gate goes. -/
theorem idx19 : ∀ t : Fin cfg0.N, win0_19.index t = ![t.val / 4, t.val % 4, 0] := by decide +kernel

/-- The attention gate: the reference's. -/
theorem out19 :
    (dats m 0 c).arrAt 19 cfg0.N = rGa (m (c.tc.loc main_arg0)) (m (c.tc.loc main_arg1)) (m (c.tc.loc main_arg2)) (m (c.tc.loc main_arg3)) := by
  refine (dats m 0 c).arrAt_eq_of_covers 19 _ (show win0_19.Covers by decide +kernel) fun t hf y => ?_
  blk_simp
  rw [after0_19]
  have hh : (outsAt0 m c t.val t.isLt).2.2.2.2.2.2.1 = k0_pay13 (k0_pay4 (iblk m c 0 t) (iblk m c 1 t)) (iblk m c 5 t) (iblk m c 10 t) := by
    by_cases h : t.val % 4 = 0
    · rw [outsAt0_A m c t h]
      dsimp only
      frame_out
    · rw [outsAt0_B m c t h]
      dsimp only
      frame_out
  rw [hh]
  have hN : t.val < 32 := t.isLt
  idx_vars y
  have e : ((View.whole main_v26_6).slice (win0_19.rect t)).emb (ix3 y0 y1 y2) = ix3 (⟨t.val / 4, by omega⟩ : Fin 8) (⟨512 * (t.val % 4) + y1.val, by omega⟩ : Fin 2048) y2 := by
    blk_ext [idx19 t]
  rw [e]
  have hp : k0_pay13 (k0_pay4 (iblk m c 0 t) (iblk m c 1 t)) (iblk m c 5 t) (iblk m c 10 t) (ix3 y0 y1 y2) = k0_pay12 (k0_pay4 (iblk m c 0 t) (iblk m c 1 t)) (iblk m c 5 t) (iblk m c 10 t) (ix2 y1 ⟨y2.val, by omega⟩) := by
    unfold k0_pay13
    pointwise
  rw [hp, sig_at m c t y1 _ ⟨t.val / 4, by omega⟩ ⟨512 * (t.val % 4) + y1.val, by omega⟩ rfl rfl]
  pointwise [rGa]
  rw [rSig_at]

end Cert.Proof.Proj

end
-- ==== Proof.Proj.Keys.lean ====
/-
  The projection call's keys, stored head by head, are its reference's.
-/
module

public import proofs.«01_k».proof.Proof.Proj.Value

@[expose] public section

set_option maxHeartbeats 0

noncomputable section

namespace Cert.Proof.Proj

open Cert.Kernel2Ideal Cert.Kernel2Ideal.Gen

open Idealize.ShloMosaic
open Idealize.ShloMosaic.TcCoe
open Idealize.SL.Sem

variable (m : (ℓ : Loc nD τ sig) → Buf (Elt Ideal) ℓ) (c : Dev nD)

/-- Eight stores, one for each head, leave each head its own columns of the product. -/
theorem keys_at (t : Fin cfg0.N) (y0 : Fin 1) (y1 : Fin 8) (y2 : Fin 512) (y3 : Fin 64) :
    (outsAt0 m c t.val t.isLt).1 (ix4 y0 y1 y2 y3) =
      k0_pay19 (k0_pay4 (iblk m c 0 t) (iblk m c 1 t)) (iblk m c 2 t) (ix2 y2 ⟨64 * y1.val + y3.val, by omega⟩) := by
  by_cases h : t.val % 4 = 0
  · rw [outsAt0_A m c t h]
    dsimp only
    frame_out
    obtain ⟨q, hq⟩ := y1
    match q, hq with
    | 0, hq =>
      refine (canon_miss _ _ _ _ (1 : Fin 4) (Or.inl (show 0 < 7 by decide))).trans ?_
      refine (canon_miss _ _ _ _ (1 : Fin 4) (Or.inl (show 0 < 6 by decide))).trans ?_
      refine (canon_miss _ _ _ _ (1 : Fin 4) (Or.inl (show 0 < 5 by decide))).trans ?_
      refine (canon_miss _ _ _ _ (1 : Fin 4) (Or.inl (show 0 < 4 by decide))).trans ?_
      refine (canon_miss _ _ _ _ (1 : Fin 4) (Or.inl (show 0 < 3 by decide))).trans ?_
      refine (canon_miss _ _ _ _ (1 : Fin 4) (Or.inl (show 0 < 2 by decide))).trans ?_
      refine (canon_miss _ _ _ _ (1 : Fin 4) (Or.inl (show 0 < 1 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay20]
        try rfl
    | 1, hq =>
      refine (canon_miss _ _ _ _ (1 : Fin 4) (Or.inl (show 1 < 7 by decide))).trans ?_
      refine (canon_miss _ _ _ _ (1 : Fin 4) (Or.inl (show 1 < 6 by decide))).trans ?_
      refine (canon_miss _ _ _ _ (1 : Fin 4) (Or.inl (show 1 < 5 by decide))).trans ?_
      refine (canon_miss _ _ _ _ (1 : Fin 4) (Or.inl (show 1 < 4 by decide))).trans ?_
      refine (canon_miss _ _ _ _ (1 : Fin 4) (Or.inl (show 1 < 3 by decide))).trans ?_
      refine (canon_miss _ _ _ _ (1 : Fin 4) (Or.inl (show 1 < 2 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay22, k0_pay21]
        try rfl
    | 2, hq =>
      refine (canon_miss _ _ _ _ (1 : Fin 4) (Or.inl (show 2 < 7 by decide))).trans ?_
      refine (canon_miss _ _ _ _ (1 : Fin 4) (Or.inl (show 2 < 6 by decide))).trans ?_
      refine (canon_miss _ _ _ _ (1 : Fin 4) (Or.inl (show 2 < 5 by decide))).trans ?_
      refine (canon_miss _ _ _ _ (1 : Fin 4) (Or.inl (show 2 < 4 by decide))).trans ?_
      refine (canon_miss _ _ _ _ (1 : Fin 4) (Or.inl (show 2 < 3 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay23]
        try rfl
    | 3, hq =>
      refine (canon_miss _ _ _ _ (1 : Fin 4) (Or.inl (show 3 < 7 by decide))).trans ?_
      refine (canon_miss _ _ _ _ (1 : Fin 4) (Or.inl (show 3 < 6 by decide))).trans ?_
      refine (canon_miss _ _ _ _ (1 : Fin 4) (Or.inl (show 3 < 5 by decide))).trans ?_
      refine (canon_miss _ _ _ _ (1 : Fin 4) (Or.inl (show 3 < 4 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay24]
        try rfl
    | 4, hq =>
      refine (canon_miss _ _ _ _ (1 : Fin 4) (Or.inl (show 4 < 7 by decide))).trans ?_
      refine (canon_miss _ _ _ _ (1 : Fin 4) (Or.inl (show 4 < 6 by decide))).trans ?_
      refine (canon_miss _ _ _ _ (1 : Fin 4) (Or.inl (show 4 < 5 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay25]
        try rfl
    | 5, hq =>
      refine (canon_miss _ _ _ _ (1 : Fin 4) (Or.inl (show 5 < 7 by decide))).trans ?_
      refine (canon_miss _ _ _ _ (1 : Fin 4) (Or.inl (show 5 < 6 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay26]
        try rfl
    | 6, hq =>
      refine (canon_miss _ _ _ _ (1 : Fin 4) (Or.inl (show 6 < 7 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay27]
        try rfl
    | 7, hq =>
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay1, k0_pay28]
        try rfl
  · rw [outsAt0_B m c t h]
    dsimp only
    frame_out
    obtain ⟨q, hq⟩ := y1
    match q, hq with
    | 0, hq =>
      refine (canon_miss _ _ _ _ (1 : Fin 4) (Or.inl (show 0 < 7 by decide))).trans ?_
      refine (canon_miss _ _ _ _ (1 : Fin 4) (Or.inl (show 0 < 6 by decide))).trans ?_
      refine (canon_miss _ _ _ _ (1 : Fin 4) (Or.inl (show 0 < 5 by decide))).trans ?_
      refine (canon_miss _ _ _ _ (1 : Fin 4) (Or.inl (show 0 < 4 by decide))).trans ?_
      refine (canon_miss _ _ _ _ (1 : Fin 4) (Or.inl (show 0 < 3 by decide))).trans ?_
      refine (canon_miss _ _ _ _ (1 : Fin 4) (Or.inl (show 0 < 2 by decide))).trans ?_
      refine (canon_miss _ _ _ _ (1 : Fin 4) (Or.inl (show 0 < 1 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay20]
        try rfl
    | 1, hq =>
      refine (canon_miss _ _ _ _ (1 : Fin 4) (Or.inl (show 1 < 7 by decide))).trans ?_
      refine (canon_miss _ _ _ _ (1 : Fin 4) (Or.inl (show 1 < 6 by decide))).trans ?_
      refine (canon_miss _ _ _ _ (1 : Fin 4) (Or.inl (show 1 < 5 by decide))).trans ?_
      refine (canon_miss _ _ _ _ (1 : Fin 4) (Or.inl (show 1 < 4 by decide))).trans ?_
      refine (canon_miss _ _ _ _ (1 : Fin 4) (Or.inl (show 1 < 3 by decide))).trans ?_
      refine (canon_miss _ _ _ _ (1 : Fin 4) (Or.inl (show 1 < 2 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay22, k0_pay21]
        try rfl
    | 2, hq =>
      refine (canon_miss _ _ _ _ (1 : Fin 4) (Or.inl (show 2 < 7 by decide))).trans ?_
      refine (canon_miss _ _ _ _ (1 : Fin 4) (Or.inl (show 2 < 6 by decide))).trans ?_
      refine (canon_miss _ _ _ _ (1 : Fin 4) (Or.inl (show 2 < 5 by decide))).trans ?_
      refine (canon_miss _ _ _ _ (1 : Fin 4) (Or.inl (show 2 < 4 by decide))).trans ?_
      refine (canon_miss _ _ _ _ (1 : Fin 4) (Or.inl (show 2 < 3 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay23]
        try rfl
    | 3, hq =>
      refine (canon_miss _ _ _ _ (1 : Fin 4) (Or.inl (show 3 < 7 by decide))).trans ?_
      refine (canon_miss _ _ _ _ (1 : Fin 4) (Or.inl (show 3 < 6 by decide))).trans ?_
      refine (canon_miss _ _ _ _ (1 : Fin 4) (Or.inl (show 3 < 5 by decide))).trans ?_
      refine (canon_miss _ _ _ _ (1 : Fin 4) (Or.inl (show 3 < 4 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay24]
        try rfl
    | 4, hq =>
      refine (canon_miss _ _ _ _ (1 : Fin 4) (Or.inl (show 4 < 7 by decide))).trans ?_
      refine (canon_miss _ _ _ _ (1 : Fin 4) (Or.inl (show 4 < 6 by decide))).trans ?_
      refine (canon_miss _ _ _ _ (1 : Fin 4) (Or.inl (show 4 < 5 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay25]
        try rfl
    | 5, hq =>
      refine (canon_miss _ _ _ _ (1 : Fin 4) (Or.inl (show 5 < 7 by decide))).trans ?_
      refine (canon_miss _ _ _ _ (1 : Fin 4) (Or.inl (show 5 < 6 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay26]
        try rfl
    | 6, hq =>
      refine (canon_miss _ _ _ _ (1 : Fin 4) (Or.inl (show 6 < 7 by decide))).trans ?_
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay27]
        try rfl
    | 7, hq =>
      refine (canon_hit _ _ _ _ (ix4 (0 : Fin 1) (0 : Fin 1) y2 y3) ?_).trans ?_
      · intro a
        fin_cases a
        · show y0.val = 0 + 0
          omega
        · rfl
        · exact (Nat.zero_add _).symm
        · exact (Nat.zero_add _).symm
      · pointwise [k0_pay1, k0_pay28]
        try rfl

/-- Where the block of the keys goes. -/
theorem idx13 : ∀ t : Fin cfg0.N, win0_13.index t = ![t.val / 4, 0, t.val % 4, 0] := by decide +kernel

/-- The keys: the reference's. -/
theorem out13 :
    (dats m 0 c).arrAt 13 cfg0.N = rK (m (c.tc.loc main_arg0)) (m (c.tc.loc main_arg1)) (m (c.tc.loc main_arg2)) := by
  refine (dats m 0 c).arrAt_eq_of_covers 13 _ (show win0_13.Covers by decide +kernel) fun t hf y => ?_
  blk_simp
  rw [after0_13]
  have hN : t.val < 32 := t.isLt
  idx_vars y
  have e : ((View.whole main_v26_0).slice (win0_13.rect t)).emb (ix4 y0 y1 y2 y3) =
      ix4 (⟨t.val / 4, by omega⟩ : Fin 8) y1 (⟨512 * (t.val % 4) + y2.val, by omega⟩ : Fin 2048) y3 := by
    blk_ext [idx13 t]
  rw [e]
  refine (keys_at m c t y0 y1 y2 y3).trans ?_
  pointwise [rK, k0_pay19]
  rw [rProj_at]
  show (_ : EReal) = _
  refine Finset.sum_congr rfl fun k _ => ?_
  rw [blk2 m c t k ⟨64 * y1.val + y3.val, by omega⟩ ⟨512 + (y1.val * 64 + y3.val), by omega⟩
      (show 512 + (y1.val * 64 + y3.val) = 512 + (64 * y1.val + y3.val) by omega),
    xn_at m c t y2 k ⟨t.val / 4, by omega⟩ ⟨512 * (t.val % 4) + y2.val, by omega⟩ rfl rfl]

end Cert.Proof.Proj

end
-- ==== Proof.Proj.Conv.lean ====
/-
  The projection call's gated convolution, through the rows it carries from tile to tile.
-/
module

public import proofs.«01_k».proof.Proof.Proj.Value

@[expose] public section

set_option maxHeartbeats 0

noncomputable section

namespace Cert.Proof.Proj

open Cert.Kernel2Ideal Cert.Kernel2Ideal.Gen

open Idealize.ShloMosaic
open Idealize.ShloMosaic.TcCoe
open Idealize.SL.Sem

variable (m : (ℓ : Loc nD τ sig) → Buf (Elt Ideal) ℓ) (c : Dev nD)

/-- Two rows later the padded input is the input. -/
theorem sPad_two (X : FVec Ideal S8x2048x1024 .f32) (G : FVec Ideal S1x1024 .f32) (W : FVec Ideal S1x1024x5704 .f32) (b : Fin 8) (s : Fin 2048)
    (h : 2 + s.val < 2050) (e : Fin 512) : sPad X G W b ⟨2 + s.val, h⟩ e = sU X G W b s e := by
  unfold sPad
  rw [dif_pos (show 2 ≤ 2 + s.val by omega)]
  congr 2
  show 2 + s.val - 2 = s.val
  omega

/-- The convolution's projections of the block are the formula's. -/
theorem pc_at (t : Fin cfg0.N) (r : Fin 512) (e : Fin 1536) (b : Fin 8) (s : Fin 2048) (hb : b.val = t.val / 4)
    (hs : s.val = 512 * (t.val % 4) + r.val) :
    k0_pay5 (iblk m c 0 t) (iblk m c 1 t) (iblk m c 4 t) (ix2 r e) = sProj (m (c.tc.loc main_arg0)) (m (c.tc.loc main_arg1)) (m (c.tc.loc main_arg2)) b s ⟨2120 + e.val, by omega⟩ := by
  pointwise [k0_pay5]
  unfold sProj
  show (_ : EReal) = _
  refine Finset.sum_congr rfl fun k _ => ?_
  rw [xn_at m c t r k b s hb hs, blk4 m c t k e ⟨2120 + e.val, by omega⟩ rfl]

/-- The convolution's inputs of the block are the formula's. -/
theorem u_at (t : Fin cfg0.N) (r : Fin 512) (x : Fin 512) (b : Fin 8) (s : Fin 2048) (hb : b.val = t.val / 4)
    (hs : s.val = 512 * (t.val % 4) + r.val) :
    k0_pay7 (iblk m c 0 t) (iblk m c 1 t) (iblk m c 4 t) (ix2 r x) = sU (m (c.tc.loc main_arg0)) (m (c.tc.loc main_arg1)) (m (c.tc.loc main_arg2)) b s x := by
  pointwise [k0_pay7]
  rw [pc_at m c t r _ b s hb hs, pc_at m c t r _ b s hb hs]
  unfold sU
  congr 3
  show 2120 + (1024 + x.val) = 3144 + x.val
  omega

/-- A point leaves the last eight rows of its inputs in the first eight rows of the scratch. -/
theorem hist_at (t : Fin cfg0.N) (p : Fin 520) (hp : p.val < 8) (x : Fin 512) :
    (outsAt0 m c t.val t.isLt).2.2.2.2.2.2.2.2 (ix2 p x) = k0_pay7 (iblk m c 0 t) (iblk m c 1 t) (iblk m c 4 t) (ix2 ⟨504 + p.val, by omega⟩ x) := by
  by_cases h : t.val % 4 = 0
  · rw [outsAt0_A m c t h]
    dsimp only
    frame_out
    refine (canon_hit _ _ _ _ (ix2 (⟨p.val, hp⟩ : Fin 8) x) ?_).trans ?_
    · intro a
      fin_cases a
      · exact (Nat.zero_add _).symm
      · exact (Nat.zero_add _).symm
    · pointwise [k0_pay10]
  · rw [outsAt0_B m c t h]
    dsimp only
    frame_out
    refine (canon_hit _ _ _ _ (ix2 (⟨p.val, hp⟩ : Fin 8) x) ?_).trans ?_
    · intro a
      fin_cases a
      · exact (Nat.zero_add _).symm
      · exact (Nat.zero_add _).symm
    · pointwise [k0_pay10]

/-- The convolved block, from the two shifted reads of the scratch: each holds the formula's shifted inputs. -/
theorem conv_form (t : Fin cfg0.N) :
    ∃ v w : Vec Ideal S512x512 .f32, (outsAt0 m c t.val t.isLt).2.2.2.2.2.2.2.1 =
        k0_pay3 (k0_pay11 (k0_pay6 (iblk m c 0 t) (iblk m c 1 t) (iblk m c 4 t)) (k0_pay7 (iblk m c 0 t) (iblk m c 1 t) (iblk m c 4 t)) v w (iblk m c 11 t))
          (k0_pay12 (k0_pay4 (iblk m c 0 t) (iblk m c 1 t)) (iblk m c 5 t) (iblk m c 10 t)) (iblk m c 12 t) ∧
      ∀ (r : Fin 512) (x : Fin 512) (b : Fin 8) (s : Fin 2048) (hb : b.val = t.val / 4)
    (hs : s.val = 512 * (t.val % 4) + r.val),
        v (ix2 r x) = sPad (m (c.tc.loc main_arg0)) (m (c.tc.loc main_arg1)) (m (c.tc.loc main_arg2)) b ⟨1 + s.val, by omega⟩ x ∧ w (ix2 r x) = sPad (m (c.tc.loc main_arg0)) (m (c.tc.loc main_arg1)) (m (c.tc.loc main_arg2)) b ⟨s.val, by omega⟩ x := by
  by_cases h : t.val % 4 = 0
  · rw [outsAt0_A m c t h]
    dsimp only
    frame_out
    refine ⟨_, _, rfl, fun r x b s hb hs => ⟨?_, ?_⟩⟩
    · rw [View.readCov_eq_canon']
      have e : (Rect.unit ![7, 0] ![512, 512] inb_S520x512_S512x512_7_0).toLoadRect.idx (ix2 r x) =
          ix2 (⟨7 + r.val, by omega⟩ : Fin 520) x := by
        funext a
        fin_cases a
        · apply Fin.ext
          show 7 + 1 * r.val = 7 + r.val
          omega
        · apply Fin.ext
          show 0 + 1 * x.val = x.val
          omega
      refine (congrArg _ e).trans ?_
      by_cases hr : 1 ≤ r.val
      · refine (canon_hit _ _ _ _ (ix2 (⟨r.val - 1, by omega⟩ : Fin 512) x) ?_).trans ?_
        · intro a
          fin_cases a
          · show 7 + r.val = 8 + (r.val - 1)
            omega
          · exact (Nat.zero_add _).symm
        · pointwise [k0_pay9]
          rw [u_at m c t _ x b ⟨s.val - 1, by omega⟩ hb (show s.val - 1 = 512 * (t.val % 4) + (r.val - 1) by omega)]
          unfold sPad
          rw [dif_pos (show 2 ≤ 1 + s.val by omega)]
          congr 2
          show s.val - 1 = 1 + s.val - 2
          omega
      · refine (canon_miss _ _ _ _ (0 : Fin 2) (Or.inl (show 7 + r.val < 8 by omega))).trans ?_
        refine (canon_hit _ _ _ _ (ix2 (⟨7 + r.val, by omega⟩ : Fin 8) x) ?_).trans ?_
        · intro a
          fin_cases a
          · exact (Nat.zero_add _).symm
          · exact (Nat.zero_add _).symm
        · unfold sPad
          rw [dif_neg (show ¬ 2 ≤ 1 + s.val by omega)]
          pointwise [k0_pay8]
    · rw [View.readCov_eq_canon']
      have e : (Rect.unit ![6, 0] ![512, 512] inb_S520x512_S512x512_6_0).toLoadRect.idx (ix2 r x) =
          ix2 (⟨6 + r.val, by omega⟩ : Fin 520) x := by
        funext a
        fin_cases a
        · apply Fin.ext
          show 6 + 1 * r.val = 6 + r.val
          omega
        · apply Fin.ext
          show 0 + 1 * x.val = x.val
          omega
      refine (congrArg _ e).trans ?_
      by_cases hr : 2 ≤ r.val
      · refine (canon_hit _ _ _ _ (ix2 (⟨r.val - 2, by omega⟩ : Fin 512) x) ?_).trans ?_
        · intro a
          fin_cases a
          · show 6 + r.val = 8 + (r.val - 2)
            omega
          · exact (Nat.zero_add _).symm
        · pointwise [k0_pay9]
          rw [u_at m c t _ x b ⟨s.val - 2, by omega⟩ hb (show s.val - 2 = 512 * (t.val % 4) + (r.val - 2) by omega)]
          unfold sPad
          rw [dif_pos (show 2 ≤ s.val by omega)]
      · refine (canon_miss _ _ _ _ (0 : Fin 2) (Or.inl (show 6 + r.val < 8 by omega))).trans ?_
        refine (canon_hit _ _ _ _ (ix2 (⟨6 + r.val, by omega⟩ : Fin 8) x) ?_).trans ?_
        · intro a
          fin_cases a
          · exact (Nat.zero_add _).symm
          · exact (Nat.zero_add _).symm
        · unfold sPad
          rw [dif_neg (show ¬ 2 ≤ s.val by omega)]
          pointwise [k0_pay8]
  · rw [outsAt0_B m c t h]
    dsimp only
    frame_out
    refine ⟨_, _, rfl, fun r x b s hb hs => ⟨?_, ?_⟩⟩
    · pointwise
      by_cases hr : 1 ≤ r.val
      · refine (View.read_writes_cons_unit_of_mem (View.whole cc0_scratch0) _ _ _ _ _
          (ix2 (⟨r.val - 1, by omega⟩ : Fin 512) x) rfl ?_).trans ?_
        · intro a
          fin_cases a
          · show 7 + r.val = 8 + (r.val - 1)
            omega
          · exact (Nat.zero_add _).symm
        · pointwise [k0_pay9]
          rw [u_at m c t _ x b ⟨s.val - 1, by omega⟩ hb (show s.val - 1 = 512 * (t.val % 4) + (r.val - 1) by omega)]
          unfold sPad
          rw [dif_pos (show 2 ≤ 1 + s.val by omega)]
          congr 2
          show s.val - 1 = 1 + s.val - 2
          omega
      · refine (View.read_writes_cons_unit_of_not_mem (View.whole cc0_scratch0) _ _ _ _ _ rfl
          (0 : Fin 2) (Or.inl (show 7 + r.val < 8 by omega))).trans ?_
        rw [View.writes_nil, read_unread_whole]
        have ht : t.val - 1 < cfg0.N := by have := t.isLt; omega
        refine (hist_at m c ⟨t.val - 1, ht⟩ ⟨7 + r.val, by omega⟩ (show 7 + r.val < 8 by omega) x).trans ?_
        have hN : t.val < 32 := t.isLt
        rw [u_at m c ⟨t.val - 1, ht⟩ _ x b ⟨s.val - 1, by omega⟩ (show b.val = (t.val - 1) / 4 by omega)
          (show s.val - 1 = 512 * ((t.val - 1) % 4) + (504 + (7 + r.val)) by omega)]
        unfold sPad
        rw [dif_pos (show 2 ≤ 1 + s.val by omega)]
        congr 2
        show s.val - 1 = 1 + s.val - 2
        omega
    · pointwise
      by_cases hr : 2 ≤ r.val
      · refine (View.read_writes_cons_unit_of_mem (View.whole cc0_scratch0) _ _ _ _ _
          (ix2 (⟨r.val - 2, by omega⟩ : Fin 512) x) rfl ?_).trans ?_
        · intro a
          fin_cases a
          · show 6 + r.val = 8 + (r.val - 2)
            omega
          · exact (Nat.zero_add _).symm
        · pointwise [k0_pay9]
          rw [u_at m c t _ x b ⟨s.val - 2, by omega⟩ hb (show s.val - 2 = 512 * (t.val % 4) + (r.val - 2) by omega)]
          unfold sPad
          rw [dif_pos (show 2 ≤ s.val by omega)]
      · refine (View.read_writes_cons_unit_of_not_mem (View.whole cc0_scratch0) _ _ _ _ _ rfl
          (0 : Fin 2) (Or.inl (show 6 + r.val < 8 by omega))).trans ?_
        rw [View.writes_nil, read_unread_whole]
        have ht : t.val - 1 < cfg0.N := by have := t.isLt; omega
        refine (hist_at m c ⟨t.val - 1, ht⟩ ⟨6 + r.val, by omega⟩ (show 6 + r.val < 8 by omega) x).trans ?_
        have hN : t.val < 32 := t.isLt
        rw [u_at m c ⟨t.val - 1, ht⟩ _ x b ⟨s.val - 2, by omega⟩ (show b.val = (t.val - 1) / 4 by omega)
          (show s.val - 2 = 512 * ((t.val - 1) % 4) + (504 + (6 + r.val)) by omega)]
        unfold sPad
        rw [dif_pos (show 2 ≤ s.val by omega)]

/-- Where the block of the convolution's result goes. -/
theorem idx20 : ∀ t : Fin cfg0.N, win0_20.index t = ![t.val / 4, t.val % 4, 0] := by decide +kernel

/-- The gated convolution's result: the reference's. -/
theorem out20 :
    (dats m 0 c).arrAt 20 cfg0.N = rMc (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 20 _ (show win0_20.Covers by decide +kernel) fun t hf y => ?_
  blk_simp
  rw [after0_20]
  obtain ⟨v, w, hh, hv⟩ := conv_form m c t
  rw [hh]
  have hN : t.val < 32 := t.isLt
  idx_vars y
  have e : ((View.whole main_v26_7).slice (win0_20.rect t)).emb (ix3 y0 y1 y2) =
      ix3 (⟨t.val / 4, by omega⟩ : Fin 8) (⟨512 * (t.val % 4) + y1.val, by omega⟩ : Fin 2048) y2 := by
    blk_ext [idx20 t]
  rw [e, rMc_at]
  pointwise [k0_pay3, k0_pay11, k0_pay6]
  rw [sig_at m c t y1 _ ⟨t.val / 4, by omega⟩ ⟨512 * (t.val % 4) + y1.val, by omega⟩ rfl rfl]
  show (_ : EReal) = _
  congr 1
  refine Finset.sum_congr rfl fun x _ => ?_
  rw [(hv y1 x ⟨t.val / 4, by omega⟩ ⟨512 * (t.val % 4) + y1.val, by omega⟩ rfl rfl).1,
    (hv y1 x ⟨t.val / 4, by omega⟩ ⟨512 * (t.val % 4) + y1.val, by omega⟩ rfl rfl).2,
    u_at m c t y1 x ⟨t.val / 4, by omega⟩ ⟨512 * (t.val % 4) + y1.val, by omega⟩ rfl rfl,
    pc_at m c t y1 _ ⟨t.val / 4, by omega⟩ ⟨512 * (t.val % 4) + y1.val, by omega⟩ rfl rfl,
    blk11, blk11, blk11, blk12]
  refine congrArg₂ (· * ·) (congrArg₂ (· * ·) ?_ ?_) rfl
  · congr 1
    apply Fin.ext
    show 2120 + (512 + x.val) = 2632 + x.val
    omega
  · exact congrArg₂ (· + ·) rfl (congrArg₂ (· * ·) (sPad_two _ _ _ _ _ _ _).symm rfl)

end Cert.Proof.Proj

end
-- ==== Proof.Proj.Exact.lean ====
/-
  The projection call computes what its plain form computes.
-/
module

public import proofs.«01_k».proof.Defs
public import proofs.«01_k».proof.Proof.Proj.Keys
public import proofs.«01_k».proof.Proof.Proj.Conv

@[expose] public section

set_option maxHeartbeats 0

noncomputable section

namespace Cert.Proof.Proj

open Idealize.ShloMosaic
open Idealize.ShloMosaic.TcCoe
open Idealize.SL.Sem

/-- From the same inputs the projection call and its plain form end with the same eight results, over the reals. -/
theorem equal : Cert.algebraic_Kernel2Ideal_Reference2Ideal := by
  intro m g m' g' _ hag
  refine ⟨fun c => rK (m (c.tc.loc Cert.Kernel2Ideal.main_arg0)) (m (c.tc.loc Cert.Kernel2Ideal.main_arg1)) (m (c.tc.loc Cert.Kernel2Ideal.main_arg2)),
    fun c => rIk (m (c.tc.loc Cert.Kernel2Ideal.main_arg0)) (m (c.tc.loc Cert.Kernel2Ideal.main_arg1)) (m (c.tc.loc Cert.Kernel2Ideal.main_arg2)),
    fun c => rQ (m (c.tc.loc Cert.Kernel2Ideal.main_arg0)) (m (c.tc.loc Cert.Kernel2Ideal.main_arg1)) (m (c.tc.loc Cert.Kernel2Ideal.main_arg2)),
    fun c => rV (m (c.tc.loc Cert.Kernel2Ideal.main_arg0)) (m (c.tc.loc Cert.Kernel2Ideal.main_arg1)) (m (c.tc.loc Cert.Kernel2Ideal.main_arg2)),
    fun c => rIq (m (c.tc.loc Cert.Kernel2Ideal.main_arg0)) (m (c.tc.loc Cert.Kernel2Ideal.main_arg1)) (m (c.tc.loc Cert.Kernel2Ideal.main_arg2)),
    fun c => rIw (m (c.tc.loc Cert.Kernel2Ideal.main_arg0)) (m (c.tc.loc Cert.Kernel2Ideal.main_arg1)) (m (c.tc.loc Cert.Kernel2Ideal.main_arg2)),
    fun c => rGa (m (c.tc.loc Cert.Kernel2Ideal.main_arg0)) (m (c.tc.loc Cert.Kernel2Ideal.main_arg1)) (m (c.tc.loc Cert.Kernel2Ideal.main_arg2)) (m (c.tc.loc Cert.Kernel2Ideal.main_arg3)),
    fun c => rMc (m (c.tc.loc Cert.Kernel2Ideal.main_arg0)) (m (c.tc.loc Cert.Kernel2Ideal.main_arg1)) (m (c.tc.loc Cert.Kernel2Ideal.main_arg2)) (m (c.tc.loc Cert.Kernel2Ideal.main_arg3)) (m (c.tc.loc Cert.Kernel2Ideal.main_arg4)) (m (c.tc.loc Cert.Kernel2Ideal.main_arg5)),
    ?_, ?_⟩
  · refine (θ_run _ _ _).mono (fun r h c => ?_) (Cert.Kernel2Ideal.Value.run_blocks (F := Ideal) m g)
    obtain ⟨h0, h1, h2, h3, h4, h5, h6, h7, hk⟩ := h c
    exact ⟨h0.trans (out13 m c), h1.trans (out14 m c), h2.trans (out15 m c), h3.trans (out16 m c), h4.trans (out17 m c), h5.trans (out18 m c), h6.trans (out19 m c), h7.trans (out20 m c), hk⟩
  · refine (θ_run _ _ _).mono (fun r h c => ?_) (Cert.Reference2Ideal.Value.run (F := Ideal) m' g')
    obtain ⟨h0, h1, h2, h3, h4, h5, h6, h7, hk⟩ := h c
    obtain ⟨e0, e1, e2, e3, e4, e5⟩ := hag c
    refine ⟨h0.trans ?_, h1.trans ?_, h2.trans ?_, h3.trans ?_, h4.trans ?_, h5.trans ?_, h6.trans ?_, h7.trans ?_, hk⟩
    · rw [e0, e1, e2]
      rfl
    · rw [e0, e1, e2]
      rfl
    · rw [e0, e1, e2]
      rfl
    · rw [e0, e1, e2]
      rfl
    · rw [e0, e1, e2]
      rfl
    · rw [e0, e1, e2]
      rfl
    · rw [e0, e1, e2, e3]
      rfl
    · unfold Cert.Reference2Ideal.Value.res_main_v77
      rw [e0, e1, e2, e3, e4, e5]
      rfl

end Cert.Proof.Proj

end
-- ==== Proof.Ffn.Runs.lean ====
/- The feed-forward's launch: what its runs are stated over. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition: the grid's first point. -/
abbrev cond1 (i : grid0.Coords) : Prop :=
  (Scalar.cmpi .ne (Scalar.extui (Scalar.cmpi .eq (BitVec.ofNat 32 (i 0).val) 0#32)) 0#32) = 1#1

/-- The second branch's condition: the first tile of a sequence is convolved. -/
abbrev cond2 (i : grid0.Coords) : Prop :=
  (Scalar.cmpi .ne (Scalar.extui (Scalar.ori (Scalar.cmpi .eq (BitVec.ofNat 32 (i 0).val) 0#32)
    (Scalar.cmpi .eq (Scalar.remsi (Scalar.subi (BitVec.ofNat 32 (i 0).val) 1#32) 8#32) 0#32))) 0#32) = 1#1

theorem cond1_iff : ∀ t : Fin cfg0.N, cond1 (grid0.coords t) ↔ t.val = 0 :=
  (by decide +kernel : ∀ t : Fin grid0.N, cond1 (grid0.coords t) ↔ t.val = 0)

theorem cond2_iff : ∀ t : Fin cfg0.N, cond2 (grid0.coords t) ↔ (t.val = 0 ∨ t.val % 8 = 1) :=
  (by decide +kernel : ∀ t : Fin grid0.N, cond2 (grid0.coords t) ↔ (t.val = 0 ∨ t.val % 8 = 1))

theorem off1_eq : ∀ t : Fin cfg0.N, k0_off1 (grid0.coords t) = ![(t.val + 1) % 2, 0, 0] :=
  (by decide +kernel : ∀ t : Fin grid0.N, k0_off1 (grid0.coords t) = ![(t.val + 1) % 2, 0, 0])

theorem off2_eq : ∀ t : Fin cfg0.N, k0_off2 (grid0.coords t) = ![t.val % 2, 0, 0] :=
  (by decide +kernel : ∀ t : Fin grid0.N, k0_off2 (grid0.coords t) = ![t.val % 2, 0, 0])

end Cert.Kernel3Ideal.Ffn

end
-- ==== Proof.Ffn.RunA.lean ====
/- One point of the feed-forward's grid: the body's run. -/
module

public import proofs.«01_k».proof.Proof.Ffn.Runs

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.closedPieces true in
set_option sl_exec.squeezeSlice true in
set_option maxHeartbeats 4000000 in
/-- What the body's stores leave in the output's buffer and in the five carried buffers, as pieces (last first), in
    case A, with the proof that the body runs from the blocks and the carried contents to those. -/
noncomputable def runA (c : Dev nD) (i : grid0.Coords) (arg1 : Memref sig .tc .vmem S1x256x1024 .f32) (harg1 : arg1.IsWhole) (arg2 : Memref sig .tc .vmem S1x256x512 .bf16) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S11x264x256 .f32) (harg13 : arg13.IsWhole) (arg14 : Memref sig .tc .vmem S11x264x256 .f32) (harg14 : arg14.IsWhole) (arg15 : Memref sig .tc .vmem S2x256x1024 .f32) (harg15 : arg15.IsWhole) (arg16 : Memref sig .tc .vmem S2x256x1024 .bf16) (harg16 : arg16.IsWhole) (arg17 : Memref sig .tc .vmem S256x1024 .bf16) (harg17 : arg17.IsWhole) (hc1 : cond1 i) (hc2 : cond2 i) (ho1 : k0_off1 i = ![1, 0, 0]) (ho2 : k0_off2 i = ![0, 0, 0])
    (x0 : Vec F S1x256x1024 .f32) (x1 : Vec F S1x256x512 .bf16) (x2 : Vec F S1x256x1024 .f32) (x3 : Vec F S1x256x1024 .f32) (x4 : Vec F S512x1024 .bf16) (x5 : Vec F S1024x1024 .bf16) (x6 : Vec F S1x1024 .f32) (x7 : Vec F S1024x5632 .bf16) (x8 : Vec F S3x5632 .f32) (x9 : Vec F S2816x1024 .bf16) (x10 : Vec F S1x1024 .f32)  :
    Σ' (L11 : List (View.Piece (Elt F) S1x256x1024 .f32)), Σ' (M0 : List (View.Piece (Elt F) S11x264x256 .f32)), Σ' (M1 : List (View.Piece (Elt F) S11x264x256 .f32)), Σ' (M2 : List (View.Piece (Elt F) S2x256x1024 .f32)), Σ' (M3 : List (View.Piece (Elt F) S2x256x1024 .bf16)), { M4 : List (View.Piece (Elt F) S256x1024 .bf16) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f M0) ∗ (∃ f, arg14.view.loc (c : Thread nD τ) ↦[arg14.view.set]{fullShare} arg14.view.writes (Elt F) f M1) ∗ (∃ f, arg15.view.loc (c : Thread nD τ) ↦[arg15.view.set]{fullShare} arg15.view.writes (Elt F) f M2) ∗ (∃ f, arg16.view.loc (c : Thread nD τ) ↦[arg16.view.set]{fullShare} arg16.view.writes (Elt F) f M3) ∗ (∃ f, arg17.view.loc (c : Thread nD τ) ↦[arg17.view.set]{fullShare} arg17.view.writes (Elt F) f M4)) -∗ K ⟨⟩))
        ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    letI : ClosedOff (k0_off1 i) := ⟨![1, 0, 0], ho1⟩
    letI : ClosedOff (k0_off2 i) := ⟨![0, 0, 0], ho2⟩
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d20, %g0, -, G0⟩, ⟨%d21, %g1, -, G1⟩, ⟨%d22, %g2, -, G2⟩, ⟨%d23, %g3, -, G3⟩, ⟨%d16, %f16, -, G4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10;
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [G0]; · iexists _; iexact G0
    isplitl [G1]; · iexists _; iexact G1
    isplitl [G2]; · iexists _; iexact G2
    isplitl [G3]; · iexists _; iexact G3
    iexists _; iexact G4

end Cert.Kernel3Ideal.Ffn

end
-- ==== Proof.Ffn.RunB.lean ====
/- One point of the feed-forward's grid: the body's run. -/
module

public import proofs.«01_k».proof.Proof.Ffn.RunA

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 4000000 in
/-- What the body's stores leave in the output's buffer and in the five carried buffers, as pieces (last first), in
    case B, with the proof that the body runs from the blocks and the carried contents to those. -/
noncomputable def runB (c : Dev nD) (i : grid0.Coords) (arg1 : Memref sig .tc .vmem S1x256x1024 .f32) (harg1 : arg1.IsWhole) (arg2 : Memref sig .tc .vmem S1x256x512 .bf16) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S11x264x256 .f32) (harg13 : arg13.IsWhole) (arg14 : Memref sig .tc .vmem S11x264x256 .f32) (harg14 : arg14.IsWhole) (arg15 : Memref sig .tc .vmem S2x256x1024 .f32) (harg15 : arg15.IsWhole) (arg16 : Memref sig .tc .vmem S2x256x1024 .bf16) (harg16 : arg16.IsWhole) (arg17 : Memref sig .tc .vmem S256x1024 .bf16) (harg17 : arg17.IsWhole) (hc1 : ¬cond1 i) (hc2 : cond2 i)
    (x0 : Vec F S1x256x1024 .f32) (x1 : Vec F S1x256x512 .bf16) (x2 : Vec F S1x256x1024 .f32) (x3 : Vec F S1x256x1024 .f32) (x4 : Vec F S512x1024 .bf16) (x5 : Vec F S1024x1024 .bf16) (x6 : Vec F S1x1024 .f32) (x7 : Vec F S1024x5632 .bf16) (x8 : Vec F S3x5632 .f32) (x9 : Vec F S2816x1024 .bf16) (x10 : Vec F S1x1024 .f32) (z0 : Vec F S11x264x256 .f32) (z1 : Vec F S11x264x256 .f32) (z2 : Vec F S2x256x1024 .f32) (z3 : Vec F S2x256x1024 .bf16) :
    Σ' (L11 : List (View.Piece (Elt F) S1x256x1024 .f32)), Σ' (M0 : List (View.Piece (Elt F) S11x264x256 .f32)), Σ' (M1 : List (View.Piece (Elt F) S11x264x256 .f32)), Σ' (M2 : List (View.Piece (Elt F) S2x256x1024 .f32)), Σ' (M3 : List (View.Piece (Elt F) S2x256x1024 .bf16)), { M4 : List (View.Piece (Elt F) S256x1024 .bf16) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare z0 ∗ owns (c : Thread nD τ) arg14 fullShare z1 ∗ owns (c : Thread nD τ) arg15 fullShare z2 ∗ owns (c : Thread nD τ) arg16 fullShare z3 ∗ (∃ d, owns (c : Thread nD τ) arg17 fullShare d) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread z0) M0) ∗ (arg14.view.loc (c : Thread nD τ) ↦[arg14.view.set]{fullShare} arg14.view.writes (Elt F) (harg14.unread z1) M1) ∗ (arg15.view.loc (c : Thread nD τ) ↦[arg15.view.set]{fullShare} arg15.view.writes (Elt F) (harg15.unread z2) M2) ∗ (arg16.view.loc (c : Thread nD τ) ↦[arg16.view.set]{fullShare} arg16.view.writes (Elt F) (harg16.unread z3) M3) ∗ (∃ f, arg17.view.loc (c : Thread nD τ) ↦[arg17.view.set]{fullShare} arg17.view.writes (Elt F) f M4)) -∗ K ⟨⟩))
        ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%g0, %hg0, G0⟩, ⟨%g1, %hg1, G1⟩, ⟨%g2, %hg2, G2⟩, ⟨%g3, %hg3, G3⟩, ⟨%d16, %f16, -, G4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hg0; obtain rfl := harg14.eq_unread hg1; obtain rfl := harg15.eq_unread hg2; obtain rfl := harg16.eq_unread hg3
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [G0]; · iexact G0
    isplitl [G1]; · iexact G1
    isplitl [G2]; · iexact G2
    isplitl [G3]; · iexact G3
    iexists _; iexact G4

end Cert.Kernel3Ideal.Ffn

end
-- ==== Proof.Ffn.RunC.lean ====
/- One point of the feed-forward's grid: the body's run. -/
module

public import proofs.«01_k».proof.Proof.Ffn.RunB

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option sl_exec.squeezeSlice true in
set_option maxHeartbeats 4000000 in
/-- What the body's stores leave in the output's buffer and in the five carried buffers, as pieces (last first), in
    case C, with the proof that the body runs from the blocks and the carried contents to those. -/
noncomputable def runC (c : Dev nD) (i : grid0.Coords) (arg1 : Memref sig .tc .vmem S1x256x1024 .f32) (harg1 : arg1.IsWhole) (arg2 : Memref sig .tc .vmem S1x256x512 .bf16) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S512x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S11x264x256 .f32) (harg13 : arg13.IsWhole) (arg14 : Memref sig .tc .vmem S11x264x256 .f32) (harg14 : arg14.IsWhole) (arg15 : Memref sig .tc .vmem S2x256x1024 .f32) (harg15 : arg15.IsWhole) (arg16 : Memref sig .tc .vmem S2x256x1024 .bf16) (harg16 : arg16.IsWhole) (arg17 : Memref sig .tc .vmem S256x1024 .bf16) (harg17 : arg17.IsWhole) (hc1 : ¬cond1 i) (hc2 : ¬cond2 i)
    (x0 : Vec F S1x256x1024 .f32) (x1 : Vec F S1x256x512 .bf16) (x2 : Vec F S1x256x1024 .f32) (x3 : Vec F S1x256x1024 .f32) (x4 : Vec F S512x1024 .bf16) (x5 : Vec F S1024x1024 .bf16) (x6 : Vec F S1x1024 .f32) (x7 : Vec F S1024x5632 .bf16) (x8 : Vec F S3x5632 .f32) (x9 : Vec F S2816x1024 .bf16) (x10 : Vec F S1x1024 .f32) (z0 : Vec F S11x264x256 .f32) (z1 : Vec F S11x264x256 .f32) (z2 : Vec F S2x256x1024 .f32) (z3 : Vec F S2x256x1024 .bf16) :
    Σ' (L11 : List (View.Piece (Elt F) S1x256x1024 .f32)), Σ' (M0 : List (View.Piece (Elt F) S11x264x256 .f32)), Σ' (M1 : List (View.Piece (Elt F) S11x264x256 .f32)), Σ' (M2 : List (View.Piece (Elt F) S2x256x1024 .f32)), Σ' (M3 : List (View.Piece (Elt F) S2x256x1024 .bf16)), { M4 : List (View.Piece (Elt F) S256x1024 .bf16) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare z0 ∗ owns (c : Thread nD τ) arg14 fullShare z1 ∗ owns (c : Thread nD τ) arg15 fullShare z2 ∗ owns (c : Thread nD τ) arg16 fullShare z3 ∗ (∃ d, owns (c : Thread nD τ) arg17 fullShare d) ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (arg13.view.loc (c : Thread nD τ) ↦[arg13.view.set]{fullShare} arg13.view.writes (Elt F) (harg13.unread z0) M0) ∗ (arg14.view.loc (c : Thread nD τ) ↦[arg14.view.set]{fullShare} arg14.view.writes (Elt F) (harg14.unread z1) M1) ∗ (arg15.view.loc (c : Thread nD τ) ↦[arg15.view.set]{fullShare} arg15.view.writes (Elt F) (harg15.unread z2) M2) ∗ (arg16.view.loc (c : Thread nD τ) ↦[arg16.view.set]{fullShare} arg16.view.writes (Elt F) (harg16.unread z3) M3) ∗ (∃ f, arg17.view.loc (c : Thread nD τ) ↦[arg17.view.set]{fullShare} arg17.view.writes (Elt F) f M4)) -∗ K ⟨⟩))
        ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%g0, %hg0, G0⟩, ⟨%g1, %hg1, G1⟩, ⟨%g2, %hg2, G2⟩, ⟨%g3, %hg3, G3⟩, ⟨%d16, %f16, -, G4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hg0; obtain rfl := harg14.eq_unread hg1; obtain rfl := harg15.eq_unread hg2; obtain rfl := harg16.eq_unread hg3
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [G0]; · iexact G0
    isplitl [G1]; · iexact G1
    isplitl [G2]; · iexact G2
    isplitl [G3]; · iexact G3
    iexists _; iexact G4

end Cert.Kernel3Ideal.Ffn

end
-- ==== Proof.Ffn.Kit.lean ====
/- The feed-forward's launch: its arrays as the region finds them, its blocks, its buffers. -/
module

public import proofs.«01_k».proof.Proof.Ffn.RunA
public import proofs.«01_k».proof.Proof.Ffn.RunB
public import proofs.«01_k».proof.Proof.Ffn.RunC

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host's operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 7. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 8. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 9. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 10. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point. -/
theorem before_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point. -/
theorem before_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point. -/
theorem before_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point. -/
theorem before_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point. -/
theorem before_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point. -/
theorem before_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point. -/
theorem before_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point. -/
theorem before_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point. -/
theorem before_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point. -/
theorem before_10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1260000 in
/-- The arguments end unchanged, of any run whose arrays are those the region finds. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_arg0 m c))),
      ((h c).1 1).trans (((dats 0 c).arrAt_in 1 rfl _).trans ((hA c 1).trans (V_arg1 m c))),
      ((h c).1 2).trans (((dats 0 c).arrAt_in 2 rfl _).trans ((hA c 2).trans (V_arg2 m c))),
      ((h c).1 3).trans (((dats 0 c).arrAt_in 3 rfl _).trans ((hA c 3).trans (V_arg3 m c))),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).1 6).trans (((dats 0 c).arrAt_in 6 rfl _).trans ((hA c 6).trans (V_arg6 m c))),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c)⟩) h

abbrev ms0 (t : Fin cfg0.N) : Memref sig .tc .vmem S1x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x5632 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S3x5632 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2816x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256x1024 .f32 := win0_11.stage (cfg0.slots t 11)
abbrev hs11 (t : Fin cfg0.N) : (ms11 t).IsWhole := hstage0_11 ((cfg0.slots t 11).cast nbuf0_11)
abbrev sc0 : Memref sig .tc .vmem S11x264x256 .f32 := Memref.whole cc0_scratch0
abbrev sc1 : Memref sig .tc .vmem S11x264x256 .f32 := Memref.whole cc0_scratch1
abbrev sc2 : Memref sig .tc .vmem S2x256x1024 .f32 := Memref.whole cc0_scratch2
abbrev sc3 : Memref sig .tc .vmem S2x256x1024 .bf16 := Memref.whole cc0_scratch3
abbrev sc4 : Memref sig .tc .vmem S256x1024 .bf16 := Memref.whole cc0_scratch4

/-- The invariant before the first point: the scratch buffers at anything. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- The first point's run, at the buffers the launch passes. -/
abbrev rA (c : Dev nD) (t : Fin cfg0.N) (h : t.val = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) ((cond1_iff t).mpr h) ((cond2_iff t).mpr (Or.inl h)) ((off1_eq t).trans (by rw [h])) ((off2_eq t).trans (by rw [h]))
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The run of a later point that convolves a sequence's first tile. -/
abbrev rB (c : Dev nD) (t : Fin cfg0.N) (h : ¬ t.val = 0) (h' : t.val % 8 = 1) (z0 z1 : Vec F S11x264x256 .f32) (z2 : Vec F S2x256x1024 .f32) (z3 : Vec F S2x256x1024 .bf16) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun q => h ((cond1_iff t).mp q)) ((cond2_iff t).mpr (Or.inr h'))
    (iblk m c 0 t) (iblk m c 1 t) (iblk m c 2 t) (iblk m c 3 t) (iblk m c 4 t) (iblk m c 5 t) (iblk m c 6 t) (iblk m c 7 t) (iblk m c 8 t) (iblk m c 9 t) (iblk m c 10 t) z0 z1 z2 z3

/-- The run of any other point. -/
abbrev rC (c : Dev nD) (t : Fin cfg0.N) (h : ¬ t.val = 0) (h' : ¬ t.val % 8 = 1) (z0 z1 : Vec F S11x264x256 .f32) (z2 : Vec F S2x256x1024 .f32) (z3 : Vec F S2x256x1024 .bf16) :=
  runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (fun q => h ((cond1_iff t).mp q)) (fun q => ((cond2_iff t).mp q).elim h h')
    (iblk m c 0 t) (iblk m c 1 t) (iblk m c 2 t) (iblk m c 3 t) (iblk m c 4 t) (iblk m c 5 t) (iblk m c 6 t) (iblk m c 7 t) (iblk m c 8 t) (iblk m c 9 t) (iblk m c 10 t) z0 z1 z2 z3

/-- The four carried buffers' contents. -/
abbrev St (F : FTy → Type) [FloatOps F] := Vec F S11x264x256 .f32 × Vec F S11x264x256 .f32 × Vec F S2x256x1024 .f32 × Vec F S2x256x1024 .bf16

/-- One buffer for the output, through which its contents are stated. -/
abbrev VO : View sig .tc .vmem S1x256x1024 .f32 := (Memref.whole cc0_stg11_0 : Memref sig .tc .vmem S1x256x1024 .f32).view

/-- What the first point leaves: the output's block and the carried contents. -/
def outA (c : Dev nD) (t : Fin cfg0.N) (h : t.val = 0) : Vec F S1x256x1024 .f32 × St F :=
  (VO.read (Elt F) (VO.writes (Elt F) VO.junk (rA m c t h).1),
   sc0.view.read (Elt F) (sc0.view.writes (Elt F) sc0.view.junk (rA m c t h).2.1),
   sc1.view.read (Elt F) (sc1.view.writes (Elt F) sc1.view.junk (rA m c t h).2.2.1),
   sc2.view.read (Elt F) (sc2.view.writes (Elt F) sc2.view.junk (rA m c t h).2.2.2.1),
   sc3.view.read (Elt F) (sc3.view.writes (Elt F) sc3.view.junk (rA m c t h).2.2.2.2.1))

/-- What a point of the second case leaves, of the contents it finds. -/
def outB (c : Dev nD) (t : Fin cfg0.N) (h : ¬ t.val = 0) (h' : t.val % 8 = 1) (z : St F) : Vec F S1x256x1024 .f32 × St F :=
  (VO.read (Elt F) (VO.writes (Elt F) VO.junk (rB m c t h h' z.1 z.2.1 z.2.2.1 z.2.2.2).1),
   sc0.view.read (Elt F) (sc0.view.writes (Elt F) ((Memref.isWhole_whole cc0_scratch0 : sc0.IsWhole).unread z.1) (rB m c t h h' z.1 z.2.1 z.2.2.1 z.2.2.2).2.1),
   sc1.view.read (Elt F) (sc1.view.writes (Elt F) ((Memref.isWhole_whole cc0_scratch1 : sc1.IsWhole).unread z.2.1) (rB m c t h h' z.1 z.2.1 z.2.2.1 z.2.2.2).2.2.1),
   sc2.view.read (Elt F) (sc2.view.writes (Elt F) ((Memref.isWhole_whole cc0_scratch2 : sc2.IsWhole).unread z.2.2.1) (rB m c t h h' z.1 z.2.1 z.2.2.1 z.2.2.2).2.2.2.1),
   sc3.view.read (Elt F) (sc3.view.writes (Elt F) ((Memref.isWhole_whole cc0_scratch3 : sc3.IsWhole).unread z.2.2.2) (rB m c t h h' z.1 z.2.1 z.2.2.1 z.2.2.2).2.2.2.2.1))

/-- What a point of the third case leaves, of the contents it finds. -/
def outC (c : Dev nD) (t : Fin cfg0.N) (h : ¬ t.val = 0) (h' : ¬ t.val % 8 = 1) (z : St F) : Vec F S1x256x1024 .f32 × St F :=
  (VO.read (Elt F) (VO.writes (Elt F) VO.junk (rC m c t h h' z.1 z.2.1 z.2.2.1 z.2.2.2).1),
   sc0.view.read (Elt F) (sc0.view.writes (Elt F) ((Memref.isWhole_whole cc0_scratch0 : sc0.IsWhole).unread z.1) (rC m c t h h' z.1 z.2.1 z.2.2.1 z.2.2.2).2.1),
   sc1.view.read (Elt F) (sc1.view.writes (Elt F) ((Memref.isWhole_whole cc0_scratch1 : sc1.IsWhole).unread z.2.1) (rC m c t h h' z.1 z.2.1 z.2.2.1 z.2.2.2).2.2.1),
   sc2.view.read (Elt F) (sc2.view.writes (Elt F) ((Memref.isWhole_whole cc0_scratch2 : sc2.IsWhole).unread z.2.2.1) (rC m c t h h' z.1 z.2.1 z.2.2.1 z.2.2.2).2.2.2.1),
   sc3.view.read (Elt F) (sc3.view.writes (Elt F) ((Memref.isWhole_whole cc0_scratch3 : sc3.IsWhole).unread z.2.2.2) (rC m c t h h' z.1 z.2.1 z.2.2.1 z.2.2.2).2.2.2.2.1))

end Cert.Kernel3Ideal.Ffn

end
-- ==== Proof.Ffn.Cover.lean ====
/- What each run's stores cover. -/
module

public import proofs.«01_k».proof.Proof.Ffn.Kit

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's store of the output covers its block. -/
theorem covA (c : Dev nD) (t : Fin cfg0.N) (h : t.val = 0) (y : S1x256x1024.Idx) : ∃ p ∈ (rA m c t h).1, y ∈ p.1.set :=
  View.cover_of_tiledL (rA m c t h).1 S1x256x1024.size (by sl_kernel_rfl) y

/-- The first point's stores cover carried buffer 0. -/
theorem covA0 (c : Dev nD) (t : Fin cfg0.N) (h : t.val = 0) (y : S11x264x256.Idx) : ∃ p ∈ (rA m c t h).2.1, y ∈ p.1.set :=
  View.cover_of_tiledBy (rA m c t h).2.1 ![1, 8, 256] (by sl_kernel_rfl) y

/-- The first point's stores cover carried buffer 1. -/
theorem covA1 (c : Dev nD) (t : Fin cfg0.N) (h : t.val = 0) (y : S11x264x256.Idx) : ∃ p ∈ (rA m c t h).2.2.1, y ∈ p.1.set :=
  View.cover_of_tiledBy (rA m c t h).2.2.1 ![1, 8, 256] (by sl_kernel_rfl) y

/-- The first point's stores cover carried buffer 2. -/
theorem covA2 (c : Dev nD) (t : Fin cfg0.N) (h : t.val = 0) (y : S2x256x1024.Idx) : ∃ p ∈ (rA m c t h).2.2.2.1, y ∈ p.1.set :=
  View.cover_of_tiledBy (rA m c t h).2.2.2.1 ![1, 256, 1024] (by sl_kernel_rfl) y

/-- The first point's stores cover carried buffer 3. -/
theorem covA3 (c : Dev nD) (t : Fin cfg0.N) (h : t.val = 0) (y : S2x256x1024.Idx) : ∃ p ∈ (rA m c t h).2.2.2.2.1, y ∈ p.1.set :=
  View.cover_of_tiledBy (rA m c t h).2.2.2.2.1 ![1, 256, 1024] (by sl_kernel_rfl) y

/-- The output's store covers its block. -/
theorem covB (c : Dev nD) (t : Fin cfg0.N) (h : ¬ t.val = 0) (h' : t.val % 8 = 1) (z : St F) (y : S1x256x1024.Idx) :
    ∃ p ∈ (rB m c t h h' z.1 z.2.1 z.2.2.1 z.2.2.2).1, y ∈ p.1.set :=
  View.cover_of_tiledL (rB m c t h h' z.1 z.2.1 z.2.2.1 z.2.2.2).1 S1x256x1024.size (by sl_kernel_rfl) y

/-- The output's store covers its block. -/
theorem covC (c : Dev nD) (t : Fin cfg0.N) (h : ¬ t.val = 0) (h' : ¬ t.val % 8 = 1) (z : St F) (y : S1x256x1024.Idx) :
    ∃ p ∈ (rC m c t h h' z.1 z.2.1 z.2.2.1 z.2.2.2).1, y ∈ p.1.set :=
  View.cover_of_tiledL (rC m c t h h' z.1 z.2.1 z.2.2.1 z.2.2.2).1 S1x256x1024.size (by sl_kernel_rfl) y

end Cert.Kernel3Ideal.Ffn

end
-- ==== Proof.Ffn.Frame.lean ====
/- The feed-forward runs, and its arguments end unchanged. -/
module

public import proofs.«01_k».proof.Proof.Ffn.Cover
public import Idealize.ShloMosaic.Lib.Claim

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `n` leaves: the output's block and the carried contents, point by point. -/
def outs (c : Dev nD) : (n : ℕ) → n < cfg0.N → Vec F S1x256x1024 .f32 × St F
  | 0, h => outA m c ⟨0, h⟩ rfl
  | n + 1, h => if h' : (n + 1) % 8 = 1 then outB m c ⟨n + 1, h⟩ (Nat.succ_ne_zero n) h' (outs c n (Nat.lt_of_succ_lt h)).2
      else outC m c ⟨n + 1, h⟩ (Nat.succ_ne_zero n) h' (outs c n (Nat.lt_of_succ_lt h)).2

theorem outs_A (c : Dev nD) (t : Fin cfg0.N) (h : t.val = 0) : outs m c t.val t.isLt = outA m c t h := by
  obtain ⟨n, hn⟩ := t; cases n with
  | zero => rfl
  | succ n => exact absurd h (Nat.succ_ne_zero n)

theorem outs_B (c : Dev nD) (t : Fin cfg0.N) (h : ¬ t.val = 0) (h' : t.val % 8 = 1) :
    outs m c t.val t.isLt = outB m c t h h' (outs m c (t.val - 1) (Nat.lt_of_le_of_lt (Nat.sub_le _ _) t.isLt)).2 := by
  obtain ⟨n, hn⟩ := t; cases n with
  | zero => exact absurd rfl h
  | succ n => exact (dif_pos h').trans rfl

theorem outs_C (c : Dev nD) (t : Fin cfg0.N) (h : ¬ t.val = 0) (h' : ¬ t.val % 8 = 1) :
    outs m c t.val t.isLt = outC m c t h h' (outs m c (t.val - 1) (Nat.lt_of_le_of_lt (Nat.sub_le _ _) t.isLt)).2 := by
  obtain ⟨n, hn⟩ := t; cases n with
  | zero => exact absurd rfl h
  | succ n => exact (dif_neg h').trans rfl

/-- The carried buffers at contents `z`, the last at anything, and the generator at some state. -/
def held (c : Dev nD) (z : St F) : sProp 𝕄 :=
  iprop(iprop(owns (c : Thread nD τ) sc0 fullShare z.1 ∗ owns (c : Thread nD τ) sc1 fullShare z.2.1 ∗ owns (c : Thread nD τ) sc2 fullShare z.2.2.1 ∗ owns (c : Thread nD τ) sc3 fullShare z.2.2.2 ∗ (∃ d, owns (c : Thread nD τ) sc4 fullShare d)) ∗ (∃ r, prngReg c r))

/-- The region's invariant before point `n`. -/
def PhiS (c : Dev nD) : (n : ℕ) → n ≤ cfg0.N → sProp 𝕄
  | 0, _ => Pipeline.ΦA spec0 c
  | n + 1, hn => held c (outs m c n hn).2

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = held c (outs m c n hn).2 := rfl

theorem PhiS_pos (c : Dev nD) (n : ℕ) (h : n ≤ cfg0.N) (hz : n ≠ 0) :
    PhiS m c n h = held c (outs m c (n - 1) (by omega)).2 := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outs m c t.val t.isLt).1
    | ⟨_ + 12, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = (outs m c t.val t.isLt).1 := by dsimp only [dats]

theorem bef0 (c : Dev nD) (t : Fin cfg0.N) (d) : (dats m 0 c).before 0 t d = iblk m c 0 t :=
  before_0 m (dats m 0 c) (A_eq m c 0) (after0 m c) t d
theorem bef1 (c : Dev nD) (t : Fin cfg0.N) (d) : (dats m 0 c).before 1 t d = iblk m c 1 t :=
  before_1 m (dats m 0 c) (A_eq m c 1) (after1 m c) t d
theorem bef2 (c : Dev nD) (t : Fin cfg0.N) (d) : (dats m 0 c).before 2 t d = iblk m c 2 t :=
  before_2 m (dats m 0 c) (A_eq m c 2) (after2 m c) t d
theorem bef3 (c : Dev nD) (t : Fin cfg0.N) (d) : (dats m 0 c).before 3 t d = iblk m c 3 t :=
  before_3 m (dats m 0 c) (A_eq m c 3) (after3 m c) t d
theorem bef4 (c : Dev nD) (t : Fin cfg0.N) (d) : (dats m 0 c).before 4 t d = iblk m c 4 t :=
  before_4 m (dats m 0 c) (A_eq m c 4) (after4 m c) t d
theorem bef5 (c : Dev nD) (t : Fin cfg0.N) (d) : (dats m 0 c).before 5 t d = iblk m c 5 t :=
  before_5 m (dats m 0 c) (A_eq m c 5) (after5 m c) t d
theorem bef6 (c : Dev nD) (t : Fin cfg0.N) (d) : (dats m 0 c).before 6 t d = iblk m c 6 t :=
  before_6 m (dats m 0 c) (A_eq m c 6) (after6 m c) t d
theorem bef7 (c : Dev nD) (t : Fin cfg0.N) (d) : (dats m 0 c).before 7 t d = iblk m c 7 t :=
  before_7 m (dats m 0 c) (A_eq m c 7) (after7 m c) t d
theorem bef8 (c : Dev nD) (t : Fin cfg0.N) (d) : (dats m 0 c).before 8 t d = iblk m c 8 t :=
  before_8 m (dats m 0 c) (A_eq m c 8) (after8 m c) t d
theorem bef9 (c : Dev nD) (t : Fin cfg0.N) (d) : (dats m 0 c).before 9 t d = iblk m c 9 t :=
  before_9 m (dats m 0 c) (A_eq m c 9) (after9 m c) t d
theorem bef10 (c : Dev nD) (t : Fin cfg0.N) (d) : (dats m 0 c).before 10 t d = iblk m c 10 t :=
  before_10 m (dats m 0 c) (A_eq m c 10) (after10 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef0, bef1, bef2, bef3, bef4, bef5, bef6, bef7, bef8, bef9, bef10]
  rw [show (dats m 0 c).owesAt () t.succ = (dats m 0 c).owesAt () t.castSucc from rfl,
    after0, after1, after2, after3, after4, after5, after6, after7, after8, after9, after10, after11]
  rw [show (dats m 0 c).Φ t.succ = PhiS m c (t.val + 1) t.isLt from rfl, PhiS_succ]
  by_cases h : t.val = 0
  · rw [PhiS_castSucc m c t, PhiS_zero m c _ _ h, PhiA_eq, outs_A m c t h]
    unfold outA held; (try dsimp only)
    iintro ⟨⟨⟨G0, G1, G2, G3, G4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((rA m c t h).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [G0]; · iexact G0
    isplitl [G1]; · iexact G1
    isplitl [G2]; · iexact G2
    isplitl [G3]; · iexact G3
    isplitl [G4]; · iexact G4
    iintro ⟨H0, H1, H2, H3, H4, H5, H6, H7, H8, H9, H10, ⟨%e11, H11⟩, ⟨%e0, G0⟩, ⟨%e1, G1⟩, ⟨%e2, G2⟩, ⟨%e3, G3⟩, ⟨%e4, G4⟩⟩
    isplitl [G0 G1 G2 G3 G4 Hg]
    · isplitl [G0 G1 G2 G3 G4]
      · isplitl [G0]
        · unfold owns; iexists _; isplitr
          swap; · iexact G0
          ipureintro; exact View.read_writes_of_cover _ _ _ _ _ (covA0 m c t h)
        isplitl [G1]
        · unfold owns; iexists _; isplitr
          swap; · iexact G1
          ipureintro; exact View.read_writes_of_cover _ _ _ _ _ (covA1 m c t h)
        isplitl [G2]
        · unfold owns; iexists _; isplitr
          swap; · iexact G2
          ipureintro; exact View.read_writes_of_cover _ _ _ _ _ (covA2 m c t h)
        isplitl [G3]
        · unfold owns; iexists _; isplitr
          swap; · iexact G3
          ipureintro; exact View.read_writes_of_cover _ _ _ _ _ (covA3 m c t h)
        unfold owns; iexists _; iexists _; isplitr
        swap; · iexact G4
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold owns; iexists _; isplitr
    swap; · iexact H11
    ipureintro; exact View.read_writes_of_cover _ _ _ _ _ (covA m c t h)
  · by_cases h' : t.val % 8 = 1
    · rw [PhiS_castSucc m c t, PhiS_pos m c _ _ h, outs_B m c t h h']
      generalize (outs m c (t.val - 1) (Nat.lt_of_le_of_lt (Nat.sub_le _ _) t.isLt)).2 = z
      unfold outB held; (try dsimp only)
      iintro ⟨⟨⟨G0, G1, G2, G3, G4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((rB m c t h h' z.1 z.2.1 z.2.2.1 z.2.2.2).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [G0]; · iexact G0
      isplitl [G1]; · iexact G1
      isplitl [G2]; · iexact G2
      isplitl [G3]; · iexact G3
      isplitl [G4]; · iexact G4
      iintro ⟨H0, H1, H2, H3, H4, H5, H6, H7, H8, H9, H10, ⟨%e11, H11⟩, G0, G1, G2, G3, ⟨%e4, G4⟩⟩
      isplitl [G0 G1 G2 G3 G4 Hg]
      · isplitl [G0 G1 G2 G3 G4]
        · isplitl [G0]
          · unfold owns; iexists _; isplitr
            swap; · iexact G0
            ipureintro; rfl
          isplitl [G1]
          · unfold owns; iexists _; isplitr
            swap; · iexact G1
            ipureintro; rfl
          isplitl [G2]
          · unfold owns; iexists _; isplitr
            swap; · iexact G2
            ipureintro; rfl
          isplitl [G3]
          · unfold owns; iexists _; isplitr
            swap; · iexact G3
            ipureintro; rfl
          unfold owns; iexists _; iexists _; isplitr
          swap; · iexact G4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (covB m c t h h' z)
    · rw [PhiS_castSucc m c t, PhiS_pos m c _ _ h, outs_C m c t h h']
      generalize (outs m c (t.val - 1) (Nat.lt_of_le_of_lt (Nat.sub_le _ _) t.isLt)).2 = z
      unfold outC held; (try dsimp only)
      iintro ⟨⟨⟨G0, G1, G2, G3, G4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((rC m c t h h' z.1 z.2.1 z.2.2.1 z.2.2.2).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [G0]; · iexact G0
      isplitl [G1]; · iexact G1
      isplitl [G2]; · iexact G2
      isplitl [G3]; · iexact G3
      isplitl [G4]; · iexact G4
      iintro ⟨H0, H1, H2, H3, H4, H5, H6, H7, H8, H9, H10, ⟨%e11, H11⟩, G0, G1, G2, G3, ⟨%e4, G4⟩⟩
      isplitl [G0 G1 G2 G3 G4 Hg]
      · isplitl [G0 G1 G2 G3 G4]
        · isplitl [G0]
          · unfold owns; iexists _; isplitr
            swap; · iexact G0
            ipureintro; rfl
          isplitl [G1]
          · unfold owns; iexists _; isplitr
            swap; · iexact G1
            ipureintro; rfl
          isplitl [G2]
          · unfold owns; iexists _; isplitr
            swap; · iexact G2
            ipureintro; rfl
          isplitl [G3]
          · unfold owns; iexists _; isplitr
            swap; · iexact G3
            ipureintro; rfl
          unfold owns; iexists _; iexists _; isplitr
          swap; · iexact G4
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (covC m c t h h' z)

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the carried contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  unfold held
  iintro ⟨⟨G0, G1, G2, G3, G4⟩, Hg⟩
  isplitl [G0 G1 G2 G3 G4]
  · isplitl [G0]; · iexists _; iexact G0
    isplitl [G1]; · iexists _; iexact G1
    isplitl [G2]; · iexists _; iexact G2
    isplitl [G3]; · iexists _; iexact G3
    iexact G4
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, its arrays at what the pipeline's data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Kernel3Ideal.Ffn

end
-- ==== Proof.Ffn.Frame3.lean ====
/- The feed-forward's frame, at the machine's floats and at the ideal ones. -/
module

public import proofs.«01_k».proof.Defs
public import proofs.«01_k».proof.Proof.Gen.Kernel3
public import proofs.«01_k».proof.Proof.Ffn.Frame
public import proofs.«01_k».proof.Proof.FfnBits.Frame

@[expose] public section

noncomputable section

namespace Cert.Kernel3Ideal.Ffn

open Idealize.ShloMosaic

/-- The frame at the ideal floats. -/
theorem frame_ideal : @Cert.quiescent_Kernel3Ideal Cert.Kernel3Ideal.Gen.facts := fun m ρ _ => frame (F := Ideal) m ρ

/-- The frame at the machine's floats. -/
theorem frame_bits : @Cert.quiescent_Kernel3 Cert.Kernel3.Gen.facts := fun m ρ _ => Cert.Kernel3.Ffn.frame (F := Bits) m ρ

end Cert.Kernel3Ideal.Ffn

end
-- ==== Proof.Ffn.Rows.lean ====
/- Reads of the carried rows through lists of stores. -/
module

public import proofs.«01_k».proof.Proof.Ffn.Kit
public import Idealize.ShloMosaic.Lib.Pointwise

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Rows

variable {sp : Space} (v : View sig .tc sp S11x264x256 .f32) (f : v.ty.Contents (Elt F))

/-- A read that the last store, of 256 rows of a chunk, holds is that store's row. -/
theorem hit256 {j o : ℕ} {i1 : ∀ a, (![j, 0, 0] : Fin 3 → ℕ) a + S1x264x256.size a ≤ S11x264x256.size a} {i2 : ∀ a, (![o, 0] : Fin 2 → ℕ) a + S256x256.size a ≤ S264x256.size a}
    {p q} {g : ∀ a, (Rect.unit (s := S11x264x256) ![j, 0, 0] S1x264x256.size i1).stride a = 1} {hR} (w : (Rect.unit (s := S264x256) ![o, 0] S256x256.size i2).shape.Idx → Elt F .f32)
    (L : List (View.Piece (Elt F) S11x264x256 .f32)) (y : S11x264x256.Idx) (r : Fin 256) (x : Fin 256) (h0 : (y 0).val = j)
    (h1 : (y 1).val = o + r.val) (h2 : (y 2).val = x.val) :
    v.read (Elt F) (v.writes (Elt F) f (⟨(Rect.unit (s := S11x264x256) ![j, 0, 0] S1x264x256.size i1).within ((Rect.unit (s := S264x256) ![o, 0] S256x256.size i2).consLift ![1, 264, 256] p q) g, Rect.payAlong hR w⟩ :: L)) y = w (ix2 r x) := by
  refine (View.read_writes_cons_hit_of_coords v f _ _ L (ix3 (0 : Fin 1) r x) y ?_).trans ?_
  · intro a
    fin_cases a
    · show (y 0).val = (j + 0) + 1 * 0
      omega
    · show (y 1).val = (0 + o) + 1 * r.val
      omega
    · show (y 2).val = (0 + 0) + 1 * x.val
      omega
  · refine Rect.payAlong_consLift (Rect.unit (s := S264x256) ![o, 0] S256x256.size i2) ![1, 264, 256] p q w hR _ _ ?_
    intro a
    fin_cases a <;> rfl

/-- A read of another chunk passes over a store of 256 rows. -/
theorem missc256 {j o : ℕ} {i1 : ∀ a, (![j, 0, 0] : Fin 3 → ℕ) a + S1x264x256.size a ≤ S11x264x256.size a} {i2 : ∀ a, (![o, 0] : Fin 2 → ℕ) a + S256x256.size a ≤ S264x256.size a}
    {p q} {g : ∀ a, (Rect.unit (s := S11x264x256) ![j, 0, 0] S1x264x256.size i1).stride a = 1} {hR} (w : (Rect.unit (s := S264x256) ![o, 0] S256x256.size i2).shape.Idx → Elt F .f32)
    (L : List (View.Piece (Elt F) S11x264x256 .f32)) (y : S11x264x256.Idx) (h0 : (y 0).val ≠ j) :
    v.read (Elt F) (v.writes (Elt F) f (⟨(Rect.unit (s := S11x264x256) ![j, 0, 0] S1x264x256.size i1).within ((Rect.unit (s := S264x256) ![o, 0] S256x256.size i2).consLift ![1, 264, 256] p q) g, Rect.payAlong hR w⟩ :: L)) y = v.read (Elt F) (v.writes (Elt F) f L) y :=
  View.read_writes_cons_miss_of_axis v f _ L y (0 : Fin 3) j 1 (by show j + 0 = j; omega) rfl rfl (by omega)

/-- A read of other rows passes over a store of 256 rows. -/
theorem missr256 {j o : ℕ} {i1 : ∀ a, (![j, 0, 0] : Fin 3 → ℕ) a + S1x264x256.size a ≤ S11x264x256.size a} {i2 : ∀ a, (![o, 0] : Fin 2 → ℕ) a + S256x256.size a ≤ S264x256.size a}
    {p q} {g : ∀ a, (Rect.unit (s := S11x264x256) ![j, 0, 0] S1x264x256.size i1).stride a = 1} {hR} (w : (Rect.unit (s := S264x256) ![o, 0] S256x256.size i2).shape.Idx → Elt F .f32)
    (L : List (View.Piece (Elt F) S11x264x256 .f32)) (y : S11x264x256.Idx) (h1 : (y 1).val < o ∨ o + 256 ≤ (y 1).val) :
    v.read (Elt F) (v.writes (Elt F) f (⟨(Rect.unit (s := S11x264x256) ![j, 0, 0] S1x264x256.size i1).within ((Rect.unit (s := S264x256) ![o, 0] S256x256.size i2).consLift ![1, 264, 256] p q) g, Rect.payAlong hR w⟩ :: L)) y = v.read (Elt F) (v.writes (Elt F) f L) y :=
  View.read_writes_cons_miss_of_axis v f _ L y (1 : Fin 3) o 256 (by show 0 + o = o; omega) rfl rfl h1

/-- A read that the last store, of 8 rows of a chunk, holds is that store's row. -/
theorem hit8 {j o : ℕ} {i1 : ∀ a, (![j, 0, 0] : Fin 3 → ℕ) a + S1x264x256.size a ≤ S11x264x256.size a} {i2 : ∀ a, (![o, 0] : Fin 2 → ℕ) a + S8x256.size a ≤ S264x256.size a}
    {p q} {g : ∀ a, (Rect.unit (s := S11x264x256) ![j, 0, 0] S1x264x256.size i1).stride a = 1} {hR} (w : (Rect.unit (s := S264x256) ![o, 0] S8x256.size i2).shape.Idx → Elt F .f32)
    (L : List (View.Piece (Elt F) S11x264x256 .f32)) (y : S11x264x256.Idx) (r : Fin 8) (x : Fin 256) (h0 : (y 0).val = j)
    (h1 : (y 1).val = o + r.val) (h2 : (y 2).val = x.val) :
    v.read (Elt F) (v.writes (Elt F) f (⟨(Rect.unit (s := S11x264x256) ![j, 0, 0] S1x264x256.size i1).within ((Rect.unit (s := S264x256) ![o, 0] S8x256.size i2).consLift ![1, 264, 256] p q) g, Rect.payAlong hR w⟩ :: L)) y = w (ix2 r x) := by
  refine (View.read_writes_cons_hit_of_coords v f _ _ L (ix3 (0 : Fin 1) r x) y ?_).trans ?_
  · intro a
    fin_cases a
    · show (y 0).val = (j + 0) + 1 * 0
      omega
    · show (y 1).val = (0 + o) + 1 * r.val
      omega
    · show (y 2).val = (0 + 0) + 1 * x.val
      omega
  · refine Rect.payAlong_consLift (Rect.unit (s := S264x256) ![o, 0] S8x256.size i2) ![1, 264, 256] p q w hR _ _ ?_
    intro a
    fin_cases a <;> rfl

/-- A read of another chunk passes over a store of 8 rows. -/
theorem missc8 {j o : ℕ} {i1 : ∀ a, (![j, 0, 0] : Fin 3 → ℕ) a + S1x264x256.size a ≤ S11x264x256.size a} {i2 : ∀ a, (![o, 0] : Fin 2 → ℕ) a + S8x256.size a ≤ S264x256.size a}
    {p q} {g : ∀ a, (Rect.unit (s := S11x264x256) ![j, 0, 0] S1x264x256.size i1).stride a = 1} {hR} (w : (Rect.unit (s := S264x256) ![o, 0] S8x256.size i2).shape.Idx → Elt F .f32)
    (L : List (View.Piece (Elt F) S11x264x256 .f32)) (y : S11x264x256.Idx) (h0 : (y 0).val ≠ j) :
    v.read (Elt F) (v.writes (Elt F) f (⟨(Rect.unit (s := S11x264x256) ![j, 0, 0] S1x264x256.size i1).within ((Rect.unit (s := S264x256) ![o, 0] S8x256.size i2).consLift ![1, 264, 256] p q) g, Rect.payAlong hR w⟩ :: L)) y = v.read (Elt F) (v.writes (Elt F) f L) y :=
  View.read_writes_cons_miss_of_axis v f _ L y (0 : Fin 3) j 1 (by show j + 0 = j; omega) rfl rfl (by omega)

/-- A read of other rows passes over a store of 8 rows. -/
theorem missr8 {j o : ℕ} {i1 : ∀ a, (![j, 0, 0] : Fin 3 → ℕ) a + S1x264x256.size a ≤ S11x264x256.size a} {i2 : ∀ a, (![o, 0] : Fin 2 → ℕ) a + S8x256.size a ≤ S264x256.size a}
    {p q} {g : ∀ a, (Rect.unit (s := S11x264x256) ![j, 0, 0] S1x264x256.size i1).stride a = 1} {hR} (w : (Rect.unit (s := S264x256) ![o, 0] S8x256.size i2).shape.Idx → Elt F .f32)
    (L : List (View.Piece (Elt F) S11x264x256 .f32)) (y : S11x264x256.Idx) (h1 : (y 1).val < o ∨ o + 8 ≤ (y 1).val) :
    v.read (Elt F) (v.writes (Elt F) f (⟨(Rect.unit (s := S11x264x256) ![j, 0, 0] S1x264x256.size i1).within ((Rect.unit (s := S264x256) ![o, 0] S8x256.size i2).consLift ![1, 264, 256] p q) g, Rect.payAlong hR w⟩ :: L)) y = v.read (Elt F) (v.writes (Elt F) f L) y :=
  View.read_writes_cons_miss_of_axis v f _ L y (1 : Fin 3) o 8 (by show 0 + o = o; omega) rfl rfl h1

/-- A load of 256 rows of a chunk, at an index: the buffer at that chunk's row. -/
theorem loadr {j o : ℕ} {i1 : ∀ a, (![j, 0, 0] : Fin 3 → ℕ) a + S1x264x256.size a ≤ S11x264x256.size a} {i2 : ∀ a, (![o, 0] : Fin 2 → ℕ) a + S256x256.size a ≤ S264x256.size a}
    {p q} {g : ∀ a, (Rect.unit (s := S11x264x256) ![j, 0, 0] S1x264x256.size i1).stride a = 1} {hR} (b : v.ty.Contents (Elt F)) (r x : Fin 256) (y : S11x264x256.Idx)
    (h0 : (y 0).val = j) (h1 : (y 1).val = o + r.val) (h2 : (y 2).val = x.val) :
    LoadRect.valAlong (lr := (Rect.unit (s := S264x256) ![o, 0] S256x256.size i2).toLoadRect) hR
      (View.readAt (Elt F) v ((Rect.unit (s := S11x264x256) ![j, 0, 0] S1x264x256.size i1).withinL ((Rect.unit (s := S264x256) ![o, 0] S256x256.size i2).toLoadRect.consLift ![1, 264, 256] p q) g) b) (ix2 r x)
      = v.read (Elt F) b y := by
  refine (congrArg (View.readAt (Elt F) v _ b) (Shape.reshapeEquiv_cons_one (d := ![256, 256]) hR (ix2 r x))).trans ?_
  refine congrArg (v.read (Elt F) b) ?_
  funext a
  fin_cases a
  · apply Fin.ext
    show (j + 0) + 1 * 0 = (y 0).val
    omega
  · apply Fin.ext
    show (0 + o) + 1 * r.val = (y 1).val
    omega
  · apply Fin.ext
    show (0 + 0) + 1 * x.val = (y 2).val
    omega

/-- A chunk's rows moved down by `d`, the first of them from the rows before. -/
def shv (d : ℕ) (hz : ℕ → Fin 256 → Elt F .f32) (u : FVec F S256x256 .f32) (r x : Fin 256) : Elt F .f32 :=
  if d ≤ r.val then u (ix2 ⟨r.val - d, by omega⟩ x) else hz (8 - d + r.val) x

/-- A load of rows from `o` after the chunk's store of its 256 rows from row 8: the stored rows moved down by `8 - o`, the first from
    the rows the buffer held. -/
theorem shift {j o d : ℕ} (hd : o + d = 8) {i1 : ∀ a, (![j, 0, 0] : Fin 3 → ℕ) a + S1x264x256.size a ≤ S11x264x256.size a} {i2 : ∀ a, (![o, 0] : Fin 2 → ℕ) a + S256x256.size a ≤ S264x256.size a}
    {i3 : ∀ a, (![8, 0] : Fin 2 → ℕ) a + S256x256.size a ≤ S264x256.size a} {p q p' q'} {g g' : ∀ a, (Rect.unit (s := S11x264x256) ![j, 0, 0] S1x264x256.size i1).stride a = 1} {hR hR'}
    (w : FVec F S256x256 .f32) (L : List (View.Piece (Elt F) S11x264x256 .f32))
    (hz : ℕ → Fin 256 → Elt F .f32) (hL : ∀ y : S11x264x256.Idx, (y 0).val = j → (y 1).val < 8 → ∀ x : Fin 256, (y 2).val = x.val → v.read (Elt F) (v.writes (Elt F) f L) y = hz (y 1).val x)
    (r x : Fin 256) :
    LoadRect.valAlong (lr := (Rect.unit (s := S264x256) ![o, 0] S256x256.size i2).toLoadRect) hR
      (View.readAt (Elt F) v ((Rect.unit (s := S11x264x256) ![j, 0, 0] S1x264x256.size i1).withinL ((Rect.unit (s := S264x256) ![o, 0] S256x256.size i2).toLoadRect.consLift ![1, 264, 256] p q) g)
        (v.writes (Elt F) f (⟨(Rect.unit (s := S11x264x256) ![j, 0, 0] S1x264x256.size i1).within ((Rect.unit (s := S264x256) ![8, 0] S256x256.size i3).consLift ![1, 264, 256] p' q') g', Rect.payAlong (r := Rect.unit (s := S264x256) ![8, 0] S256x256.size i3) hR' w⟩ :: L))) (ix2 r x)
      = shv d hz w r x := by
  have hj : j < 11 := by have := i1 0; change j + 1 ≤ 11 at this; omega
  have ho : o + r.val < 264 := by have := r.isLt; omega
  refine (loadr v _ r x (ix3 (⟨j, hj⟩ : Fin 11) (⟨o + r.val, ho⟩ : Fin 264) x) rfl rfl rfl).trans ?_
  unfold shv
  by_cases h : d ≤ r.val
  · rw [if_pos h]
    exact hit256 v f w L _ ⟨r.val - d, by omega⟩ x rfl (by show o + r.val = 8 + (r.val - d); omega) rfl
  · rw [if_neg h]
    refine (missr256 v f w L _ (Or.inl (by show o + r.val < 8; omega))).trans ?_
    refine (hL _ rfl (by show o + r.val < 8; omega) x rfl).trans ?_
    show hz (o + r.val) x = hz (8 - d + r.val) x
    congr 1
    omega

end Rows

end Cert.Kernel3Ideal.Ffn

end
-- ==== Proof.Ffn.Chunk.lean ====
/- One chunk of the feed-forward at the ideal floats: its formulas. -/
module

public import proofs.«01_k».proof.Proof.Ffn.Rows

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Formulas

variable (X : Fin 256 → Fin 1024 → EReal) (W : Fin 1024 → ℕ → EReal) (Cw : Fin 3 → ℕ → EReal) (hist : ℕ → ℕ → EReal)

/-- The up projection at a row and a column. -/
def up (r : Fin 256) (n : ℕ) : EReal := ∑ k : Fin 1024, X r k * W k n

/-- The up projection `d` rows before, the first rows from the tile before. -/
def ups (d : ℕ) (r : Fin 256) (n : ℕ) : EReal := if d ≤ r.val then up X W ⟨r.val - d, by omega⟩ n else hist (8 - d + r.val) n

/-- The causal convolution of the up projection. -/
def cv (r : Fin 256) (n : ℕ) : EReal := ups X W hist 2 r n * Cw 0 n + ups X W hist 1 r n * Cw 1 n + up X W r n * Cw 2 n

/-- The gated activation. -/
def ac (r : Fin 256) (n : ℕ) : EReal :=
  cv X W Cw hist r n * Ideal.logistic (cv X W Cw hist r n) * cv X W Cw hist r (2816 + n)

end Formulas

/-- The up projection of a chunk. -/
def upv (R : FVec Ideal S256x1024 .bf16) (w : Vec Ideal S1024x256 .bf16) : FVec Ideal S256x256 .f32 := k0_pay34 R w

/-- The activation of a chunk, from its two halves' projections, their shifted rows and the taps. -/
def act (ug g1 g2 : FVec Ideal S256x256 .f32) (wg : Vec Ideal S3x256 .f32) (uv v1 v2 : FVec Ideal S256x256 .f32) (wv : Vec Ideal S3x256 .f32) :
    FVec Ideal S256x256 .bf16 :=
  truncf .bf16 (mulf (mulf (k0_pay38 ug g1 g2 wg) (logistic (k0_pay38 ug g1 g2 wg))) (k0_pay38 uv v1 v2 wv)) bitsLt_bf16_f32

/-- The accumulator with four chunks' down projection added. -/
def down4 (a0 a1 a2 a3 : FVec Ideal S256x256 .bf16) (acc : Vec Ideal S1x256x1024 .f32) (w : Vec Ideal S1024x1024 .bf16) : FVec Ideal S1x256x1024 .f32 :=
  k0_pay109 (concatenate S256x1024 1 [⟨S256x256, a0⟩, ⟨S256x256, a1⟩, ⟨S256x256, a2⟩, ⟨S256x256, a3⟩] concatenates_S256x256_S256x256_S256x256_S256x256_S256x1024_d1) acc w

/-- The accumulator with three chunks' down projection added. -/
def down3 (a0 a1 a2 : FVec Ideal S256x256 .bf16) (acc : Vec Ideal S1x256x1024 .f32) (w : Vec Ideal S768x1024 .bf16) : FVec Ideal S1x256x1024 .f32 :=
  shapeCast S1x256x1024 (addf (shapeCast S256x1024 acc shapeCasts_S1x256x1024_S256x1024)
    (matmul dot_S256x768_S768x1024_S256x1024_1_0_0_1_n_n none
      (concatenate S256x768 1 [⟨S256x256, a0⟩, ⟨S256x256, a1⟩, ⟨S256x256, a2⟩] concatenates_S256x256_S256x256_S256x256_S256x768_d1)
      (shapeCast S768x1024 w shapeCasts_S768x1024_S768x1024 : FVec Ideal S768x1024 .bf16) (constant S256x1024 .f32 0x00000000#32))) shapeCasts_S256x1024_S1x256x1024

theorem cast256 {e : EltTy} (u : Vec Ideal S256x256 e) : shapeCast S256x256 u shapeCasts_S256x256_S256x256 = u := by
  funext y
  idx_vars y
  pointwise

theorem upv_at (R : FVec Ideal S256x1024 .bf16) (w : Vec Ideal S1024x256 .bf16) (r x : Fin 256) :
    upv R w (ix2 r x) = ∑ k : Fin 1024, R (ix2 r k) * w (ix2 k x) := by
  pointwise [upv, k0_pay34]

/-- A chunk's projection is the formula's. -/
theorem upv_of (u : FVec Ideal S256x256 .f32) (R : FVec Ideal S256x1024 .bf16) (w : Vec Ideal S1024x256 .bf16) (hu : u = upv R w)
    (X : Fin 256 → Fin 1024 → EReal) (W : Fin 1024 → ℕ → EReal) (o : ℕ) (hR : ∀ r k, R (ix2 r k) = X r k)
    (hw : ∀ (k : Fin 1024) (x : Fin 256), w (ix2 k x) = W k (o + x.val)) (r x : Fin 256) : u (ix2 r x) = up X W r (o + x.val) := by
  subst hu
  refine (upv_at R w r x).trans ?_
  unfold up
  exact Finset.sum_congr rfl fun k _ => by rw [hR, hw]

/-- Shifted rows of a chunk's projection are the formula's. -/
theorem shv_of (u : FVec Ideal S256x256 .f32) (X : Fin 256 → Fin 1024 → EReal) (W : Fin 1024 → ℕ → EReal) (hist : ℕ → ℕ → EReal) (o d : ℕ)
    (hz : ℕ → Fin 256 → EReal) (hh : ∀ p x, p < 8 → hz p x = hist p (o + x.val)) (hd : d ≤ 8) (hu : ∀ r x, u (ix2 r x) = up X W r (o + x.val)) (r x : Fin 256) :
    shv (F := Ideal) d hz u r x = ups X W hist d r (o + x.val) := by
  unfold shv ups
  by_cases h : d ≤ r.val
  · rw [if_pos h, if_pos h, hu]
  · rw [if_neg h, if_neg h, hh _ _ (by omega)]

/-- A chunk's activation is the formula's. -/
theorem act_of (V : FVec Ideal S256x256 .bf16) (ug g1 g2 : FVec Ideal S256x256 .f32) (wg : Vec Ideal S3x256 .f32) (uv v1 v2 : FVec Ideal S256x256 .f32) (wv : Vec Ideal S3x256 .f32)
    (hV : V = act ug g1 g2 wg uv v1 v2 wv)
    (X : Fin 256 → Fin 1024 → EReal) (W : Fin 1024 → ℕ → EReal) (Cw : Fin 3 → ℕ → EReal) (hist : ℕ → ℕ → EReal) (o : ℕ)
    (hug : ∀ r x, ug (ix2 r x) = up X W r (o + x.val)) (huv : ∀ r x, uv (ix2 r x) = up X W r (2816 + o + x.val))
    (hwg : ∀ (k : Fin 3) (x : Fin 256), wg (ix2 k x) = Cw k (o + x.val)) (hwv : ∀ (k : Fin 3) (x : Fin 256), wv (ix2 k x) = Cw k (2816 + o + x.val))
    (hg1 : ∀ r x, g1 (ix2 r x) = ups X W hist 1 r (o + x.val)) (hg2 : ∀ r x, g2 (ix2 r x) = ups X W hist 2 r (o + x.val))
    (hv1 : ∀ r x, v1 (ix2 r x) = ups X W hist 1 r (2816 + o + x.val)) (hv2 : ∀ r x, v2 (ix2 r x) = ups X W hist 2 r (2816 + o + x.val))
    (r x : Fin 256) : V (ix2 r x) = ac X W Cw hist r (o + x.val) := by
  subst hV
  pointwise [act, k0_pay38]
  rw [hug, huv, hg1, hg2, hv1, hv2, hwg, hwg, hwg, hwv, hwv, hwv]
  unfold ac cv
  rw [← Nat.add_assoc]

/-- The accumulator after four chunks: their columns' down projection added. -/
theorem down4_of (V : Vec Ideal S1x256x1024 .f32) (a0 a1 a2 a3 : FVec Ideal S256x256 .bf16) (acc : Vec Ideal S1x256x1024 .f32) (w : Vec Ideal S1024x1024 .bf16)
    (hV : V = down4 a0 a1 a2 a3 acc w) (A : Fin 256 → ℕ → EReal) (D : ℕ → Fin 1024 → EReal) (o : ℕ)
    (h0 : ∀ r x : Fin 256, a0 (ix2 r x) = A r (o + x.val)) (h1 : ∀ r x : Fin 256, a1 (ix2 r x) = A r (o + 256 + x.val))
    (h2 : ∀ r x : Fin 256, a2 (ix2 r x) = A r (o + 512 + x.val)) (h3 : ∀ r x : Fin 256, a3 (ix2 r x) = A r (o + 768 + x.val))
    (hw : ∀ (k : Fin 1024) (c : Fin 1024), w (ix2 k c) = D (o + k.val) c) (r : Fin 256) (c : Fin 1024) :
    V (ix3 (0 : Fin 1) r c) = acc (ix3 (0 : Fin 1) r c) + ∑ k : Fin 1024, A r (o + k.val) * D (o + k.val) c := by
  subst hV
  pointwise [down4, k0_pay109]
  show (_ : EReal) = _
  refine congrArg₂ (· + ·) rfl (Finset.sum_congr rfl fun k _ => ?_)
  rw [hw]
  refine congrArg₂ (· * ·) ?_ rfl
  split
  · exact h0 _ _
  · split
    · rw [h1]; exact congrArg (A r) (by show o + 256 + (k.val - 256) = o + k.val; omega)
    · split
      · rw [h2]; exact congrArg (A r) (by show o + 512 + (k.val - 256 - 256) = o + k.val; omega)
      · rw [h3]; exact congrArg (A r) (by show o + 768 + (k.val - 256 - 256 - 256) = o + k.val; omega)

/-- The accumulator after three chunks: their columns' down projection added. -/
theorem down3_of (V : Vec Ideal S1x256x1024 .f32) (a0 a1 a2 : FVec Ideal S256x256 .bf16) (acc : Vec Ideal S1x256x1024 .f32) (w : Vec Ideal S768x1024 .bf16)
    (hV : V = down3 a0 a1 a2 acc w) (A : Fin 256 → ℕ → EReal) (D : ℕ → Fin 1024 → EReal) (o : ℕ)
    (h0 : ∀ r x : Fin 256, a0 (ix2 r x) = A r (o + x.val)) (h1 : ∀ r x : Fin 256, a1 (ix2 r x) = A r (o + 256 + x.val))
    (h2 : ∀ r x : Fin 256, a2 (ix2 r x) = A r (o + 512 + x.val))
    (hw : ∀ (k : Fin 768) (c : Fin 1024), w (ix2 k c) = D (o + k.val) c) (r : Fin 256) (c : Fin 1024) :
    V (ix3 (0 : Fin 1) r c) = acc (ix3 (0 : Fin 1) r c) + ∑ k : Fin 768, A r (o + k.val) * D (o + k.val) c := by
  subst hV
  pointwise [down3]
  show (_ : EReal) = _
  refine congrArg₂ (· + ·) rfl (Finset.sum_congr rfl fun k _ => ?_)
  rw [hw]
  refine congrArg₂ (· * ·) ?_ rfl
  split
  · exact h0 _ _
  · split
    · rw [h1]; exact congrArg (A r) (by show o + 256 + (k.val - 256) = o + k.val; omega)
    · rw [h2]; exact congrArg (A r) (by show o + 512 + (k.val - 256 - 256) = o + k.val; omega)

/-- A row's normalisation, with its gain. -/
def nrm (v : Fin 1024 → EReal) (g : Fin 1024 → EReal) (c : Fin 1024) : EReal :=
  v c * Ideal.rsqrt (Ideal.div (∑ x, v x * v x) (Ideal.ofBits FTy.f32 1149239296#32) + Ideal.ofBits FTy.f32 897988541#32) * g c

/-- The normalisation the call ends with, at an index. -/
theorem fin_at (o : Vec Ideal S1x256x1024 .f32) (g : Vec Ideal S1x1024 .f32) (r : Fin 256) (c : Fin 1024) :
    k0_pay1 (k0_pay135 o) (k0_pay136 g) (k0_pay137 o) k0_pay138 (ix3 (0 : Fin 1) r c)
      = nrm (fun x => o (ix3 (0 : Fin 1) r x)) (fun x => g (ix2 (0 : Fin 1) x)) c := by
  pointwise [k0_pay1, k0_pay135, k0_pay136, k0_pay137, k0_pay138]
  rfl

/-- The merged residual of a block, at an index. -/
def hn (x0 : Vec Ideal S1x256x1024 .f32) (x1 : Vec Ideal S1x256x512 .bf16) (x2 x3 : Vec Ideal S1x256x1024 .f32) (x4 : Vec Ideal S512x1024 .bf16) (x5 : Vec Ideal S1024x1024 .bf16)
    (r : Fin 256) (c : Fin 1024) : EReal :=
  x0 (ix3 (0 : Fin 1) r c) + ∑ x : Fin 1024, (x2 (ix3 (0 : Fin 1) r x) * (∑ k : Fin 512, x1 (ix3 (0 : Fin 1) r k) * x4 (ix2 k x)) + x3 (ix3 (0 : Fin 1) r x)) * x5 (ix2 x c)

theorem pay125_at (a : Vec Ideal S256x1024 .bf16) (x : Vec Ideal S1x256x1024 .f32) (w : Vec Ideal S1024x1024 .bf16) (r : Fin 256) (c : Fin 1024) :
    k0_pay125 a x w (ix2 r c) = x (ix3 (0 : Fin 1) r c) + ∑ k : Fin 1024, a (ix2 r k) * w (ix2 k c) := by
  pointwise [k0_pay125]

theorem pay112_at (x1 : Vec Ideal S1x256x512 .bf16) (x4 : Vec Ideal S512x1024 .bf16) (x2 x3 : Vec Ideal S1x256x1024 .f32) (r : Fin 256) (c : Fin 1024) :
    k0_pay112 x1 x4 x2 x3 (ix2 r c) = x2 (ix3 (0 : Fin 1) r c) * (∑ k : Fin 512, x1 (ix3 (0 : Fin 1) r k) * x4 (ix2 k c)) + x3 (ix3 (0 : Fin 1) r c) := by
  pointwise [k0_pay112]

theorem pay126_at (a : FVec Ideal S256x1024 .f32) (r : Fin 256) (c : Fin 1024) : k0_pay126 a (ix3 (0 : Fin 1) r c) = a (ix2 r c) := by
  pointwise [k0_pay126]

theorem pay127_at (a : FVec Ideal S256x1024 .f32) (g : Vec Ideal S1x1024 .f32) (r : Fin 256) (c : Fin 1024) :
    k0_pay127 a g (ix3 (0 : Fin 1) r c) = nrm (fun x => a (ix2 r x)) (fun x => g (ix2 (0 : Fin 1) x)) c := by
  pointwise [k0_pay127]
  rfl

theorem pay27_at (x : Vec Ideal S1x256x1024 .bf16) (r : Fin 256) (k : Fin 1024) : k0_pay27 x (ix2 r k) = x (ix3 (0 : Fin 1) r k) := by
  pointwise [k0_pay27]

theorem pay28_at (x : Vec Ideal S1x256x1024 .f32) (r : Fin 256) (k : Fin 1024) : k0_pay28 x (ix3 (0 : Fin 1) r k) = x (ix3 (0 : Fin 1) r k) := by
  pointwise [k0_pay28]

theorem tail_at (u : FVec Ideal S256x256 .f32) (p : Fin 8) (x : Fin 256) : k0_pay37 u (ix2 p x) = u (ix2 ⟨248 + p.val, by omega⟩ x) := by
  pointwise [k0_pay37]

/-! ## Loads of the arguments' blocks -/

theorem win {sp : Space} {s : Shape} {e : EltTy} (M : Memref sig .tc sp s e) (hM : M.IsWhole) (x : s.Idx → Elt Ideal e) (R : LoadRect s) (y : R.shape.Idx) (z : s.Idx) (hz : R.idx y = z) :
    View.readAt (Elt Ideal) M.view R (hM.unread x) y = x z :=
  (congrFun (hM.read_unread x) (R.idx y)).trans (congrArg x hz)

theorem winW (M : Memref sig .tc .vmem S1024x5632 .bf16) (hM : M.IsWhole) (x7 : Vec Ideal S1024x5632 .bf16) {o : ℕ}
    (inb : ∀ a, (![0, o] : Fin 2 → ℕ) a + S1024x256.size a ≤ S1024x5632.size a) (W : Fin 1024 → ℕ → EReal) (hW : ∀ (k : Fin 1024) (n : Fin 5632), x7 (ix2 k n) = W k n.val)
    (k : Fin 1024) (x : Fin 256) :
    View.readAt (Elt Ideal) M.view (Rect.unit (s := S1024x5632) ![0, o] S1024x256.size inb).toLoadRect (hM.unread x7) (ix2 k x) = W k (o + x.val) := by
  have hn : o + x.val < 5632 := by have := inb 1; change o + 256 ≤ 5632 at this; omega
  refine (win M hM x7 _ _ (ix2 k (⟨o + x.val, hn⟩ : Fin 5632)) ?_).trans (hW k ⟨o + x.val, hn⟩)
  funext a
  fin_cases a
  · apply Fin.ext; show 0 + 1 * k.val = k.val; omega
  · apply Fin.ext; show o + 1 * x.val = o + x.val; omega

theorem winC (M : Memref sig .tc .vmem S3x5632 .f32) (hM : M.IsWhole) (x8 : Vec Ideal S3x5632 .f32) {o : ℕ}
    (inb : ∀ a, (![0, o] : Fin 2 → ℕ) a + S3x256.size a ≤ S3x5632.size a) (W : Fin 3 → ℕ → EReal) (hW : ∀ (k : Fin 3) (n : Fin 5632), x8 (ix2 k n) = W k n.val)
    (k : Fin 3) (x : Fin 256) :
    View.readAt (Elt Ideal) M.view (Rect.unit (s := S3x5632) ![0, o] S3x256.size inb).toLoadRect (hM.unread x8) (ix2 k x) = W k (o + x.val) := by
  have hn : o + x.val < 5632 := by have := inb 1; change o + 256 ≤ 5632 at this; omega
  refine (win M hM x8 _ _ (ix2 k (⟨o + x.val, hn⟩ : Fin 5632)) ?_).trans (hW k ⟨o + x.val, hn⟩)
  funext a
  fin_cases a
  · apply Fin.ext; show 0 + 1 * k.val = k.val; omega
  · apply Fin.ext; show o + 1 * x.val = o + x.val; omega

theorem winD4 (M : Memref sig .tc .vmem S2816x1024 .bf16) (hM : M.IsWhole) (x9 : Vec Ideal S2816x1024 .bf16) {o : ℕ}
    (inb : ∀ a, (![o, 0] : Fin 2 → ℕ) a + S1024x1024.size a ≤ S2816x1024.size a) (D : ℕ → Fin 1024 → EReal) (hW : ∀ (k : Fin 2816) (n : Fin 1024), x9 (ix2 k n) = D k.val n)
    (k : Fin 1024) (x : Fin 1024) :
    View.readAt (Elt Ideal) M.view (Rect.unit (s := S2816x1024) ![o, 0] S1024x1024.size inb).toLoadRect (hM.unread x9) (ix2 k x) = D (o + k.val) x := by
  have hn : o + k.val < 2816 := by have := inb 0; change o + 1024 ≤ 2816 at this; omega
  refine (win M hM x9 _ _ (ix2 (⟨o + k.val, hn⟩ : Fin 2816) x) ?_).trans (hW ⟨o + k.val, hn⟩ x)
  funext a
  fin_cases a
  · apply Fin.ext; show o + 1 * k.val = o + k.val; omega
  · apply Fin.ext; show 0 + 1 * x.val = x.val; omega

theorem winD3 (M : Memref sig .tc .vmem S2816x1024 .bf16) (hM : M.IsWhole) (x9 : Vec Ideal S2816x1024 .bf16) {o : ℕ}
    (inb : ∀ a, (![o, 0] : Fin 2 → ℕ) a + S768x1024.size a ≤ S2816x1024.size a) (D : ℕ → Fin 1024 → EReal) (hW : ∀ (k : Fin 2816) (n : Fin 1024), x9 (ix2 k n) = D k.val n)
    (k : Fin 768) (x : Fin 1024) :
    View.readAt (Elt Ideal) M.view (Rect.unit (s := S2816x1024) ![o, 0] S768x1024.size inb).toLoadRect (hM.unread x9) (ix2 k x) = D (o + k.val) x := by
  have hn : o + k.val < 2816 := by have := inb 0; change o + 768 ≤ 2816 at this; omega
  refine (win M hM x9 _ _ (ix2 (⟨o + k.val, hn⟩ : Fin 2816) x) ?_).trans (hW ⟨o + k.val, hn⟩ x)
  funext a
  fin_cases a
  · apply Fin.ext; show o + 1 * k.val = o + k.val; omega
  · apply Fin.ext; show 0 + 1 * x.val = x.val; omega

/-- A load of a whole buffer is its contents. -/
theorem winAll {sp : Space} {s : Shape} {e : EltTy} (M : Memref sig .tc sp s e) (hM : M.IsWhole) (x : s.Idx → Elt Ideal e) {off : Fin s.rank → ℕ} (h0 : ∀ a, off a = 0) (inb) :
    View.readAt (Elt Ideal) M.view (Rect.unit (s := s) off s.size inb).toLoadRect (hM.unread x) = x := by
  funext y
  refine win M hM x _ y y ?_
  funext a
  apply Fin.ext
  show off a + 1 * (y a).val = (y a).val
  rw [h0 a]
  omega

/-- A whole store is read back. -/
theorem covw {sp : Space} {s : Shape} {e : EltTy} (v : View sig .tc sp s e) (f : v.ty.Contents (Elt Ideal)) {off : Fin s.rank → ℕ} (h0 : ∀ a, off a = 0) (inb)
    (w : (Rect.unit (s := s) off s.size inb).shape.Idx → Elt Ideal e) (L : List (View.Piece (Elt Ideal) s e)) (y : s.Idx) :
    v.read (Elt Ideal) (v.writes (Elt Ideal) f (⟨Rect.unit (s := s) off s.size inb, w⟩ :: L)) y = w y := by
  refine View.read_writes_cons_hit_of_coords v f _ w L y y ?_
  intro a
  show (y a).val = off a + 1 * (y a).val
  rw [h0 a]
  omega

theorem covr {sp : Space} {s : Shape} {e : EltTy} (v : View sig .tc sp s e) {off off' : Fin s.rank → ℕ} (h0 : ∀ a, off a = 0) (h0' : ∀ a, off' a = 0) (inb) (inb')
    (w : (Rect.unit (s := s) off s.size inb).shape.Idx → Elt Ideal e) (L : List (View.Piece (Elt Ideal) s e)) :
    v.readCov (⟨Rect.unit (s := s) off s.size inb, w⟩ :: L) (Rect.unit (s := s) off' s.size inb').toLoadRect = w := by
  funext y
  refine (congrArg (v.read (Elt Ideal) _) (?_ : (Rect.unit (s := s) off' s.size inb').toLoadRect.idx y = y)).trans (covw v _ h0 inb w L y)
  funext a
  apply Fin.ext
  show off' a + 1 * (y a).val = (y a).val
  rw [h0' a]
  omega

/-- A load of shifted rows after a chunk's store: the formula's shifted projection. -/
theorem shup {sp : Space} (v : View sig .tc sp S11x264x256 .f32) (f : v.ty.Contents (Elt Ideal)) {j o d : ℕ} (hd : o + d = 8)
    {i1 : ∀ a, (![j, 0, 0] : Fin 3 → ℕ) a + S1x264x256.size a ≤ S11x264x256.size a} {i2 : ∀ a, (![o, 0] : Fin 2 → ℕ) a + S256x256.size a ≤ S264x256.size a}
    {i3 : ∀ a, (![8, 0] : Fin 2 → ℕ) a + S256x256.size a ≤ S264x256.size a} {p q p' q'} {g g' : ∀ a, (Rect.unit (s := S11x264x256) ![j, 0, 0] S1x264x256.size i1).stride a = 1} {hR hR'}
    (u : FVec Ideal S256x256 .f32) (w : FVec Ideal S256x256 .f32) (hw : w = shapeCast S256x256 u shapeCasts_S256x256_S256x256) (L : List (View.Piece (Elt Ideal) S11x264x256 .f32))
    (X : Fin 256 → Fin 1024 → EReal) (W : Fin 1024 → ℕ → EReal) (hist : ℕ → ℕ → EReal) (n : ℕ)
    (hu : ∀ r x, u (ix2 r x) = up X W r (n + x.val))
    (hL : ∀ y : S11x264x256.Idx, (y 0).val = j → (y 1).val < 8 → ∀ x : Fin 256, (y 2).val = x.val → v.read (Elt Ideal) (v.writes (Elt Ideal) f L) y = hist (y 1).val (n + x.val))
    (r x : Fin 256) :
    LoadRect.valAlong (lr := (Rect.unit (s := S264x256) ![o, 0] S256x256.size i2).toLoadRect) hR
      (View.readAt (Elt Ideal) v ((Rect.unit (s := S11x264x256) ![j, 0, 0] S1x264x256.size i1).withinL ((Rect.unit (s := S264x256) ![o, 0] S256x256.size i2).toLoadRect.consLift ![1, 264, 256] p q) g)
        (v.writes (Elt Ideal) f (⟨(Rect.unit (s := S11x264x256) ![j, 0, 0] S1x264x256.size i1).within ((Rect.unit (s := S264x256) ![8, 0] S256x256.size i3).consLift ![1, 264, 256] p' q') g', Rect.payAlong (r := Rect.unit (s := S264x256) ![8, 0] S256x256.size i3) hR' w⟩ :: L))) (ix2 r x)
      = ups X W hist d r (n + x.val) := by
  have hwu : w = u := hw.trans (cast256 (e := .f32) u)
  subst hwu
  exact (shift v f hd w L (fun p x => hist p (n + x.val)) hL r x).trans
    (shv_of w X W hist n d (fun p x => hist p (n + x.val)) (fun _ _ _ => rfl) (by omega) hu r x)

/-- No rows before. -/
def noHist : ℕ → ℕ → EReal := fun _ _ => 0

/-- Of rows zeroed chunk by chunk, a read in the first eight is zero. -/
theorem zstep {sp : Space} (v : View sig .tc sp S11x264x256 .f32) (f : v.ty.Contents (Elt Ideal)) {j : ℕ} {inb : ∀ a, (![j, 0, 0] : Fin 3 → ℕ) a + S1x8x256.size a ≤ S11x264x256.size a}
    (w : (Rect.unit (s := S11x264x256) ![j, 0, 0] S1x8x256.size inb).shape.Idx → Elt Ideal .f32) (L : List (View.Piece (Elt Ideal) S11x264x256 .f32)) (y : S11x264x256.Idx)
    (hw : ∀ x, w x = (0 : EReal)) (h1 : (y 1).val < 8) (hL : (y 0).val ≠ j → v.read (Elt Ideal) (v.writes (Elt Ideal) f L) y = (0 : EReal)) :
    v.read (Elt Ideal) (v.writes (Elt Ideal) f (⟨Rect.unit (s := S11x264x256) ![j, 0, 0] S1x8x256.size inb, w⟩ :: L)) y = (0 : EReal) := by
  by_cases h : (y 0).val = j
  · refine (View.read_writes_cons_hit_of_coords v f _ w L (ix3 (0 : Fin 1) (⟨(y 1).val, h1⟩ : Fin 8) (y 2 : Fin 256)) y ?_).trans (hw _)
    intro a
    fin_cases a
    · show (y 0).val = j + 1 * 0
      omega
    · show (y 1).val = 0 + 1 * (y 1).val
      omega
    · show (y 2).val = 0 + 1 * (y 2).val
      omega
  · exact (View.read_writes_cons_miss_of_axis v f _ L y (0 : Fin 3) j 1 rfl rfl rfl (by omega)).trans (hL h)

/-- A load of one of the two slots. -/
theorem slotr {e : EltTy} (M : Memref sig .tc .vmem S2x256x1024 e) (hM : M.IsWhole) (z : S2x256x1024.Idx → Elt Ideal e) {off : Fin 3 → ℕ} (s : Fin 2) (hoff : off = ![s.val, 0, 0])
    (inb : ∀ a, off a + S1x256x1024.size a ≤ S2x256x1024.size a) (r : Fin 256) (k : Fin 1024) :
    View.readAt (Elt Ideal) M.view (Rect.unit (s := S2x256x1024) off S1x256x1024.size inb).toLoadRect (hM.unread z) (ix3 (0 : Fin 1) r k) = z (ix3 s r k) := by
  subst hoff
  refine win M hM z _ _ (ix3 s r k) ?_
  funext a
  fin_cases a
  · apply Fin.ext; show s.val + 1 * 0 = s.val; omega
  · apply Fin.ext; show 0 + 1 * r.val = r.val; omega
  · apply Fin.ext; show 0 + 1 * k.val = k.val; omega

/-- A slot just stored is read back. -/
theorem slotw {e : EltTy} (v : View sig .tc .vmem S2x256x1024 e) (f : v.ty.Contents (Elt Ideal)) {off : Fin 3 → ℕ} (s : Fin 2) (hoff : off = ![s.val, 0, 0])
    (inb : ∀ a, off a + S1x256x1024.size a ≤ S2x256x1024.size a) (w : (Rect.unit (s := S2x256x1024) off S1x256x1024.size inb).shape.Idx → Elt Ideal e)
    (L : List (View.Piece (Elt Ideal) S2x256x1024 e)) (r : Fin 256) (k : Fin 1024) :
    v.read (Elt Ideal) (v.writes (Elt Ideal) f (⟨Rect.unit (s := S2x256x1024) off S1x256x1024.size inb, w⟩ :: L)) (ix3 s r k) = w (ix3 (0 : Fin 1) r k) := by
  subst hoff
  refine View.read_writes_cons_hit_of_coords v f _ w L (ix3 (0 : Fin 1) r k) (ix3 s r k) ?_
  intro a
  fin_cases a
  · show s.val = s.val + 1 * 0; omega
  · show r.val = 0 + 1 * r.val; omega
  · show k.val = 0 + 1 * k.val; omega

theorem hn_of {V : FVec Ideal S256x1024 .f32} {a : Vec Ideal S256x1024 .bf16} {y0 x0 : Vec Ideal S1x256x1024 .f32} {y1 x1 : Vec Ideal S1x256x512 .bf16} {y2 x2 y3 x3 : Vec Ideal S1x256x1024 .f32}
    {y4 x4 : Vec Ideal S512x1024 .bf16} {y5 x5 : Vec Ideal S1024x1024 .bf16} (hV : V = k0_pay125 a y0 y5) (ha : a = k0_pay112 y1 y4 y2 y3)
    (h0 : y0 = x0) (h1 : y1 = x1) (h2 : y2 = x2) (h3 : y3 = x3) (h4 : y4 = x4) (h5 : y5 = x5) (r : Fin 256) (c : Fin 1024) : V (ix2 r c) = hn x0 x1 x2 x3 x4 x5 r c := by
  subst hV ha h0 h1 h2 h3 h4 h5
  refine (pay125_at _ _ _ r c).trans ?_
  simp only [pay112_at]
  rfl

end Cert.Kernel3Ideal.Ffn

end
-- ==== Proof.Ffn.Spec.lean ====
/- The feed-forward's result, as a formula of its arguments. -/
module

public import proofs.«01_k».proof.Proof.Ffn.Chunk

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The arguments, entry by entry. -/
structure Inp where
  x : Fin 8 → Fin 2048 → Fin 1024 → EReal
  att : Fin 8 → Fin 2048 → Fin 512 → EReal
  ga : Fin 8 → Fin 2048 → Fin 1024 → EReal
  mc : Fin 8 → Fin 2048 → Fin 1024 → EReal
  wao : Fin 512 → Fin 1024 → EReal
  wo : Fin 1024 → Fin 1024 → EReal
  g2 : Fin 1024 → EReal
  wup : Fin 1024 → ℕ → EReal
  cw : Fin 3 → ℕ → EReal
  wdn : ℕ → Fin 1024 → EReal
  gf : Fin 1024 → EReal

variable (p : Inp)

/-- The residual after the attention and convolution branches. -/
def gH (b : Fin 8) (s : Fin 2048) (e : Fin 1024) : EReal :=
  p.x b s e + ∑ k : Fin 1024, (p.ga b s k * (∑ j : Fin 512, p.att b s j * p.wao j k) + p.mc b s k) * p.wo k e

/-- Its normalisation. -/
def gX (b : Fin 8) (s : Fin 2048) (e : Fin 1024) : EReal := nrm (gH p b s) p.g2 e

/-- The up projection. -/
def gU (b : Fin 8) (s : Fin 2048) (n : ℕ) : EReal := ∑ k : Fin 1024, gX p b s k * p.wup k n

/-- The up projection `d` tokens before, zero before the first. -/
def gS (b : Fin 8) (d : ℕ) (s : Fin 2048) (n : ℕ) : EReal := if d ≤ s.val then gU p b ⟨s.val - d, by omega⟩ n else 0

/-- The causal convolution. -/
def gC (b : Fin 8) (s : Fin 2048) (n : ℕ) : EReal := gS p b 2 s n * p.cw 0 n + gS p b 1 s n * p.cw 1 n + gU p b s n * p.cw 2 n

/-- The gated activation. -/
def gA (b : Fin 8) (s : Fin 2048) (n : ℕ) : EReal := gC p b s n * Ideal.logistic (gC p b s n) * gC p b s (2816 + n)

/-- The residual after the feed-forward. -/
def gO (b : Fin 8) (s : Fin 2048) (e : Fin 1024) : EReal := gH p b s e + ∑ k : Fin 2816, gA p b s k.val * p.wdn k.val e

/-- The result. -/
def gF (b : Fin 8) (s : Fin 2048) (e : Fin 1024) : EReal := nrm (gO p b s) p.gf e

/-- The sequence of tile `n`. -/
def tb (n : ℕ) : Fin 8 := ⟨n / 8 % 8, by omega⟩

/-- The token of row `r` of tile `n`. -/
def ts (n : ℕ) (r : Fin 256) : Fin 2048 := ⟨256 * (n % 8) + r.val, by omega⟩

def tH (n : ℕ) (r : Fin 256) (e : Fin 1024) : EReal := gH p (tb n) (ts n r) e
def tX (n : ℕ) (r : Fin 256) (e : Fin 1024) : EReal := gX p (tb n) (ts n r) e

/-- The rows before tile `n`: the last rows of the tile before, none at a sequence's first. -/
def tHist (n : ℕ) (q : ℕ) (k : ℕ) : EReal :=
  if n % 8 = 0 then 0 else if h : q < 8 then up (tX p (n - 1)) p.wup ⟨248 + q, by omega⟩ k else 0

theorem tHist_first (n : ℕ) (h : n % 8 = 0) : tHist p n = noHist := by
  funext q k
  unfold tHist noHist
  rw [if_pos h]

/-- A tile's shifted projection is the sequence's. -/
theorem ups_tile (n d : ℕ) (hd : 0 < d) (hd8 : d ≤ 8) (r : Fin 256) (k : ℕ) : ups (tX p n) p.wup (tHist p n) d r k = gS p (tb n) d (ts n r) k := by
  have hs : (ts n r).val = 256 * (n % 8) + r.val := rfl
  unfold ups gS
  by_cases h : d ≤ r.val
  · rw [if_pos h, if_pos (by omega)]
    have e : ts n ⟨r.val - d, by omega⟩ = (⟨(ts n r).val - d, by omega⟩ : Fin 2048) := Fin.ext (by show 256 * (n % 8) + (r.val - d) = 256 * (n % 8) + r.val - d; omega)
    rw [← e]
    rfl
  · rw [if_neg h]
    unfold tHist
    by_cases hn : n % 8 = 0
    · rw [if_pos hn, if_neg (by omega)]
    · rw [if_neg hn, dif_pos (by omega), if_pos (by omega)]
      have e : ts (n - 1) ⟨248 + (8 - d + r.val), by omega⟩ = (⟨(ts n r).val - d, by omega⟩ : Fin 2048) :=
        Fin.ext (by show 256 * ((n - 1) % 8) + (248 + (8 - d + r.val)) = 256 * (n % 8) + r.val - d; omega)
      have e' : tb (n - 1) = tb n := Fin.ext (by show (n - 1) / 8 % 8 = n / 8 % 8; omega)
      rw [← e, ← e']
      rfl

/-- A tile's activation is the sequence's. -/
theorem ac_tile (n : ℕ) (r : Fin 256) (k : ℕ) : ac (tX p n) p.wup p.cw (tHist p n) r k = gA p (tb n) (ts n r) k := by
  have e : ∀ k, cv (tX p n) p.wup p.cw (tHist p n) r k = gC p (tb n) (ts n r) k := fun k => by
    unfold cv gC
    rw [ups_tile p n 2 (by omega) (by omega), ups_tile p n 1 (by omega) (by omega)]
    rfl
  unfold ac gA
  rw [e, e]

/-- The down projection by three groups of chunks is the whole one. -/
theorem down_split (f : ℕ → EReal) (h : EReal) :
    h + (∑ k : Fin 1024, f (0 + k.val)) + (∑ k : Fin 1024, f (1024 + k.val)) + ∑ k : Fin 768, f (2048 + k.val) = h + ∑ k : Fin 2816, f k.val := by
  have e : (∑ k : Fin 2816, f k.val) = ∑ k : Fin (1024 + 1024 + 768), f k.val := rfl
  have e2 : ∀ k : Fin 768, f (1024 + (1024 + k.val)) = f (2048 + k.val) := fun k => congrArg f (by omega)
  rw [e, Fin.sum_univ_add, Fin.sum_univ_add, add_assoc, add_assoc]
  simp only [Fin.val_castAdd, Fin.val_natAdd, Nat.zero_add, add_assoc, e2]

theorem out_tile (n : ℕ) (r : Fin 256) (e : Fin 1024) :
    tH p n r e + (∑ k : Fin 1024, ac (tX p n) p.wup p.cw (tHist p n) r (0 + k.val) * p.wdn (0 + k.val) e)
      + (∑ k : Fin 1024, ac (tX p n) p.wup p.cw (tHist p n) r (1024 + k.val) * p.wdn (1024 + k.val) e)
      + (∑ k : Fin 768, ac (tX p n) p.wup p.cw (tHist p n) r (2048 + k.val) * p.wdn (2048 + k.val) e) = gO p (tb n) (ts n r) e := by
  simp only [ac_tile]
  exact down_split (fun k => gA p (tb n) (ts n r) k * p.wdn k e) _

end Cert.Kernel3Ideal.Ffn

end
-- ==== Proof.Ffn.Blk.lean ====
/- The feed-forward's blocks, read off its arguments. -/
module

public import proofs.«01_k».proof.Proof.Ffn.Frame
public import proofs.«01_k».proof.Proof.Ffn.Spec
public import Idealize.ShloMosaic.Lib.Pipeline.ValueKit
public import Idealize.ShloMosaic.Lib.StableHlo.ReadAt

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The arguments' entries, read off the arrays. -/
def inp (x : FVec Ideal S8x2048x1024 .f32) (att : FVec Ideal S8x2048x512 .bf16) (ga mc : FVec Ideal S8x2048x1024 .f32) (wao : FVec Ideal S1x512x1024 .f32)
    (wo : FVec Ideal S1x1024x1024 .f32) (g2 : FVec Ideal S1x1024 .f32) (wup : FVec Ideal S1x1024x5632 .f32) (cw : FVec Ideal S1x3x5632 .f32)
    (wdn : FVec Ideal S1x2816x1024 .f32) (gf : FVec Ideal S1024 .f32) : Inp where
  x b s k := x (ix3 b s k)
  att b s k := att (ix3 b s k)
  ga b s k := ga (ix3 b s k)
  mc b s k := mc (ix3 b s k)
  wao j k := wao (ix3 0 j k)
  wo j k := wo (ix3 0 j k)
  g2 k := g2 (ix2 0 k)
  wup k n := if h : n < 5632 then wup (ix3 0 k ⟨n, h⟩) else 0
  cw k n := if h : n < 5632 then cw (ix3 0 k ⟨n, h⟩) else 0
  wdn n k := if h : n < 2816 then wdn (ix3 0 ⟨n, h⟩ k) else 0
  gf k := gf (ix1 k)

variable (m : (ℓ : Loc nD τ sig) → Buf (Elt Ideal) ℓ) (c : Dev nD)

/-- The entries of the run's arguments. -/
def inpm : Inp :=
  inp (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) (m (c.tc.loc main_arg10))

/-- The tile a point stores. -/
def tl (t : Fin cfg0.N) : ℕ := min t.val 63

theorem idx0 : ∀ t : Fin cfg0.N, win0_0.index t = ![min t.val 63 / 8, min t.val 63 % 8, 0] := by decide +kernel

theorem blk0 (t : Fin cfg0.N) (r : Fin 256) (k : Fin 1024) : iblk m c 0 t (ix3 0 r k) = (inpm m c).x (tb (tl t)) (ts (tl t) r) k := by
  have hb : (tb (tl t)).val = min t.val 63 / 8 := by show min t.val 63 / 8 % 8 = _; omega
  have hs : (ts (tl t) r).val = 256 * (min t.val 63 % 8) + r.val := rfl
  show _ = m (c.tc.loc main_arg0) (ix3 (tb (tl t)) (ts (tl t) r) k)
  generalize tb (tl t) = b at hb ⊢
  generalize ts (tl t) r = s at hs ⊢
  blk_ext! [iblk, V_arg0, idx0 t]

theorem idx1 : ∀ t : Fin cfg0.N, win0_1.index t = ![min t.val 63 / 8, min t.val 63 % 8, 0] := by decide +kernel

theorem blk1 (t : Fin cfg0.N) (r : Fin 256) (k : Fin 512) : iblk m c 1 t (ix3 0 r k) = (inpm m c).att (tb (tl t)) (ts (tl t) r) k := by
  have hb : (tb (tl t)).val = min t.val 63 / 8 := by show min t.val 63 / 8 % 8 = _; omega
  have hs : (ts (tl t) r).val = 256 * (min t.val 63 % 8) + r.val := rfl
  show _ = m (c.tc.loc main_arg1) (ix3 (tb (tl t)) (ts (tl t) r) k)
  generalize tb (tl t) = b at hb ⊢
  generalize ts (tl t) r = s at hs ⊢
  blk_ext! [iblk, V_arg1, idx1 t]

theorem idx2 : ∀ t : Fin cfg0.N, win0_2.index t = ![min t.val 63 / 8, min t.val 63 % 8, 0] := by decide +kernel

theorem blk2 (t : Fin cfg0.N) (r : Fin 256) (k : Fin 1024) : iblk m c 2 t (ix3 0 r k) = (inpm m c).ga (tb (tl t)) (ts (tl t) r) k := by
  have hb : (tb (tl t)).val = min t.val 63 / 8 := by show min t.val 63 / 8 % 8 = _; omega
  have hs : (ts (tl t) r).val = 256 * (min t.val 63 % 8) + r.val := rfl
  show _ = m (c.tc.loc main_arg2) (ix3 (tb (tl t)) (ts (tl t) r) k)
  generalize tb (tl t) = b at hb ⊢
  generalize ts (tl t) r = s at hs ⊢
  blk_ext! [iblk, V_arg2, idx2 t]

theorem idx3 : ∀ t : Fin cfg0.N, win0_3.index t = ![min t.val 63 / 8, min t.val 63 % 8, 0] := by decide +kernel

theorem blk3 (t : Fin cfg0.N) (r : Fin 256) (k : Fin 1024) : iblk m c 3 t (ix3 0 r k) = (inpm m c).mc (tb (tl t)) (ts (tl t) r) k := by
  have hb : (tb (tl t)).val = min t.val 63 / 8 := by show min t.val 63 / 8 % 8 = _; omega
  have hs : (ts (tl t) r).val = 256 * (min t.val 63 % 8) + r.val := rfl
  show _ = m (c.tc.loc main_arg3) (ix3 (tb (tl t)) (ts (tl t) r) k)
  generalize tb (tl t) = b at hb ⊢
  generalize ts (tl t) r = s at hs ⊢
  blk_ext! [iblk, V_arg3, idx3 t]

theorem idx4 : ∀ t : Fin cfg0.N, win0_4.index t = ![0, 0] := by decide +kernel

theorem idx5 : ∀ t : Fin cfg0.N, win0_5.index t = ![0, 0] := by decide +kernel

theorem idx6 : ∀ t : Fin cfg0.N, win0_6.index t = ![0, 0] := by decide +kernel

theorem idx7 : ∀ t : Fin cfg0.N, win0_7.index t = ![0, 0] := by decide +kernel

theorem idx8 : ∀ t : Fin cfg0.N, win0_8.index t = ![0, 0] := by decide +kernel

theorem idx9 : ∀ t : Fin cfg0.N, win0_9.index t = ![0, 0] := by decide +kernel

theorem idx10 : ∀ t : Fin cfg0.N, win0_10.index t = ![0, 0] := by decide +kernel

theorem blk4 (t : Fin cfg0.N) (k : Fin 512) (j : Fin 1024) : iblk m c 4 t (ix2 k j) = (inpm m c).wao k j := by
  have h : iblk m c 4 t (ix2 k j) = V m c main_v1 (ix2 k j) := by blk_ext! [iblk, idx4 t]
  show _ = m (c.tc.loc main_arg4) (ix3 0 k j)
  rw [h]; unfold V; after_reads_at
  try blk_ext

theorem blk5 (t : Fin cfg0.N) (k : Fin 1024) (j : Fin 1024) : iblk m c 5 t (ix2 k j) = (inpm m c).wo k j := by
  have h : iblk m c 5 t (ix2 k j) = V m c main_v3 (ix2 k j) := by blk_ext! [iblk, idx5 t]
  show _ = m (c.tc.loc main_arg5) (ix3 0 k j)
  rw [h]; unfold V; after_reads_at
  try blk_ext

theorem blk6 (t : Fin cfg0.N) (j : Fin 1024) : iblk m c 6 t (ix2 0 j) = (inpm m c).g2 j := by
  show _ = m (c.tc.loc main_arg6) (ix2 0 j)
  blk_ext! [iblk, V_arg6, idx6 t]

theorem blk10 (t : Fin cfg0.N) (j : Fin 1024) : iblk m c 10 t (ix2 0 j) = (inpm m c).gf j := by
  have h : iblk m c 10 t (ix2 0 j) = V m c main_v9 (ix2 0 j) := by blk_ext! [iblk, idx10 t]
  show _ = m (c.tc.loc main_arg10) (ix1 j)
  rw [h]; unfold V; after_reads_at
  try blk_ext

theorem blk7 (t : Fin cfg0.N) (k : Fin 1024) (j : Fin 5632) : iblk m c 7 t (ix2 k j) = (inpm m c).wup k j.val := by
  have h : iblk m c 7 t (ix2 k j) = V m c main_v5 (ix2 k j) := by blk_ext! [iblk, idx7 t]
  refine Eq.trans ?_ (dif_pos j.isLt).symm
  show _ = m (c.tc.loc main_arg7) (ix3 0 k j)
  rw [h]; unfold V; after_reads_at
  try blk_ext

theorem blk8 (t : Fin cfg0.N) (k : Fin 3) (j : Fin 5632) : iblk m c 8 t (ix2 k j) = (inpm m c).cw k j.val := by
  have h : iblk m c 8 t (ix2 k j) = V m c main_v8 (ix2 k j) := by blk_ext! [iblk, idx8 t]
  refine Eq.trans ?_ (dif_pos j.isLt).symm
  show _ = m (c.tc.loc main_arg8) (ix3 0 k j)
  rw [h]; unfold V; after_reads_at
  try blk_ext

theorem blk9 (t : Fin cfg0.N) (k : Fin 2816) (j : Fin 1024) : iblk m c 9 t (ix2 k j) = (inpm m c).wdn k.val j := by
  have h : iblk m c 9 t (ix2 k j) = V m c main_v7 (ix2 k j) := by blk_ext! [iblk, idx9 t]
  refine Eq.trans ?_ (dif_pos k.isLt).symm
  show _ = m (c.tc.loc main_arg9) (ix3 0 k j)
  rw [h]; unfold V; after_reads_at
  try blk_ext

/-- The merged residual of a point's blocks is the formula's. -/
theorem hn_tile (t : Fin cfg0.N) (r : Fin 256) (e : Fin 1024) :
    hn (iblk m c 0 t) (iblk m c 1 t) (iblk m c 2 t) (iblk m c 3 t) (iblk m c 4 t) (iblk m c 5 t) r e = tH (inpm m c) (tl t) r e := by
  unfold hn tH gH
  simp only [blk0, blk1, blk2, blk3, blk4, blk5]

end Cert.Kernel3Ideal.Ffn

end
-- ==== Proof.Ffn.VA.lean ====
/- One point of the feed-forward's grid, case A: what the body computes, entry by entry. -/
module

public import proofs.«01_k».proof.Proof.Ffn.Chunk

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {c : Dev nD} {i : grid0.Coords} {arg1 : Memref sig .tc .vmem S1x256x1024 .f32} {harg1 : arg1.IsWhole} {arg2 : Memref sig .tc .vmem S1x256x512 .bf16} {harg2 : arg2.IsWhole} {arg3 : Memref sig .tc .vmem S1x256x1024 .f32} {harg3 : arg3.IsWhole} {arg4 : Memref sig .tc .vmem S1x256x1024 .f32} {harg4 : arg4.IsWhole} {arg5 : Memref sig .tc .vmem S512x1024 .bf16} {harg5 : arg5.IsWhole} {arg6 : Memref sig .tc .vmem S1024x1024 .bf16} {harg6 : arg6.IsWhole} {arg7 : Memref sig .tc .vmem S1x1024 .f32} {harg7 : arg7.IsWhole} {arg8 : Memref sig .tc .vmem S1024x5632 .bf16} {harg8 : arg8.IsWhole} {arg9 : Memref sig .tc .vmem S3x5632 .f32} {harg9 : arg9.IsWhole} {arg10 : Memref sig .tc .vmem S2816x1024 .bf16} {harg10 : arg10.IsWhole} {arg11 : Memref sig .tc .vmem S1x1024 .f32} {harg11 : arg11.IsWhole} {arg12 : Memref sig .tc .vmem S1x256x1024 .f32} {harg12 : arg12.IsWhole} {arg13 : Memref sig .tc .vmem S11x264x256 .f32} {harg13 : arg13.IsWhole} {arg14 : Memref sig .tc .vmem S11x264x256 .f32} {harg14 : arg14.IsWhole} {arg15 : Memref sig .tc .vmem S2x256x1024 .f32} {harg15 : arg15.IsWhole} {arg16 : Memref sig .tc .vmem S2x256x1024 .bf16} {harg16 : arg16.IsWhole} {arg17 : Memref sig .tc .vmem S256x1024 .bf16} {harg17 : arg17.IsWhole} {hc1 : cond1 i} {hc2 : cond2 i} {ho1 : k0_off1 i = ![1, 0, 0]} {ho2 : k0_off2 i = ![0, 0, 0]} {x0 : Vec Ideal S1x256x1024 .f32} {x1 : Vec Ideal S1x256x512 .bf16} {x2 : Vec Ideal S1x256x1024 .f32} {x3 : Vec Ideal S1x256x1024 .f32} {x4 : Vec Ideal S512x1024 .bf16} {x5 : Vec Ideal S1024x1024 .bf16} {x6 : Vec Ideal S1x1024 .f32} {x7 : Vec Ideal S1024x5632 .bf16} {x8 : Vec Ideal S3x5632 .f32} {x9 : Vec Ideal S2816x1024 .bf16} {x10 : Vec Ideal S1x1024 .f32}

theorem va_hn (r : Fin 256) (k : Fin 1024) : (runA.sl.r_70 (F := Ideal) c arg1 harg1 arg2 harg2 arg3 harg3 arg4 harg4 arg5 harg5 arg6 harg6 arg17 x0 x1 x2 x3 x4 x5) (ix2 r k) = hn x0 x1 x2 x3 x4 x5 r k :=
  hn_of rfl (covr arg17.view (by decide) (by decide) _ _ _ _) (winAll _ _ _ (by decide) _) (winAll _ _ _ (by decide) _) (winAll _ _ _ (by decide) _) (winAll _ _ _ (by decide) _) (winAll _ _ _ (by decide) _) (winAll _ _ _ (by decide) _) r k

theorem va_st2 (v : View sig .tc .vmem S2x256x1024 .f32) (f : v.ty.Contents (Elt Ideal)) (s : Fin 2) (hoff : (![0, 0, 0] : Fin 3 → ℕ) = ![s.val, 0, 0]) (r : Fin 256) (k : Fin 1024) : v.read (Elt Ideal) (v.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 ho1 ho2 x0 x1 x2 x3 x4 x5 x6 x7 x8 x9 x10).2.2.2.1) (ix3 s r k) = hn x0 x1 x2 x3 x4 x5 r k :=
  (slotw v f s hoff _ (k0_pay126 (runA.sl.r_70 (F := Ideal) c arg1 harg1 arg2 harg2 arg3 harg3 arg4 harg4 arg5 harg5 arg6 harg6 arg17 x0 x1 x2 x3 x4 x5)) _ r k).trans ((pay126_at _ r k).trans (va_hn r k))

theorem va_st3 (v : View sig .tc .vmem S2x256x1024 .bf16) (f : v.ty.Contents (Elt Ideal)) (s : Fin 2) (hoff : (![0, 0, 0] : Fin 3 → ℕ) = ![s.val, 0, 0]) (r : Fin 256) (k : Fin 1024) : v.read (Elt Ideal) (v.writes (Elt Ideal) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 ho1 ho2 x0 x1 x2 x3 x4 x5 x6 x7 x8 x9 x10).2.2.2.2.1) (ix3 s r k) = nrm (hn x0 x1 x2 x3 x4 x5 r) (fun x => x6 (ix2 (0 : Fin 1) x)) k := by
  have h : View.readAt (Elt Ideal) arg7.view (Rect.unit (s := S1x1024) ![0, 0] S1x1024.size inb_S1x1024_S1x1024_0_0).toLoadRect (harg7.unread x6) = x6 := winAll arg7 harg7 x6 (by decide) _
  refine (slotw v f s hoff _ (k0_pay127 (runA.sl.r_70 (F := Ideal) c arg1 harg1 arg2 harg2 arg3 harg3 arg4 harg4 arg5 harg5 arg6 harg6 arg17 x0 x1 x2 x3 x4 x5) (View.readAt (Elt Ideal) arg7.view (Rect.unit (s := S1x1024) ![0, 0] S1x1024.size inb_S1x1024_S1x1024_0_0).toLoadRect (harg7.unread x6))) _ r k).trans ((pay127_at _ _ r k).trans ?_)
  rw [h]
  simp only [va_hn]

end Cert.Kernel3Ideal.Ffn

end
-- ==== Proof.Ffn.VB.lean ====
/- One point of the feed-forward's grid, case B: what the body computes, entry by entry. -/
module

public import proofs.«01_k».proof.Proof.Ffn.Chunk

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {c : Dev nD} {i : grid0.Coords} {arg1 : Memref sig .tc .vmem S1x256x1024 .f32} {harg1 : arg1.IsWhole} {arg2 : Memref sig .tc .vmem S1x256x512 .bf16} {harg2 : arg2.IsWhole} {arg3 : Memref sig .tc .vmem S1x256x1024 .f32} {harg3 : arg3.IsWhole} {arg4 : Memref sig .tc .vmem S1x256x1024 .f32} {harg4 : arg4.IsWhole} {arg5 : Memref sig .tc .vmem S512x1024 .bf16} {harg5 : arg5.IsWhole} {arg6 : Memref sig .tc .vmem S1024x1024 .bf16} {harg6 : arg6.IsWhole} {arg7 : Memref sig .tc .vmem S1x1024 .f32} {harg7 : arg7.IsWhole} {arg8 : Memref sig .tc .vmem S1024x5632 .bf16} {harg8 : arg8.IsWhole} {arg9 : Memref sig .tc .vmem S3x5632 .f32} {harg9 : arg9.IsWhole} {arg10 : Memref sig .tc .vmem S2816x1024 .bf16} {harg10 : arg10.IsWhole} {arg11 : Memref sig .tc .vmem S1x1024 .f32} {harg11 : arg11.IsWhole} {arg12 : Memref sig .tc .vmem S1x256x1024 .f32} {harg12 : arg12.IsWhole} {arg13 : Memref sig .tc .vmem S11x264x256 .f32} {harg13 : arg13.IsWhole} {arg14 : Memref sig .tc .vmem S11x264x256 .f32} {harg14 : arg14.IsWhole} {arg15 : Memref sig .tc .vmem S2x256x1024 .f32} {harg15 : arg15.IsWhole} {arg16 : Memref sig .tc .vmem S2x256x1024 .bf16} {harg16 : arg16.IsWhole} {arg17 : Memref sig .tc .vmem S256x1024 .bf16} {harg17 : arg17.IsWhole} {hc1 : ¬cond1 i} {hc2 : cond2 i} {x0 : Vec Ideal S1x256x1024 .f32} {x1 : Vec Ideal S1x256x512 .bf16} {x2 : Vec Ideal S1x256x1024 .f32} {x3 : Vec Ideal S1x256x1024 .f32} {x4 : Vec Ideal S512x1024 .bf16} {x5 : Vec Ideal S1024x1024 .bf16} {x6 : Vec Ideal S1x1024 .f32} {x7 : Vec Ideal S1024x5632 .bf16} {x8 : Vec Ideal S3x5632 .f32} {x9 : Vec Ideal S2816x1024 .bf16} {x10 : Vec Ideal S1x1024 .f32} {z0 : Vec Ideal S11x264x256 .f32} {z1 : Vec Ideal S11x264x256 .f32} {z2 : Vec Ideal S2x256x1024 .f32} {z3 : Vec Ideal S2x256x1024 .bf16}
variable {X : Fin 256 → Fin 1024 → EReal} {W : Fin 1024 → ℕ → EReal} {Cw : Fin 3 → ℕ → EReal} {D : ℕ → Fin 1024 → EReal}
  (hX : ∀ r k, (runB.sl.r (F := Ideal) c i arg16 harg16 z3) (ix2 r k) = X r k)
  (hW : ∀ (k : Fin 1024) (n : Fin 5632), x7 (ix2 k n) = W k n.val) (hC : ∀ (k : Fin 3) (n : Fin 5632), x8 (ix2 k n) = Cw k n.val) (hD : ∀ (k : Fin 2816) (n : Fin 1024), x9 (ix2 k n) = D k.val n)
include hX hW hC hD

theorem vb_ug0 (r x : Fin 256) : (runB.sl.r_1 (F := Ideal) c i arg8 harg8 arg16 harg16 x7 z3) (ix2 r x) = up X W r (0 + x.val) :=
  upv_of _ (runB.sl.r (F := Ideal) c i arg16 harg16 z3) _ rfl X W (0) hX (winW arg8 harg8 x7 _ W hW) r x

theorem vb_ug1 (r x : Fin 256) : (runB.sl.r_4 (F := Ideal) c i arg8 harg8 arg16 harg16 x7 z3) (ix2 r x) = up X W r (256 + x.val) :=
  upv_of _ (runB.sl.r (F := Ideal) c i arg16 harg16 z3) _ rfl X W (256) hX (winW arg8 harg8 x7 _ W hW) r x

theorem vb_ug2 (r x : Fin 256) : (runB.sl.r_6 (F := Ideal) c i arg8 harg8 arg16 harg16 x7 z3) (ix2 r x) = up X W r (512 + x.val) :=
  upv_of _ (runB.sl.r (F := Ideal) c i arg16 harg16 z3) _ rfl X W (512) hX (winW arg8 harg8 x7 _ W hW) r x

theorem vb_ug3 (r x : Fin 256) : (runB.sl.r_16 (F := Ideal) c i arg8 harg8 arg16 harg16 x7 z3) (ix2 r x) = up X W r (768 + x.val) :=
  upv_of _ (runB.sl.r (F := Ideal) c i arg16 harg16 z3) _ rfl X W (768) hX (winW arg8 harg8 x7 _ W hW) r x

theorem vb_ug4 (r x : Fin 256) : (runB.sl.r_26 (F := Ideal) c i arg8 harg8 arg16 harg16 x7 z3) (ix2 r x) = up X W r (1024 + x.val) :=
  upv_of _ (runB.sl.r (F := Ideal) c i arg16 harg16 z3) _ rfl X W (1024) hX (winW arg8 harg8 x7 _ W hW) r x

theorem vb_ug5 (r x : Fin 256) : (runB.sl.r_35 (F := Ideal) c i arg8 harg8 arg16 harg16 x7 z3) (ix2 r x) = up X W r (1280 + x.val) :=
  upv_of _ (runB.sl.r (F := Ideal) c i arg16 harg16 z3) _ rfl X W (1280) hX (winW arg8 harg8 x7 _ W hW) r x

theorem vb_ug6 (r x : Fin 256) : (runB.sl.r_44 (F := Ideal) c i arg8 harg8 arg16 harg16 x7 z3) (ix2 r x) = up X W r (1536 + x.val) :=
  upv_of _ (runB.sl.r (F := Ideal) c i arg16 harg16 z3) _ rfl X W (1536) hX (winW arg8 harg8 x7 _ W hW) r x

theorem vb_ug7 (r x : Fin 256) : (runB.sl.r_48 (F := Ideal) c i arg8 harg8 arg16 harg16 x7 z3) (ix2 r x) = up X W r (1792 + x.val) :=
  upv_of _ (runB.sl.r (F := Ideal) c i arg16 harg16 z3) _ rfl X W (1792) hX (winW arg8 harg8 x7 _ W hW) r x

theorem vb_ug8 (r x : Fin 256) : (runB.sl.r_52 (F := Ideal) c i arg8 harg8 arg16 harg16 x7 z3) (ix2 r x) = up X W r (2048 + x.val) :=
  upv_of _ (runB.sl.r (F := Ideal) c i arg16 harg16 z3) _ rfl X W (2048) hX (winW arg8 harg8 x7 _ W hW) r x

theorem vb_ug9 (r x : Fin 256) : (runB.sl.r_58 (F := Ideal) c i arg8 harg8 arg16 harg16 x7 z3) (ix2 r x) = up X W r (2304 + x.val) :=
  upv_of _ (runB.sl.r (F := Ideal) c i arg16 harg16 z3) _ rfl X W (2304) hX (winW arg8 harg8 x7 _ W hW) r x

theorem vb_ug10 (r x : Fin 256) : (runB.sl.r_63 (F := Ideal) c i arg8 harg8 arg16 harg16 x7 z3) (ix2 r x) = up X W r (2560 + x.val) :=
  upv_of _ (runB.sl.r (F := Ideal) c i arg16 harg16 z3) _ rfl X W (2560) hX (winW arg8 harg8 x7 _ W hW) r x

omit hX hW hC hD in
theorem vb_zgpay0 (x : S1x8x256.Idx) : (k0_pay23 (F := Ideal) (k0_pay2 (F := Ideal))) x = (0 : EReal) := by
  idx_vars x
  pointwise [k0_pay23, k0_pay2]

omit hX hW hC hD in
theorem vb_zgpay1 (x : S1x8x256.Idx) : (k0_pay25 (F := Ideal) (k0_pay2 (F := Ideal))) x = (0 : EReal) := by
  idx_vars x
  pointwise [k0_pay25, k0_pay2]

omit hX hW hC hD in
theorem vb_zgpay2 (x : S1x8x256.Idx) : (k0_pay3 (F := Ideal)) x = (0 : EReal) := by
  idx_vars x
  pointwise [k0_pay3, k0_pay2]

omit hX hW hC hD in
theorem vb_zgpay3 (x : S1x8x256.Idx) : (k0_pay5 (F := Ideal)) x = (0 : EReal) := by
  idx_vars x
  pointwise [k0_pay5, k0_pay2]

omit hX hW hC hD in
theorem vb_zgpay4 (x : S1x8x256.Idx) : (k0_pay7 (F := Ideal)) x = (0 : EReal) := by
  idx_vars x
  pointwise [k0_pay7, k0_pay2]

omit hX hW hC hD in
theorem vb_zgpay5 (x : S1x8x256.Idx) : (k0_pay9 (F := Ideal)) x = (0 : EReal) := by
  idx_vars x
  pointwise [k0_pay9, k0_pay2]

omit hX hW hC hD in
theorem vb_zgpay6 (x : S1x8x256.Idx) : (runB.sl.v912 (F := Ideal)) x = (0 : EReal) := by
  idx_vars x
  pointwise [runB.sl.v912, k0_pay2]

omit hX hW hC hD in
theorem vb_zg (y : S11x264x256.Idx) (h1 : (y 1).val < 8) : arg13.view.read (Elt Ideal) (arg13.view.writes (Elt Ideal) arg13.view.junk (runB.sl.G0_12 (F := Ideal) c i arg8 harg8 arg16 harg16 x7 z3).tail) y = (0 : EReal) :=
  zstep arg13.view _ _ _ y vb_zgpay1 h1 fun n10 =>
  zstep arg13.view _ _ _ y vb_zgpay0 h1 fun n9 =>
  zstep arg13.view _ _ _ y vb_zgpay6 h1 fun n8 =>
  zstep arg13.view _ _ _ y vb_zgpay6 h1 fun n7 =>
  zstep arg13.view _ _ _ y vb_zgpay6 h1 fun n6 =>
  zstep arg13.view _ _ _ y vb_zgpay6 h1 fun n5 =>
  zstep arg13.view _ _ _ y vb_zgpay6 h1 fun n4 =>
  zstep arg13.view _ _ _ y vb_zgpay5 h1 fun n3 =>
  zstep arg13.view _ _ _ y vb_zgpay4 h1 fun n2 =>
  zstep arg13.view _ _ _ y vb_zgpay3 h1 fun n1 =>
  zstep arg13.view _ _ _ y vb_zgpay2 h1 fun n0 => absurd (y 0).isLt (by change ¬ (y 0).val < 11; omega)

theorem vb_rdg0 (y : S11x264x256.Idx) (h0 : 0 < (y 0).val) (h1 : (y 1).val < 8) : arg13.view.read (Elt Ideal) (arg13.view.writes (Elt Ideal) arg13.view.junk (runB.sl.G0_12 (F := Ideal) c i arg8 harg8 arg16 harg16 x7 z3)) y = (0 : EReal) :=
  (missc256 arg13.view _ _ _ y (by omega)).trans (vb_zg (c := c) (i := i) (arg8 := arg8) (harg8 := harg8) (arg16 := arg16) (harg16 := harg16) (x7 := x7) (z3 := z3) y h1)

theorem vb_rdg1 (y : S11x264x256.Idx) (h0 : 1 < (y 0).val) (h1 : (y 1).val < 8) : arg13.view.read (Elt Ideal) (arg13.view.writes (Elt Ideal) arg13.view.junk (runB.sl.G0_14 (F := Ideal) c i arg8 harg8 arg16 harg16 x7 z3)) y = (0 : EReal) :=
  (missc256 arg13.view _ _ _ y (by omega)).trans ((missc8 arg13.view _ _ _ y (by omega)).trans (vb_rdg0 hX hW hC hD y (by omega) h1))

theorem vb_rdg2 (y : S11x264x256.Idx) (h0 : 2 < (y 0).val) (h1 : (y 1).val < 8) : arg13.view.read (Elt Ideal) (arg13.view.writes (Elt Ideal) arg13.view.junk (runB.sl.G0_16 (F := Ideal) c i arg8 harg8 arg16 harg16 x7 z3)) y = (0 : EReal) :=
  (missc256 arg13.view _ _ _ y (by omega)).trans ((missc8 arg13.view _ _ _ y (by omega)).trans (vb_rdg1 hX hW hC hD y (by omega) h1))

theorem vb_rdg3 (y : S11x264x256.Idx) (h0 : 3 < (y 0).val) (h1 : (y 1).val < 8) : arg13.view.read (Elt Ideal) (arg13.view.writes (Elt Ideal) arg13.view.junk (runB.sl.G0_18 (F := Ideal) c i arg8 harg8 arg16 harg16 x7 z3)) y = (0 : EReal) :=
  (missc256 arg13.view _ _ _ y (by omega)).trans ((missc8 arg13.view _ _ _ y (by omega)).trans (vb_rdg2 hX hW hC hD y (by omega) h1))

theorem vb_rdg4 (y : S11x264x256.Idx) (h0 : 4 < (y 0).val) (h1 : (y 1).val < 8) : arg13.view.read (Elt Ideal) (arg13.view.writes (Elt Ideal) arg13.view.junk (runB.sl.G0_20 (F := Ideal) c i arg8 harg8 arg16 harg16 x7 z3)) y = (0 : EReal) :=
  (missc256 arg13.view _ _ _ y (by omega)).trans ((missc8 arg13.view _ _ _ y (by omega)).trans (vb_rdg3 hX hW hC hD y (by omega) h1))

theorem vb_rdg5 (y : S11x264x256.Idx) (h0 : 5 < (y 0).val) (h1 : (y 1).val < 8) : arg13.view.read (Elt Ideal) (arg13.view.writes (Elt Ideal) arg13.view.junk (runB.sl.G0_22 (F := Ideal) c i arg8 harg8 arg16 harg16 x7 z3)) y = (0 : EReal) :=
  (missc256 arg13.view _ _ _ y (by omega)).trans ((missc8 arg13.view _ _ _ y (by omega)).trans (vb_rdg4 hX hW hC hD y (by omega) h1))

theorem vb_rdg6 (y : S11x264x256.Idx) (h0 : 6 < (y 0).val) (h1 : (y 1).val < 8) : arg13.view.read (Elt Ideal) (arg13.view.writes (Elt Ideal) arg13.view.junk (runB.sl.G0_24 (F := Ideal) c i arg8 harg8 arg16 harg16 x7 z3)) y = (0 : EReal) :=
  (missc256 arg13.view _ _ _ y (by omega)).trans ((missc8 arg13.view _ _ _ y (by omega)).trans (vb_rdg5 hX hW hC hD y (by omega) h1))

theorem vb_rdg7 (y : S11x264x256.Idx) (h0 : 7 < (y 0).val) (h1 : (y 1).val < 8) : arg13.view.read (Elt Ideal) (arg13.view.writes (Elt Ideal) arg13.view.junk (runB.sl.G0_26 (F := Ideal) c i arg8 harg8 arg16 harg16 x7 z3)) y = (0 : EReal) :=
  (missc256 arg13.view _ _ _ y (by omega)).trans ((missc8 arg13.view _ _ _ y (by omega)).trans (vb_rdg6 hX hW hC hD y (by omega) h1))

theorem vb_rdg8 (y : S11x264x256.Idx) (h0 : 8 < (y 0).val) (h1 : (y 1).val < 8) : arg13.view.read (Elt Ideal) (arg13.view.writes (Elt Ideal) arg13.view.junk (runB.sl.G0_28 (F := Ideal) c i arg8 harg8 arg16 harg16 x7 z3)) y = (0 : EReal) :=
  (missc256 arg13.view _ _ _ y (by omega)).trans ((missc8 arg13.view _ _ _ y (by omega)).trans (vb_rdg7 hX hW hC hD y (by omega) h1))

theorem vb_rdg9 (y : S11x264x256.Idx) (h0 : 9 < (y 0).val) (h1 : (y 1).val < 8) : arg13.view.read (Elt Ideal) (arg13.view.writes (Elt Ideal) arg13.view.junk (runB.sl.G0_30 (F := Ideal) c i arg8 harg8 arg16 harg16 x7 z3)) y = (0 : EReal) :=
  (missc256 arg13.view _ _ _ y (by omega)).trans ((missc8 arg13.view _ _ _ y (by omega)).trans (vb_rdg8 hX hW hC hD y (by omega) h1))

theorem vb_rdg10 (y : S11x264x256.Idx) (h0 : 10 < (y 0).val) (h1 : (y 1).val < 8) : arg13.view.read (Elt Ideal) (arg13.view.writes (Elt Ideal) arg13.view.junk (runB.sl.G0_32 (F := Ideal) c i arg8 harg8 arg16 harg16 x7 z3)) y = (0 : EReal) :=
  (missc256 arg13.view _ _ _ y (by omega)).trans ((missc8 arg13.view _ _ _ y (by omega)).trans (vb_rdg9 hX hW hC hD y (by omega) h1))

set_option maxHeartbeats 2000000 in
theorem vb_sg0_1 (hR) (r x : Fin 256) : LoadRect.valAlong (lr := (Rect.unit (s := S264x256) ![7, 0] S256x256.size inb_S264x256_S256x256_7_0).toLoadRect) hR (runB.sl.v47 (F := Ideal) c i arg8 harg8 arg13 arg16 harg16 x7 z3) (ix2 r x) = ups X W noHist 1 r (0 + x.val) :=
  shup arg13.view arg13.view.junk (d := 1) rfl (runB.sl.r_1 (F := Ideal) c i arg8 harg8 arg16 harg16 x7 z3) _ rfl (runB.sl.G0_12 (F := Ideal) c i arg8 harg8 arg16 harg16 x7 z3).tail X W noHist (0) (vb_ug0 hX hW hC hD) (fun y h0 h1 x h2 => vb_zg (c := c) (i := i) (arg8 := arg8) (harg8 := harg8) (arg16 := arg16) (harg16 := harg16) (x7 := x7) (z3 := z3) y h1) r x

set_option maxHeartbeats 2000000 in
theorem vb_sg0_2 (hR) (r x : Fin 256) : LoadRect.valAlong (lr := (Rect.unit (s := S264x256) ![6, 0] S256x256.size inb_S264x256_S256x256_6_0).toLoadRect) hR (runB.sl.v50 (F := Ideal) c i arg8 harg8 arg13 arg16 harg16 x7 z3) (ix2 r x) = ups X W noHist 2 r (0 + x.val) :=
  shup arg13.view arg13.view.junk (d := 2) rfl (runB.sl.r_1 (F := Ideal) c i arg8 harg8 arg16 harg16 x7 z3) _ rfl (runB.sl.G0_12 (F := Ideal) c i arg8 harg8 arg16 harg16 x7 z3).tail X W noHist (0) (vb_ug0 hX hW hC hD) (fun y h0 h1 x h2 => vb_zg (c := c) (i := i) (arg8 := arg8) (harg8 := harg8) (arg16 := arg16) (harg16 := harg16) (x7 := x7) (z3 := z3) y h1) r x

set_option maxHeartbeats 2000000 in
theorem vb_sg1_1 (hR) (r x : Fin 256) : LoadRect.valAlong (lr := (Rect.unit (s := S264x256) ![7, 0] S256x256.size inb_S264x256_S256x256_7_0).toLoadRect) hR (runB.sl.v117 (F := Ideal) c i arg8 harg8 arg13 arg16 harg16 x7 z3) (ix2 r x) = ups X W noHist 1 r (256 + x.val) :=
  shup arg13.view arg13.view.junk (d := 1) rfl (runB.sl.r_4 (F := Ideal) c i arg8 harg8 arg16 harg16 x7 z3) _ rfl _ X W noHist (256) (vb_ug1 hX hW hC hD) (fun y h0 h1 x h2 => (missc8 arg13.view _ _ _ y (by omega)).trans (vb_rdg0 hX hW hC hD y (by omega) h1)) r x

set_option maxHeartbeats 2000000 in
theorem vb_sg1_2 (hR) (r x : Fin 256) : LoadRect.valAlong (lr := (Rect.unit (s := S264x256) ![6, 0] S256x256.size inb_S264x256_S256x256_6_0).toLoadRect) hR (runB.sl.v120 (F := Ideal) c i arg8 harg8 arg13 arg16 harg16 x7 z3) (ix2 r x) = ups X W noHist 2 r (256 + x.val) :=
  shup arg13.view arg13.view.junk (d := 2) rfl (runB.sl.r_4 (F := Ideal) c i arg8 harg8 arg16 harg16 x7 z3) _ rfl _ X W noHist (256) (vb_ug1 hX hW hC hD) (fun y h0 h1 x h2 => (missc8 arg13.view _ _ _ y (by omega)).trans (vb_rdg0 hX hW hC hD y (by omega) h1)) r x

set_option maxHeartbeats 2000000 in
theorem vb_sg2_1 (hR) (r x : Fin 256) : LoadRect.valAlong (lr := (Rect.unit (s := S264x256) ![7, 0] S256x256.size inb_S264x256_S256x256_7_0).toLoadRect) hR (runB.sl.v187 (F := Ideal) c i arg8 harg8 arg13 arg16 harg16 x7 z3) (ix2 r x) = ups X W noHist 1 r (512 + x.val) :=
  shup arg13.view arg13.view.junk (d := 1) rfl (runB.sl.r_6 (F := Ideal) c i arg8 harg8 arg16 harg16 x7 z3) _ rfl _ X W noHist (512) (vb_ug2 hX hW hC hD) (fun y h0 h1 x h2 => (missc8 arg13.view _ _ _ y (by omega)).trans (vb_rdg1 hX hW hC hD y (by omega) h1)) r x

set_option maxHeartbeats 2000000 in
theorem vb_sg2_2 (hR) (r x : Fin 256) : LoadRect.valAlong (lr := (Rect.unit (s := S264x256) ![6, 0] S256x256.size inb_S264x256_S256x256_6_0).toLoadRect) hR (runB.sl.v190 (F := Ideal) c i arg8 harg8 arg13 arg16 harg16 x7 z3) (ix2 r x) = ups X W noHist 2 r (512 + x.val) :=
  shup arg13.view arg13.view.junk (d := 2) rfl (runB.sl.r_6 (F := Ideal) c i arg8 harg8 arg16 harg16 x7 z3) _ rfl _ X W noHist (512) (vb_ug2 hX hW hC hD) (fun y h0 h1 x h2 => (missc8 arg13.view _ _ _ y (by omega)).trans (vb_rdg1 hX hW hC hD y (by omega) h1)) r x

set_option maxHeartbeats 2000000 in
theorem vb_sg3_1 (hR) (r x : Fin 256) : LoadRect.valAlong (lr := (Rect.unit (s := S264x256) ![7, 0] S256x256.size inb_S264x256_S256x256_7_0).toLoadRect) hR (runB.sl.v257 (F := Ideal) c i arg8 harg8 arg13 arg16 harg16 x7 z3) (ix2 r x) = ups X W noHist 1 r (768 + x.val) :=
  shup arg13.view arg13.view.junk (d := 1) rfl (runB.sl.r_16 (F := Ideal) c i arg8 harg8 arg16 harg16 x7 z3) _ rfl _ X W noHist (768) (vb_ug3 hX hW hC hD) (fun y h0 h1 x h2 => (missc8 arg13.view _ _ _ y (by omega)).trans (vb_rdg2 hX hW hC hD y (by omega) h1)) r x

set_option maxHeartbeats 2000000 in
theorem vb_sg3_2 (hR) (r x : Fin 256) : LoadRect.valAlong (lr := (Rect.unit (s := S264x256) ![6, 0] S256x256.size inb_S264x256_S256x256_6_0).toLoadRect) hR (runB.sl.v260 (F := Ideal) c i arg8 harg8 arg13 arg16 harg16 x7 z3) (ix2 r x) = ups X W noHist 2 r (768 + x.val) :=
  shup arg13.view arg13.view.junk (d := 2) rfl (runB.sl.r_16 (F := Ideal) c i arg8 harg8 arg16 harg16 x7 z3) _ rfl _ X W noHist (768) (vb_ug3 hX hW hC hD) (fun y h0 h1 x h2 => (missc8 arg13.view _ _ _ y (by omega)).trans (vb_rdg2 hX hW hC hD y (by omega) h1)) r x

set_option maxHeartbeats 2000000 in
theorem vb_sg4_1 (hR) (r x : Fin 256) : LoadRect.valAlong (lr := (Rect.unit (s := S264x256) ![7, 0] S256x256.size inb_S264x256_S256x256_7_0).toLoadRect) hR (runB.sl.v337 (F := Ideal) c i arg8 harg8 arg13 arg16 harg16 x7 z3) (ix2 r x) = ups X W noHist 1 r (1024 + x.val) :=
  shup arg13.view arg13.view.junk (d := 1) rfl (runB.sl.r_26 (F := Ideal) c i arg8 harg8 arg16 harg16 x7 z3) _ rfl _ X W noHist (1024) (vb_ug4 hX hW hC hD) (fun y h0 h1 x h2 => (missc8 arg13.view _ _ _ y (by omega)).trans (vb_rdg3 hX hW hC hD y (by omega) h1)) r x

set_option maxHeartbeats 2000000 in
theorem vb_sg4_2 (hR) (r x : Fin 256) : LoadRect.valAlong (lr := (Rect.unit (s := S264x256) ![6, 0] S256x256.size inb_S264x256_S256x256_6_0).toLoadRect) hR (runB.sl.v340 (F := Ideal) c i arg8 harg8 arg13 arg16 harg16 x7 z3) (ix2 r x) = ups X W noHist 2 r (1024 + x.val) :=
  shup arg13.view arg13.view.junk (d := 2) rfl (runB.sl.r_26 (F := Ideal) c i arg8 harg8 arg16 harg16 x7 z3) _ rfl _ X W noHist (1024) (vb_ug4 hX hW hC hD) (fun y h0 h1 x h2 => (missc8 arg13.view _ _ _ y (by omega)).trans (vb_rdg3 hX hW hC hD y (by omega) h1)) r x

set_option maxHeartbeats 2000000 in
theorem vb_sg5_1 (hR) (r x : Fin 256) : LoadRect.valAlong (lr := (Rect.unit (s := S264x256) ![7, 0] S256x256.size inb_S264x256_S256x256_7_0).toLoadRect) hR (runB.sl.v407 (F := Ideal) c i arg8 harg8 arg13 arg16 harg16 x7 z3) (ix2 r x) = ups X W noHist 1 r (1280 + x.val) :=
  shup arg13.view arg13.view.junk (d := 1) rfl (runB.sl.r_35 (F := Ideal) c i arg8 harg8 arg16 harg16 x7 z3) _ rfl _ X W noHist (1280) (vb_ug5 hX hW hC hD) (fun y h0 h1 x h2 => (missc8 arg13.view _ _ _ y (by omega)).trans (vb_rdg4 hX hW hC hD y (by omega) h1)) r x

set_option maxHeartbeats 2000000 in
theorem vb_sg5_2 (hR) (r x : Fin 256) : LoadRect.valAlong (lr := (Rect.unit (s := S264x256) ![6, 0] S256x256.size inb_S264x256_S256x256_6_0).toLoadRect) hR (runB.sl.v410 (F := Ideal) c i arg8 harg8 arg13 arg16 harg16 x7 z3) (ix2 r x) = ups X W noHist 2 r (1280 + x.val) :=
  shup arg13.view arg13.view.junk (d := 2) rfl (runB.sl.r_35 (F := Ideal) c i arg8 harg8 arg16 harg16 x7 z3) _ rfl _ X W noHist (1280) (vb_ug5 hX hW hC hD) (fun y h0 h1 x h2 => (missc8 arg13.view _ _ _ y (by omega)).trans (vb_rdg4 hX hW hC hD y (by omega) h1)) r x

set_option maxHeartbeats 2000000 in
theorem vb_sg6_1 (hR) (r x : Fin 256) : LoadRect.valAlong (lr := (Rect.unit (s := S264x256) ![7, 0] S256x256.size inb_S264x256_S256x256_7_0).toLoadRect) hR (runB.sl.v477 (F := Ideal) c i arg8 harg8 arg13 arg16 harg16 x7 z3) (ix2 r x) = ups X W noHist 1 r (1536 + x.val) :=
  shup arg13.view arg13.view.junk (d := 1) rfl (runB.sl.r_44 (F := Ideal) c i arg8 harg8 arg16 harg16 x7 z3) _ rfl _ X W noHist (1536) (vb_ug6 hX hW hC hD) (fun y h0 h1 x h2 => (missc8 arg13.view _ _ _ y (by omega)).trans (vb_rdg5 hX hW hC hD y (by omega) h1)) r x

set_option maxHeartbeats 2000000 in
theorem vb_sg6_2 (hR) (r x : Fin 256) : LoadRect.valAlong (lr := (Rect.unit (s := S264x256) ![6, 0] S256x256.size inb_S264x256_S256x256_6_0).toLoadRect) hR (runB.sl.v480 (F := Ideal) c i arg8 harg8 arg13 arg16 harg16 x7 z3) (ix2 r x) = ups X W noHist 2 r (1536 + x.val) :=
  shup arg13.view arg13.view.junk (d := 2) rfl (runB.sl.r_44 (F := Ideal) c i arg8 harg8 arg16 harg16 x7 z3) _ rfl _ X W noHist (1536) (vb_ug6 hX hW hC hD) (fun y h0 h1 x h2 => (missc8 arg13.view _ _ _ y (by omega)).trans (vb_rdg5 hX hW hC hD y (by omega) h1)) r x

set_option maxHeartbeats 2000000 in
theorem vb_sg7_1 (hR) (r x : Fin 256) : LoadRect.valAlong (lr := (Rect.unit (s := S264x256) ![7, 0] S256x256.size inb_S264x256_S256x256_7_0).toLoadRect) hR (runB.sl.v547 (F := Ideal) c i arg8 harg8 arg13 arg16 harg16 x7 z3) (ix2 r x) = ups X W noHist 1 r (1792 + x.val) :=
  shup arg13.view arg13.view.junk (d := 1) rfl (runB.sl.r_48 (F := Ideal) c i arg8 harg8 arg16 harg16 x7 z3) _ rfl _ X W noHist (1792) (vb_ug7 hX hW hC hD) (fun y h0 h1 x h2 => (missc8 arg13.view _ _ _ y (by omega)).trans (vb_rdg6 hX hW hC hD y (by omega) h1)) r x

set_option maxHeartbeats 2000000 in
theorem vb_sg7_2 (hR) (r x : Fin 256) : LoadRect.valAlong (lr := (Rect.unit (s := S264x256) ![6, 0] S256x256.size inb_S264x256_S256x256_6_0).toLoadRect) hR (runB.sl.v550 (F := Ideal) c i arg8 harg8 arg13 arg16 harg16 x7 z3) (ix2 r x) = ups X W noHist 2 r (1792 + x.val) :=
  shup arg13.view arg13.view.junk (d := 2) rfl (runB.sl.r_48 (F := Ideal) c i arg8 harg8 arg16 harg16 x7 z3) _ rfl _ X W noHist (1792) (vb_ug7 hX hW hC hD) (fun y h0 h1 x h2 => (missc8 arg13.view _ _ _ y (by omega)).trans (vb_rdg6 hX hW hC hD y (by omega) h1)) r x

set_option maxHeartbeats 2000000 in
theorem vb_sg8_1 (hR) (r x : Fin 256) : LoadRect.valAlong (lr := (Rect.unit (s := S264x256) ![7, 0] S256x256.size inb_S264x256_S256x256_7_0).toLoadRect) hR (runB.sl.v642 (F := Ideal) c i arg8 harg8 arg13 arg16 harg16 x7 z3) (ix2 r x) = ups X W noHist 1 r (2048 + x.val) :=
  shup arg13.view arg13.view.junk (d := 1) rfl (runB.sl.r_52 (F := Ideal) c i arg8 harg8 arg16 harg16 x7 z3) _ rfl _ X W noHist (2048) (vb_ug8 hX hW hC hD) (fun y h0 h1 x h2 => (missc8 arg13.view _ _ _ y (by omega)).trans (vb_rdg7 hX hW hC hD y (by omega) h1)) r x

set_option maxHeartbeats 2000000 in
theorem vb_sg8_2 (hR) (r x : Fin 256) : LoadRect.valAlong (lr := (Rect.unit (s := S264x256) ![6, 0] S256x256.size inb_S264x256_S256x256_6_0).toLoadRect) hR (runB.sl.v645 (F := Ideal) c i arg8 harg8 arg13 arg16 harg16 x7 z3) (ix2 r x) = ups X W noHist 2 r (2048 + x.val) :=
  shup arg13.view arg13.view.junk (d := 2) rfl (runB.sl.r_52 (F := Ideal) c i arg8 harg8 arg16 harg16 x7 z3) _ rfl _ X W noHist (2048) (vb_ug8 hX hW hC hD) (fun y h0 h1 x h2 => (missc8 arg13.view _ _ _ y (by omega)).trans (vb_rdg7 hX hW hC hD y (by omega) h1)) r x

set_option maxHeartbeats 2000000 in
theorem vb_sg9_1 (hR) (r x : Fin 256) : LoadRect.valAlong (lr := (Rect.unit (s := S264x256) ![7, 0] S256x256.size inb_S264x256_S256x256_7_0).toLoadRect) hR (runB.sl.v706 (F := Ideal) c i arg8 harg8 arg13 arg16 harg16 x7 z3) (ix2 r x) = ups X W noHist 1 r (2304 + x.val) :=
  shup arg13.view arg13.view.junk (d := 1) rfl (runB.sl.r_58 (F := Ideal) c i arg8 harg8 arg16 harg16 x7 z3) _ rfl _ X W noHist (2304) (vb_ug9 hX hW hC hD) (fun y h0 h1 x h2 => (missc8 arg13.view _ _ _ y (by omega)).trans (vb_rdg8 hX hW hC hD y (by omega) h1)) r x

set_option maxHeartbeats 2000000 in
theorem vb_sg9_2 (hR) (r x : Fin 256) : LoadRect.valAlong (lr := (Rect.unit (s := S264x256) ![6, 0] S256x256.size inb_S264x256_S256x256_6_0).toLoadRect) hR (runB.sl.v709 (F := Ideal) c i arg8 harg8 arg13 arg16 harg16 x7 z3) (ix2 r x) = ups X W noHist 2 r (2304 + x.val) :=
  shup arg13.view arg13.view.junk (d := 2) rfl (runB.sl.r_58 (F := Ideal) c i arg8 harg8 arg16 harg16 x7 z3) _ rfl _ X W noHist (2304) (vb_ug9 hX hW hC hD) (fun y h0 h1 x h2 => (missc8 arg13.view _ _ _ y (by omega)).trans (vb_rdg8 hX hW hC hD y (by omega) h1)) r x

set_option maxHeartbeats 2000000 in
theorem vb_sg10_1 (hR) (r x : Fin 256) : LoadRect.valAlong (lr := (Rect.unit (s := S264x256) ![7, 0] S256x256.size inb_S264x256_S256x256_7_0).toLoadRect) hR (runB.sl.v799 (F := Ideal) c i arg8 harg8 arg13 arg16 harg16 x7 z3) (ix2 r x) = ups X W noHist 1 r (2560 + x.val) :=
  shup arg13.view arg13.view.junk (d := 1) rfl (runB.sl.r_63 (F := Ideal) c i arg8 harg8 arg16 harg16 x7 z3) _ rfl _ X W noHist (2560) (vb_ug10 hX hW hC hD) (fun y h0 h1 x h2 => (missc8 arg13.view _ _ _ y (by omega)).trans (vb_rdg9 hX hW hC hD y (by omega) h1)) r x

set_option maxHeartbeats 2000000 in
theorem vb_sg10_2 (hR) (r x : Fin 256) : LoadRect.valAlong (lr := (Rect.unit (s := S264x256) ![6, 0] S256x256.size inb_S264x256_S256x256_6_0).toLoadRect) hR (runB.sl.v802 (F := Ideal) c i arg8 harg8 arg13 arg16 harg16 x7 z3) (ix2 r x) = ups X W noHist 2 r (2560 + x.val) :=
  shup arg13.view arg13.view.junk (d := 2) rfl (runB.sl.r_63 (F := Ideal) c i arg8 harg8 arg16 harg16 x7 z3) _ rfl _ X W noHist (2560) (vb_ug10 hX hW hC hD) (fun y h0 h1 x h2 => (missc8 arg13.view _ _ _ y (by omega)).trans (vb_rdg9 hX hW hC hD y (by omega) h1)) r x

theorem vb_uv0 (r x : Fin 256) : (runB.sl.r_2 (F := Ideal) c i arg8 harg8 arg16 harg16 x7 z3) (ix2 r x) = up X W r (2816 + 0 + x.val) :=
  upv_of _ (runB.sl.r (F := Ideal) c i arg16 harg16 z3) _ rfl X W (2816 + 0) hX (winW arg8 harg8 x7 _ W hW) r x

theorem vb_uv1 (r x : Fin 256) : (runB.sl.r_5 (F := Ideal) c i arg8 harg8 arg16 harg16 x7 z3) (ix2 r x) = up X W r (2816 + 256 + x.val) :=
  upv_of _ (runB.sl.r (F := Ideal) c i arg16 harg16 z3) _ rfl X W (2816 + 256) hX (winW arg8 harg8 x7 _ W hW) r x

theorem vb_uv2 (r x : Fin 256) : (runB.sl.r_7 (F := Ideal) c i arg8 harg8 arg16 harg16 x7 z3) (ix2 r x) = up X W r (2816 + 512 + x.val) :=
  upv_of _ (runB.sl.r (F := Ideal) c i arg16 harg16 z3) _ rfl X W (2816 + 512) hX (winW arg8 harg8 x7 _ W hW) r x

theorem vb_uv3 (r x : Fin 256) : (runB.sl.r_17 (F := Ideal) c i arg8 harg8 arg16 harg16 x7 z3) (ix2 r x) = up X W r (2816 + 768 + x.val) :=
  upv_of _ (runB.sl.r (F := Ideal) c i arg16 harg16 z3) _ rfl X W (2816 + 768) hX (winW arg8 harg8 x7 _ W hW) r x

theorem vb_uv4 (r x : Fin 256) : (runB.sl.r_27 (F := Ideal) c i arg8 harg8 arg16 harg16 x7 z3) (ix2 r x) = up X W r (2816 + 1024 + x.val) :=
  upv_of _ (runB.sl.r (F := Ideal) c i arg16 harg16 z3) _ rfl X W (2816 + 1024) hX (winW arg8 harg8 x7 _ W hW) r x

theorem vb_uv5 (r x : Fin 256) : (runB.sl.r_36 (F := Ideal) c i arg8 harg8 arg16 harg16 x7 z3) (ix2 r x) = up X W r (2816 + 1280 + x.val) :=
  upv_of _ (runB.sl.r (F := Ideal) c i arg16 harg16 z3) _ rfl X W (2816 + 1280) hX (winW arg8 harg8 x7 _ W hW) r x

theorem vb_uv6 (r x : Fin 256) : (runB.sl.r_45 (F := Ideal) c i arg8 harg8 arg16 harg16 x7 z3) (ix2 r x) = up X W r (2816 + 1536 + x.val) :=
  upv_of _ (runB.sl.r (F := Ideal) c i arg16 harg16 z3) _ rfl X W (2816 + 1536) hX (winW arg8 harg8 x7 _ W hW) r x

theorem vb_uv7 (r x : Fin 256) : (runB.sl.r_49 (F := Ideal) c i arg8 harg8 arg16 harg16 x7 z3) (ix2 r x) = up X W r (2816 + 1792 + x.val) :=
  upv_of _ (runB.sl.r (F := Ideal) c i arg16 harg16 z3) _ rfl X W (2816 + 1792) hX (winW arg8 harg8 x7 _ W hW) r x

theorem vb_uv8 (r x : Fin 256) : (runB.sl.r_54 (F := Ideal) c i arg8 harg8 arg16 harg16 x7 z3) (ix2 r x) = up X W r (2816 + 2048 + x.val) :=
  upv_of _ (runB.sl.r (F := Ideal) c i arg16 harg16 z3) _ rfl X W (2816 + 2048) hX (winW arg8 harg8 x7 _ W hW) r x

theorem vb_uv9 (r x : Fin 256) : (runB.sl.r_59 (F := Ideal) c i arg8 harg8 arg16 harg16 x7 z3) (ix2 r x) = up X W r (2816 + 2304 + x.val) :=
  upv_of _ (runB.sl.r (F := Ideal) c i arg16 harg16 z3) _ rfl X W (2816 + 2304) hX (winW arg8 harg8 x7 _ W hW) r x

theorem vb_uv10 (r x : Fin 256) : (runB.sl.r_64 (F := Ideal) c i arg8 harg8 arg16 harg16 x7 z3) (ix2 r x) = up X W r (2816 + 2560 + x.val) :=
  upv_of _ (runB.sl.r (F := Ideal) c i arg16 harg16 z3) _ rfl X W (2816 + 2560) hX (winW arg8 harg8 x7 _ W hW) r x

omit hX hW hC hD in
theorem vb_zvpay0 (x : S1x8x256.Idx) : (k0_pay10 (F := Ideal)) x = (0 : EReal) := by
  idx_vars x
  pointwise [k0_pay10, k0_pay2]

omit hX hW hC hD in
theorem vb_zvpay1 (x : S1x8x256.Idx) : (k0_pay22 (F := Ideal) (k0_pay2 (F := Ideal))) x = (0 : EReal) := by
  idx_vars x
  pointwise [k0_pay22, k0_pay2]

omit hX hW hC hD in
theorem vb_zvpay2 (x : S1x8x256.Idx) : (k0_pay24 (F := Ideal) (k0_pay2 (F := Ideal))) x = (0 : EReal) := by
  idx_vars x
  pointwise [k0_pay24, k0_pay2]

omit hX hW hC hD in
theorem vb_zvpay3 (x : S1x8x256.Idx) : (k0_pay26 (F := Ideal) (k0_pay2 (F := Ideal))) x = (0 : EReal) := by
  idx_vars x
  pointwise [k0_pay26, k0_pay2]

omit hX hW hC hD in
theorem vb_zvpay4 (x : S1x8x256.Idx) : (k0_pay4 (F := Ideal)) x = (0 : EReal) := by
  idx_vars x
  pointwise [k0_pay4, k0_pay2]

omit hX hW hC hD in
theorem vb_zvpay5 (x : S1x8x256.Idx) : (k0_pay6 (F := Ideal)) x = (0 : EReal) := by
  idx_vars x
  pointwise [k0_pay6, k0_pay2]

omit hX hW hC hD in
theorem vb_zvpay6 (x : S1x8x256.Idx) : (k0_pay8 (F := Ideal)) x = (0 : EReal) := by
  idx_vars x
  pointwise [k0_pay8, k0_pay2]

omit hX hW hC hD in
theorem vb_zvpay7 (x : S1x8x256.Idx) : (runB.sl.v912 (F := Ideal)) x = (0 : EReal) := by
  idx_vars x
  pointwise [runB.sl.v912, k0_pay2]

omit hX hW hC hD in
theorem vb_zv (y : S11x264x256.Idx) (h1 : (y 1).val < 8) : arg14.view.read (Elt Ideal) (arg14.view.writes (Elt Ideal) arg14.view.junk (runB.sl.G1_12 (F := Ideal) c i arg8 harg8 arg16 harg16 x7 z3).tail) y = (0 : EReal) :=
  zstep arg14.view _ _ _ y vb_zvpay3 h1 fun n10 =>
  zstep arg14.view _ _ _ y vb_zvpay2 h1 fun n9 =>
  zstep arg14.view _ _ _ y vb_zvpay1 h1 fun n8 =>
  zstep arg14.view _ _ _ y vb_zvpay7 h1 fun n7 =>
  zstep arg14.view _ _ _ y vb_zvpay7 h1 fun n6 =>
  zstep arg14.view _ _ _ y vb_zvpay7 h1 fun n5 =>
  zstep arg14.view _ _ _ y vb_zvpay7 h1 fun n4 =>
  zstep arg14.view _ _ _ y vb_zvpay0 h1 fun n3 =>
  zstep arg14.view _ _ _ y vb_zvpay6 h1 fun n2 =>
  zstep arg14.view _ _ _ y vb_zvpay5 h1 fun n1 =>
  zstep arg14.view _ _ _ y vb_zvpay4 h1 fun n0 => absurd (y 0).isLt (by change ¬ (y 0).val < 11; omega)

theorem vb_rdv0 (y : S11x264x256.Idx) (h0 : 0 < (y 0).val) (h1 : (y 1).val < 8) : arg14.view.read (Elt Ideal) (arg14.view.writes (Elt Ideal) arg14.view.junk (runB.sl.G1_12 (F := Ideal) c i arg8 harg8 arg16 harg16 x7 z3)) y = (0 : EReal) :=
  (missc256 arg14.view _ _ _ y (by omega)).trans (vb_zv (c := c) (i := i) (arg8 := arg8) (harg8 := harg8) (arg16 := arg16) (harg16 := harg16) (x7 := x7) (z3 := z3) y h1)

theorem vb_rdv1 (y : S11x264x256.Idx) (h0 : 1 < (y 0).val) (h1 : (y 1).val < 8) : arg14.view.read (Elt Ideal) (arg14.view.writes (Elt Ideal) arg14.view.junk (runB.sl.G1_14 (F := Ideal) c i arg8 harg8 arg16 harg16 x7 z3)) y = (0 : EReal) :=
  (missc256 arg14.view _ _ _ y (by omega)).trans ((missc8 arg14.view _ _ _ y (by omega)).trans (vb_rdv0 hX hW hC hD y (by omega) h1))

theorem vb_rdv2 (y : S11x264x256.Idx) (h0 : 2 < (y 0).val) (h1 : (y 1).val < 8) : arg14.view.read (Elt Ideal) (arg14.view.writes (Elt Ideal) arg14.view.junk (runB.sl.G1_16 (F := Ideal) c i arg8 harg8 arg16 harg16 x7 z3)) y = (0 : EReal) :=
  (missc256 arg14.view _ _ _ y (by omega)).trans ((missc8 arg14.view _ _ _ y (by omega)).trans (vb_rdv1 hX hW hC hD y (by omega) h1))

theorem vb_rdv3 (y : S11x264x256.Idx) (h0 : 3 < (y 0).val) (h1 : (y 1).val < 8) : arg14.view.read (Elt Ideal) (arg14.view.writes (Elt Ideal) arg14.view.junk (runB.sl.G1_18 (F := Ideal) c i arg8 harg8 arg16 harg16 x7 z3)) y = (0 : EReal) :=
  (missc256 arg14.view _ _ _ y (by omega)).trans ((missc8 arg14.view _ _ _ y (by omega)).trans (vb_rdv2 hX hW hC hD y (by omega) h1))

theorem vb_rdv4 (y : S11x264x256.Idx) (h0 : 4 < (y 0).val) (h1 : (y 1).val < 8) : arg14.view.read (Elt Ideal) (arg14.view.writes (Elt Ideal) arg14.view.junk (runB.sl.G1_20 (F := Ideal) c i arg8 harg8 arg16 harg16 x7 z3)) y = (0 : EReal) :=
  (missc256 arg14.view _ _ _ y (by omega)).trans ((missc8 arg14.view _ _ _ y (by omega)).trans (vb_rdv3 hX hW hC hD y (by omega) h1))

theorem vb_rdv5 (y : S11x264x256.Idx) (h0 : 5 < (y 0).val) (h1 : (y 1).val < 8) : arg14.view.read (Elt Ideal) (arg14.view.writes (Elt Ideal) arg14.view.junk (runB.sl.G1_22 (F := Ideal) c i arg8 harg8 arg16 harg16 x7 z3)) y = (0 : EReal) :=
  (missc256 arg14.view _ _ _ y (by omega)).trans ((missc8 arg14.view _ _ _ y (by omega)).trans (vb_rdv4 hX hW hC hD y (by omega) h1))

theorem vb_rdv6 (y : S11x264x256.Idx) (h0 : 6 < (y 0).val) (h1 : (y 1).val < 8) : arg14.view.read (Elt Ideal) (arg14.view.writes (Elt Ideal) arg14.view.junk (runB.sl.G1_24 (F := Ideal) c i arg8 harg8 arg16 harg16 x7 z3)) y = (0 : EReal) :=
  (missc256 arg14.view _ _ _ y (by omega)).trans ((missc8 arg14.view _ _ _ y (by omega)).trans (vb_rdv5 hX hW hC hD y (by omega) h1))

theorem vb_rdv7 (y : S11x264x256.Idx) (h0 : 7 < (y 0).val) (h1 : (y 1).val < 8) : arg14.view.read (Elt Ideal) (arg14.view.writes (Elt Ideal) arg14.view.junk (runB.sl.G1_26 (F := Ideal) c i arg8 harg8 arg16 harg16 x7 z3)) y = (0 : EReal) :=
  (missc256 arg14.view _ _ _ y (by omega)).trans ((missc8 arg14.view _ _ _ y (by omega)).trans (vb_rdv6 hX hW hC hD y (by omega) h1))

theorem vb_rdv8 (y : S11x264x256.Idx) (h0 : 8 < (y 0).val) (h1 : (y 1).val < 8) : arg14.view.read (Elt Ideal) (arg14.view.writes (Elt Ideal) arg14.view.junk (runB.sl.G1_28 (F := Ideal) c i arg8 harg8 arg16 harg16 x7 z3)) y = (0 : EReal) :=
  (missc256 arg14.view _ _ _ y (by omega)).trans ((missc8 arg14.view _ _ _ y (by omega)).trans (vb_rdv7 hX hW hC hD y (by omega) h1))

theorem vb_rdv9 (y : S11x264x256.Idx) (h0 : 9 < (y 0).val) (h1 : (y 1).val < 8) : arg14.view.read (Elt Ideal) (arg14.view.writes (Elt Ideal) arg14.view.junk (runB.sl.G1_30 (F := Ideal) c i arg8 harg8 arg16 harg16 x7 z3)) y = (0 : EReal) :=
  (missc256 arg14.view _ _ _ y (by omega)).trans ((missc8 arg14.view _ _ _ y (by omega)).trans (vb_rdv8 hX hW hC hD y (by omega) h1))

theorem vb_rdv10 (y : S11x264x256.Idx) (h0 : 10 < (y 0).val) (h1 : (y 1).val < 8) : arg14.view.read (Elt Ideal) (arg14.view.writes (Elt Ideal) arg14.view.junk (runB.sl.G1_32 (F := Ideal) c i arg8 harg8 arg16 harg16 x7 z3)) y = (0 : EReal) :=
  (missc256 arg14.view _ _ _ y (by omega)).trans ((missc8 arg14.view _ _ _ y (by omega)).trans (vb_rdv9 hX hW hC hD y (by omega) h1))

set_option maxHeartbeats 2000000 in
theorem vb_sv0_1 (hR) (r x : Fin 256) : LoadRect.valAlong (lr := (Rect.unit (s := S264x256) ![7, 0] S256x256.size inb_S264x256_S256x256_7_0).toLoadRect) hR (runB.sl.v77 (F := Ideal) c i arg8 harg8 arg14 arg16 harg16 x7 z3) (ix2 r x) = ups X W noHist 1 r (2816 + 0 + x.val) :=
  shup arg14.view arg14.view.junk (d := 1) rfl (runB.sl.r_2 (F := Ideal) c i arg8 harg8 arg16 harg16 x7 z3) _ rfl (runB.sl.G1_12 (F := Ideal) c i arg8 harg8 arg16 harg16 x7 z3).tail X W noHist (2816 + 0) (vb_uv0 hX hW hC hD) (fun y h0 h1 x h2 => vb_zv (c := c) (i := i) (arg8 := arg8) (harg8 := harg8) (arg16 := arg16) (harg16 := harg16) (x7 := x7) (z3 := z3) y h1) r x

set_option maxHeartbeats 2000000 in
theorem vb_sv0_2 (hR) (r x : Fin 256) : LoadRect.valAlong (lr := (Rect.unit (s := S264x256) ![6, 0] S256x256.size inb_S264x256_S256x256_6_0).toLoadRect) hR (runB.sl.v80 (F := Ideal) c i arg8 harg8 arg14 arg16 harg16 x7 z3) (ix2 r x) = ups X W noHist 2 r (2816 + 0 + x.val) :=
  shup arg14.view arg14.view.junk (d := 2) rfl (runB.sl.r_2 (F := Ideal) c i arg8 harg8 arg16 harg16 x7 z3) _ rfl (runB.sl.G1_12 (F := Ideal) c i arg8 harg8 arg16 harg16 x7 z3).tail X W noHist (2816 + 0) (vb_uv0 hX hW hC hD) (fun y h0 h1 x h2 => vb_zv (c := c) (i := i) (arg8 := arg8) (harg8 := harg8) (arg16 := arg16) (harg16 := harg16) (x7 := x7) (z3 := z3) y h1) r x

set_option maxHeartbeats 2000000 in
theorem vb_sv1_1 (hR) (r x : Fin 256) : LoadRect.valAlong (lr := (Rect.unit (s := S264x256) ![7, 0] S256x256.size inb_S264x256_S256x256_7_0).toLoadRect) hR (runB.sl.v147 (F := Ideal) c i arg8 harg8 arg14 arg16 harg16 x7 z3) (ix2 r x) = ups X W noHist 1 r (2816 + 256 + x.val) :=
  shup arg14.view arg14.view.junk (d := 1) rfl (runB.sl.r_5 (F := Ideal) c i arg8 harg8 arg16 harg16 x7 z3) _ rfl _ X W noHist (2816 + 256) (vb_uv1 hX hW hC hD) (fun y h0 h1 x h2 => (missc8 arg14.view _ _ _ y (by omega)).trans (vb_rdv0 hX hW hC hD y (by omega) h1)) r x

set_option maxHeartbeats 2000000 in
theorem vb_sv1_2 (hR) (r x : Fin 256) : LoadRect.valAlong (lr := (Rect.unit (s := S264x256) ![6, 0] S256x256.size inb_S264x256_S256x256_6_0).toLoadRect) hR (runB.sl.v150 (F := Ideal) c i arg8 harg8 arg14 arg16 harg16 x7 z3) (ix2 r x) = ups X W noHist 2 r (2816 + 256 + x.val) :=
  shup arg14.view arg14.view.junk (d := 2) rfl (runB.sl.r_5 (F := Ideal) c i arg8 harg8 arg16 harg16 x7 z3) _ rfl _ X W noHist (2816 + 256) (vb_uv1 hX hW hC hD) (fun y h0 h1 x h2 => (missc8 arg14.view _ _ _ y (by omega)).trans (vb_rdv0 hX hW hC hD y (by omega) h1)) r x

set_option maxHeartbeats 2000000 in
theorem vb_sv2_1 (hR) (r x : Fin 256) : LoadRect.valAlong (lr := (Rect.unit (s := S264x256) ![7, 0] S256x256.size inb_S264x256_S256x256_7_0).toLoadRect) hR (runB.sl.v217 (F := Ideal) c i arg8 harg8 arg14 arg16 harg16 x7 z3) (ix2 r x) = ups X W noHist 1 r (2816 + 512 + x.val) :=
  shup arg14.view arg14.view.junk (d := 1) rfl (runB.sl.r_7 (F := Ideal) c i arg8 harg8 arg16 harg16 x7 z3) _ rfl _ X W noHist (2816 + 512) (vb_uv2 hX hW hC hD) (fun y h0 h1 x h2 => (missc8 arg14.view _ _ _ y (by omega)).trans (vb_rdv1 hX hW hC hD y (by omega) h1)) r x

set_option maxHeartbeats 2000000 in
theorem vb_sv2_2 (hR) (r x : Fin 256) : LoadRect.valAlong (lr := (Rect.unit (s := S264x256) ![6, 0] S256x256.size inb_S264x256_S256x256_6_0).toLoadRect) hR (runB.sl.v220 (F := Ideal) c i arg8 harg8 arg14 arg16 harg16 x7 z3) (ix2 r x) = ups X W noHist 2 r (2816 + 512 + x.val) :=
  shup arg14.view arg14.view.junk (d := 2) rfl (runB.sl.r_7 (F := Ideal) c i arg8 harg8 arg16 harg16 x7 z3) _ rfl _ X W noHist (2816 + 512) (vb_uv2 hX hW hC hD) (fun y h0 h1 x h2 => (missc8 arg14.view _ _ _ y (by omega)).trans (vb_rdv1 hX hW hC hD y (by omega) h1)) r x

set_option maxHeartbeats 2000000 in
theorem vb_sv3_1 (hR) (r x : Fin 256) : LoadRect.valAlong (lr := (Rect.unit (s := S264x256) ![7, 0] S256x256.size inb_S264x256_S256x256_7_0).toLoadRect) hR (runB.sl.v287 (F := Ideal) c i arg8 harg8 arg14 arg16 harg16 x7 z3) (ix2 r x) = ups X W noHist 1 r (2816 + 768 + x.val) :=
  shup arg14.view arg14.view.junk (d := 1) rfl (runB.sl.r_17 (F := Ideal) c i arg8 harg8 arg16 harg16 x7 z3) _ rfl _ X W noHist (2816 + 768) (vb_uv3 hX hW hC hD) (fun y h0 h1 x h2 => (missc8 arg14.view _ _ _ y (by omega)).trans (vb_rdv2 hX hW hC hD y (by omega) h1)) r x

set_option maxHeartbeats 2000000 in
theorem vb_sv3_2 (hR) (r x : Fin 256) : LoadRect.valAlong (lr := (Rect.unit (s := S264x256) ![6, 0] S256x256.size inb_S264x256_S256x256_6_0).toLoadRect) hR (runB.sl.v290 (F := Ideal) c i arg8 harg8 arg14 arg16 harg16 x7 z3) (ix2 r x) = ups X W noHist 2 r (2816 + 768 + x.val) :=
  shup arg14.view arg14.view.junk (d := 2) rfl (runB.sl.r_17 (F := Ideal) c i arg8 harg8 arg16 harg16 x7 z3) _ rfl _ X W noHist (2816 + 768) (vb_uv3 hX hW hC hD) (fun y h0 h1 x h2 => (missc8 arg14.view _ _ _ y (by omega)).trans (vb_rdv2 hX hW hC hD y (by omega) h1)) r x

set_option maxHeartbeats 2000000 in
theorem vb_sv4_1 (hR) (r x : Fin 256) : LoadRect.valAlong (lr := (Rect.unit (s := S264x256) ![7, 0] S256x256.size inb_S264x256_S256x256_7_0).toLoadRect) hR (runB.sl.v367 (F := Ideal) c i arg8 harg8 arg14 arg16 harg16 x7 z3) (ix2 r x) = ups X W noHist 1 r (2816 + 1024 + x.val) :=
  shup arg14.view arg14.view.junk (d := 1) rfl (runB.sl.r_27 (F := Ideal) c i arg8 harg8 arg16 harg16 x7 z3) _ rfl _ X W noHist (2816 + 1024) (vb_uv4 hX hW hC hD) (fun y h0 h1 x h2 => (missc8 arg14.view _ _ _ y (by omega)).trans (vb_rdv3 hX hW hC hD y (by omega) h1)) r x

set_option maxHeartbeats 2000000 in
theorem vb_sv4_2 (hR) (r x : Fin 256) : LoadRect.valAlong (lr := (Rect.unit (s := S264x256) ![6, 0] S256x256.size inb_S264x256_S256x256_6_0).toLoadRect) hR (runB.sl.v370 (F := Ideal) c i arg8 harg8 arg14 arg16 harg16 x7 z3) (ix2 r x) = ups X W noHist 2 r (2816 + 1024 + x.val) :=
  shup arg14.view arg14.view.junk (d := 2) rfl (runB.sl.r_27 (F := Ideal) c i arg8 harg8 arg16 harg16 x7 z3) _ rfl _ X W noHist (2816 + 1024) (vb_uv4 hX hW hC hD) (fun y h0 h1 x h2 => (missc8 arg14.view _ _ _ y (by omega)).trans (vb_rdv3 hX hW hC hD y (by omega) h1)) r x

set_option maxHeartbeats 2000000 in
theorem vb_sv5_1 (hR) (r x : Fin 256) : LoadRect.valAlong (lr := (Rect.unit (s := S264x256) ![7, 0] S256x256.size inb_S264x256_S256x256_7_0).toLoadRect) hR (runB.sl.v437 (F := Ideal) c i arg8 harg8 arg14 arg16 harg16 x7 z3) (ix2 r x) = ups X W noHist 1 r (2816 + 1280 + x.val) :=
  shup arg14.view arg14.view.junk (d := 1) rfl (runB.sl.r_36 (F := Ideal) c i arg8 harg8 arg16 harg16 x7 z3) _ rfl _ X W noHist (2816 + 1280) (vb_uv5 hX hW hC hD) (fun y h0 h1 x h2 => (missc8 arg14.view _ _ _ y (by omega)).trans (vb_rdv4 hX hW hC hD y (by omega) h1)) r x

set_option maxHeartbeats 2000000 in
theorem vb_sv5_2 (hR) (r x : Fin 256) : LoadRect.valAlong (lr := (Rect.unit (s := S264x256) ![6, 0] S256x256.size inb_S264x256_S256x256_6_0).toLoadRect) hR (runB.sl.v440 (F := Ideal) c i arg8 harg8 arg14 arg16 harg16 x7 z3) (ix2 r x) = ups X W noHist 2 r (2816 + 1280 + x.val) :=
  shup arg14.view arg14.view.junk (d := 2) rfl (runB.sl.r_36 (F := Ideal) c i arg8 harg8 arg16 harg16 x7 z3) _ rfl _ X W noHist (2816 + 1280) (vb_uv5 hX hW hC hD) (fun y h0 h1 x h2 => (missc8 arg14.view _ _ _ y (by omega)).trans (vb_rdv4 hX hW hC hD y (by omega) h1)) r x

set_option maxHeartbeats 2000000 in
theorem vb_sv6_1 (hR) (r x : Fin 256) : LoadRect.valAlong (lr := (Rect.unit (s := S264x256) ![7, 0] S256x256.size inb_S264x256_S256x256_7_0).toLoadRect) hR (runB.sl.v507 (F := Ideal) c i arg8 harg8 arg14 arg16 harg16 x7 z3) (ix2 r x) = ups X W noHist 1 r (2816 + 1536 + x.val) :=
  shup arg14.view arg14.view.junk (d := 1) rfl (runB.sl.r_45 (F := Ideal) c i arg8 harg8 arg16 harg16 x7 z3) _ rfl _ X W noHist (2816 + 1536) (vb_uv6 hX hW hC hD) (fun y h0 h1 x h2 => (missc8 arg14.view _ _ _ y (by omega)).trans (vb_rdv5 hX hW hC hD y (by omega) h1)) r x

set_option maxHeartbeats 2000000 in
theorem vb_sv6_2 (hR) (r x : Fin 256) : LoadRect.valAlong (lr := (Rect.unit (s := S264x256) ![6, 0] S256x256.size inb_S264x256_S256x256_6_0).toLoadRect) hR (runB.sl.v510 (F := Ideal) c i arg8 harg8 arg14 arg16 harg16 x7 z3) (ix2 r x) = ups X W noHist 2 r (2816 + 1536 + x.val) :=
  shup arg14.view arg14.view.junk (d := 2) rfl (runB.sl.r_45 (F := Ideal) c i arg8 harg8 arg16 harg16 x7 z3) _ rfl _ X W noHist (2816 + 1536) (vb_uv6 hX hW hC hD) (fun y h0 h1 x h2 => (missc8 arg14.view _ _ _ y (by omega)).trans (vb_rdv5 hX hW hC hD y (by omega) h1)) r x

set_option maxHeartbeats 2000000 in
theorem vb_sv7_1 (hR) (r x : Fin 256) : LoadRect.valAlong (lr := (Rect.unit (s := S264x256) ![7, 0] S256x256.size inb_S264x256_S256x256_7_0).toLoadRect) hR (runB.sl.v577 (F := Ideal) c i arg8 harg8 arg14 arg16 harg16 x7 z3) (ix2 r x) = ups X W noHist 1 r (2816 + 1792 + x.val) :=
  shup arg14.view arg14.view.junk (d := 1) rfl (runB.sl.r_49 (F := Ideal) c i arg8 harg8 arg16 harg16 x7 z3) _ rfl _ X W noHist (2816 + 1792) (vb_uv7 hX hW hC hD) (fun y h0 h1 x h2 => (missc8 arg14.view _ _ _ y (by omega)).trans (vb_rdv6 hX hW hC hD y (by omega) h1)) r x

set_option maxHeartbeats 2000000 in
theorem vb_sv7_2 (hR) (r x : Fin 256) : LoadRect.valAlong (lr := (Rect.unit (s := S264x256) ![6, 0] S256x256.size inb_S264x256_S256x256_6_0).toLoadRect) hR (runB.sl.v580 (F := Ideal) c i arg8 harg8 arg14 arg16 harg16 x7 z3) (ix2 r x) = ups X W noHist 2 r (2816 + 1792 + x.val) :=
  shup arg14.view arg14.view.junk (d := 2) rfl (runB.sl.r_49 (F := Ideal) c i arg8 harg8 arg16 harg16 x7 z3) _ rfl _ X W noHist (2816 + 1792) (vb_uv7 hX hW hC hD) (fun y h0 h1 x h2 => (missc8 arg14.view _ _ _ y (by omega)).trans (vb_rdv6 hX hW hC hD y (by omega) h1)) r x

set_option maxHeartbeats 2000000 in
theorem vb_sv8_1 (hR) (r x : Fin 256) : LoadRect.valAlong (lr := (Rect.unit (s := S264x256) ![7, 0] S256x256.size inb_S264x256_S256x256_7_0).toLoadRect) hR (runB.sl.v672 (F := Ideal) c i arg8 harg8 arg14 arg16 harg16 x7 z3) (ix2 r x) = ups X W noHist 1 r (2816 + 2048 + x.val) :=
  shup arg14.view arg14.view.junk (d := 1) rfl (runB.sl.r_54 (F := Ideal) c i arg8 harg8 arg16 harg16 x7 z3) _ rfl _ X W noHist (2816 + 2048) (vb_uv8 hX hW hC hD) (fun y h0 h1 x h2 => (missc8 arg14.view _ _ _ y (by omega)).trans (vb_rdv7 hX hW hC hD y (by omega) h1)) r x

set_option maxHeartbeats 2000000 in
theorem vb_sv8_2 (hR) (r x : Fin 256) : LoadRect.valAlong (lr := (Rect.unit (s := S264x256) ![6, 0] S256x256.size inb_S264x256_S256x256_6_0).toLoadRect) hR (runB.sl.v675 (F := Ideal) c i arg8 harg8 arg14 arg16 harg16 x7 z3) (ix2 r x) = ups X W noHist 2 r (2816 + 2048 + x.val) :=
  shup arg14.view arg14.view.junk (d := 2) rfl (runB.sl.r_54 (F := Ideal) c i arg8 harg8 arg16 harg16 x7 z3) _ rfl _ X W noHist (2816 + 2048) (vb_uv8 hX hW hC hD) (fun y h0 h1 x h2 => (missc8 arg14.view _ _ _ y (by omega)).trans (vb_rdv7 hX hW hC hD y (by omega) h1)) r x

set_option maxHeartbeats 2000000 in
theorem vb_sv9_1 (hR) (r x : Fin 256) : LoadRect.valAlong (lr := (Rect.unit (s := S264x256) ![7, 0] S256x256.size inb_S264x256_S256x256_7_0).toLoadRect) hR (runB.sl.v736 (F := Ideal) c i arg8 harg8 arg14 arg16 harg16 x7 z3) (ix2 r x) = ups X W noHist 1 r (2816 + 2304 + x.val) :=
  shup arg14.view arg14.view.junk (d := 1) rfl (runB.sl.r_59 (F := Ideal) c i arg8 harg8 arg16 harg16 x7 z3) _ rfl _ X W noHist (2816 + 2304) (vb_uv9 hX hW hC hD) (fun y h0 h1 x h2 => (missc8 arg14.view _ _ _ y (by omega)).trans (vb_rdv8 hX hW hC hD y (by omega) h1)) r x

set_option maxHeartbeats 2000000 in
theorem vb_sv9_2 (hR) (r x : Fin 256) : LoadRect.valAlong (lr := (Rect.unit (s := S264x256) ![6, 0] S256x256.size inb_S264x256_S256x256_6_0).toLoadRect) hR (runB.sl.v739 (F := Ideal) c i arg8 harg8 arg14 arg16 harg16 x7 z3) (ix2 r x) = ups X W noHist 2 r (2816 + 2304 + x.val) :=
  shup arg14.view arg14.view.junk (d := 2) rfl (runB.sl.r_59 (F := Ideal) c i arg8 harg8 arg16 harg16 x7 z3) _ rfl _ X W noHist (2816 + 2304) (vb_uv9 hX hW hC hD) (fun y h0 h1 x h2 => (missc8 arg14.view _ _ _ y (by omega)).trans (vb_rdv8 hX hW hC hD y (by omega) h1)) r x

set_option maxHeartbeats 2000000 in
theorem vb_sv10_1 (hR) (r x : Fin 256) : LoadRect.valAlong (lr := (Rect.unit (s := S264x256) ![7, 0] S256x256.size inb_S264x256_S256x256_7_0).toLoadRect) hR (runB.sl.v829 (F := Ideal) c i arg8 harg8 arg14 arg16 harg16 x7 z3) (ix2 r x) = ups X W noHist 1 r (2816 + 2560 + x.val) :=
  shup arg14.view arg14.view.junk (d := 1) rfl (runB.sl.r_64 (F := Ideal) c i arg8 harg8 arg16 harg16 x7 z3) _ rfl _ X W noHist (2816 + 2560) (vb_uv10 hX hW hC hD) (fun y h0 h1 x h2 => (missc8 arg14.view _ _ _ y (by omega)).trans (vb_rdv9 hX hW hC hD y (by omega) h1)) r x

set_option maxHeartbeats 2000000 in
theorem vb_sv10_2 (hR) (r x : Fin 256) : LoadRect.valAlong (lr := (Rect.unit (s := S264x256) ![6, 0] S256x256.size inb_S264x256_S256x256_6_0).toLoadRect) hR (runB.sl.v832 (F := Ideal) c i arg8 harg8 arg14 arg16 harg16 x7 z3) (ix2 r x) = ups X W noHist 2 r (2816 + 2560 + x.val) :=
  shup arg14.view arg14.view.junk (d := 2) rfl (runB.sl.r_64 (F := Ideal) c i arg8 harg8 arg16 harg16 x7 z3) _ rfl _ X W noHist (2816 + 2560) (vb_uv10 hX hW hC hD) (fun y h0 h1 x h2 => (missc8 arg14.view _ _ _ y (by omega)).trans (vb_rdv9 hX hW hC hD y (by omega) h1)) r x

theorem vb_a0 (r x : Fin 256) : (runB.sl.r_15 (F := Ideal) c i arg8 harg8 arg9 harg9 arg13 arg14 arg16 harg16 x7 x8 z3) (ix2 r x) = ac X W Cw noHist r (0 + x.val) :=
  act_of _ (runB.sl.r_1 (F := Ideal) c i arg8 harg8 arg16 harg16 x7 z3) _ _ _ (runB.sl.r_2 (F := Ideal) c i arg8 harg8 arg16 harg16 x7 z3) _ _ _ rfl X W Cw noHist 0 (vb_ug0 hX hW hC hD) (vb_uv0 hX hW hC hD) (winC arg9 harg9 x8 _ Cw hC) (winC arg9 harg9 x8 (o := 2816 + 0) _ Cw hC)
    (vb_sg0_1 hX hW hC hD _) (vb_sg0_2 hX hW hC hD _) (vb_sv0_1 hX hW hC hD _) (vb_sv0_2 hX hW hC hD _) r x

theorem vb_a1 (r x : Fin 256) : (runB.sl.r_25 (F := Ideal) c i arg8 harg8 arg9 harg9 arg13 arg14 arg16 harg16 x7 x8 z3) (ix2 r x) = ac X W Cw noHist r (256 + x.val) :=
  act_of _ (runB.sl.r_4 (F := Ideal) c i arg8 harg8 arg16 harg16 x7 z3) _ _ _ (runB.sl.r_5 (F := Ideal) c i arg8 harg8 arg16 harg16 x7 z3) _ _ _ rfl X W Cw noHist 256 (vb_ug1 hX hW hC hD) (vb_uv1 hX hW hC hD) (winC arg9 harg9 x8 _ Cw hC) (winC arg9 harg9 x8 (o := 2816 + 256) _ Cw hC)
    (vb_sg1_1 hX hW hC hD _) (vb_sg1_2 hX hW hC hD _) (vb_sv1_1 hX hW hC hD _) (vb_sv1_2 hX hW hC hD _) r x

theorem vb_a2 (r x : Fin 256) : (runB.sl.r_34 (F := Ideal) c i arg8 harg8 arg9 harg9 arg13 arg14 arg16 harg16 x7 x8 z3) (ix2 r x) = ac X W Cw noHist r (512 + x.val) :=
  act_of _ (runB.sl.r_6 (F := Ideal) c i arg8 harg8 arg16 harg16 x7 z3) _ _ _ (runB.sl.r_7 (F := Ideal) c i arg8 harg8 arg16 harg16 x7 z3) _ _ _ rfl X W Cw noHist 512 (vb_ug2 hX hW hC hD) (vb_uv2 hX hW hC hD) (winC arg9 harg9 x8 _ Cw hC) (winC arg9 harg9 x8 (o := 2816 + 512) _ Cw hC)
    (vb_sg2_1 hX hW hC hD _) (vb_sg2_2 hX hW hC hD _) (vb_sv2_1 hX hW hC hD _) (vb_sv2_2 hX hW hC hD _) r x

theorem vb_a4 (r x : Fin 256) : (runB.sl.r_47 (F := Ideal) c i arg8 harg8 arg9 harg9 arg13 arg14 arg16 harg16 x7 x8 z3) (ix2 r x) = ac X W Cw noHist r (1024 + x.val) :=
  act_of _ (runB.sl.r_26 (F := Ideal) c i arg8 harg8 arg16 harg16 x7 z3) _ _ _ (runB.sl.r_27 (F := Ideal) c i arg8 harg8 arg16 harg16 x7 z3) _ _ _ rfl X W Cw noHist 1024 (vb_ug4 hX hW hC hD) (vb_uv4 hX hW hC hD) (winC arg9 harg9 x8 _ Cw hC) (winC arg9 harg9 x8 (o := 2816 + 1024) _ Cw hC)
    (vb_sg4_1 hX hW hC hD _) (vb_sg4_2 hX hW hC hD _) (vb_sv4_1 hX hW hC hD _) (vb_sv4_2 hX hW hC hD _) r x

theorem vb_a5 (r x : Fin 256) : (runB.sl.r_51 (F := Ideal) c i arg8 harg8 arg9 harg9 arg13 arg14 arg16 harg16 x7 x8 z3) (ix2 r x) = ac X W Cw noHist r (1280 + x.val) :=
  act_of _ (runB.sl.r_35 (F := Ideal) c i arg8 harg8 arg16 harg16 x7 z3) _ _ _ (runB.sl.r_36 (F := Ideal) c i arg8 harg8 arg16 harg16 x7 z3) _ _ _ rfl X W Cw noHist 1280 (vb_ug5 hX hW hC hD) (vb_uv5 hX hW hC hD) (winC arg9 harg9 x8 _ Cw hC) (winC arg9 harg9 x8 (o := 2816 + 1280) _ Cw hC)
    (vb_sg5_1 hX hW hC hD _) (vb_sg5_2 hX hW hC hD _) (vb_sv5_1 hX hW hC hD _) (vb_sv5_2 hX hW hC hD _) r x

theorem vb_a6 (r x : Fin 256) : (runB.sl.r_56 (F := Ideal) c i arg8 harg8 arg9 harg9 arg13 arg14 arg16 harg16 x7 x8 z3) (ix2 r x) = ac X W Cw noHist r (1536 + x.val) :=
  act_of _ (runB.sl.r_44 (F := Ideal) c i arg8 harg8 arg16 harg16 x7 z3) _ _ _ (runB.sl.r_45 (F := Ideal) c i arg8 harg8 arg16 harg16 x7 z3) _ _ _ rfl X W Cw noHist 1536 (vb_ug6 hX hW hC hD) (vb_uv6 hX hW hC hD) (winC arg9 harg9 x8 _ Cw hC) (winC arg9 harg9 x8 (o := 2816 + 1536) _ Cw hC)
    (vb_sg6_1 hX hW hC hD _) (vb_sg6_2 hX hW hC hD _) (vb_sv6_1 hX hW hC hD _) (vb_sv6_2 hX hW hC hD _) r x

theorem vb_a8 (r x : Fin 256) : (runB.sl.r_67 (F := Ideal) c i arg8 harg8 arg9 harg9 arg13 arg14 arg16 harg16 x7 x8 z3) (ix2 r x) = ac X W Cw noHist r (2048 + x.val) :=
  act_of _ (runB.sl.r_52 (F := Ideal) c i arg8 harg8 arg16 harg16 x7 z3) _ _ _ (runB.sl.r_54 (F := Ideal) c i arg8 harg8 arg16 harg16 x7 z3) _ _ _ rfl X W Cw noHist 2048 (vb_ug8 hX hW hC hD) (vb_uv8 hX hW hC hD) (winC arg9 harg9 x8 _ Cw hC) (winC arg9 harg9 x8 (o := 2816 + 2048) _ Cw hC)
    (vb_sg8_1 hX hW hC hD _) (vb_sg8_2 hX hW hC hD _) (vb_sv8_1 hX hW hC hD _) (vb_sv8_2 hX hW hC hD _) r x

theorem vb_a9 (r x : Fin 256) : (runB.sl.r_69 (F := Ideal) c i arg8 harg8 arg9 harg9 arg13 arg14 arg16 harg16 x7 x8 z3) (ix2 r x) = ac X W Cw noHist r (2304 + x.val) :=
  act_of _ (runB.sl.r_58 (F := Ideal) c i arg8 harg8 arg16 harg16 x7 z3) _ _ _ (runB.sl.r_59 (F := Ideal) c i arg8 harg8 arg16 harg16 x7 z3) _ _ _ rfl X W Cw noHist 2304 (vb_ug9 hX hW hC hD) (vb_uv9 hX hW hC hD) (winC arg9 harg9 x8 _ Cw hC) (winC arg9 harg9 x8 (o := 2816 + 2304) _ Cw hC)
    (vb_sg9_1 hX hW hC hD _) (vb_sg9_2 hX hW hC hD _) (vb_sv9_1 hX hW hC hD _) (vb_sv9_2 hX hW hC hD _) r x

theorem vb_o1 {Hh : Fin 256 → Fin 1024 → EReal} (hH : ∀ (r : Fin 256) (c1 : Fin 1024), (runB.sl.v315 (F := Ideal) c i arg12 arg15 harg15 z2) (ix3 (0 : Fin 1) r c1) = Hh r c1) (r : Fin 256) (c0 : Fin 1024) : (runB.sl.v605 (F := Ideal) c i arg8 harg8 arg9 harg9 arg10 harg10 arg12 arg13 arg14 arg15 harg15 arg16 harg16 x7 x8 x9 z2 z3) (ix3 (0 : Fin 1) r c0) = Hh r c0 + ∑ k : Fin 1024, (ac X W Cw noHist) r (0 + k.val) * D (0 + k.val) c0 := by
  refine (congrFun (covr arg12.view (by decide) (by decide) _ _ _ _) _).trans ((down4_of _ (runB.sl.r_15 (F := Ideal) c i arg8 harg8 arg9 harg9 arg13 arg14 arg16 harg16 x7 x8 z3) (runB.sl.r_25 (F := Ideal) c i arg8 harg8 arg9 harg9 arg13 arg14 arg16 harg16 x7 x8 z3) (runB.sl.r_34 (F := Ideal) c i arg8 harg8 arg9 harg9 arg13 arg14 arg16 harg16 x7 x8 z3) _ (runB.sl.v315 (F := Ideal) c i arg12 arg15 harg15 z2) _ rfl (ac X W Cw noHist) D 0 (vb_a0 hX hW hC hD) (vb_a1 hX hW hC hD) (vb_a2 hX hW hC hD) (fun r x => act_of _ (runB.sl.r_16 (F := Ideal) c i arg8 harg8 arg16 harg16 x7 z3) _ _ _ (runB.sl.r_17 (F := Ideal) c i arg8 harg8 arg16 harg16 x7 z3) _ _ _ rfl X W Cw noHist 768 (vb_ug3 hX hW hC hD) (vb_uv3 hX hW hC hD) (winC arg9 harg9 x8 _ Cw hC) (winC arg9 harg9 x8 (o := 2816 + 768) _ Cw hC)
    (vb_sg3_1 hX hW hC hD _) (vb_sg3_2 hX hW hC hD _) (vb_sv3_1 hX hW hC hD _) (vb_sv3_2 hX hW hC hD _) r x) (winD4 arg10 harg10 x9 _ D hD) r c0).trans ?_)
  rw [hH]

theorem vb_o2 {Hh : Fin 256 → Fin 1024 → EReal} (hH : ∀ (r : Fin 256) (c1 : Fin 1024), (runB.sl.v315 (F := Ideal) c i arg12 arg15 harg15 z2) (ix3 (0 : Fin 1) r c1) = Hh r c1) (r : Fin 256) (c0 : Fin 1024) : (runB.sl.v857 (F := Ideal) c i arg8 harg8 arg9 harg9 arg10 harg10 arg12 arg13 arg14 arg15 harg15 arg16 harg16 x7 x8 x9 z2 z3) (ix3 (0 : Fin 1) r c0) = Hh r c0 + (∑ k : Fin 1024, (ac X W Cw noHist) r (0 + k.val) * D (0 + k.val) c0) + ∑ k : Fin 1024, (ac X W Cw noHist) r (1024 + k.val) * D (1024 + k.val) c0 := by
  refine (congrFun (covr arg12.view (by decide) (by decide) _ _ _ _) _).trans ((down4_of _ (runB.sl.r_47 (F := Ideal) c i arg8 harg8 arg9 harg9 arg13 arg14 arg16 harg16 x7 x8 z3) (runB.sl.r_51 (F := Ideal) c i arg8 harg8 arg9 harg9 arg13 arg14 arg16 harg16 x7 x8 z3) (runB.sl.r_56 (F := Ideal) c i arg8 harg8 arg9 harg9 arg13 arg14 arg16 harg16 x7 x8 z3) _ (runB.sl.v605 (F := Ideal) c i arg8 harg8 arg9 harg9 arg10 harg10 arg12 arg13 arg14 arg15 harg15 arg16 harg16 x7 x8 x9 z2 z3) _ rfl (ac X W Cw noHist) D 1024 (vb_a4 hX hW hC hD) (vb_a5 hX hW hC hD) (vb_a6 hX hW hC hD) (fun r x => act_of _ (runB.sl.r_48 (F := Ideal) c i arg8 harg8 arg16 harg16 x7 z3) _ _ _ (runB.sl.r_49 (F := Ideal) c i arg8 harg8 arg16 harg16 x7 z3) _ _ _ rfl X W Cw noHist 1792 (vb_ug7 hX hW hC hD) (vb_uv7 hX hW hC hD) (winC arg9 harg9 x8 _ Cw hC) (winC arg9 harg9 x8 (o := 2816 + 1792) _ Cw hC)
    (vb_sg7_1 hX hW hC hD _) (vb_sg7_2 hX hW hC hD _) (vb_sv7_1 hX hW hC hD _) (vb_sv7_2 hX hW hC hD _) r x) (winD4 arg10 harg10 x9 _ D hD) r c0).trans ?_)
  rw [vb_o1 hX hW hC hD hH]

theorem vb_o3 {Hh : Fin 256 → Fin 1024 → EReal} (hH : ∀ (r : Fin 256) (c1 : Fin 1024), (runB.sl.v315 (F := Ideal) c i arg12 arg15 harg15 z2) (ix3 (0 : Fin 1) r c1) = Hh r c1) (r : Fin 256) (c0 : Fin 1024) : (runB.sl.v866 (F := Ideal) c i arg8 harg8 arg9 harg9 arg10 harg10 arg12 arg13 arg14 arg15 harg15 arg16 harg16 x7 x8 x9 z2 z3) (ix3 (0 : Fin 1) r c0) = Hh r c0 + (∑ k : Fin 1024, (ac X W Cw noHist) r (0 + k.val) * D (0 + k.val) c0) + (∑ k : Fin 1024, (ac X W Cw noHist) r (1024 + k.val) * D (1024 + k.val) c0) + ∑ k : Fin 768, (ac X W Cw noHist) r (2048 + k.val) * D (2048 + k.val) c0 := by
  refine (congrFun (covr arg12.view (by decide) (by decide) _ _ _ _) _).trans ((down3_of _ (runB.sl.r_67 (F := Ideal) c i arg8 harg8 arg9 harg9 arg13 arg14 arg16 harg16 x7 x8 z3) (runB.sl.r_69 (F := Ideal) c i arg8 harg8 arg9 harg9 arg13 arg14 arg16 harg16 x7 x8 z3) _ (runB.sl.v857 (F := Ideal) c i arg8 harg8 arg9 harg9 arg10 harg10 arg12 arg13 arg14 arg15 harg15 arg16 harg16 x7 x8 x9 z2 z3) _ rfl (ac X W Cw noHist) D 2048 (vb_a8 hX hW hC hD) (vb_a9 hX hW hC hD) (fun r x => act_of _ (runB.sl.r_63 (F := Ideal) c i arg8 harg8 arg16 harg16 x7 z3) _ _ _ (runB.sl.r_64 (F := Ideal) c i arg8 harg8 arg16 harg16 x7 z3) _ _ _ rfl X W Cw noHist 2560 (vb_ug10 hX hW hC hD) (vb_uv10 hX hW hC hD) (winC arg9 harg9 x8 _ Cw hC) (winC arg9 harg9 x8 (o := 2816 + 2560) _ Cw hC)
    (vb_sg10_1 hX hW hC hD _) (vb_sg10_2 hX hW hC hD _) (vb_sv10_1 hX hW hC hD _) (vb_sv10_2 hX hW hC hD _) r x) (winD3 arg10 harg10 x9 _ D hD) r c0).trans ?_)
  rw [vb_o2 hX hW hC hD hH]

omit hX hW hC hD in
theorem vb_tg0 (p : Fin 8) (x : Fin 256) : k0_pay37 (F := Ideal) (runB.sl.r_1 (F := Ideal) c i arg8 harg8 arg16 harg16 x7 z3) (ix2 p x) = (runB.sl.r_1 (F := Ideal) c i arg8 harg8 arg16 harg16 x7 z3) (ix2 ⟨248 + p.val, by omega⟩ x) := by
  pointwise [k0_pay37]

theorem vb_mg0 (f : arg13.view.ty.Contents (Elt Ideal)) (y : S11x264x256.Idx) (h0 : (y 0).val ≤ 0) (h1 : (y 1).val < 8) : arg13.view.read (Elt Ideal) (arg13.view.writes (Elt Ideal) f (runB.sl.G0_14 (F := Ideal) c i arg8 harg8 arg16 harg16 x7 z3).tail) y = up X W ⟨248 + (y 1).val, by omega⟩ (0 + (256 * (y 0).val + (y 2).val)) := by
  have h : (y 0).val = 0 := by omega
  exact (hit8 arg13.view _ _ _ y (⟨(y 1).val, h1⟩ : Fin 8) (y 2 : Fin 256) h (Nat.zero_add _).symm rfl).trans ((vb_tg0 _ _).trans ((vb_ug0 hX hW hC hD _ _).trans (congrArg (up X W _) (by show _ = _; omega))))

omit hX hW hC hD in
theorem vb_tg1 (p : Fin 8) (x : Fin 256) : k0_pay49 (F := Ideal) (runB.sl.r_20 (F := Ideal) c i arg8 harg8 arg16 harg16 x7 z3) (ix2 p x) = (runB.sl.r_4 (F := Ideal) c i arg8 harg8 arg16 harg16 x7 z3) (ix2 ⟨248 + p.val, by omega⟩ x) := by
  pointwise [k0_pay49, runB.sl.r_20, k0_pay48]

theorem vb_mg1 (f : arg13.view.ty.Contents (Elt Ideal)) (y : S11x264x256.Idx) (h0 : (y 0).val ≤ 1) (h1 : (y 1).val < 8) : arg13.view.read (Elt Ideal) (arg13.view.writes (Elt Ideal) f (runB.sl.G0_16 (F := Ideal) c i arg8 harg8 arg16 harg16 x7 z3).tail) y = up X W ⟨248 + (y 1).val, by omega⟩ (0 + (256 * (y 0).val + (y 2).val)) := by
  by_cases h : (y 0).val = 1
  · exact (hit8 arg13.view _ _ _ y (⟨(y 1).val, h1⟩ : Fin 8) (y 2 : Fin 256) h (Nat.zero_add _).symm rfl).trans ((vb_tg1 _ _).trans ((vb_ug1 hX hW hC hD _ _).trans (congrArg (up X W _) (by show _ = _; omega))))
  · exact (missc8 arg13.view _ _ _ y h).trans ((missr256 arg13.view _ _ _ y (by omega)).trans (vb_mg0 hX hW hC hD f y (by omega) h1))

omit hX hW hC hD in
theorem vb_tg2 (p : Fin 8) (x : Fin 256) : k0_pay59 (F := Ideal) (runB.sl.r_30 (F := Ideal) c i arg8 harg8 arg16 harg16 x7 z3) (ix2 p x) = (runB.sl.r_6 (F := Ideal) c i arg8 harg8 arg16 harg16 x7 z3) (ix2 ⟨248 + p.val, by omega⟩ x) := by
  pointwise [k0_pay59, runB.sl.r_30, k0_pay58]

theorem vb_mg2 (f : arg13.view.ty.Contents (Elt Ideal)) (y : S11x264x256.Idx) (h0 : (y 0).val ≤ 2) (h1 : (y 1).val < 8) : arg13.view.read (Elt Ideal) (arg13.view.writes (Elt Ideal) f (runB.sl.G0_18 (F := Ideal) c i arg8 harg8 arg16 harg16 x7 z3).tail) y = up X W ⟨248 + (y 1).val, by omega⟩ (0 + (256 * (y 0).val + (y 2).val)) := by
  by_cases h : (y 0).val = 2
  · exact (hit8 arg13.view _ _ _ y (⟨(y 1).val, h1⟩ : Fin 8) (y 2 : Fin 256) h (Nat.zero_add _).symm rfl).trans ((vb_tg2 _ _).trans ((vb_ug2 hX hW hC hD _ _).trans (congrArg (up X W _) (by show _ = _; omega))))
  · exact (missc8 arg13.view _ _ _ y h).trans ((missr256 arg13.view _ _ _ y (by omega)).trans (vb_mg1 hX hW hC hD f y (by omega) h1))

omit hX hW hC hD in
theorem vb_tg3 (p : Fin 8) (x : Fin 256) : k0_pay68 (F := Ideal) (runB.sl.r_39 (F := Ideal) c i arg8 harg8 arg16 harg16 x7 z3) (ix2 p x) = (runB.sl.r_16 (F := Ideal) c i arg8 harg8 arg16 harg16 x7 z3) (ix2 ⟨248 + p.val, by omega⟩ x) := by
  pointwise [k0_pay68, runB.sl.r_39, k0_pay67]

theorem vb_mg3 (f : arg13.view.ty.Contents (Elt Ideal)) (y : S11x264x256.Idx) (h0 : (y 0).val ≤ 3) (h1 : (y 1).val < 8) : arg13.view.read (Elt Ideal) (arg13.view.writes (Elt Ideal) f (runB.sl.G0_20 (F := Ideal) c i arg8 harg8 arg16 harg16 x7 z3).tail) y = up X W ⟨248 + (y 1).val, by omega⟩ (0 + (256 * (y 0).val + (y 2).val)) := by
  by_cases h : (y 0).val = 3
  · exact (hit8 arg13.view _ _ _ y (⟨(y 1).val, h1⟩ : Fin 8) (y 2 : Fin 256) h (Nat.zero_add _).symm rfl).trans ((vb_tg3 _ _).trans ((vb_ug3 hX hW hC hD _ _).trans (congrArg (up X W _) (by show _ = _; omega))))
  · exact (missc8 arg13.view _ _ _ y h).trans ((missr256 arg13.view _ _ _ y (by omega)).trans (vb_mg2 hX hW hC hD f y (by omega) h1))

omit hX hW hC hD in
theorem vb_tg4 (p : Fin 8) (x : Fin 256) : k0_pay77 (F := Ideal) (runB.sl.r_26 (F := Ideal) c i arg8 harg8 arg16 harg16 x7 z3) (ix2 p x) = (runB.sl.r_26 (F := Ideal) c i arg8 harg8 arg16 harg16 x7 z3) (ix2 ⟨248 + p.val, by omega⟩ x) := by
  pointwise [k0_pay77]

theorem vb_mg4 (f : arg13.view.ty.Contents (Elt Ideal)) (y : S11x264x256.Idx) (h0 : (y 0).val ≤ 4) (h1 : (y 1).val < 8) : arg13.view.read (Elt Ideal) (arg13.view.writes (Elt Ideal) f (runB.sl.G0_22 (F := Ideal) c i arg8 harg8 arg16 harg16 x7 z3).tail) y = up X W ⟨248 + (y 1).val, by omega⟩ (0 + (256 * (y 0).val + (y 2).val)) := by
  by_cases h : (y 0).val = 4
  · exact (hit8 arg13.view _ _ _ y (⟨(y 1).val, h1⟩ : Fin 8) (y 2 : Fin 256) h (Nat.zero_add _).symm rfl).trans ((vb_tg4 _ _).trans ((vb_ug4 hX hW hC hD _ _).trans (congrArg (up X W _) (by show _ = _; omega))))
  · exact (missc8 arg13.view _ _ _ y h).trans ((missr256 arg13.view _ _ _ y (by omega)).trans (vb_mg3 hX hW hC hD f y (by omega) h1))

omit hX hW hC hD in
theorem vb_tg5 (p : Fin 8) (x : Fin 256) : k0_pay85 (F := Ideal) (runB.sl.r_35 (F := Ideal) c i arg8 harg8 arg16 harg16 x7 z3) (ix2 p x) = (runB.sl.r_35 (F := Ideal) c i arg8 harg8 arg16 harg16 x7 z3) (ix2 ⟨248 + p.val, by omega⟩ x) := by
  pointwise [k0_pay85]

theorem vb_mg5 (f : arg13.view.ty.Contents (Elt Ideal)) (y : S11x264x256.Idx) (h0 : (y 0).val ≤ 5) (h1 : (y 1).val < 8) : arg13.view.read (Elt Ideal) (arg13.view.writes (Elt Ideal) f (runB.sl.G0_24 (F := Ideal) c i arg8 harg8 arg16 harg16 x7 z3).tail) y = up X W ⟨248 + (y 1).val, by omega⟩ (0 + (256 * (y 0).val + (y 2).val)) := by
  by_cases h : (y 0).val = 5
  · exact (hit8 arg13.view _ _ _ y (⟨(y 1).val, h1⟩ : Fin 8) (y 2 : Fin 256) h (Nat.zero_add _).symm rfl).trans ((vb_tg5 _ _).trans ((vb_ug5 hX hW hC hD _ _).trans (congrArg (up X W _) (by show _ = _; omega))))
  · exact (missc8 arg13.view _ _ _ y h).trans ((missr256 arg13.view _ _ _ y (by omega)).trans (vb_mg4 hX hW hC hD f y (by omega) h1))

omit hX hW hC hD in
theorem vb_tg6 (p : Fin 8) (x : Fin 256) : k0_pay93 (F := Ideal) (runB.sl.r_44 (F := Ideal) c i arg8 harg8 arg16 harg16 x7 z3) (ix2 p x) = (runB.sl.r_44 (F := Ideal) c i arg8 harg8 arg16 harg16 x7 z3) (ix2 ⟨248 + p.val, by omega⟩ x) := by
  pointwise [k0_pay93]

theorem vb_mg6 (f : arg13.view.ty.Contents (Elt Ideal)) (y : S11x264x256.Idx) (h0 : (y 0).val ≤ 6) (h1 : (y 1).val < 8) : arg13.view.read (Elt Ideal) (arg13.view.writes (Elt Ideal) f (runB.sl.G0_26 (F := Ideal) c i arg8 harg8 arg16 harg16 x7 z3).tail) y = up X W ⟨248 + (y 1).val, by omega⟩ (0 + (256 * (y 0).val + (y 2).val)) := by
  by_cases h : (y 0).val = 6
  · exact (hit8 arg13.view _ _ _ y (⟨(y 1).val, h1⟩ : Fin 8) (y 2 : Fin 256) h (Nat.zero_add _).symm rfl).trans ((vb_tg6 _ _).trans ((vb_ug6 hX hW hC hD _ _).trans (congrArg (up X W _) (by show _ = _; omega))))
  · exact (missc8 arg13.view _ _ _ y h).trans ((missr256 arg13.view _ _ _ y (by omega)).trans (vb_mg5 hX hW hC hD f y (by omega) h1))

omit hX hW hC hD in
theorem vb_tg7 (p : Fin 8) (x : Fin 256) : k0_pay102 (F := Ideal) (runB.sl.r_48 (F := Ideal) c i arg8 harg8 arg16 harg16 x7 z3) (ix2 p x) = (runB.sl.r_48 (F := Ideal) c i arg8 harg8 arg16 harg16 x7 z3) (ix2 ⟨248 + p.val, by omega⟩ x) := by
  pointwise [k0_pay102]

theorem vb_mg7 (f : arg13.view.ty.Contents (Elt Ideal)) (y : S11x264x256.Idx) (h0 : (y 0).val ≤ 7) (h1 : (y 1).val < 8) : arg13.view.read (Elt Ideal) (arg13.view.writes (Elt Ideal) f (runB.sl.G0_28 (F := Ideal) c i arg8 harg8 arg16 harg16 x7 z3).tail) y = up X W ⟨248 + (y 1).val, by omega⟩ (0 + (256 * (y 0).val + (y 2).val)) := by
  by_cases h : (y 0).val = 7
  · exact (hit8 arg13.view _ _ _ y (⟨(y 1).val, h1⟩ : Fin 8) (y 2 : Fin 256) h (Nat.zero_add _).symm rfl).trans ((vb_tg7 _ _).trans ((vb_ug7 hX hW hC hD _ _).trans (congrArg (up X W _) (by show _ = _; omega))))
  · exact (missc8 arg13.view _ _ _ y h).trans ((missr256 arg13.view _ _ _ y (by omega)).trans (vb_mg6 hX hW hC hD f y (by omega) h1))

omit hX hW hC hD in
theorem vb_tg8 (p : Fin 8) (x : Fin 256) : k0_pay114 (F := Ideal) (runB.sl.r_52 (F := Ideal) c i arg8 harg8 arg16 harg16 x7 z3) (ix2 p x) = (runB.sl.r_52 (F := Ideal) c i arg8 harg8 arg16 harg16 x7 z3) (ix2 ⟨248 + p.val, by omega⟩ x) := by
  pointwise [k0_pay114]

theorem vb_mg8 (f : arg13.view.ty.Contents (Elt Ideal)) (y : S11x264x256.Idx) (h0 : (y 0).val ≤ 8) (h1 : (y 1).val < 8) : arg13.view.read (Elt Ideal) (arg13.view.writes (Elt Ideal) f (runB.sl.G0_30 (F := Ideal) c i arg8 harg8 arg16 harg16 x7 z3).tail) y = up X W ⟨248 + (y 1).val, by omega⟩ (0 + (256 * (y 0).val + (y 2).val)) := by
  by_cases h : (y 0).val = 8
  · exact (hit8 arg13.view _ _ _ y (⟨(y 1).val, h1⟩ : Fin 8) (y 2 : Fin 256) h (Nat.zero_add _).symm rfl).trans ((vb_tg8 _ _).trans ((vb_ug8 hX hW hC hD _ _).trans (congrArg (up X W _) (by show _ = _; omega))))
  · exact (missc8 arg13.view _ _ _ y h).trans ((missr256 arg13.view _ _ _ y (by omega)).trans (vb_mg7 hX hW hC hD f y (by omega) h1))

omit hX hW hC hD in
theorem vb_tg9 (p : Fin 8) (x : Fin 256) : k0_pay120 (F := Ideal) (runB.sl.r_58 (F := Ideal) c i arg8 harg8 arg16 harg16 x7 z3) (ix2 p x) = (runB.sl.r_58 (F := Ideal) c i arg8 harg8 arg16 harg16 x7 z3) (ix2 ⟨248 + p.val, by omega⟩ x) := by
  pointwise [k0_pay120]

theorem vb_mg9 (f : arg13.view.ty.Contents (Elt Ideal)) (y : S11x264x256.Idx) (h0 : (y 0).val ≤ 9) (h1 : (y 1).val < 8) : arg13.view.read (Elt Ideal) (arg13.view.writes (Elt Ideal) f (runB.sl.G0_32 (F := Ideal) c i arg8 harg8 arg16 harg16 x7 z3).tail) y = up X W ⟨248 + (y 1).val, by omega⟩ (0 + (256 * (y 0).val + (y 2).val)) := by
  by_cases h : (y 0).val = 9
  · exact (hit8 arg13.view _ _ _ y (⟨(y 1).val, h1⟩ : Fin 8) (y 2 : Fin 256) h (Nat.zero_add _).symm rfl).trans ((vb_tg9 _ _).trans ((vb_ug9 hX hW hC hD _ _).trans (congrArg (up X W _) (by show _ = _; omega))))
  · exact (missc8 arg13.view _ _ _ y h).trans ((missr256 arg13.view _ _ _ y (by omega)).trans (vb_mg8 hX hW hC hD f y (by omega) h1))

omit hX hW hC hD in
theorem vb_tg10 (p : Fin 8) (x : Fin 256) : k0_pay129 (F := Ideal) (runB.sl.r_63 (F := Ideal) c i arg8 harg8 arg16 harg16 x7 z3) (ix2 p x) = (runB.sl.r_63 (F := Ideal) c i arg8 harg8 arg16 harg16 x7 z3) (ix2 ⟨248 + p.val, by omega⟩ x) := by
  pointwise [k0_pay129]

theorem vb_mg10 (f : arg13.view.ty.Contents (Elt Ideal)) (y : S11x264x256.Idx) (h0 : (y 0).val ≤ 10) (h1 : (y 1).val < 8) : arg13.view.read (Elt Ideal) (arg13.view.writes (Elt Ideal) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.1) y = up X W ⟨248 + (y 1).val, by omega⟩ (0 + (256 * (y 0).val + (y 2).val)) := by
  by_cases h : (y 0).val = 10
  · exact (hit8 arg13.view _ _ _ y (⟨(y 1).val, h1⟩ : Fin 8) (y 2 : Fin 256) h (Nat.zero_add _).symm rfl).trans ((vb_tg10 _ _).trans ((vb_ug10 hX hW hC hD _ _).trans (congrArg (up X W _) (by show _ = _; omega))))
  · exact (missc8 arg13.view _ _ _ y h).trans ((missr256 arg13.view _ _ _ y (by omega)).trans (vb_mg9 hX hW hC hD f y (by omega) h1))

omit hX hW hC hD in
theorem vb_tv0 (p : Fin 8) (x : Fin 256) : k0_pay40 (F := Ideal) (runB.sl.r_2 (F := Ideal) c i arg8 harg8 arg16 harg16 x7 z3) (ix2 p x) = (runB.sl.r_2 (F := Ideal) c i arg8 harg8 arg16 harg16 x7 z3) (ix2 ⟨248 + p.val, by omega⟩ x) := by
  pointwise [k0_pay40]

theorem vb_mv0 (f : arg14.view.ty.Contents (Elt Ideal)) (y : S11x264x256.Idx) (h0 : (y 0).val ≤ 0) (h1 : (y 1).val < 8) : arg14.view.read (Elt Ideal) (arg14.view.writes (Elt Ideal) f (runB.sl.G1_14 (F := Ideal) c i arg8 harg8 arg16 harg16 x7 z3).tail) y = up X W ⟨248 + (y 1).val, by omega⟩ (2816 + (256 * (y 0).val + (y 2).val)) := by
  have h : (y 0).val = 0 := by omega
  exact (hit8 arg14.view _ _ _ y (⟨(y 1).val, h1⟩ : Fin 8) (y 2 : Fin 256) h (Nat.zero_add _).symm rfl).trans ((vb_tv0 _ _).trans ((vb_uv0 hX hW hC hD _ _).trans (congrArg (up X W _) (by show _ = _; omega))))

omit hX hW hC hD in
theorem vb_tv1 (p : Fin 8) (x : Fin 256) : k0_pay52 (F := Ideal) (runB.sl.r_5 (F := Ideal) c i arg8 harg8 arg16 harg16 x7 z3) (ix2 p x) = (runB.sl.r_5 (F := Ideal) c i arg8 harg8 arg16 harg16 x7 z3) (ix2 ⟨248 + p.val, by omega⟩ x) := by
  pointwise [k0_pay52]

theorem vb_mv1 (f : arg14.view.ty.Contents (Elt Ideal)) (y : S11x264x256.Idx) (h0 : (y 0).val ≤ 1) (h1 : (y 1).val < 8) : arg14.view.read (Elt Ideal) (arg14.view.writes (Elt Ideal) f (runB.sl.G1_16 (F := Ideal) c i arg8 harg8 arg16 harg16 x7 z3).tail) y = up X W ⟨248 + (y 1).val, by omega⟩ (2816 + (256 * (y 0).val + (y 2).val)) := by
  by_cases h : (y 0).val = 1
  · exact (hit8 arg14.view _ _ _ y (⟨(y 1).val, h1⟩ : Fin 8) (y 2 : Fin 256) h (Nat.zero_add _).symm rfl).trans ((vb_tv1 _ _).trans ((vb_uv1 hX hW hC hD _ _).trans (congrArg (up X W _) (by show _ = _; omega))))
  · exact (missc8 arg14.view _ _ _ y h).trans ((missr256 arg14.view _ _ _ y (by omega)).trans (vb_mv0 hX hW hC hD f y (by omega) h1))

omit hX hW hC hD in
theorem vb_tv2 (p : Fin 8) (x : Fin 256) : k0_pay62 (F := Ideal) (runB.sl.r_7 (F := Ideal) c i arg8 harg8 arg16 harg16 x7 z3) (ix2 p x) = (runB.sl.r_7 (F := Ideal) c i arg8 harg8 arg16 harg16 x7 z3) (ix2 ⟨248 + p.val, by omega⟩ x) := by
  pointwise [k0_pay62]

theorem vb_mv2 (f : arg14.view.ty.Contents (Elt Ideal)) (y : S11x264x256.Idx) (h0 : (y 0).val ≤ 2) (h1 : (y 1).val < 8) : arg14.view.read (Elt Ideal) (arg14.view.writes (Elt Ideal) f (runB.sl.G1_18 (F := Ideal) c i arg8 harg8 arg16 harg16 x7 z3).tail) y = up X W ⟨248 + (y 1).val, by omega⟩ (2816 + (256 * (y 0).val + (y 2).val)) := by
  by_cases h : (y 0).val = 2
  · exact (hit8 arg14.view _ _ _ y (⟨(y 1).val, h1⟩ : Fin 8) (y 2 : Fin 256) h (Nat.zero_add _).symm rfl).trans ((vb_tv2 _ _).trans ((vb_uv2 hX hW hC hD _ _).trans (congrArg (up X W _) (by show _ = _; omega))))
  · exact (missc8 arg14.view _ _ _ y h).trans ((missr256 arg14.view _ _ _ y (by omega)).trans (vb_mv1 hX hW hC hD f y (by omega) h1))

omit hX hW hC hD in
theorem vb_tv3 (p : Fin 8) (x : Fin 256) : k0_pay72 (F := Ideal) (runB.sl.r_43 (F := Ideal) c i arg8 harg8 arg16 harg16 x7 z3) (ix2 p x) = (runB.sl.r_17 (F := Ideal) c i arg8 harg8 arg16 harg16 x7 z3) (ix2 ⟨248 + p.val, by omega⟩ x) := by
  pointwise [k0_pay72, runB.sl.r_43, k0_pay71]

theorem vb_mv3 (f : arg14.view.ty.Contents (Elt Ideal)) (y : S11x264x256.Idx) (h0 : (y 0).val ≤ 3) (h1 : (y 1).val < 8) : arg14.view.read (Elt Ideal) (arg14.view.writes (Elt Ideal) f (runB.sl.G1_20 (F := Ideal) c i arg8 harg8 arg16 harg16 x7 z3).tail) y = up X W ⟨248 + (y 1).val, by omega⟩ (2816 + (256 * (y 0).val + (y 2).val)) := by
  by_cases h : (y 0).val = 3
  · exact (hit8 arg14.view _ _ _ y (⟨(y 1).val, h1⟩ : Fin 8) (y 2 : Fin 256) h (Nat.zero_add _).symm rfl).trans ((vb_tv3 _ _).trans ((vb_uv3 hX hW hC hD _ _).trans (congrArg (up X W _) (by show _ = _; omega))))
  · exact (missc8 arg14.view _ _ _ y h).trans ((missr256 arg14.view _ _ _ y (by omega)).trans (vb_mv2 hX hW hC hD f y (by omega) h1))

omit hX hW hC hD in
theorem vb_tv4 (p : Fin 8) (x : Fin 256) : k0_pay80 (F := Ideal) (runB.sl.r_27 (F := Ideal) c i arg8 harg8 arg16 harg16 x7 z3) (ix2 p x) = (runB.sl.r_27 (F := Ideal) c i arg8 harg8 arg16 harg16 x7 z3) (ix2 ⟨248 + p.val, by omega⟩ x) := by
  pointwise [k0_pay80]

theorem vb_mv4 (f : arg14.view.ty.Contents (Elt Ideal)) (y : S11x264x256.Idx) (h0 : (y 0).val ≤ 4) (h1 : (y 1).val < 8) : arg14.view.read (Elt Ideal) (arg14.view.writes (Elt Ideal) f (runB.sl.G1_22 (F := Ideal) c i arg8 harg8 arg16 harg16 x7 z3).tail) y = up X W ⟨248 + (y 1).val, by omega⟩ (2816 + (256 * (y 0).val + (y 2).val)) := by
  by_cases h : (y 0).val = 4
  · exact (hit8 arg14.view _ _ _ y (⟨(y 1).val, h1⟩ : Fin 8) (y 2 : Fin 256) h (Nat.zero_add _).symm rfl).trans ((vb_tv4 _ _).trans ((vb_uv4 hX hW hC hD _ _).trans (congrArg (up X W _) (by show _ = _; omega))))
  · exact (missc8 arg14.view _ _ _ y h).trans ((missr256 arg14.view _ _ _ y (by omega)).trans (vb_mv3 hX hW hC hD f y (by omega) h1))

omit hX hW hC hD in
theorem vb_tv5 (p : Fin 8) (x : Fin 256) : k0_pay88 (F := Ideal) (runB.sl.r_36 (F := Ideal) c i arg8 harg8 arg16 harg16 x7 z3) (ix2 p x) = (runB.sl.r_36 (F := Ideal) c i arg8 harg8 arg16 harg16 x7 z3) (ix2 ⟨248 + p.val, by omega⟩ x) := by
  pointwise [k0_pay88]

theorem vb_mv5 (f : arg14.view.ty.Contents (Elt Ideal)) (y : S11x264x256.Idx) (h0 : (y 0).val ≤ 5) (h1 : (y 1).val < 8) : arg14.view.read (Elt Ideal) (arg14.view.writes (Elt Ideal) f (runB.sl.G1_24 (F := Ideal) c i arg8 harg8 arg16 harg16 x7 z3).tail) y = up X W ⟨248 + (y 1).val, by omega⟩ (2816 + (256 * (y 0).val + (y 2).val)) := by
  by_cases h : (y 0).val = 5
  · exact (hit8 arg14.view _ _ _ y (⟨(y 1).val, h1⟩ : Fin 8) (y 2 : Fin 256) h (Nat.zero_add _).symm rfl).trans ((vb_tv5 _ _).trans ((vb_uv5 hX hW hC hD _ _).trans (congrArg (up X W _) (by show _ = _; omega))))
  · exact (missc8 arg14.view _ _ _ y h).trans ((missr256 arg14.view _ _ _ y (by omega)).trans (vb_mv4 hX hW hC hD f y (by omega) h1))

omit hX hW hC hD in
theorem vb_tv6 (p : Fin 8) (x : Fin 256) : k0_pay96 (F := Ideal) (runB.sl.r_45 (F := Ideal) c i arg8 harg8 arg16 harg16 x7 z3) (ix2 p x) = (runB.sl.r_45 (F := Ideal) c i arg8 harg8 arg16 harg16 x7 z3) (ix2 ⟨248 + p.val, by omega⟩ x) := by
  pointwise [k0_pay96]

theorem vb_mv6 (f : arg14.view.ty.Contents (Elt Ideal)) (y : S11x264x256.Idx) (h0 : (y 0).val ≤ 6) (h1 : (y 1).val < 8) : arg14.view.read (Elt Ideal) (arg14.view.writes (Elt Ideal) f (runB.sl.G1_26 (F := Ideal) c i arg8 harg8 arg16 harg16 x7 z3).tail) y = up X W ⟨248 + (y 1).val, by omega⟩ (2816 + (256 * (y 0).val + (y 2).val)) := by
  by_cases h : (y 0).val = 6
  · exact (hit8 arg14.view _ _ _ y (⟨(y 1).val, h1⟩ : Fin 8) (y 2 : Fin 256) h (Nat.zero_add _).symm rfl).trans ((vb_tv6 _ _).trans ((vb_uv6 hX hW hC hD _ _).trans (congrArg (up X W _) (by show _ = _; omega))))
  · exact (missc8 arg14.view _ _ _ y h).trans ((missr256 arg14.view _ _ _ y (by omega)).trans (vb_mv5 hX hW hC hD f y (by omega) h1))

omit hX hW hC hD in
theorem vb_tv7 (p : Fin 8) (x : Fin 256) : k0_pay107 (F := Ideal) (runB.sl.r_49 (F := Ideal) c i arg8 harg8 arg16 harg16 x7 z3) (ix2 p x) = (runB.sl.r_49 (F := Ideal) c i arg8 harg8 arg16 harg16 x7 z3) (ix2 ⟨248 + p.val, by omega⟩ x) := by
  pointwise [k0_pay107]

theorem vb_mv7 (f : arg14.view.ty.Contents (Elt Ideal)) (y : S11x264x256.Idx) (h0 : (y 0).val ≤ 7) (h1 : (y 1).val < 8) : arg14.view.read (Elt Ideal) (arg14.view.writes (Elt Ideal) f (runB.sl.G1_28 (F := Ideal) c i arg8 harg8 arg16 harg16 x7 z3).tail) y = up X W ⟨248 + (y 1).val, by omega⟩ (2816 + (256 * (y 0).val + (y 2).val)) := by
  by_cases h : (y 0).val = 7
  · exact (hit8 arg14.view _ _ _ y (⟨(y 1).val, h1⟩ : Fin 8) (y 2 : Fin 256) h (Nat.zero_add _).symm rfl).trans ((vb_tv7 _ _).trans ((vb_uv7 hX hW hC hD _ _).trans (congrArg (up X W _) (by show _ = _; omega))))
  · exact (missc8 arg14.view _ _ _ y h).trans ((missr256 arg14.view _ _ _ y (by omega)).trans (vb_mv6 hX hW hC hD f y (by omega) h1))

omit hX hW hC hD in
theorem vb_tv8 (p : Fin 8) (x : Fin 256) : k0_pay117 (F := Ideal) (runB.sl.r_54 (F := Ideal) c i arg8 harg8 arg16 harg16 x7 z3) (ix2 p x) = (runB.sl.r_54 (F := Ideal) c i arg8 harg8 arg16 harg16 x7 z3) (ix2 ⟨248 + p.val, by omega⟩ x) := by
  pointwise [k0_pay117]

theorem vb_mv8 (f : arg14.view.ty.Contents (Elt Ideal)) (y : S11x264x256.Idx) (h0 : (y 0).val ≤ 8) (h1 : (y 1).val < 8) : arg14.view.read (Elt Ideal) (arg14.view.writes (Elt Ideal) f (runB.sl.G1_30 (F := Ideal) c i arg8 harg8 arg16 harg16 x7 z3).tail) y = up X W ⟨248 + (y 1).val, by omega⟩ (2816 + (256 * (y 0).val + (y 2).val)) := by
  by_cases h : (y 0).val = 8
  · exact (hit8 arg14.view _ _ _ y (⟨(y 1).val, h1⟩ : Fin 8) (y 2 : Fin 256) h (Nat.zero_add _).symm rfl).trans ((vb_tv8 _ _).trans ((vb_uv8 hX hW hC hD _ _).trans (congrArg (up X W _) (by show _ = _; omega))))
  · exact (missc8 arg14.view _ _ _ y h).trans ((missr256 arg14.view _ _ _ y (by omega)).trans (vb_mv7 hX hW hC hD f y (by omega) h1))

omit hX hW hC hD in
theorem vb_tv9 (p : Fin 8) (x : Fin 256) : k0_pay123 (F := Ideal) (runB.sl.r_59 (F := Ideal) c i arg8 harg8 arg16 harg16 x7 z3) (ix2 p x) = (runB.sl.r_59 (F := Ideal) c i arg8 harg8 arg16 harg16 x7 z3) (ix2 ⟨248 + p.val, by omega⟩ x) := by
  pointwise [k0_pay123]

theorem vb_mv9 (f : arg14.view.ty.Contents (Elt Ideal)) (y : S11x264x256.Idx) (h0 : (y 0).val ≤ 9) (h1 : (y 1).val < 8) : arg14.view.read (Elt Ideal) (arg14.view.writes (Elt Ideal) f (runB.sl.G1_32 (F := Ideal) c i arg8 harg8 arg16 harg16 x7 z3).tail) y = up X W ⟨248 + (y 1).val, by omega⟩ (2816 + (256 * (y 0).val + (y 2).val)) := by
  by_cases h : (y 0).val = 9
  · exact (hit8 arg14.view _ _ _ y (⟨(y 1).val, h1⟩ : Fin 8) (y 2 : Fin 256) h (Nat.zero_add _).symm rfl).trans ((vb_tv9 _ _).trans ((vb_uv9 hX hW hC hD _ _).trans (congrArg (up X W _) (by show _ = _; omega))))
  · exact (missc8 arg14.view _ _ _ y h).trans ((missr256 arg14.view _ _ _ y (by omega)).trans (vb_mv8 hX hW hC hD f y (by omega) h1))

omit hX hW hC hD in
theorem vb_tv10 (p : Fin 8) (x : Fin 256) : k0_pay133 (F := Ideal) (runB.sl.r_76 (F := Ideal) c i arg8 harg8 arg16 harg16 x7 z3) (ix2 p x) = (runB.sl.r_64 (F := Ideal) c i arg8 harg8 arg16 harg16 x7 z3) (ix2 ⟨248 + p.val, by omega⟩ x) := by
  pointwise [k0_pay133, runB.sl.r_76, k0_pay132]

theorem vb_mv10 (f : arg14.view.ty.Contents (Elt Ideal)) (y : S11x264x256.Idx) (h0 : (y 0).val ≤ 10) (h1 : (y 1).val < 8) : arg14.view.read (Elt Ideal) (arg14.view.writes (Elt Ideal) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.2.1) y = up X W ⟨248 + (y 1).val, by omega⟩ (2816 + (256 * (y 0).val + (y 2).val)) := by
  by_cases h : (y 0).val = 10
  · exact (hit8 arg14.view _ _ _ y (⟨(y 1).val, h1⟩ : Fin 8) (y 2 : Fin 256) h (Nat.zero_add _).symm rfl).trans ((vb_tv10 _ _).trans ((vb_uv10 hX hW hC hD _ _).trans (congrArg (up X W _) (by show _ = _; omega))))
  · exact (missc8 arg14.view _ _ _ y h).trans ((missr256 arg14.view _ _ _ y (by omega)).trans (vb_mv9 hX hW hC hD f y (by omega) h1))

omit hX hW hC hD in
theorem vb_out (v : View sig .tc .vmem S1x256x1024 .f32) (f : v.ty.Contents (Elt Ideal)) (r : Fin 256) (e : Fin 1024) : v.read (Elt Ideal) (v.writes (Elt Ideal) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).1) (ix3 (0 : Fin 1) r e)
    = nrm (fun x => (runB.sl.v866 (F := Ideal) c i arg8 harg8 arg9 harg9 arg10 harg10 arg12 arg13 arg14 arg15 harg15 arg16 harg16 x7 x8 x9 z2 z3) (ix3 (0 : Fin 1) r x)) (fun x => x10 (ix2 (0 : Fin 1) x)) e := by
  have h : View.readAt (Elt Ideal) arg11.view (Rect.unit (s := S1x1024) ![0, 0] S1x1024.size inb_S1x1024_S1x1024_0_0).toLoadRect (harg11.unread x10) = x10 := winAll arg11 harg11 x10 (by decide) _
  refine (covw v f (by decide) _ _ _ _).trans ((fin_at (runB.sl.v866 (F := Ideal) c i arg8 harg8 arg9 harg9 arg10 harg10 arg12 arg13 arg14 arg15 harg15 arg16 harg16 x7 x8 x9 z2 z3) (View.readAt (Elt Ideal) arg11.view (Rect.unit (s := S1x1024) ![0, 0] S1x1024.size inb_S1x1024_S1x1024_0_0).toLoadRect (harg11.unread x10)) r e).trans ?_)
  rw [h]

omit hX hW hC hD in
theorem vb_acc {z : S2x256x1024.Idx → Elt Ideal .f32} (hz : z2 = z) (s : Fin 2) (hoff : k0_off1 i = ![s.val, 0, 0]) (r : Fin 256) (k : Fin 1024) : (runB.sl.v315 (F := Ideal) c i arg12 arg15 harg15 z2) (ix3 (0 : Fin 1) r k) = z (ix3 s r k) := by
  subst hz
  exact (congrFun (covr arg12.view (by decide) (by decide) _ _ _ _) _).trans ((pay28_at _ r k).trans (slotr arg15 harg15 z2 s hoff _ r k))

omit hX hW hC hD in
theorem vb_xn {z : S2x256x1024.Idx → Elt Ideal .bf16} (hz : z3 = z) (s : Fin 2) (hoff : k0_off1 i = ![s.val, 0, 0]) (r : Fin 256) (k : Fin 1024) : (runB.sl.r (F := Ideal) c i arg16 harg16 z3) (ix2 r k) = z (ix3 s r k) := by
  subst hz
  exact (pay27_at _ r k).trans (slotr arg16 harg16 z3 s hoff _ r k)

omit hX hW hC hD in
theorem vb_hn (r : Fin 256) (k : Fin 1024) : (runB.sl.r_70 (F := Ideal) c arg1 harg1 arg2 harg2 arg3 harg3 arg4 harg4 arg5 harg5 arg6 harg6 arg17 x0 x1 x2 x3 x4 x5) (ix2 r k) = hn x0 x1 x2 x3 x4 x5 r k :=
  hn_of rfl (covr arg17.view (by decide) (by decide) _ _ _ _) (winAll _ _ _ (by decide) _) (winAll _ _ _ (by decide) _) (winAll _ _ _ (by decide) _) (winAll _ _ _ (by decide) _) (winAll _ _ _ (by decide) _) (winAll _ _ _ (by decide) _) r k

omit hX hW hC hD in
theorem vb_st2 (v : View sig .tc .vmem S2x256x1024 .f32) (f : v.ty.Contents (Elt Ideal)) (s : Fin 2) (hoff : k0_off2 i = ![s.val, 0, 0]) (r : Fin 256) (k : Fin 1024) : v.read (Elt Ideal) (v.writes (Elt Ideal) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.2.2.1) (ix3 s r k) = hn x0 x1 x2 x3 x4 x5 r k :=
  (slotw v f s hoff _ (k0_pay126 (runB.sl.r_70 (F := Ideal) c arg1 harg1 arg2 harg2 arg3 harg3 arg4 harg4 arg5 harg5 arg6 harg6 arg17 x0 x1 x2 x3 x4 x5)) _ r k).trans ((pay126_at _ r k).trans (vb_hn r k))

omit hX hW hC hD in
theorem vb_st3 (v : View sig .tc .vmem S2x256x1024 .bf16) (f : v.ty.Contents (Elt Ideal)) (s : Fin 2) (hoff : k0_off2 i = ![s.val, 0, 0]) (r : Fin 256) (k : Fin 1024) : v.read (Elt Ideal) (v.writes (Elt Ideal) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.2.2.2.1) (ix3 s r k) = nrm (hn x0 x1 x2 x3 x4 x5 r) (fun x => x6 (ix2 (0 : Fin 1) x)) k := by
  have h : View.readAt (Elt Ideal) arg7.view (Rect.unit (s := S1x1024) ![0, 0] S1x1024.size inb_S1x1024_S1x1024_0_0).toLoadRect (harg7.unread x6) = x6 := winAll arg7 harg7 x6 (by decide) _
  refine (slotw v f s hoff _ (k0_pay127 (runB.sl.r_70 (F := Ideal) c arg1 harg1 arg2 harg2 arg3 harg3 arg4 harg4 arg5 harg5 arg6 harg6 arg17 x0 x1 x2 x3 x4 x5) (View.readAt (Elt Ideal) arg7.view (Rect.unit (s := S1x1024) ![0, 0] S1x1024.size inb_S1x1024_S1x1024_0_0).toLoadRect (harg7.unread x6))) _ r k).trans ((pay127_at _ _ r k).trans ?_)
  rw [h]
  simp only [vb_hn]

end Cert.Kernel3Ideal.Ffn

end
-- ==== Proof.Ffn.VC.lean ====
/- One point of the feed-forward's grid, case C: what the body computes, entry by entry. -/
module

public import proofs.«01_k».proof.Proof.Ffn.Chunk

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {c : Dev nD} {i : grid0.Coords} {arg1 : Memref sig .tc .vmem S1x256x1024 .f32} {harg1 : arg1.IsWhole} {arg2 : Memref sig .tc .vmem S1x256x512 .bf16} {harg2 : arg2.IsWhole} {arg3 : Memref sig .tc .vmem S1x256x1024 .f32} {harg3 : arg3.IsWhole} {arg4 : Memref sig .tc .vmem S1x256x1024 .f32} {harg4 : arg4.IsWhole} {arg5 : Memref sig .tc .vmem S512x1024 .bf16} {harg5 : arg5.IsWhole} {arg6 : Memref sig .tc .vmem S1024x1024 .bf16} {harg6 : arg6.IsWhole} {arg7 : Memref sig .tc .vmem S1x1024 .f32} {harg7 : arg7.IsWhole} {arg8 : Memref sig .tc .vmem S1024x5632 .bf16} {harg8 : arg8.IsWhole} {arg9 : Memref sig .tc .vmem S3x5632 .f32} {harg9 : arg9.IsWhole} {arg10 : Memref sig .tc .vmem S2816x1024 .bf16} {harg10 : arg10.IsWhole} {arg11 : Memref sig .tc .vmem S1x1024 .f32} {harg11 : arg11.IsWhole} {arg12 : Memref sig .tc .vmem S1x256x1024 .f32} {harg12 : arg12.IsWhole} {arg13 : Memref sig .tc .vmem S11x264x256 .f32} {harg13 : arg13.IsWhole} {arg14 : Memref sig .tc .vmem S11x264x256 .f32} {harg14 : arg14.IsWhole} {arg15 : Memref sig .tc .vmem S2x256x1024 .f32} {harg15 : arg15.IsWhole} {arg16 : Memref sig .tc .vmem S2x256x1024 .bf16} {harg16 : arg16.IsWhole} {arg17 : Memref sig .tc .vmem S256x1024 .bf16} {harg17 : arg17.IsWhole} {hc1 : ¬cond1 i} {hc2 : ¬cond2 i} {x0 : Vec Ideal S1x256x1024 .f32} {x1 : Vec Ideal S1x256x512 .bf16} {x2 : Vec Ideal S1x256x1024 .f32} {x3 : Vec Ideal S1x256x1024 .f32} {x4 : Vec Ideal S512x1024 .bf16} {x5 : Vec Ideal S1024x1024 .bf16} {x6 : Vec Ideal S1x1024 .f32} {x7 : Vec Ideal S1024x5632 .bf16} {x8 : Vec Ideal S3x5632 .f32} {x9 : Vec Ideal S2816x1024 .bf16} {x10 : Vec Ideal S1x1024 .f32} {z0 : Vec Ideal S11x264x256 .f32} {z1 : Vec Ideal S11x264x256 .f32} {z2 : Vec Ideal S2x256x1024 .f32} {z3 : Vec Ideal S2x256x1024 .bf16}
variable {X : Fin 256 → Fin 1024 → EReal} {W : Fin 1024 → ℕ → EReal} {Cw : Fin 3 → ℕ → EReal} {D : ℕ → Fin 1024 → EReal} {hist : ℕ → ℕ → EReal}
  (hX : ∀ r k, (runC.sl.r (F := Ideal) c i arg16 harg16 z3) (ix2 r k) = X r k)
  (hW : ∀ (k : Fin 1024) (n : Fin 5632), x7 (ix2 k n) = W k n.val) (hC : ∀ (k : Fin 3) (n : Fin 5632), x8 (ix2 k n) = Cw k n.val) (hD : ∀ (k : Fin 2816) (n : Fin 1024), x9 (ix2 k n) = D k.val n)
  (hz0 : ∀ y : S11x264x256.Idx, (y 1).val < 8 → z0 y = hist (y 1).val (256 * (y 0).val + (y 2).val)) (hz1 : ∀ y : S11x264x256.Idx, (y 1).val < 8 → z1 y = hist (y 1).val (2816 + (256 * (y 0).val + (y 2).val)))
include hX hW hC hD hz0 hz1

theorem vc_ug0 (r x : Fin 256) : (runC.sl.r_1 (F := Ideal) c i arg8 harg8 arg16 harg16 x7 z3) (ix2 r x) = up X W r (0 + x.val) :=
  upv_of _ (runC.sl.r (F := Ideal) c i arg16 harg16 z3) _ rfl X W (0) hX (winW arg8 harg8 x7 _ W hW) r x

theorem vc_ug1 (r x : Fin 256) : (runC.sl.r_4 (F := Ideal) c i arg8 harg8 arg16 harg16 x7 z3) (ix2 r x) = up X W r (256 + x.val) :=
  upv_of _ (runC.sl.r (F := Ideal) c i arg16 harg16 z3) _ rfl X W (256) hX (winW arg8 harg8 x7 _ W hW) r x

theorem vc_ug2 (r x : Fin 256) : (runC.sl.r_6 (F := Ideal) c i arg8 harg8 arg16 harg16 x7 z3) (ix2 r x) = up X W r (512 + x.val) :=
  upv_of _ (runC.sl.r (F := Ideal) c i arg16 harg16 z3) _ rfl X W (512) hX (winW arg8 harg8 x7 _ W hW) r x

theorem vc_ug3 (r x : Fin 256) : (runC.sl.r_16 (F := Ideal) c i arg8 harg8 arg16 harg16 x7 z3) (ix2 r x) = up X W r (768 + x.val) :=
  upv_of _ (runC.sl.r (F := Ideal) c i arg16 harg16 z3) _ rfl X W (768) hX (winW arg8 harg8 x7 _ W hW) r x

theorem vc_ug4 (r x : Fin 256) : (runC.sl.r_26 (F := Ideal) c i arg8 harg8 arg16 harg16 x7 z3) (ix2 r x) = up X W r (1024 + x.val) :=
  upv_of _ (runC.sl.r (F := Ideal) c i arg16 harg16 z3) _ rfl X W (1024) hX (winW arg8 harg8 x7 _ W hW) r x

theorem vc_ug5 (r x : Fin 256) : (runC.sl.r_35 (F := Ideal) c i arg8 harg8 arg16 harg16 x7 z3) (ix2 r x) = up X W r (1280 + x.val) :=
  upv_of _ (runC.sl.r (F := Ideal) c i arg16 harg16 z3) _ rfl X W (1280) hX (winW arg8 harg8 x7 _ W hW) r x

theorem vc_ug6 (r x : Fin 256) : (runC.sl.r_44 (F := Ideal) c i arg8 harg8 arg16 harg16 x7 z3) (ix2 r x) = up X W r (1536 + x.val) :=
  upv_of _ (runC.sl.r (F := Ideal) c i arg16 harg16 z3) _ rfl X W (1536) hX (winW arg8 harg8 x7 _ W hW) r x

theorem vc_ug7 (r x : Fin 256) : (runC.sl.r_48 (F := Ideal) c i arg8 harg8 arg16 harg16 x7 z3) (ix2 r x) = up X W r (1792 + x.val) :=
  upv_of _ (runC.sl.r (F := Ideal) c i arg16 harg16 z3) _ rfl X W (1792) hX (winW arg8 harg8 x7 _ W hW) r x

theorem vc_ug8 (r x : Fin 256) : (runC.sl.r_52 (F := Ideal) c i arg8 harg8 arg16 harg16 x7 z3) (ix2 r x) = up X W r (2048 + x.val) :=
  upv_of _ (runC.sl.r (F := Ideal) c i arg16 harg16 z3) _ rfl X W (2048) hX (winW arg8 harg8 x7 _ W hW) r x

theorem vc_ug9 (r x : Fin 256) : (runC.sl.r_58 (F := Ideal) c i arg8 harg8 arg16 harg16 x7 z3) (ix2 r x) = up X W r (2304 + x.val) :=
  upv_of _ (runC.sl.r (F := Ideal) c i arg16 harg16 z3) _ rfl X W (2304) hX (winW arg8 harg8 x7 _ W hW) r x

theorem vc_ug10 (r x : Fin 256) : (runC.sl.r_63 (F := Ideal) c i arg8 harg8 arg16 harg16 x7 z3) (ix2 r x) = up X W r (2560 + x.val) :=
  upv_of _ (runC.sl.r (F := Ideal) c i arg16 harg16 z3) _ rfl X W (2560) hX (winW arg8 harg8 x7 _ W hW) r x

theorem vc_rdg0 (y : S11x264x256.Idx) (h0 : 0 < (y 0).val) : arg13.view.read (Elt Ideal) (arg13.view.writes (Elt Ideal) (harg13.unread z0) (runC.sl.G0_1 (F := Ideal) c i arg8 harg8 arg16 harg16 x7 z3)) y = arg13.view.read (Elt Ideal) (harg13.unread z0) y :=
  missc256 arg13.view _ _ _ y (by omega)

theorem vc_rdg1 (y : S11x264x256.Idx) (h0 : 1 < (y 0).val) : arg13.view.read (Elt Ideal) (arg13.view.writes (Elt Ideal) (harg13.unread z0) (runC.sl.G0_3 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg0 hX hW hC hD hz0 hz1 y (by omega)))

theorem vc_rdg2 (y : S11x264x256.Idx) (h0 : 2 < (y 0).val) : arg13.view.read (Elt Ideal) (arg13.view.writes (Elt Ideal) (harg13.unread z0) (runC.sl.G0_5 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg1 hX hW hC hD hz0 hz1 y (by omega)))

theorem vc_rdg3 (y : S11x264x256.Idx) (h0 : 3 < (y 0).val) : arg13.view.read (Elt Ideal) (arg13.view.writes (Elt Ideal) (harg13.unread z0) (runC.sl.G0_7 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg2 hX hW hC hD hz0 hz1 y (by omega)))

theorem vc_rdg4 (y : S11x264x256.Idx) (h0 : 4 < (y 0).val) : arg13.view.read (Elt Ideal) (arg13.view.writes (Elt Ideal) (harg13.unread z0) (runC.sl.G0_9 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg3 hX hW hC hD hz0 hz1 y (by omega)))

theorem vc_rdg5 (y : S11x264x256.Idx) (h0 : 5 < (y 0).val) : arg13.view.read (Elt Ideal) (arg13.view.writes (Elt Ideal) (harg13.unread z0) (runC.sl.G0_11 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg4 hX hW hC hD hz0 hz1 y (by omega)))

theorem vc_rdg6 (y : S11x264x256.Idx) (h0 : 6 < (y 0).val) : arg13.view.read (Elt Ideal) (arg13.view.writes (Elt Ideal) (harg13.unread z0) (runC.sl.G0_13 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg5 hX hW hC hD hz0 hz1 y (by omega)))

theorem vc_rdg7 (y : S11x264x256.Idx) (h0 : 7 < (y 0).val) : arg13.view.read (Elt Ideal) (arg13.view.writes (Elt Ideal) (harg13.unread z0) (runC.sl.G0_15 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg6 hX hW hC hD hz0 hz1 y (by omega)))

theorem vc_rdg8 (y : S11x264x256.Idx) (h0 : 8 < (y 0).val) : arg13.view.read (Elt Ideal) (arg13.view.writes (Elt Ideal) (harg13.unread z0) (runC.sl.G0_17 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg7 hX hW hC hD hz0 hz1 y (by omega)))

theorem vc_rdg9 (y : S11x264x256.Idx) (h0 : 9 < (y 0).val) : arg13.view.read (Elt Ideal) (arg13.view.writes (Elt Ideal) (harg13.unread z0) (runC.sl.G0_19 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg8 hX hW hC hD hz0 hz1 y (by omega)))

theorem vc_rdg10 (y : S11x264x256.Idx) (h0 : 10 < (y 0).val) : arg13.view.read (Elt Ideal) (arg13.view.writes (Elt Ideal) (harg13.unread z0) (runC.sl.G0_21 (F := Ideal) c i arg8 harg8 arg16 harg16 x7 z3)) y = arg13.view.read (Elt Ideal) (harg13.unread z0) y :=
  (missc256 arg13.view _ _ _ y (by omega)).trans ((missc8 arg13.view _ _ _ y (by omega)).trans (vc_rdg9 hX hW hC hD hz0 hz1 y (by omega)))

set_option maxHeartbeats 2000000 in
theorem vc_sg0_1 (hR) (r x : Fin 256) : LoadRect.valAlong (lr := (Rect.unit (s := S264x256) ![7, 0] S256x256.size inb_S264x256_S256x256_7_0).toLoadRect) hR (runC.sl.v47 (F := Ideal) c i arg8 harg8 arg13 harg13 arg16 harg16 x7 z0 z3) (ix2 r x) = ups X W hist 1 r (0 + x.val) :=
  shup arg13.view (harg13.unread z0) (d := 1) rfl (runC.sl.r_1 (F := Ideal) c i arg8 harg8 arg16 harg16 x7 z3) _ rfl [] X W hist (0) (vc_ug0 hX hW hC hD hz0 hz1) (fun y h0 h1 x h2 => ((congrFun (harg13.read_unread z0) y).trans ((hz0 y h1).trans (congrArg (hist _) (by omega))))) r x

set_option maxHeartbeats 2000000 in
theorem vc_sg0_2 (hR) (r x : Fin 256) : LoadRect.valAlong (lr := (Rect.unit (s := S264x256) ![6, 0] S256x256.size inb_S264x256_S256x256_6_0).toLoadRect) hR (runC.sl.v50 (F := Ideal) c i arg8 harg8 arg13 harg13 arg16 harg16 x7 z0 z3) (ix2 r x) = ups X W hist 2 r (0 + x.val) :=
  shup arg13.view (harg13.unread z0) (d := 2) rfl (runC.sl.r_1 (F := Ideal) c i arg8 harg8 arg16 harg16 x7 z3) _ rfl [] X W hist (0) (vc_ug0 hX hW hC hD hz0 hz1) (fun y h0 h1 x h2 => ((congrFun (harg13.read_unread z0) y).trans ((hz0 y h1).trans (congrArg (hist _) (by omega))))) r x

set_option maxHeartbeats 2000000 in
theorem vc_sg1_1 (hR) (r x : Fin 256) : LoadRect.valAlong (lr := (Rect.unit (s := S264x256) ![7, 0] S256x256.size inb_S264x256_S256x256_7_0).toLoadRect) hR (runC.sl.v117 (F := Ideal) c i arg8 harg8 arg13 harg13 arg16 harg16 x7 z0 z3) (ix2 r x) = ups X W hist 1 r (256 + x.val) :=
  shup arg13.view (harg13.unread z0) (d := 1) rfl (runC.sl.r_4 (F := Ideal) c i arg8 harg8 arg16 harg16 x7 z3) _ rfl _ X W hist (256) (vc_ug1 hX hW hC hD hz0 hz1) (fun y h0 h1 x h2 => (missc8 arg13.view _ _ _ y (by omega)).trans ((vc_rdg0 hX hW hC hD hz0 hz1 y (by omega)).trans ((congrFun (harg13.read_unread z0) y).trans ((hz0 y h1).trans (congrArg (hist _) (by omega)))))) r x

set_option maxHeartbeats 2000000 in
theorem vc_sg1_2 (hR) (r x : Fin 256) : LoadRect.valAlong (lr := (Rect.unit (s := S264x256) ![6, 0] S256x256.size inb_S264x256_S256x256_6_0).toLoadRect) hR (runC.sl.v120 (F := Ideal) c i arg8 harg8 arg13 harg13 arg16 harg16 x7 z0 z3) (ix2 r x) = ups X W hist 2 r (256 + x.val) :=
  shup arg13.view (harg13.unread z0) (d := 2) rfl (runC.sl.r_4 (F := Ideal) c i arg8 harg8 arg16 harg16 x7 z3) _ rfl _ X W hist (256) (vc_ug1 hX hW hC hD hz0 hz1) (fun y h0 h1 x h2 => (missc8 arg13.view _ _ _ y (by omega)).trans ((vc_rdg0 hX hW hC hD hz0 hz1 y (by omega)).trans ((congrFun (harg13.read_unread z0) y).trans ((hz0 y h1).trans (congrArg (hist _) (by omega)))))) r x

set_option maxHeartbeats 2000000 in
theorem vc_sg2_1 (hR) (r x : Fin 256) : LoadRect.valAlong (lr := (Rect.unit (s := S264x256) ![7, 0] S256x256.size inb_S264x256_S256x256_7_0).toLoadRect) hR (runC.sl.v187 (F := Ideal) c i arg8 harg8 arg13 harg13 arg16 harg16 x7 z0 z3) (ix2 r x) = ups X W hist 1 r (512 + x.val) :=
  shup arg13.view (harg13.unread z0) (d := 1) rfl (runC.sl.r_6 (F := Ideal) c i arg8 harg8 arg16 harg16 x7 z3) _ rfl _ X W hist (512) (vc_ug2 hX hW hC hD hz0 hz1) (fun y h0 h1 x h2 => (missc8 arg13.view _ _ _ y (by omega)).trans ((vc_rdg1 hX hW hC hD hz0 hz1 y (by omega)).trans ((congrFun (harg13.read_unread z0) y).trans ((hz0 y h1).trans (congrArg (hist _) (by omega)))))) r x

set_option maxHeartbeats 2000000 in
theorem vc_sg2_2 (hR) (r x : Fin 256) : LoadRect.valAlong (lr := (Rect.unit (s := S264x256) ![6, 0] S256x256.size inb_S264x256_S256x256_6_0).toLoadRect) hR (runC.sl.v190 (F := Ideal) c i arg8 harg8 arg13 harg13 arg16 harg16 x7 z0 z3) (ix2 r x) = ups X W hist 2 r (512 + x.val) :=
  shup arg13.view (harg13.unread z0) (d := 2) rfl (runC.sl.r_6 (F := Ideal) c i arg8 harg8 arg16 harg16 x7 z3) _ rfl _ X W hist (512) (vc_ug2 hX hW hC hD hz0 hz1) (fun y h0 h1 x h2 => (missc8 arg13.view _ _ _ y (by omega)).trans ((vc_rdg1 hX hW hC hD hz0 hz1 y (by omega)).trans ((congrFun (harg13.read_unread z0) y).trans ((hz0 y h1).trans (congrArg (hist _) (by omega)))))) r x

set_option maxHeartbeats 2000000 in
theorem vc_sg3_1 (hR) (r x : Fin 256) : LoadRect.valAlong (lr := (Rect.unit (s := S264x256) ![7, 0] S256x256.size inb_S264x256_S256x256_7_0).toLoadRect) hR (runC.sl.v257 (F := Ideal) c i arg8 harg8 arg13 harg13 arg16 harg16 x7 z0 z3) (ix2 r x) = ups X W hist 1 r (768 + x.val) :=
  shup arg13.view (harg13.unread z0) (d := 1) rfl (runC.sl.r_16 (F := Ideal) c i arg8 harg8 arg16 harg16 x7 z3) _ rfl _ X W hist (768) (vc_ug3 hX hW hC hD hz0 hz1) (fun y h0 h1 x h2 => (missc8 arg13.view _ _ _ y (by omega)).trans ((vc_rdg2 hX hW hC hD hz0 hz1 y (by omega)).trans ((congrFun (harg13.read_unread z0) y).trans ((hz0 y h1).trans (congrArg (hist _) (by omega)))))) r x

set_option maxHeartbeats 2000000 in
theorem vc_sg3_2 (hR) (r x : Fin 256) : LoadRect.valAlong (lr := (Rect.unit (s := S264x256) ![6, 0] S256x256.size inb_S264x256_S256x256_6_0).toLoadRect) hR (runC.sl.v260 (F := Ideal) c i arg8 harg8 arg13 harg13 arg16 harg16 x7 z0 z3) (ix2 r x) = ups X W hist 2 r (768 + x.val) :=
  shup arg13.view (harg13.unread z0) (d := 2) rfl (runC.sl.r_16 (F := Ideal) c i arg8 harg8 arg16 harg16 x7 z3) _ rfl _ X W hist (768) (vc_ug3 hX hW hC hD hz0 hz1) (fun y h0 h1 x h2 => (missc8 arg13.view _ _ _ y (by omega)).trans ((vc_rdg2 hX hW hC hD hz0 hz1 y (by omega)).trans ((congrFun (harg13.read_unread z0) y).trans ((hz0 y h1).trans (congrArg (hist _) (by omega)))))) r x

set_option maxHeartbeats 2000000 in
theorem vc_sg4_1 (hR) (r x : Fin 256) : LoadRect.valAlong (lr := (Rect.unit (s := S264x256) ![7, 0] S256x256.size inb_S264x256_S256x256_7_0).toLoadRect) hR (runC.sl.v337 (F := Ideal) c i arg8 harg8 arg13 harg13 arg16 harg16 x7 z0 z3) (ix2 r x) = ups X W hist 1 r (1024 + x.val) :=
  shup arg13.view (harg13.unread z0) (d := 1) rfl (runC.sl.r_26 (F := Ideal) c i arg8 harg8 arg16 harg16 x7 z3) _ rfl _ X W hist (1024) (vc_ug4 hX hW hC hD hz0 hz1) (fun y h0 h1 x h2 => (missc8 arg13.view _ _ _ y (by omega)).trans ((vc_rdg3 hX hW hC hD hz0 hz1 y (by omega)).trans ((congrFun (harg13.read_unread z0) y).trans ((hz0 y h1).trans (congrArg (hist _) (by omega)))))) r x

set_option maxHeartbeats 2000000 in
theorem vc_sg4_2 (hR) (r x : Fin 256) : LoadRect.valAlong (lr := (Rect.unit (s := S264x256) ![6, 0] S256x256.size inb_S264x256_S256x256_6_0).toLoadRect) hR (runC.sl.v340 (F := Ideal) c i arg8 harg8 arg13 harg13 arg16 harg16 x7 z0 z3) (ix2 r x) = ups X W hist 2 r (1024 + x.val) :=
  shup arg13.view (harg13.unread z0) (d := 2) rfl (runC.sl.r_26 (F := Ideal) c i arg8 harg8 arg16 harg16 x7 z3) _ rfl _ X W hist (1024) (vc_ug4 hX hW hC hD hz0 hz1) (fun y h0 h1 x h2 => (missc8 arg13.view _ _ _ y (by omega)).trans ((vc_rdg3 hX hW hC hD hz0 hz1 y (by omega)).trans ((congrFun (harg13.read_unread z0) y).trans ((hz0 y h1).trans (congrArg (hist _) (by omega)))))) r x

set_option maxHeartbeats 2000000 in
theorem vc_sg5_1 (hR) (r x : Fin 256) : LoadRect.valAlong (lr := (Rect.unit (s := S264x256) ![7, 0] S256x256.size inb_S264x256_S256x256_7_0).toLoadRect) hR (runC.sl.v407 (F := Ideal) c i arg8 harg8 arg13 harg13 arg16 harg16 x7 z0 z3) (ix2 r x) = ups X W hist 1 r (1280 + x.val) :=
  shup arg13.view (harg13.unread z0) (d := 1) rfl (runC.sl.r_35 (F := Ideal) c i arg8 harg8 arg16 harg16 x7 z3) _ rfl _ X W hist (1280) (vc_ug5 hX hW hC hD hz0 hz1) (fun y h0 h1 x h2 => (missc8 arg13.view _ _ _ y (by omega)).trans ((vc_rdg4 hX hW hC hD hz0 hz1 y (by omega)).trans ((congrFun (harg13.read_unread z0) y).trans ((hz0 y h1).trans (congrArg (hist _) (by omega)))))) r x

set_option maxHeartbeats 2000000 in
theorem vc_sg5_2 (hR) (r x : Fin 256) : LoadRect.valAlong (lr := (Rect.unit (s := S264x256) ![6, 0] S256x256.size inb_S264x256_S256x256_6_0).toLoadRect) hR (runC.sl.v410 (F := Ideal) c i arg8 harg8 arg13 harg13 arg16 harg16 x7 z0 z3) (ix2 r x) = ups X W hist 2 r (1280 + x.val) :=
  shup arg13.view (harg13.unread z0) (d := 2) rfl (runC.sl.r_35 (F := Ideal) c i arg8 harg8 arg16 harg16 x7 z3) _ rfl _ X W hist (1280) (vc_ug5 hX hW hC hD hz0 hz1) (fun y h0 h1 x h2 => (missc8 arg13.view _ _ _ y (by omega)).trans ((vc_rdg4 hX hW hC hD hz0 hz1 y (by omega)).trans ((congrFun (harg13.read_unread z0) y).trans ((hz0 y h1).trans (congrArg (hist _) (by omega)))))) r x

set_option maxHeartbeats 2000000 in
theorem vc_sg6_1 (hR) (r x : Fin 256) : LoadRect.valAlong (lr := (Rect.unit (s := S264x256) ![7, 0] S256x256.size inb_S264x256_S256x256_7_0).toLoadRect) hR (runC.sl.v477 (F := Ideal) c i arg8 harg8 arg13 harg13 arg16 harg16 x7 z0 z3) (ix2 r x) = ups X W hist 1 r (1536 + x.val) :=
  shup arg13.view (harg13.unread z0) (d := 1) rfl (runC.sl.r_44 (F := Ideal) c i arg8 harg8 arg16 harg16 x7 z3) _ rfl _ X W hist (1536) (vc_ug6 hX hW hC hD hz0 hz1) (fun y h0 h1 x h2 => (missc8 arg13.view _ _ _ y (by omega)).trans ((vc_rdg5 hX hW hC hD hz0 hz1 y (by omega)).trans ((congrFun (harg13.read_unread z0) y).trans ((hz0 y h1).trans (congrArg (hist _) (by omega)))))) r x

set_option maxHeartbeats 2000000 in
theorem vc_sg6_2 (hR) (r x : Fin 256) : LoadRect.valAlong (lr := (Rect.unit (s := S264x256) ![6, 0] S256x256.size inb_S264x256_S256x256_6_0).toLoadRect) hR (runC.sl.v480 (F := Ideal) c i arg8 harg8 arg13 harg13 arg16 harg16 x7 z0 z3) (ix2 r x) = ups X W hist 2 r (1536 + x.val) :=
  shup arg13.view (harg13.unread z0) (d := 2) rfl (runC.sl.r_44 (F := Ideal) c i arg8 harg8 arg16 harg16 x7 z3) _ rfl _ X W hist (1536) (vc_ug6 hX hW hC hD hz0 hz1) (fun y h0 h1 x h2 => (missc8 arg13.view _ _ _ y (by omega)).trans ((vc_rdg5 hX hW hC hD hz0 hz1 y (by omega)).trans ((congrFun (harg13.read_unread z0) y).trans ((hz0 y h1).trans (congrArg (hist _) (by omega)))))) r x

set_option maxHeartbeats 2000000 in
theorem vc_sg7_1 (hR) (r x : Fin 256) : LoadRect.valAlong (lr := (Rect.unit (s := S264x256) ![7, 0] S256x256.size inb_S264x256_S256x256_7_0).toLoadRect) hR (runC.sl.v547 (F := Ideal) c i arg8 harg8 arg13 harg13 arg16 harg16 x7 z0 z3) (ix2 r x) = ups X W hist 1 r (1792 + x.val) :=
  shup arg13.view (harg13.unread z0) (d := 1) rfl (runC.sl.r_48 (F := Ideal) c i arg8 harg8 arg16 harg16 x7 z3) _ rfl _ X W hist (1792) (vc_ug7 hX hW hC hD hz0 hz1) (fun y h0 h1 x h2 => (missc8 arg13.view _ _ _ y (by omega)).trans ((vc_rdg6 hX hW hC hD hz0 hz1 y (by omega)).trans ((congrFun (harg13.read_unread z0) y).trans ((hz0 y h1).trans (congrArg (hist _) (by omega)))))) r x

set_option maxHeartbeats 2000000 in
theorem vc_sg7_2 (hR) (r x : Fin 256) : LoadRect.valAlong (lr := (Rect.unit (s := S264x256) ![6, 0] S256x256.size inb_S264x256_S256x256_6_0).toLoadRect) hR (runC.sl.v550 (F := Ideal) c i arg8 harg8 arg13 harg13 arg16 harg16 x7 z0 z3) (ix2 r x) = ups X W hist 2 r (1792 + x.val) :=
  shup arg13.view (harg13.unread z0) (d := 2) rfl (runC.sl.r_48 (F := Ideal) c i arg8 harg8 arg16 harg16 x7 z3) _ rfl _ X W hist (1792) (vc_ug7 hX hW hC hD hz0 hz1) (fun y h0 h1 x h2 => (missc8 arg13.view _ _ _ y (by omega)).trans ((vc_rdg6 hX hW hC hD hz0 hz1 y (by omega)).trans ((congrFun (harg13.read_unread z0) y).trans ((hz0 y h1).trans (congrArg (hist _) (by omega)))))) r x

set_option maxHeartbeats 2000000 in
theorem vc_sg8_1 (hR) (r x : Fin 256) : LoadRect.valAlong (lr := (Rect.unit (s := S264x256) ![7, 0] S256x256.size inb_S264x256_S256x256_7_0).toLoadRect) hR (runC.sl.v642 (F := Ideal) c i arg8 harg8 arg13 harg13 arg16 harg16 x7 z0 z3) (ix2 r x) = ups X W hist 1 r (2048 + x.val) :=
  shup arg13.view (harg13.unread z0) (d := 1) rfl (runC.sl.r_52 (F := Ideal) c i arg8 harg8 arg16 harg16 x7 z3) _ rfl _ X W hist (2048) (vc_ug8 hX hW hC hD hz0 hz1) (fun y h0 h1 x h2 => (missc8 arg13.view _ _ _ y (by omega)).trans ((vc_rdg7 hX hW hC hD hz0 hz1 y (by omega)).trans ((congrFun (harg13.read_unread z0) y).trans ((hz0 y h1).trans (congrArg (hist _) (by omega)))))) r x

set_option maxHeartbeats 2000000 in
theorem vc_sg8_2 (hR) (r x : Fin 256) : LoadRect.valAlong (lr := (Rect.unit (s := S264x256) ![6, 0] S256x256.size inb_S264x256_S256x256_6_0).toLoadRect) hR (runC.sl.v645 (F := Ideal) c i arg8 harg8 arg13 harg13 arg16 harg16 x7 z0 z3) (ix2 r x) = ups X W hist 2 r (2048 + x.val) :=
  shup arg13.view (harg13.unread z0) (d := 2) rfl (runC.sl.r_52 (F := Ideal) c i arg8 harg8 arg16 harg16 x7 z3) _ rfl _ X W hist (2048) (vc_ug8 hX hW hC hD hz0 hz1) (fun y h0 h1 x h2 => (missc8 arg13.view _ _ _ y (by omega)).trans ((vc_rdg7 hX hW hC hD hz0 hz1 y (by omega)).trans ((congrFun (harg13.read_unread z0) y).trans ((hz0 y h1).trans (congrArg (hist _) (by omega)))))) r x

set_option maxHeartbeats 2000000 in
theorem vc_sg9_1 (hR) (r x : Fin 256) : LoadRect.valAlong (lr := (Rect.unit (s := S264x256) ![7, 0] S256x256.size inb_S264x256_S256x256_7_0).toLoadRect) hR (runC.sl.v706 (F := Ideal) c i arg8 harg8 arg13 harg13 arg16 harg16 x7 z0 z3) (ix2 r x) = ups X W hist 1 r (2304 + x.val) :=
  shup arg13.view (harg13.unread z0) (d := 1) rfl (runC.sl.r_58 (F := Ideal) c i arg8 harg8 arg16 harg16 x7 z3) _ rfl _ X W hist (2304) (vc_ug9 hX hW hC hD hz0 hz1) (fun y h0 h1 x h2 => (missc8 arg13.view _ _ _ y (by omega)).trans ((vc_rdg8 hX hW hC hD hz0 hz1 y (by omega)).trans ((congrFun (harg13.read_unread z0) y).trans ((hz0 y h1).trans (congrArg (hist _) (by omega)))))) r x

set_option maxHeartbeats 2000000 in
theorem vc_sg9_2 (hR) (r x : Fin 256) : LoadRect.valAlong (lr := (Rect.unit (s := S264x256) ![6, 0] S256x256.size inb_S264x256_S256x256_6_0).toLoadRect) hR (runC.sl.v709 (F := Ideal) c i arg8 harg8 arg13 harg13 arg16 harg16 x7 z0 z3) (ix2 r x) = ups X W hist 2 r (2304 + x.val) :=
  shup arg13.view (harg13.unread z0) (d := 2) rfl (runC.sl.r_58 (F := Ideal) c i arg8 harg8 arg16 harg16 x7 z3) _ rfl _ X W hist (2304) (vc_ug9 hX hW hC hD hz0 hz1) (fun y h0 h1 x h2 => (missc8 arg13.view _ _ _ y (by omega)).trans ((vc_rdg8 hX hW hC hD hz0 hz1 y (by omega)).trans ((congrFun (harg13.read_unread z0) y).trans ((hz0 y h1).trans (congrArg (hist _) (by omega)))))) r x

set_option maxHeartbeats 2000000 in
theorem vc_sg10_1 (hR) (r x : Fin 256) : LoadRect.valAlong (lr := (Rect.unit (s := S264x256) ![7, 0] S256x256.size inb_S264x256_S256x256_7_0).toLoadRect) hR (runC.sl.v799 (F := Ideal) c i arg8 harg8 arg13 harg13 arg16 harg16 x7 z0 z3) (ix2 r x) = ups X W hist 1 r (2560 + x.val) :=
  shup arg13.view (harg13.unread z0) (d := 1) rfl (runC.sl.r_63 (F := Ideal) c i arg8 harg8 arg16 harg16 x7 z3) _ rfl _ X W hist (2560) (vc_ug10 hX hW hC hD hz0 hz1) (fun y h0 h1 x h2 => (missc8 arg13.view _ _ _ y (by omega)).trans ((vc_rdg9 hX hW hC hD hz0 hz1 y (by omega)).trans ((congrFun (harg13.read_unread z0) y).trans ((hz0 y h1).trans (congrArg (hist _) (by omega)))))) r x

set_option maxHeartbeats 2000000 in
theorem vc_sg10_2 (hR) (r x : Fin 256) : LoadRect.valAlong (lr := (Rect.unit (s := S264x256) ![6, 0] S256x256.size inb_S264x256_S256x256_6_0).toLoadRect) hR (runC.sl.v802 (F := Ideal) c i arg8 harg8 arg13 harg13 arg16 harg16 x7 z0 z3) (ix2 r x) = ups X W hist 2 r (2560 + x.val) :=
  shup arg13.view (harg13.unread z0) (d := 2) rfl (runC.sl.r_63 (F := Ideal) c i arg8 harg8 arg16 harg16 x7 z3) _ rfl _ X W hist (2560) (vc_ug10 hX hW hC hD hz0 hz1) (fun y h0 h1 x h2 => (missc8 arg13.view _ _ _ y (by omega)).trans ((vc_rdg9 hX hW hC hD hz0 hz1 y (by omega)).trans ((congrFun (harg13.read_unread z0) y).trans ((hz0 y h1).trans (congrArg (hist _) (by omega)))))) r x

theorem vc_uv0 (r x : Fin 256) : (runC.sl.r_2 (F := Ideal) c i arg8 harg8 arg16 harg16 x7 z3) (ix2 r x) = up X W r (2816 + 0 + x.val) :=
  upv_of _ (runC.sl.r (F := Ideal) c i arg16 harg16 z3) _ rfl X W (2816 + 0) hX (winW arg8 harg8 x7 _ W hW) r x

theorem vc_uv1 (r x : Fin 256) : (runC.sl.r_5 (F := Ideal) c i arg8 harg8 arg16 harg16 x7 z3) (ix2 r x) = up X W r (2816 + 256 + x.val) :=
  upv_of _ (runC.sl.r (F := Ideal) c i arg16 harg16 z3) _ rfl X W (2816 + 256) hX (winW arg8 harg8 x7 _ W hW) r x

theorem vc_uv2 (r x : Fin 256) : (runC.sl.r_7 (F := Ideal) c i arg8 harg8 arg16 harg16 x7 z3) (ix2 r x) = up X W r (2816 + 512 + x.val) :=
  upv_of _ (runC.sl.r (F := Ideal) c i arg16 harg16 z3) _ rfl X W (2816 + 512) hX (winW arg8 harg8 x7 _ W hW) r x

theorem vc_uv3 (r x : Fin 256) : (runC.sl.r_17 (F := Ideal) c i arg8 harg8 arg16 harg16 x7 z3) (ix2 r x) = up X W r (2816 + 768 + x.val) :=
  upv_of _ (runC.sl.r (F := Ideal) c i arg16 harg16 z3) _ rfl X W (2816 + 768) hX (winW arg8 harg8 x7 _ W hW) r x

theorem vc_uv4 (r x : Fin 256) : (runC.sl.r_27 (F := Ideal) c i arg8 harg8 arg16 harg16 x7 z3) (ix2 r x) = up X W r (2816 + 1024 + x.val) :=
  upv_of _ (runC.sl.r (F := Ideal) c i arg16 harg16 z3) _ rfl X W (2816 + 1024) hX (winW arg8 harg8 x7 _ W hW) r x

theorem vc_uv5 (r x : Fin 256) : (runC.sl.r_36 (F := Ideal) c i arg8 harg8 arg16 harg16 x7 z3) (ix2 r x) = up X W r (2816 + 1280 + x.val) :=
  upv_of _ (runC.sl.r (F := Ideal) c i arg16 harg16 z3) _ rfl X W (2816 + 1280) hX (winW arg8 harg8 x7 _ W hW) r x

theorem vc_uv6 (r x : Fin 256) : (runC.sl.r_45 (F := Ideal) c i arg8 harg8 arg16 harg16 x7 z3) (ix2 r x) = up X W r (2816 + 1536 + x.val) :=
  upv_of _ (runC.sl.r (F := Ideal) c i arg16 harg16 z3) _ rfl X W (2816 + 1536) hX (winW arg8 harg8 x7 _ W hW) r x

theorem vc_uv7 (r x : Fin 256) : (runC.sl.r_49 (F := Ideal) c i arg8 harg8 arg16 harg16 x7 z3) (ix2 r x) = up X W r (2816 + 1792 + x.val) :=
  upv_of _ (runC.sl.r (F := Ideal) c i arg16 harg16 z3) _ rfl X W (2816 + 1792) hX (winW arg8 harg8 x7 _ W hW) r x

theorem vc_uv8 (r x : Fin 256) : (runC.sl.r_54 (F := Ideal) c i arg8 harg8 arg16 harg16 x7 z3) (ix2 r x) = up X W r (2816 + 2048 + x.val) :=
  upv_of _ (runC.sl.r (F := Ideal) c i arg16 harg16 z3) _ rfl X W (2816 + 2048) hX (winW arg8 harg8 x7 _ W hW) r x

theorem vc_uv9 (r x : Fin 256) : (runC.sl.r_59 (F := Ideal) c i arg8 harg8 arg16 harg16 x7 z3) (ix2 r x) = up X W r (2816 + 2304 + x.val) :=
  upv_of _ (runC.sl.r (F := Ideal) c i arg16 harg16 z3) _ rfl X W (2816 + 2304) hX (winW arg8 harg8 x7 _ W hW) r x

theorem vc_uv10 (r x : Fin 256) : (runC.sl.r_64 (F := Ideal) c i arg8 harg8 arg16 harg16 x7 z3) (ix2 r x) = up X W r (2816 + 2560 + x.val) :=
  upv_of _ (runC.sl.r (F := Ideal) c i arg16 harg16 z3) _ rfl X W (2816 + 2560) hX (winW arg8 harg8 x7 _ W hW) r x

theorem vc_rdv0 (y : S11x264x256.Idx) (h0 : 0 < (y 0).val) : arg14.view.read (Elt Ideal) (arg14.view.writes (Elt Ideal) (harg14.unread z1) (runC.sl.G1_1 (F := Ideal) c i arg8 harg8 arg16 harg16 x7 z3)) y = arg14.view.read (Elt Ideal) (harg14.unread z1) y :=
  missc256 arg14.view _ _ _ y (by omega)

theorem vc_rdv1 (y : S11x264x256.Idx) (h0 : 1 < (y 0).val) : arg14.view.read (Elt Ideal) (arg14.view.writes (Elt Ideal) (harg14.unread z1) (runC.sl.G1_3 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv0 hX hW hC hD hz0 hz1 y (by omega)))

theorem vc_rdv2 (y : S11x264x256.Idx) (h0 : 2 < (y 0).val) : arg14.view.read (Elt Ideal) (arg14.view.writes (Elt Ideal) (harg14.unread z1) (runC.sl.G1_5 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv1 hX hW hC hD hz0 hz1 y (by omega)))

theorem vc_rdv3 (y : S11x264x256.Idx) (h0 : 3 < (y 0).val) : arg14.view.read (Elt Ideal) (arg14.view.writes (Elt Ideal) (harg14.unread z1) (runC.sl.G1_7 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv2 hX hW hC hD hz0 hz1 y (by omega)))

theorem vc_rdv4 (y : S11x264x256.Idx) (h0 : 4 < (y 0).val) : arg14.view.read (Elt Ideal) (arg14.view.writes (Elt Ideal) (harg14.unread z1) (runC.sl.G1_9 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv3 hX hW hC hD hz0 hz1 y (by omega)))

theorem vc_rdv5 (y : S11x264x256.Idx) (h0 : 5 < (y 0).val) : arg14.view.read (Elt Ideal) (arg14.view.writes (Elt Ideal) (harg14.unread z1) (runC.sl.G1_11 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv4 hX hW hC hD hz0 hz1 y (by omega)))

theorem vc_rdv6 (y : S11x264x256.Idx) (h0 : 6 < (y 0).val) : arg14.view.read (Elt Ideal) (arg14.view.writes (Elt Ideal) (harg14.unread z1) (runC.sl.G1_13 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv5 hX hW hC hD hz0 hz1 y (by omega)))

theorem vc_rdv7 (y : S11x264x256.Idx) (h0 : 7 < (y 0).val) : arg14.view.read (Elt Ideal) (arg14.view.writes (Elt Ideal) (harg14.unread z1) (runC.sl.G1_15 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv6 hX hW hC hD hz0 hz1 y (by omega)))

theorem vc_rdv8 (y : S11x264x256.Idx) (h0 : 8 < (y 0).val) : arg14.view.read (Elt Ideal) (arg14.view.writes (Elt Ideal) (harg14.unread z1) (runC.sl.G1_17 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv7 hX hW hC hD hz0 hz1 y (by omega)))

theorem vc_rdv9 (y : S11x264x256.Idx) (h0 : 9 < (y 0).val) : arg14.view.read (Elt Ideal) (arg14.view.writes (Elt Ideal) (harg14.unread z1) (runC.sl.G1_19 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv8 hX hW hC hD hz0 hz1 y (by omega)))

theorem vc_rdv10 (y : S11x264x256.Idx) (h0 : 10 < (y 0).val) : arg14.view.read (Elt Ideal) (arg14.view.writes (Elt Ideal) (harg14.unread z1) (runC.sl.G1_21 (F := Ideal) c i arg8 harg8 arg16 harg16 x7 z3)) y = arg14.view.read (Elt Ideal) (harg14.unread z1) y :=
  (missc256 arg14.view _ _ _ y (by omega)).trans ((missc8 arg14.view _ _ _ y (by omega)).trans (vc_rdv9 hX hW hC hD hz0 hz1 y (by omega)))

set_option maxHeartbeats 2000000 in
theorem vc_sv0_1 (hR) (r x : Fin 256) : LoadRect.valAlong (lr := (Rect.unit (s := S264x256) ![7, 0] S256x256.size inb_S264x256_S256x256_7_0).toLoadRect) hR (runC.sl.v77 (F := Ideal) c i arg8 harg8 arg14 harg14 arg16 harg16 x7 z1 z3) (ix2 r x) = ups X W hist 1 r (2816 + 0 + x.val) :=
  shup arg14.view (harg14.unread z1) (d := 1) rfl (runC.sl.r_2 (F := Ideal) c i arg8 harg8 arg16 harg16 x7 z3) _ rfl [] X W hist (2816 + 0) (vc_uv0 hX hW hC hD hz0 hz1) (fun y h0 h1 x h2 => ((congrFun (harg14.read_unread z1) y).trans ((hz1 y h1).trans (congrArg (hist _) (by omega))))) r x

set_option maxHeartbeats 2000000 in
theorem vc_sv0_2 (hR) (r x : Fin 256) : LoadRect.valAlong (lr := (Rect.unit (s := S264x256) ![6, 0] S256x256.size inb_S264x256_S256x256_6_0).toLoadRect) hR (runC.sl.v80 (F := Ideal) c i arg8 harg8 arg14 harg14 arg16 harg16 x7 z1 z3) (ix2 r x) = ups X W hist 2 r (2816 + 0 + x.val) :=
  shup arg14.view (harg14.unread z1) (d := 2) rfl (runC.sl.r_2 (F := Ideal) c i arg8 harg8 arg16 harg16 x7 z3) _ rfl [] X W hist (2816 + 0) (vc_uv0 hX hW hC hD hz0 hz1) (fun y h0 h1 x h2 => ((congrFun (harg14.read_unread z1) y).trans ((hz1 y h1).trans (congrArg (hist _) (by omega))))) r x

set_option maxHeartbeats 2000000 in
theorem vc_sv1_1 (hR) (r x : Fin 256) : LoadRect.valAlong (lr := (Rect.unit (s := S264x256) ![7, 0] S256x256.size inb_S264x256_S256x256_7_0).toLoadRect) hR (runC.sl.v147 (F := Ideal) c i arg8 harg8 arg14 harg14 arg16 harg16 x7 z1 z3) (ix2 r x) = ups X W hist 1 r (2816 + 256 + x.val) :=
  shup arg14.view (harg14.unread z1) (d := 1) rfl (runC.sl.r_5 (F := Ideal) c i arg8 harg8 arg16 harg16 x7 z3) _ rfl _ X W hist (2816 + 256) (vc_uv1 hX hW hC hD hz0 hz1) (fun y h0 h1 x h2 => (missc8 arg14.view _ _ _ y (by omega)).trans ((vc_rdv0 hX hW hC hD hz0 hz1 y (by omega)).trans ((congrFun (harg14.read_unread z1) y).trans ((hz1 y h1).trans (congrArg (hist _) (by omega)))))) r x

set_option maxHeartbeats 2000000 in
theorem vc_sv1_2 (hR) (r x : Fin 256) : LoadRect.valAlong (lr := (Rect.unit (s := S264x256) ![6, 0] S256x256.size inb_S264x256_S256x256_6_0).toLoadRect) hR (runC.sl.v150 (F := Ideal) c i arg8 harg8 arg14 harg14 arg16 harg16 x7 z1 z3) (ix2 r x) = ups X W hist 2 r (2816 + 256 + x.val) :=
  shup arg14.view (harg14.unread z1) (d := 2) rfl (runC.sl.r_5 (F := Ideal) c i arg8 harg8 arg16 harg16 x7 z3) _ rfl _ X W hist (2816 + 256) (vc_uv1 hX hW hC hD hz0 hz1) (fun y h0 h1 x h2 => (missc8 arg14.view _ _ _ y (by omega)).trans ((vc_rdv0 hX hW hC hD hz0 hz1 y (by omega)).trans ((congrFun (harg14.read_unread z1) y).trans ((hz1 y h1).trans (congrArg (hist _) (by omega)))))) r x

set_option maxHeartbeats 2000000 in
theorem vc_sv2_1 (hR) (r x : Fin 256) : LoadRect.valAlong (lr := (Rect.unit (s := S264x256) ![7, 0] S256x256.size inb_S264x256_S256x256_7_0).toLoadRect) hR (runC.sl.v217 (F := Ideal) c i arg8 harg8 arg14 harg14 arg16 harg16 x7 z1 z3) (ix2 r x) = ups X W hist 1 r (2816 + 512 + x.val) :=
  shup arg14.view (harg14.unread z1) (d := 1) rfl (runC.sl.r_7 (F := Ideal) c i arg8 harg8 arg16 harg16 x7 z3) _ rfl _ X W hist (2816 + 512) (vc_uv2 hX hW hC hD hz0 hz1) (fun y h0 h1 x h2 => (missc8 arg14.view _ _ _ y (by omega)).trans ((vc_rdv1 hX hW hC hD hz0 hz1 y (by omega)).trans ((congrFun (harg14.read_unread z1) y).trans ((hz1 y h1).trans (congrArg (hist _) (by omega)))))) r x

set_option maxHeartbeats 2000000 in
theorem vc_sv2_2 (hR) (r x : Fin 256) : LoadRect.valAlong (lr := (Rect.unit (s := S264x256) ![6, 0] S256x256.size inb_S264x256_S256x256_6_0).toLoadRect) hR (runC.sl.v220 (F := Ideal) c i arg8 harg8 arg14 harg14 arg16 harg16 x7 z1 z3) (ix2 r x) = ups X W hist 2 r (2816 + 512 + x.val) :=
  shup arg14.view (harg14.unread z1) (d := 2) rfl (runC.sl.r_7 (F := Ideal) c i arg8 harg8 arg16 harg16 x7 z3) _ rfl _ X W hist (2816 + 512) (vc_uv2 hX hW hC hD hz0 hz1) (fun y h0 h1 x h2 => (missc8 arg14.view _ _ _ y (by omega)).trans ((vc_rdv1 hX hW hC hD hz0 hz1 y (by omega)).trans ((congrFun (harg14.read_unread z1) y).trans ((hz1 y h1).trans (congrArg (hist _) (by omega)))))) r x

set_option maxHeartbeats 2000000 in
theorem vc_sv3_1 (hR) (r x : Fin 256) : LoadRect.valAlong (lr := (Rect.unit (s := S264x256) ![7, 0] S256x256.size inb_S264x256_S256x256_7_0).toLoadRect) hR (runC.sl.v287 (F := Ideal) c i arg8 harg8 arg14 harg14 arg16 harg16 x7 z1 z3) (ix2 r x) = ups X W hist 1 r (2816 + 768 + x.val) :=
  shup arg14.view (harg14.unread z1) (d := 1) rfl (runC.sl.r_17 (F := Ideal) c i arg8 harg8 arg16 harg16 x7 z3) _ rfl _ X W hist (2816 + 768) (vc_uv3 hX hW hC hD hz0 hz1) (fun y h0 h1 x h2 => (missc8 arg14.view _ _ _ y (by omega)).trans ((vc_rdv2 hX hW hC hD hz0 hz1 y (by omega)).trans ((congrFun (harg14.read_unread z1) y).trans ((hz1 y h1).trans (congrArg (hist _) (by omega)))))) r x

set_option maxHeartbeats 2000000 in
theorem vc_sv3_2 (hR) (r x : Fin 256) : LoadRect.valAlong (lr := (Rect.unit (s := S264x256) ![6, 0] S256x256.size inb_S264x256_S256x256_6_0).toLoadRect) hR (runC.sl.v290 (F := Ideal) c i arg8 harg8 arg14 harg14 arg16 harg16 x7 z1 z3) (ix2 r x) = ups X W hist 2 r (2816 + 768 + x.val) :=
  shup arg14.view (harg14.unread z1) (d := 2) rfl (runC.sl.r_17 (F := Ideal) c i arg8 harg8 arg16 harg16 x7 z3) _ rfl _ X W hist (2816 + 768) (vc_uv3 hX hW hC hD hz0 hz1) (fun y h0 h1 x h2 => (missc8 arg14.view _ _ _ y (by omega)).trans ((vc_rdv2 hX hW hC hD hz0 hz1 y (by omega)).trans ((congrFun (harg14.read_unread z1) y).trans ((hz1 y h1).trans (congrArg (hist _) (by omega)))))) r x

set_option maxHeartbeats 2000000 in
theorem vc_sv4_1 (hR) (r x : Fin 256) : LoadRect.valAlong (lr := (Rect.unit (s := S264x256) ![7, 0] S256x256.size inb_S264x256_S256x256_7_0).toLoadRect) hR (runC.sl.v367 (F := Ideal) c i arg8 harg8 arg14 harg14 arg16 harg16 x7 z1 z3) (ix2 r x) = ups X W hist 1 r (2816 + 1024 + x.val) :=
  shup arg14.view (harg14.unread z1) (d := 1) rfl (runC.sl.r_27 (F := Ideal) c i arg8 harg8 arg16 harg16 x7 z3) _ rfl _ X W hist (2816 + 1024) (vc_uv4 hX hW hC hD hz0 hz1) (fun y h0 h1 x h2 => (missc8 arg14.view _ _ _ y (by omega)).trans ((vc_rdv3 hX hW hC hD hz0 hz1 y (by omega)).trans ((congrFun (harg14.read_unread z1) y).trans ((hz1 y h1).trans (congrArg (hist _) (by omega)))))) r x

set_option maxHeartbeats 2000000 in
theorem vc_sv4_2 (hR) (r x : Fin 256) : LoadRect.valAlong (lr := (Rect.unit (s := S264x256) ![6, 0] S256x256.size inb_S264x256_S256x256_6_0).toLoadRect) hR (runC.sl.v370 (F := Ideal) c i arg8 harg8 arg14 harg14 arg16 harg16 x7 z1 z3) (ix2 r x) = ups X W hist 2 r (2816 + 1024 + x.val) :=
  shup arg14.view (harg14.unread z1) (d := 2) rfl (runC.sl.r_27 (F := Ideal) c i arg8 harg8 arg16 harg16 x7 z3) _ rfl _ X W hist (2816 + 1024) (vc_uv4 hX hW hC hD hz0 hz1) (fun y h0 h1 x h2 => (missc8 arg14.view _ _ _ y (by omega)).trans ((vc_rdv3 hX hW hC hD hz0 hz1 y (by omega)).trans ((congrFun (harg14.read_unread z1) y).trans ((hz1 y h1).trans (congrArg (hist _) (by omega)))))) r x

set_option maxHeartbeats 2000000 in
theorem vc_sv5_1 (hR) (r x : Fin 256) : LoadRect.valAlong (lr := (Rect.unit (s := S264x256) ![7, 0] S256x256.size inb_S264x256_S256x256_7_0).toLoadRect) hR (runC.sl.v437 (F := Ideal) c i arg8 harg8 arg14 harg14 arg16 harg16 x7 z1 z3) (ix2 r x) = ups X W hist 1 r (2816 + 1280 + x.val) :=
  shup arg14.view (harg14.unread z1) (d := 1) rfl (runC.sl.r_36 (F := Ideal) c i arg8 harg8 arg16 harg16 x7 z3) _ rfl _ X W hist (2816 + 1280) (vc_uv5 hX hW hC hD hz0 hz1) (fun y h0 h1 x h2 => (missc8 arg14.view _ _ _ y (by omega)).trans ((vc_rdv4 hX hW hC hD hz0 hz1 y (by omega)).trans ((congrFun (harg14.read_unread z1) y).trans ((hz1 y h1).trans (congrArg (hist _) (by omega)))))) r x

set_option maxHeartbeats 2000000 in
theorem vc_sv5_2 (hR) (r x : Fin 256) : LoadRect.valAlong (lr := (Rect.unit (s := S264x256) ![6, 0] S256x256.size inb_S264x256_S256x256_6_0).toLoadRect) hR (runC.sl.v440 (F := Ideal) c i arg8 harg8 arg14 harg14 arg16 harg16 x7 z1 z3) (ix2 r x) = ups X W hist 2 r (2816 + 1280 + x.val) :=
  shup arg14.view (harg14.unread z1) (d := 2) rfl (runC.sl.r_36 (F := Ideal) c i arg8 harg8 arg16 harg16 x7 z3) _ rfl _ X W hist (2816 + 1280) (vc_uv5 hX hW hC hD hz0 hz1) (fun y h0 h1 x h2 => (missc8 arg14.view _ _ _ y (by omega)).trans ((vc_rdv4 hX hW hC hD hz0 hz1 y (by omega)).trans ((congrFun (harg14.read_unread z1) y).trans ((hz1 y h1).trans (congrArg (hist _) (by omega)))))) r x

set_option maxHeartbeats 2000000 in
theorem vc_sv6_1 (hR) (r x : Fin 256) : LoadRect.valAlong (lr := (Rect.unit (s := S264x256) ![7, 0] S256x256.size inb_S264x256_S256x256_7_0).toLoadRect) hR (runC.sl.v507 (F := Ideal) c i arg8 harg8 arg14 harg14 arg16 harg16 x7 z1 z3) (ix2 r x) = ups X W hist 1 r (2816 + 1536 + x.val) :=
  shup arg14.view (harg14.unread z1) (d := 1) rfl (runC.sl.r_45 (F := Ideal) c i arg8 harg8 arg16 harg16 x7 z3) _ rfl _ X W hist (2816 + 1536) (vc_uv6 hX hW hC hD hz0 hz1) (fun y h0 h1 x h2 => (missc8 arg14.view _ _ _ y (by omega)).trans ((vc_rdv5 hX hW hC hD hz0 hz1 y (by omega)).trans ((congrFun (harg14.read_unread z1) y).trans ((hz1 y h1).trans (congrArg (hist _) (by omega)))))) r x

set_option maxHeartbeats 2000000 in
theorem vc_sv6_2 (hR) (r x : Fin 256) : LoadRect.valAlong (lr := (Rect.unit (s := S264x256) ![6, 0] S256x256.size inb_S264x256_S256x256_6_0).toLoadRect) hR (runC.sl.v510 (F := Ideal) c i arg8 harg8 arg14 harg14 arg16 harg16 x7 z1 z3) (ix2 r x) = ups X W hist 2 r (2816 + 1536 + x.val) :=
  shup arg14.view (harg14.unread z1) (d := 2) rfl (runC.sl.r_45 (F := Ideal) c i arg8 harg8 arg16 harg16 x7 z3) _ rfl _ X W hist (2816 + 1536) (vc_uv6 hX hW hC hD hz0 hz1) (fun y h0 h1 x h2 => (missc8 arg14.view _ _ _ y (by omega)).trans ((vc_rdv5 hX hW hC hD hz0 hz1 y (by omega)).trans ((congrFun (harg14.read_unread z1) y).trans ((hz1 y h1).trans (congrArg (hist _) (by omega)))))) r x

set_option maxHeartbeats 2000000 in
theorem vc_sv7_1 (hR) (r x : Fin 256) : LoadRect.valAlong (lr := (Rect.unit (s := S264x256) ![7, 0] S256x256.size inb_S264x256_S256x256_7_0).toLoadRect) hR (runC.sl.v577 (F := Ideal) c i arg8 harg8 arg14 harg14 arg16 harg16 x7 z1 z3) (ix2 r x) = ups X W hist 1 r (2816 + 1792 + x.val) :=
  shup arg14.view (harg14.unread z1) (d := 1) rfl (runC.sl.r_49 (F := Ideal) c i arg8 harg8 arg16 harg16 x7 z3) _ rfl _ X W hist (2816 + 1792) (vc_uv7 hX hW hC hD hz0 hz1) (fun y h0 h1 x h2 => (missc8 arg14.view _ _ _ y (by omega)).trans ((vc_rdv6 hX hW hC hD hz0 hz1 y (by omega)).trans ((congrFun (harg14.read_unread z1) y).trans ((hz1 y h1).trans (congrArg (hist _) (by omega)))))) r x

set_option maxHeartbeats 2000000 in
theorem vc_sv7_2 (hR) (r x : Fin 256) : LoadRect.valAlong (lr := (Rect.unit (s := S264x256) ![6, 0] S256x256.size inb_S264x256_S256x256_6_0).toLoadRect) hR (runC.sl.v580 (F := Ideal) c i arg8 harg8 arg14 harg14 arg16 harg16 x7 z1 z3) (ix2 r x) = ups X W hist 2 r (2816 + 1792 + x.val) :=
  shup arg14.view (harg14.unread z1) (d := 2) rfl (runC.sl.r_49 (F := Ideal) c i arg8 harg8 arg16 harg16 x7 z3) _ rfl _ X W hist (2816 + 1792) (vc_uv7 hX hW hC hD hz0 hz1) (fun y h0 h1 x h2 => (missc8 arg14.view _ _ _ y (by omega)).trans ((vc_rdv6 hX hW hC hD hz0 hz1 y (by omega)).trans ((congrFun (harg14.read_unread z1) y).trans ((hz1 y h1).trans (congrArg (hist _) (by omega)))))) r x

set_option maxHeartbeats 2000000 in
theorem vc_sv8_1 (hR) (r x : Fin 256) : LoadRect.valAlong (lr := (Rect.unit (s := S264x256) ![7, 0] S256x256.size inb_S264x256_S256x256_7_0).toLoadRect) hR (runC.sl.v672 (F := Ideal) c i arg8 harg8 arg14 harg14 arg16 harg16 x7 z1 z3) (ix2 r x) = ups X W hist 1 r (2816 + 2048 + x.val) :=
  shup arg14.view (harg14.unread z1) (d := 1) rfl (runC.sl.r_54 (F := Ideal) c i arg8 harg8 arg16 harg16 x7 z3) _ rfl _ X W hist (2816 + 2048) (vc_uv8 hX hW hC hD hz0 hz1) (fun y h0 h1 x h2 => (missc8 arg14.view _ _ _ y (by omega)).trans ((vc_rdv7 hX hW hC hD hz0 hz1 y (by omega)).trans ((congrFun (harg14.read_unread z1) y).trans ((hz1 y h1).trans (congrArg (hist _) (by omega)))))) r x

set_option maxHeartbeats 2000000 in
theorem vc_sv8_2 (hR) (r x : Fin 256) : LoadRect.valAlong (lr := (Rect.unit (s := S264x256) ![6, 0] S256x256.size inb_S264x256_S256x256_6_0).toLoadRect) hR (runC.sl.v675 (F := Ideal) c i arg8 harg8 arg14 harg14 arg16 harg16 x7 z1 z3) (ix2 r x) = ups X W hist 2 r (2816 + 2048 + x.val) :=
  shup arg14.view (harg14.unread z1) (d := 2) rfl (runC.sl.r_54 (F := Ideal) c i arg8 harg8 arg16 harg16 x7 z3) _ rfl _ X W hist (2816 + 2048) (vc_uv8 hX hW hC hD hz0 hz1) (fun y h0 h1 x h2 => (missc8 arg14.view _ _ _ y (by omega)).trans ((vc_rdv7 hX hW hC hD hz0 hz1 y (by omega)).trans ((congrFun (harg14.read_unread z1) y).trans ((hz1 y h1).trans (congrArg (hist _) (by omega)))))) r x

set_option maxHeartbeats 2000000 in
theorem vc_sv9_1 (hR) (r x : Fin 256) : LoadRect.valAlong (lr := (Rect.unit (s := S264x256) ![7, 0] S256x256.size inb_S264x256_S256x256_7_0).toLoadRect) hR (runC.sl.v736 (F := Ideal) c i arg8 harg8 arg14 harg14 arg16 harg16 x7 z1 z3) (ix2 r x) = ups X W hist 1 r (2816 + 2304 + x.val) :=
  shup arg14.view (harg14.unread z1) (d := 1) rfl (runC.sl.r_59 (F := Ideal) c i arg8 harg8 arg16 harg16 x7 z3) _ rfl _ X W hist (2816 + 2304) (vc_uv9 hX hW hC hD hz0 hz1) (fun y h0 h1 x h2 => (missc8 arg14.view _ _ _ y (by omega)).trans ((vc_rdv8 hX hW hC hD hz0 hz1 y (by omega)).trans ((congrFun (harg14.read_unread z1) y).trans ((hz1 y h1).trans (congrArg (hist _) (by omega)))))) r x

set_option maxHeartbeats 2000000 in
theorem vc_sv9_2 (hR) (r x : Fin 256) : LoadRect.valAlong (lr := (Rect.unit (s := S264x256) ![6, 0] S256x256.size inb_S264x256_S256x256_6_0).toLoadRect) hR (runC.sl.v739 (F := Ideal) c i arg8 harg8 arg14 harg14 arg16 harg16 x7 z1 z3) (ix2 r x) = ups X W hist 2 r (2816 + 2304 + x.val) :=
  shup arg14.view (harg14.unread z1) (d := 2) rfl (runC.sl.r_59 (F := Ideal) c i arg8 harg8 arg16 harg16 x7 z3) _ rfl _ X W hist (2816 + 2304) (vc_uv9 hX hW hC hD hz0 hz1) (fun y h0 h1 x h2 => (missc8 arg14.view _ _ _ y (by omega)).trans ((vc_rdv8 hX hW hC hD hz0 hz1 y (by omega)).trans ((congrFun (harg14.read_unread z1) y).trans ((hz1 y h1).trans (congrArg (hist _) (by omega)))))) r x

set_option maxHeartbeats 2000000 in
theorem vc_sv10_1 (hR) (r x : Fin 256) : LoadRect.valAlong (lr := (Rect.unit (s := S264x256) ![7, 0] S256x256.size inb_S264x256_S256x256_7_0).toLoadRect) hR (runC.sl.v829 (F := Ideal) c i arg8 harg8 arg14 harg14 arg16 harg16 x7 z1 z3) (ix2 r x) = ups X W hist 1 r (2816 + 2560 + x.val) :=
  shup arg14.view (harg14.unread z1) (d := 1) rfl (runC.sl.r_64 (F := Ideal) c i arg8 harg8 arg16 harg16 x7 z3) _ rfl _ X W hist (2816 + 2560) (vc_uv10 hX hW hC hD hz0 hz1) (fun y h0 h1 x h2 => (missc8 arg14.view _ _ _ y (by omega)).trans ((vc_rdv9 hX hW hC hD hz0 hz1 y (by omega)).trans ((congrFun (harg14.read_unread z1) y).trans ((hz1 y h1).trans (congrArg (hist _) (by omega)))))) r x

set_option maxHeartbeats 2000000 in
theorem vc_sv10_2 (hR) (r x : Fin 256) : LoadRect.valAlong (lr := (Rect.unit (s := S264x256) ![6, 0] S256x256.size inb_S264x256_S256x256_6_0).toLoadRect) hR (runC.sl.v832 (F := Ideal) c i arg8 harg8 arg14 harg14 arg16 harg16 x7 z1 z3) (ix2 r x) = ups X W hist 2 r (2816 + 2560 + x.val) :=
  shup arg14.view (harg14.unread z1) (d := 2) rfl (runC.sl.r_64 (F := Ideal) c i arg8 harg8 arg16 harg16 x7 z3) _ rfl _ X W hist (2816 + 2560) (vc_uv10 hX hW hC hD hz0 hz1) (fun y h0 h1 x h2 => (missc8 arg14.view _ _ _ y (by omega)).trans ((vc_rdv9 hX hW hC hD hz0 hz1 y (by omega)).trans ((congrFun (harg14.read_unread z1) y).trans ((hz1 y h1).trans (congrArg (hist _) (by omega)))))) r x

theorem vc_a0 (r x : Fin 256) : (runC.sl.r_15 (F := Ideal) c i arg8 harg8 arg9 harg9 arg13 harg13 arg14 harg14 arg16 harg16 x7 x8 z0 z1 z3) (ix2 r x) = ac X W Cw hist r (0 + x.val) :=
  act_of _ (runC.sl.r_1 (F := Ideal) c i arg8 harg8 arg16 harg16 x7 z3) _ _ _ (runC.sl.r_2 (F := Ideal) c i arg8 harg8 arg16 harg16 x7 z3) _ _ _ rfl X W Cw hist 0 (vc_ug0 hX hW hC hD hz0 hz1) (vc_uv0 hX hW hC hD hz0 hz1) (winC arg9 harg9 x8 _ Cw hC) (winC arg9 harg9 x8 (o := 2816 + 0) _ Cw hC)
    (vc_sg0_1 hX hW hC hD hz0 hz1 _) (vc_sg0_2 hX hW hC hD hz0 hz1 _) (vc_sv0_1 hX hW hC hD hz0 hz1 _) (vc_sv0_2 hX hW hC hD hz0 hz1 _) r x

theorem vc_a1 (r x : Fin 256) : (runC.sl.r_25 (F := Ideal) c i arg8 harg8 arg9 harg9 arg13 harg13 arg14 harg14 arg16 harg16 x7 x8 z0 z1 z3) (ix2 r x) = ac X W Cw hist r (256 + x.val) :=
  act_of _ (runC.sl.r_4 (F := Ideal) c i arg8 harg8 arg16 harg16 x7 z3) _ _ _ (runC.sl.r_5 (F := Ideal) c i arg8 harg8 arg16 harg16 x7 z3) _ _ _ rfl X W Cw hist 256 (vc_ug1 hX hW hC hD hz0 hz1) (vc_uv1 hX hW hC hD hz0 hz1) (winC arg9 harg9 x8 _ Cw hC) (winC arg9 harg9 x8 (o := 2816 + 256) _ Cw hC)
    (vc_sg1_1 hX hW hC hD hz0 hz1 _) (vc_sg1_2 hX hW hC hD hz0 hz1 _) (vc_sv1_1 hX hW hC hD hz0 hz1 _) (vc_sv1_2 hX hW hC hD hz0 hz1 _) r x

theorem vc_a2 (r x : Fin 256) : (runC.sl.r_34 (F := Ideal) c i arg8 harg8 arg9 harg9 arg13 harg13 arg14 harg14 arg16 harg16 x7 x8 z0 z1 z3) (ix2 r x) = ac X W Cw hist r (512 + x.val) :=
  act_of _ (runC.sl.r_6 (F := Ideal) c i arg8 harg8 arg16 harg16 x7 z3) _ _ _ (runC.sl.r_7 (F := Ideal) c i arg8 harg8 arg16 harg16 x7 z3) _ _ _ rfl X W Cw hist 512 (vc_ug2 hX hW hC hD hz0 hz1) (vc_uv2 hX hW hC hD hz0 hz1) (winC arg9 harg9 x8 _ Cw hC) (winC arg9 harg9 x8 (o := 2816 + 512) _ Cw hC)
    (vc_sg2_1 hX hW hC hD hz0 hz1 _) (vc_sg2_2 hX hW hC hD hz0 hz1 _) (vc_sv2_1 hX hW hC hD hz0 hz1 _) (vc_sv2_2 hX hW hC hD hz0 hz1 _) r x

theorem vc_a4 (r x : Fin 256) : (runC.sl.r_47 (F := Ideal) c i arg8 harg8 arg9 harg9 arg13 harg13 arg14 harg14 arg16 harg16 x7 x8 z0 z1 z3) (ix2 r x) = ac X W Cw hist r (1024 + x.val) :=
  act_of _ (runC.sl.r_26 (F := Ideal) c i arg8 harg8 arg16 harg16 x7 z3) _ _ _ (runC.sl.r_27 (F := Ideal) c i arg8 harg8 arg16 harg16 x7 z3) _ _ _ rfl X W Cw hist 1024 (vc_ug4 hX hW hC hD hz0 hz1) (vc_uv4 hX hW hC hD hz0 hz1) (winC arg9 harg9 x8 _ Cw hC) (winC arg9 harg9 x8 (o := 2816 + 1024) _ Cw hC)
    (vc_sg4_1 hX hW hC hD hz0 hz1 _) (vc_sg4_2 hX hW hC hD hz0 hz1 _) (vc_sv4_1 hX hW hC hD hz0 hz1 _) (vc_sv4_2 hX hW hC hD hz0 hz1 _) r x

theorem vc_a5 (r x : Fin 256) : (runC.sl.r_51 (F := Ideal) c i arg8 harg8 arg9 harg9 arg13 harg13 arg14 harg14 arg16 harg16 x7 x8 z0 z1 z3) (ix2 r x) = ac X W Cw hist r (1280 + x.val) :=
  act_of _ (runC.sl.r_35 (F := Ideal) c i arg8 harg8 arg16 harg16 x7 z3) _ _ _ (runC.sl.r_36 (F := Ideal) c i arg8 harg8 arg16 harg16 x7 z3) _ _ _ rfl X W Cw hist 1280 (vc_ug5 hX hW hC hD hz0 hz1) (vc_uv5 hX hW hC hD hz0 hz1) (winC arg9 harg9 x8 _ Cw hC) (winC arg9 harg9 x8 (o := 2816 + 1280) _ Cw hC)
    (vc_sg5_1 hX hW hC hD hz0 hz1 _) (vc_sg5_2 hX hW hC hD hz0 hz1 _) (vc_sv5_1 hX hW hC hD hz0 hz1 _) (vc_sv5_2 hX hW hC hD hz0 hz1 _) r x

theorem vc_a6 (r x : Fin 256) : (runC.sl.r_56 (F := Ideal) c i arg8 harg8 arg9 harg9 arg13 harg13 arg14 harg14 arg16 harg16 x7 x8 z0 z1 z3) (ix2 r x) = ac X W Cw hist r (1536 + x.val) :=
  act_of _ (runC.sl.r_44 (F := Ideal) c i arg8 harg8 arg16 harg16 x7 z3) _ _ _ (runC.sl.r_45 (F := Ideal) c i arg8 harg8 arg16 harg16 x7 z3) _ _ _ rfl X W Cw hist 1536 (vc_ug6 hX hW hC hD hz0 hz1) (vc_uv6 hX hW hC hD hz0 hz1) (winC arg9 harg9 x8 _ Cw hC) (winC arg9 harg9 x8 (o := 2816 + 1536) _ Cw hC)
    (vc_sg6_1 hX hW hC hD hz0 hz1 _) (vc_sg6_2 hX hW hC hD hz0 hz1 _) (vc_sv6_1 hX hW hC hD hz0 hz1 _) (vc_sv6_2 hX hW hC hD hz0 hz1 _) r x

theorem vc_a8 (r x : Fin 256) : (runC.sl.r_67 (F := Ideal) c i arg8 harg8 arg9 harg9 arg13 harg13 arg14 harg14 arg16 harg16 x7 x8 z0 z1 z3) (ix2 r x) = ac X W Cw hist r (2048 + x.val) :=
  act_of _ (runC.sl.r_52 (F := Ideal) c i arg8 harg8 arg16 harg16 x7 z3) _ _ _ (runC.sl.r_54 (F := Ideal) c i arg8 harg8 arg16 harg16 x7 z3) _ _ _ rfl X W Cw hist 2048 (vc_ug8 hX hW hC hD hz0 hz1) (vc_uv8 hX hW hC hD hz0 hz1) (winC arg9 harg9 x8 _ Cw hC) (winC arg9 harg9 x8 (o := 2816 + 2048) _ Cw hC)
    (vc_sg8_1 hX hW hC hD hz0 hz1 _) (vc_sg8_2 hX hW hC hD hz0 hz1 _) (vc_sv8_1 hX hW hC hD hz0 hz1 _) (vc_sv8_2 hX hW hC hD hz0 hz1 _) r x

theorem vc_a9 (r x : Fin 256) : (runC.sl.r_69 (F := Ideal) c i arg8 harg8 arg9 harg9 arg13 harg13 arg14 harg14 arg16 harg16 x7 x8 z0 z1 z3) (ix2 r x) = ac X W Cw hist r (2304 + x.val) :=
  act_of _ (runC.sl.r_58 (F := Ideal) c i arg8 harg8 arg16 harg16 x7 z3) _ _ _ (runC.sl.r_59 (F := Ideal) c i arg8 harg8 arg16 harg16 x7 z3) _ _ _ rfl X W Cw hist 2304 (vc_ug9 hX hW hC hD hz0 hz1) (vc_uv9 hX hW hC hD hz0 hz1) (winC arg9 harg9 x8 _ Cw hC) (winC arg9 harg9 x8 (o := 2816 + 2304) _ Cw hC)
    (vc_sg9_1 hX hW hC hD hz0 hz1 _) (vc_sg9_2 hX hW hC hD hz0 hz1 _) (vc_sv9_1 hX hW hC hD hz0 hz1 _) (vc_sv9_2 hX hW hC hD hz0 hz1 _) r x

theorem vc_o1 {Hh : Fin 256 → Fin 1024 → EReal} (hH : ∀ (r : Fin 256) (c1 : Fin 1024), (runC.sl.v315 (F := Ideal) c i arg12 arg15 harg15 z2) (ix3 (0 : Fin 1) r c1) = Hh r c1) (r : Fin 256) (c0 : Fin 1024) : (runC.sl.v605 (F := Ideal) c i arg8 harg8 arg9 harg9 arg10 harg10 arg12 arg13 harg13 arg14 harg14 arg15 harg15 arg16 harg16 x7 x8 x9 z0 z1 z2 z3) (ix3 (0 : Fin 1) r c0) = Hh r c0 + ∑ k : Fin 1024, (ac X W Cw hist) r (0 + k.val) * D (0 + k.val) c0 := by
  refine (congrFun (covr arg12.view (by decide) (by decide) _ _ _ _) _).trans ((down4_of _ (runC.sl.r_15 (F := Ideal) c i arg8 harg8 arg9 harg9 arg13 harg13 arg14 harg14 arg16 harg16 x7 x8 z0 z1 z3) (runC.sl.r_25 (F := Ideal) c i arg8 harg8 arg9 harg9 arg13 harg13 arg14 harg14 arg16 harg16 x7 x8 z0 z1 z3) (runC.sl.r_34 (F := Ideal) c i arg8 harg8 arg9 harg9 arg13 harg13 arg14 harg14 arg16 harg16 x7 x8 z0 z1 z3) _ (runC.sl.v315 (F := Ideal) c i arg12 arg15 harg15 z2) _ rfl (ac X W Cw hist) D 0 (vc_a0 hX hW hC hD hz0 hz1) (vc_a1 hX hW hC hD hz0 hz1) (vc_a2 hX hW hC hD hz0 hz1) (fun r x => act_of _ (runC.sl.r_16 (F := Ideal) c i arg8 harg8 arg16 harg16 x7 z3) _ _ _ (runC.sl.r_17 (F := Ideal) c i arg8 harg8 arg16 harg16 x7 z3) _ _ _ rfl X W Cw hist 768 (vc_ug3 hX hW hC hD hz0 hz1) (vc_uv3 hX hW hC hD hz0 hz1) (winC arg9 harg9 x8 _ Cw hC) (winC arg9 harg9 x8 (o := 2816 + 768) _ Cw hC)
    (vc_sg3_1 hX hW hC hD hz0 hz1 _) (vc_sg3_2 hX hW hC hD hz0 hz1 _) (vc_sv3_1 hX hW hC hD hz0 hz1 _) (vc_sv3_2 hX hW hC hD hz0 hz1 _) r x) (winD4 arg10 harg10 x9 _ D hD) r c0).trans ?_)
  rw [hH]

theorem vc_o2 {Hh : Fin 256 → Fin 1024 → EReal} (hH : ∀ (r : Fin 256) (c1 : Fin 1024), (runC.sl.v315 (F := Ideal) c i arg12 arg15 harg15 z2) (ix3 (0 : Fin 1) r c1) = Hh r c1) (r : Fin 256) (c0 : Fin 1024) : (runC.sl.v857 (F := Ideal) c i arg8 harg8 arg9 harg9 arg10 harg10 arg12 arg13 harg13 arg14 harg14 arg15 harg15 arg16 harg16 x7 x8 x9 z0 z1 z2 z3) (ix3 (0 : Fin 1) r c0) = Hh r c0 + (∑ k : Fin 1024, (ac X W Cw hist) r (0 + k.val) * D (0 + k.val) c0) + ∑ k : Fin 1024, (ac X W Cw hist) r (1024 + k.val) * D (1024 + k.val) c0 := by
  refine (congrFun (covr arg12.view (by decide) (by decide) _ _ _ _) _).trans ((down4_of _ (runC.sl.r_47 (F := Ideal) c i arg8 harg8 arg9 harg9 arg13 harg13 arg14 harg14 arg16 harg16 x7 x8 z0 z1 z3) (runC.sl.r_51 (F := Ideal) c i arg8 harg8 arg9 harg9 arg13 harg13 arg14 harg14 arg16 harg16 x7 x8 z0 z1 z3) (runC.sl.r_56 (F := Ideal) c i arg8 harg8 arg9 harg9 arg13 harg13 arg14 harg14 arg16 harg16 x7 x8 z0 z1 z3) _ (runC.sl.v605 (F := Ideal) c i arg8 harg8 arg9 harg9 arg10 harg10 arg12 arg13 harg13 arg14 harg14 arg15 harg15 arg16 harg16 x7 x8 x9 z0 z1 z2 z3) _ rfl (ac X W Cw hist) D 1024 (vc_a4 hX hW hC hD hz0 hz1) (vc_a5 hX hW hC hD hz0 hz1) (vc_a6 hX hW hC hD hz0 hz1) (fun r x => act_of _ (runC.sl.r_48 (F := Ideal) c i arg8 harg8 arg16 harg16 x7 z3) _ _ _ (runC.sl.r_49 (F := Ideal) c i arg8 harg8 arg16 harg16 x7 z3) _ _ _ rfl X W Cw hist 1792 (vc_ug7 hX hW hC hD hz0 hz1) (vc_uv7 hX hW hC hD hz0 hz1) (winC arg9 harg9 x8 _ Cw hC) (winC arg9 harg9 x8 (o := 2816 + 1792) _ Cw hC)
    (vc_sg7_1 hX hW hC hD hz0 hz1 _) (vc_sg7_2 hX hW hC hD hz0 hz1 _) (vc_sv7_1 hX hW hC hD hz0 hz1 _) (vc_sv7_2 hX hW hC hD hz0 hz1 _) r x) (winD4 arg10 harg10 x9 _ D hD) r c0).trans ?_)
  rw [vc_o1 hX hW hC hD hz0 hz1 hH]

theorem vc_o3 {Hh : Fin 256 → Fin 1024 → EReal} (hH : ∀ (r : Fin 256) (c1 : Fin 1024), (runC.sl.v315 (F := Ideal) c i arg12 arg15 harg15 z2) (ix3 (0 : Fin 1) r c1) = Hh r c1) (r : Fin 256) (c0 : Fin 1024) : (runC.sl.v866 (F := Ideal) c i arg8 harg8 arg9 harg9 arg10 harg10 arg12 arg13 harg13 arg14 harg14 arg15 harg15 arg16 harg16 x7 x8 x9 z0 z1 z2 z3) (ix3 (0 : Fin 1) r c0) = Hh r c0 + (∑ k : Fin 1024, (ac X W Cw hist) r (0 + k.val) * D (0 + k.val) c0) + (∑ k : Fin 1024, (ac X W Cw hist) r (1024 + k.val) * D (1024 + k.val) c0) + ∑ k : Fin 768, (ac X W Cw hist) r (2048 + k.val) * D (2048 + k.val) c0 := by
  refine (congrFun (covr arg12.view (by decide) (by decide) _ _ _ _) _).trans ((down3_of _ (runC.sl.r_67 (F := Ideal) c i arg8 harg8 arg9 harg9 arg13 harg13 arg14 harg14 arg16 harg16 x7 x8 z0 z1 z3) (runC.sl.r_69 (F := Ideal) c i arg8 harg8 arg9 harg9 arg13 harg13 arg14 harg14 arg16 harg16 x7 x8 z0 z1 z3) _ (runC.sl.v857 (F := Ideal) c i arg8 harg8 arg9 harg9 arg10 harg10 arg12 arg13 harg13 arg14 harg14 arg15 harg15 arg16 harg16 x7 x8 x9 z0 z1 z2 z3) _ rfl (ac X W Cw hist) D 2048 (vc_a8 hX hW hC hD hz0 hz1) (vc_a9 hX hW hC hD hz0 hz1) (fun r x => act_of _ (runC.sl.r_63 (F := Ideal) c i arg8 harg8 arg16 harg16 x7 z3) _ _ _ (runC.sl.r_64 (F := Ideal) c i arg8 harg8 arg16 harg16 x7 z3) _ _ _ rfl X W Cw hist 2560 (vc_ug10 hX hW hC hD hz0 hz1) (vc_uv10 hX hW hC hD hz0 hz1) (winC arg9 harg9 x8 _ Cw hC) (winC arg9 harg9 x8 (o := 2816 + 2560) _ Cw hC)
    (vc_sg10_1 hX hW hC hD hz0 hz1 _) (vc_sg10_2 hX hW hC hD hz0 hz1 _) (vc_sv10_1 hX hW hC hD hz0 hz1 _) (vc_sv10_2 hX hW hC hD hz0 hz1 _) r x) (winD3 arg10 harg10 x9 _ D hD) r c0).trans ?_)
  rw [vc_o2 hX hW hC hD hz0 hz1 hH]

omit hX hW hC hD hz0 hz1 in
theorem vc_tg0 (p : Fin 8) (x : Fin 256) : k0_pay37 (F := Ideal) (runC.sl.r_1 (F := Ideal) c i arg8 harg8 arg16 harg16 x7 z3) (ix2 p x) = (runC.sl.r_1 (F := Ideal) c i arg8 harg8 arg16 harg16 x7 z3) (ix2 ⟨248 + p.val, by omega⟩ x) := by
  pointwise [k0_pay37]

theorem vc_mg0 (f : arg13.view.ty.Contents (Elt Ideal)) (y : S11x264x256.Idx) (h0 : (y 0).val ≤ 0) (h1 : (y 1).val < 8) : arg13.view.read (Elt Ideal) (arg13.view.writes (Elt Ideal) f (runC.sl.G0_3 (F := Ideal) c i arg8 harg8 arg16 harg16 x7 z3).tail) y = up X W ⟨248 + (y 1).val, by omega⟩ (0 + (256 * (y 0).val + (y 2).val)) := by
  have h : (y 0).val = 0 := by omega
  exact (hit8 arg13.view _ _ _ y (⟨(y 1).val, h1⟩ : Fin 8) (y 2 : Fin 256) h (Nat.zero_add _).symm rfl).trans ((vc_tg0 _ _).trans ((vc_ug0 hX hW hC hD hz0 hz1 _ _).trans (congrArg (up X W _) (by show _ = _; omega))))

omit hX hW hC hD hz0 hz1 in
theorem vc_tg1 (p : Fin 8) (x : Fin 256) : k0_pay49 (F := Ideal) (runC.sl.r_20 (F := Ideal) c i arg8 harg8 arg16 harg16 x7 z3) (ix2 p x) = (runC.sl.r_4 (F := Ideal) c i arg8 harg8 arg16 harg16 x7 z3) (ix2 ⟨248 + p.val, by omega⟩ x) := by
  pointwise [k0_pay49, runC.sl.r_20, k0_pay48]

theorem vc_mg1 (f : arg13.view.ty.Contents (Elt Ideal)) (y : S11x264x256.Idx) (h0 : (y 0).val ≤ 1) (h1 : (y 1).val < 8) : arg13.view.read (Elt Ideal) (arg13.view.writes (Elt Ideal) f (runC.sl.G0_5 (F := Ideal) c i arg8 harg8 arg16 harg16 x7 z3).tail) y = up X W ⟨248 + (y 1).val, by omega⟩ (0 + (256 * (y 0).val + (y 2).val)) := by
  by_cases h : (y 0).val = 1
  · exact (hit8 arg13.view _ _ _ y (⟨(y 1).val, h1⟩ : Fin 8) (y 2 : Fin 256) h (Nat.zero_add _).symm rfl).trans ((vc_tg1 _ _).trans ((vc_ug1 hX hW hC hD hz0 hz1 _ _).trans (congrArg (up X W _) (by show _ = _; omega))))
  · exact (missc8 arg13.view _ _ _ y h).trans ((missr256 arg13.view _ _ _ y (by omega)).trans (vc_mg0 hX hW hC hD hz0 hz1 f y (by omega) h1))

omit hX hW hC hD hz0 hz1 in
theorem vc_tg2 (p : Fin 8) (x : Fin 256) : k0_pay59 (F := Ideal) (runC.sl.r_30 (F := Ideal) c i arg8 harg8 arg16 harg16 x7 z3) (ix2 p x) = (runC.sl.r_6 (F := Ideal) c i arg8 harg8 arg16 harg16 x7 z3) (ix2 ⟨248 + p.val, by omega⟩ x) := by
  pointwise [k0_pay59, runC.sl.r_30, k0_pay58]

theorem vc_mg2 (f : arg13.view.ty.Contents (Elt Ideal)) (y : S11x264x256.Idx) (h0 : (y 0).val ≤ 2) (h1 : (y 1).val < 8) : arg13.view.read (Elt Ideal) (arg13.view.writes (Elt Ideal) f (runC.sl.G0_7 (F := Ideal) c i arg8 harg8 arg16 harg16 x7 z3).tail) y = up X W ⟨248 + (y 1).val, by omega⟩ (0 + (256 * (y 0).val + (y 2).val)) := by
  by_cases h : (y 0).val = 2
  · exact (hit8 arg13.view _ _ _ y (⟨(y 1).val, h1⟩ : Fin 8) (y 2 : Fin 256) h (Nat.zero_add _).symm rfl).trans ((vc_tg2 _ _).trans ((vc_ug2 hX hW hC hD hz0 hz1 _ _).trans (congrArg (up X W _) (by show _ = _; omega))))
  · exact (missc8 arg13.view _ _ _ y h).trans ((missr256 arg13.view _ _ _ y (by omega)).trans (vc_mg1 hX hW hC hD hz0 hz1 f y (by omega) h1))

omit hX hW hC hD hz0 hz1 in
theorem vc_tg3 (p : Fin 8) (x : Fin 256) : k0_pay68 (F := Ideal) (runC.sl.r_39 (F := Ideal) c i arg8 harg8 arg16 harg16 x7 z3) (ix2 p x) = (runC.sl.r_16 (F := Ideal) c i arg8 harg8 arg16 harg16 x7 z3) (ix2 ⟨248 + p.val, by omega⟩ x) := by
  pointwise [k0_pay68, runC.sl.r_39, k0_pay67]

theorem vc_mg3 (f : arg13.view.ty.Contents (Elt Ideal)) (y : S11x264x256.Idx) (h0 : (y 0).val ≤ 3) (h1 : (y 1).val < 8) : arg13.view.read (Elt Ideal) (arg13.view.writes (Elt Ideal) f (runC.sl.G0_9 (F := Ideal) c i arg8 harg8 arg16 harg16 x7 z3).tail) y = up X W ⟨248 + (y 1).val, by omega⟩ (0 + (256 * (y 0).val + (y 2).val)) := by
  by_cases h : (y 0).val = 3
  · exact (hit8 arg13.view _ _ _ y (⟨(y 1).val, h1⟩ : Fin 8) (y 2 : Fin 256) h (Nat.zero_add _).symm rfl).trans ((vc_tg3 _ _).trans ((vc_ug3 hX hW hC hD hz0 hz1 _ _).trans (congrArg (up X W _) (by show _ = _; omega))))
  · exact (missc8 arg13.view _ _ _ y h).trans ((missr256 arg13.view _ _ _ y (by omega)).trans (vc_mg2 hX hW hC hD hz0 hz1 f y (by omega) h1))

omit hX hW hC hD hz0 hz1 in
theorem vc_tg4 (p : Fin 8) (x : Fin 256) : k0_pay77 (F := Ideal) (runC.sl.r_26 (F := Ideal) c i arg8 harg8 arg16 harg16 x7 z3) (ix2 p x) = (runC.sl.r_26 (F := Ideal) c i arg8 harg8 arg16 harg16 x7 z3) (ix2 ⟨248 + p.val, by omega⟩ x) := by
  pointwise [k0_pay77]

theorem vc_mg4 (f : arg13.view.ty.Contents (Elt Ideal)) (y : S11x264x256.Idx) (h0 : (y 0).val ≤ 4) (h1 : (y 1).val < 8) : arg13.view.read (Elt Ideal) (arg13.view.writes (Elt Ideal) f (runC.sl.G0_11 (F := Ideal) c i arg8 harg8 arg16 harg16 x7 z3).tail) y = up X W ⟨248 + (y 1).val, by omega⟩ (0 + (256 * (y 0).val + (y 2).val)) := by
  by_cases h : (y 0).val = 4
  · exact (hit8 arg13.view _ _ _ y (⟨(y 1).val, h1⟩ : Fin 8) (y 2 : Fin 256) h (Nat.zero_add _).symm rfl).trans ((vc_tg4 _ _).trans ((vc_ug4 hX hW hC hD hz0 hz1 _ _).trans (congrArg (up X W _) (by show _ = _; omega))))
  · exact (missc8 arg13.view _ _ _ y h).trans ((missr256 arg13.view _ _ _ y (by omega)).trans (vc_mg3 hX hW hC hD hz0 hz1 f y (by omega) h1))

omit hX hW hC hD hz0 hz1 in
theorem vc_tg5 (p : Fin 8) (x : Fin 256) : k0_pay85 (F := Ideal) (runC.sl.r_35 (F := Ideal) c i arg8 harg8 arg16 harg16 x7 z3) (ix2 p x) = (runC.sl.r_35 (F := Ideal) c i arg8 harg8 arg16 harg16 x7 z3) (ix2 ⟨248 + p.val, by omega⟩ x) := by
  pointwise [k0_pay85]

theorem vc_mg5 (f : arg13.view.ty.Contents (Elt Ideal)) (y : S11x264x256.Idx) (h0 : (y 0).val ≤ 5) (h1 : (y 1).val < 8) : arg13.view.read (Elt Ideal) (arg13.view.writes (Elt Ideal) f (runC.sl.G0_13 (F := Ideal) c i arg8 harg8 arg16 harg16 x7 z3).tail) y = up X W ⟨248 + (y 1).val, by omega⟩ (0 + (256 * (y 0).val + (y 2).val)) := by
  by_cases h : (y 0).val = 5
  · exact (hit8 arg13.view _ _ _ y (⟨(y 1).val, h1⟩ : Fin 8) (y 2 : Fin 256) h (Nat.zero_add _).symm rfl).trans ((vc_tg5 _ _).trans ((vc_ug5 hX hW hC hD hz0 hz1 _ _).trans (congrArg (up X W _) (by show _ = _; omega))))
  · exact (missc8 arg13.view _ _ _ y h).trans ((missr256 arg13.view _ _ _ y (by omega)).trans (vc_mg4 hX hW hC hD hz0 hz1 f y (by omega) h1))

omit hX hW hC hD hz0 hz1 in
theorem vc_tg6 (p : Fin 8) (x : Fin 256) : k0_pay93 (F := Ideal) (runC.sl.r_44 (F := Ideal) c i arg8 harg8 arg16 harg16 x7 z3) (ix2 p x) = (runC.sl.r_44 (F := Ideal) c i arg8 harg8 arg16 harg16 x7 z3) (ix2 ⟨248 + p.val, by omega⟩ x) := by
  pointwise [k0_pay93]

theorem vc_mg6 (f : arg13.view.ty.Contents (Elt Ideal)) (y : S11x264x256.Idx) (h0 : (y 0).val ≤ 6) (h1 : (y 1).val < 8) : arg13.view.read (Elt Ideal) (arg13.view.writes (Elt Ideal) f (runC.sl.G0_15 (F := Ideal) c i arg8 harg8 arg16 harg16 x7 z3).tail) y = up X W ⟨248 + (y 1).val, by omega⟩ (0 + (256 * (y 0).val + (y 2).val)) := by
  by_cases h : (y 0).val = 6
  · exact (hit8 arg13.view _ _ _ y (⟨(y 1).val, h1⟩ : Fin 8) (y 2 : Fin 256) h (Nat.zero_add _).symm rfl).trans ((vc_tg6 _ _).trans ((vc_ug6 hX hW hC hD hz0 hz1 _ _).trans (congrArg (up X W _) (by show _ = _; omega))))
  · exact (missc8 arg13.view _ _ _ y h).trans ((missr256 arg13.view _ _ _ y (by omega)).trans (vc_mg5 hX hW hC hD hz0 hz1 f y (by omega) h1))

omit hX hW hC hD hz0 hz1 in
theorem vc_tg7 (p : Fin 8) (x : Fin 256) : k0_pay102 (F := Ideal) (runC.sl.r_48 (F := Ideal) c i arg8 harg8 arg16 harg16 x7 z3) (ix2 p x) = (runC.sl.r_48 (F := Ideal) c i arg8 harg8 arg16 harg16 x7 z3) (ix2 ⟨248 + p.val, by omega⟩ x) := by
  pointwise [k0_pay102]

theorem vc_mg7 (f : arg13.view.ty.Contents (Elt Ideal)) (y : S11x264x256.Idx) (h0 : (y 0).val ≤ 7) (h1 : (y 1).val < 8) : arg13.view.read (Elt Ideal) (arg13.view.writes (Elt Ideal) f (runC.sl.G0_17 (F := Ideal) c i arg8 harg8 arg16 harg16 x7 z3).tail) y = up X W ⟨248 + (y 1).val, by omega⟩ (0 + (256 * (y 0).val + (y 2).val)) := by
  by_cases h : (y 0).val = 7
  · exact (hit8 arg13.view _ _ _ y (⟨(y 1).val, h1⟩ : Fin 8) (y 2 : Fin 256) h (Nat.zero_add _).symm rfl).trans ((vc_tg7 _ _).trans ((vc_ug7 hX hW hC hD hz0 hz1 _ _).trans (congrArg (up X W _) (by show _ = _; omega))))
  · exact (missc8 arg13.view _ _ _ y h).trans ((missr256 arg13.view _ _ _ y (by omega)).trans (vc_mg6 hX hW hC hD hz0 hz1 f y (by omega) h1))

omit hX hW hC hD hz0 hz1 in
theorem vc_tg8 (p : Fin 8) (x : Fin 256) : k0_pay114 (F := Ideal) (runC.sl.r_52 (F := Ideal) c i arg8 harg8 arg16 harg16 x7 z3) (ix2 p x) = (runC.sl.r_52 (F := Ideal) c i arg8 harg8 arg16 harg16 x7 z3) (ix2 ⟨248 + p.val, by omega⟩ x) := by
  pointwise [k0_pay114]

theorem vc_mg8 (f : arg13.view.ty.Contents (Elt Ideal)) (y : S11x264x256.Idx) (h0 : (y 0).val ≤ 8) (h1 : (y 1).val < 8) : arg13.view.read (Elt Ideal) (arg13.view.writes (Elt Ideal) f (runC.sl.G0_19 (F := Ideal) c i arg8 harg8 arg16 harg16 x7 z3).tail) y = up X W ⟨248 + (y 1).val, by omega⟩ (0 + (256 * (y 0).val + (y 2).val)) := by
  by_cases h : (y 0).val = 8
  · exact (hit8 arg13.view _ _ _ y (⟨(y 1).val, h1⟩ : Fin 8) (y 2 : Fin 256) h (Nat.zero_add _).symm rfl).trans ((vc_tg8 _ _).trans ((vc_ug8 hX hW hC hD hz0 hz1 _ _).trans (congrArg (up X W _) (by show _ = _; omega))))
  · exact (missc8 arg13.view _ _ _ y h).trans ((missr256 arg13.view _ _ _ y (by omega)).trans (vc_mg7 hX hW hC hD hz0 hz1 f y (by omega) h1))

omit hX hW hC hD hz0 hz1 in
theorem vc_tg9 (p : Fin 8) (x : Fin 256) : k0_pay120 (F := Ideal) (runC.sl.r_58 (F := Ideal) c i arg8 harg8 arg16 harg16 x7 z3) (ix2 p x) = (runC.sl.r_58 (F := Ideal) c i arg8 harg8 arg16 harg16 x7 z3) (ix2 ⟨248 + p.val, by omega⟩ x) := by
  pointwise [k0_pay120]

theorem vc_mg9 (f : arg13.view.ty.Contents (Elt Ideal)) (y : S11x264x256.Idx) (h0 : (y 0).val ≤ 9) (h1 : (y 1).val < 8) : arg13.view.read (Elt Ideal) (arg13.view.writes (Elt Ideal) f (runC.sl.G0_21 (F := Ideal) c i arg8 harg8 arg16 harg16 x7 z3).tail) y = up X W ⟨248 + (y 1).val, by omega⟩ (0 + (256 * (y 0).val + (y 2).val)) := by
  by_cases h : (y 0).val = 9
  · exact (hit8 arg13.view _ _ _ y (⟨(y 1).val, h1⟩ : Fin 8) (y 2 : Fin 256) h (Nat.zero_add _).symm rfl).trans ((vc_tg9 _ _).trans ((vc_ug9 hX hW hC hD hz0 hz1 _ _).trans (congrArg (up X W _) (by show _ = _; omega))))
  · exact (missc8 arg13.view _ _ _ y h).trans ((missr256 arg13.view _ _ _ y (by omega)).trans (vc_mg8 hX hW hC hD hz0 hz1 f y (by omega) h1))

omit hX hW hC hD hz0 hz1 in
theorem vc_tg10 (p : Fin 8) (x : Fin 256) : k0_pay129 (F := Ideal) (runC.sl.r_63 (F := Ideal) c i arg8 harg8 arg16 harg16 x7 z3) (ix2 p x) = (runC.sl.r_63 (F := Ideal) c i arg8 harg8 arg16 harg16 x7 z3) (ix2 ⟨248 + p.val, by omega⟩ x) := by
  pointwise [k0_pay129]

theorem vc_mg10 (f : arg13.view.ty.Contents (Elt Ideal)) (y : S11x264x256.Idx) (h0 : (y 0).val ≤ 10) (h1 : (y 1).val < 8) : arg13.view.read (Elt Ideal) (arg13.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.1) y = up X W ⟨248 + (y 1).val, by omega⟩ (0 + (256 * (y 0).val + (y 2).val)) := by
  by_cases h : (y 0).val = 10
  · exact (hit8 arg13.view _ _ _ y (⟨(y 1).val, h1⟩ : Fin 8) (y 2 : Fin 256) h (Nat.zero_add _).symm rfl).trans ((vc_tg10 _ _).trans ((vc_ug10 hX hW hC hD hz0 hz1 _ _).trans (congrArg (up X W _) (by show _ = _; omega))))
  · exact (missc8 arg13.view _ _ _ y h).trans ((missr256 arg13.view _ _ _ y (by omega)).trans (vc_mg9 hX hW hC hD hz0 hz1 f y (by omega) h1))

omit hX hW hC hD hz0 hz1 in
theorem vc_tv0 (p : Fin 8) (x : Fin 256) : k0_pay40 (F := Ideal) (runC.sl.r_2 (F := Ideal) c i arg8 harg8 arg16 harg16 x7 z3) (ix2 p x) = (runC.sl.r_2 (F := Ideal) c i arg8 harg8 arg16 harg16 x7 z3) (ix2 ⟨248 + p.val, by omega⟩ x) := by
  pointwise [k0_pay40]

theorem vc_mv0 (f : arg14.view.ty.Contents (Elt Ideal)) (y : S11x264x256.Idx) (h0 : (y 0).val ≤ 0) (h1 : (y 1).val < 8) : arg14.view.read (Elt Ideal) (arg14.view.writes (Elt Ideal) f (runC.sl.G1_3 (F := Ideal) c i arg8 harg8 arg16 harg16 x7 z3).tail) y = up X W ⟨248 + (y 1).val, by omega⟩ (2816 + (256 * (y 0).val + (y 2).val)) := by
  have h : (y 0).val = 0 := by omega
  exact (hit8 arg14.view _ _ _ y (⟨(y 1).val, h1⟩ : Fin 8) (y 2 : Fin 256) h (Nat.zero_add _).symm rfl).trans ((vc_tv0 _ _).trans ((vc_uv0 hX hW hC hD hz0 hz1 _ _).trans (congrArg (up X W _) (by show _ = _; omega))))

omit hX hW hC hD hz0 hz1 in
theorem vc_tv1 (p : Fin 8) (x : Fin 256) : k0_pay52 (F := Ideal) (runC.sl.r_5 (F := Ideal) c i arg8 harg8 arg16 harg16 x7 z3) (ix2 p x) = (runC.sl.r_5 (F := Ideal) c i arg8 harg8 arg16 harg16 x7 z3) (ix2 ⟨248 + p.val, by omega⟩ x) := by
  pointwise [k0_pay52]

theorem vc_mv1 (f : arg14.view.ty.Contents (Elt Ideal)) (y : S11x264x256.Idx) (h0 : (y 0).val ≤ 1) (h1 : (y 1).val < 8) : arg14.view.read (Elt Ideal) (arg14.view.writes (Elt Ideal) f (runC.sl.G1_5 (F := Ideal) c i arg8 harg8 arg16 harg16 x7 z3).tail) y = up X W ⟨248 + (y 1).val, by omega⟩ (2816 + (256 * (y 0).val + (y 2).val)) := by
  by_cases h : (y 0).val = 1
  · exact (hit8 arg14.view _ _ _ y (⟨(y 1).val, h1⟩ : Fin 8) (y 2 : Fin 256) h (Nat.zero_add _).symm rfl).trans ((vc_tv1 _ _).trans ((vc_uv1 hX hW hC hD hz0 hz1 _ _).trans (congrArg (up X W _) (by show _ = _; omega))))
  · exact (missc8 arg14.view _ _ _ y h).trans ((missr256 arg14.view _ _ _ y (by omega)).trans (vc_mv0 hX hW hC hD hz0 hz1 f y (by omega) h1))

omit hX hW hC hD hz0 hz1 in
theorem vc_tv2 (p : Fin 8) (x : Fin 256) : k0_pay62 (F := Ideal) (runC.sl.r_7 (F := Ideal) c i arg8 harg8 arg16 harg16 x7 z3) (ix2 p x) = (runC.sl.r_7 (F := Ideal) c i arg8 harg8 arg16 harg16 x7 z3) (ix2 ⟨248 + p.val, by omega⟩ x) := by
  pointwise [k0_pay62]

theorem vc_mv2 (f : arg14.view.ty.Contents (Elt Ideal)) (y : S11x264x256.Idx) (h0 : (y 0).val ≤ 2) (h1 : (y 1).val < 8) : arg14.view.read (Elt Ideal) (arg14.view.writes (Elt Ideal) f (runC.sl.G1_7 (F := Ideal) c i arg8 harg8 arg16 harg16 x7 z3).tail) y = up X W ⟨248 + (y 1).val, by omega⟩ (2816 + (256 * (y 0).val + (y 2).val)) := by
  by_cases h : (y 0).val = 2
  · exact (hit8 arg14.view _ _ _ y (⟨(y 1).val, h1⟩ : Fin 8) (y 2 : Fin 256) h (Nat.zero_add _).symm rfl).trans ((vc_tv2 _ _).trans ((vc_uv2 hX hW hC hD hz0 hz1 _ _).trans (congrArg (up X W _) (by show _ = _; omega))))
  · exact (missc8 arg14.view _ _ _ y h).trans ((missr256 arg14.view _ _ _ y (by omega)).trans (vc_mv1 hX hW hC hD hz0 hz1 f y (by omega) h1))

omit hX hW hC hD hz0 hz1 in
theorem vc_tv3 (p : Fin 8) (x : Fin 256) : k0_pay72 (F := Ideal) (runC.sl.r_43 (F := Ideal) c i arg8 harg8 arg16 harg16 x7 z3) (ix2 p x) = (runC.sl.r_17 (F := Ideal) c i arg8 harg8 arg16 harg16 x7 z3) (ix2 ⟨248 + p.val, by omega⟩ x) := by
  pointwise [k0_pay72, runC.sl.r_43, k0_pay71]

theorem vc_mv3 (f : arg14.view.ty.Contents (Elt Ideal)) (y : S11x264x256.Idx) (h0 : (y 0).val ≤ 3) (h1 : (y 1).val < 8) : arg14.view.read (Elt Ideal) (arg14.view.writes (Elt Ideal) f (runC.sl.G1_9 (F := Ideal) c i arg8 harg8 arg16 harg16 x7 z3).tail) y = up X W ⟨248 + (y 1).val, by omega⟩ (2816 + (256 * (y 0).val + (y 2).val)) := by
  by_cases h : (y 0).val = 3
  · exact (hit8 arg14.view _ _ _ y (⟨(y 1).val, h1⟩ : Fin 8) (y 2 : Fin 256) h (Nat.zero_add _).symm rfl).trans ((vc_tv3 _ _).trans ((vc_uv3 hX hW hC hD hz0 hz1 _ _).trans (congrArg (up X W _) (by show _ = _; omega))))
  · exact (missc8 arg14.view _ _ _ y h).trans ((missr256 arg14.view _ _ _ y (by omega)).trans (vc_mv2 hX hW hC hD hz0 hz1 f y (by omega) h1))

omit hX hW hC hD hz0 hz1 in
theorem vc_tv4 (p : Fin 8) (x : Fin 256) : k0_pay80 (F := Ideal) (runC.sl.r_27 (F := Ideal) c i arg8 harg8 arg16 harg16 x7 z3) (ix2 p x) = (runC.sl.r_27 (F := Ideal) c i arg8 harg8 arg16 harg16 x7 z3) (ix2 ⟨248 + p.val, by omega⟩ x) := by
  pointwise [k0_pay80]

theorem vc_mv4 (f : arg14.view.ty.Contents (Elt Ideal)) (y : S11x264x256.Idx) (h0 : (y 0).val ≤ 4) (h1 : (y 1).val < 8) : arg14.view.read (Elt Ideal) (arg14.view.writes (Elt Ideal) f (runC.sl.G1_11 (F := Ideal) c i arg8 harg8 arg16 harg16 x7 z3).tail) y = up X W ⟨248 + (y 1).val, by omega⟩ (2816 + (256 * (y 0).val + (y 2).val)) := by
  by_cases h : (y 0).val = 4
  · exact (hit8 arg14.view _ _ _ y (⟨(y 1).val, h1⟩ : Fin 8) (y 2 : Fin 256) h (Nat.zero_add _).symm rfl).trans ((vc_tv4 _ _).trans ((vc_uv4 hX hW hC hD hz0 hz1 _ _).trans (congrArg (up X W _) (by show _ = _; omega))))
  · exact (missc8 arg14.view _ _ _ y h).trans ((missr256 arg14.view _ _ _ y (by omega)).trans (vc_mv3 hX hW hC hD hz0 hz1 f y (by omega) h1))

omit hX hW hC hD hz0 hz1 in
theorem vc_tv5 (p : Fin 8) (x : Fin 256) : k0_pay88 (F := Ideal) (runC.sl.r_36 (F := Ideal) c i arg8 harg8 arg16 harg16 x7 z3) (ix2 p x) = (runC.sl.r_36 (F := Ideal) c i arg8 harg8 arg16 harg16 x7 z3) (ix2 ⟨248 + p.val, by omega⟩ x) := by
  pointwise [k0_pay88]

theorem vc_mv5 (f : arg14.view.ty.Contents (Elt Ideal)) (y : S11x264x256.Idx) (h0 : (y 0).val ≤ 5) (h1 : (y 1).val < 8) : arg14.view.read (Elt Ideal) (arg14.view.writes (Elt Ideal) f (runC.sl.G1_13 (F := Ideal) c i arg8 harg8 arg16 harg16 x7 z3).tail) y = up X W ⟨248 + (y 1).val, by omega⟩ (2816 + (256 * (y 0).val + (y 2).val)) := by
  by_cases h : (y 0).val = 5
  · exact (hit8 arg14.view _ _ _ y (⟨(y 1).val, h1⟩ : Fin 8) (y 2 : Fin 256) h (Nat.zero_add _).symm rfl).trans ((vc_tv5 _ _).trans ((vc_uv5 hX hW hC hD hz0 hz1 _ _).trans (congrArg (up X W _) (by show _ = _; omega))))
  · exact (missc8 arg14.view _ _ _ y h).trans ((missr256 arg14.view _ _ _ y (by omega)).trans (vc_mv4 hX hW hC hD hz0 hz1 f y (by omega) h1))

omit hX hW hC hD hz0 hz1 in
theorem vc_tv6 (p : Fin 8) (x : Fin 256) : k0_pay96 (F := Ideal) (runC.sl.r_45 (F := Ideal) c i arg8 harg8 arg16 harg16 x7 z3) (ix2 p x) = (runC.sl.r_45 (F := Ideal) c i arg8 harg8 arg16 harg16 x7 z3) (ix2 ⟨248 + p.val, by omega⟩ x) := by
  pointwise [k0_pay96]

theorem vc_mv6 (f : arg14.view.ty.Contents (Elt Ideal)) (y : S11x264x256.Idx) (h0 : (y 0).val ≤ 6) (h1 : (y 1).val < 8) : arg14.view.read (Elt Ideal) (arg14.view.writes (Elt Ideal) f (runC.sl.G1_15 (F := Ideal) c i arg8 harg8 arg16 harg16 x7 z3).tail) y = up X W ⟨248 + (y 1).val, by omega⟩ (2816 + (256 * (y 0).val + (y 2).val)) := by
  by_cases h : (y 0).val = 6
  · exact (hit8 arg14.view _ _ _ y (⟨(y 1).val, h1⟩ : Fin 8) (y 2 : Fin 256) h (Nat.zero_add _).symm rfl).trans ((vc_tv6 _ _).trans ((vc_uv6 hX hW hC hD hz0 hz1 _ _).trans (congrArg (up X W _) (by show _ = _; omega))))
  · exact (missc8 arg14.view _ _ _ y h).trans ((missr256 arg14.view _ _ _ y (by omega)).trans (vc_mv5 hX hW hC hD hz0 hz1 f y (by omega) h1))

omit hX hW hC hD hz0 hz1 in
theorem vc_tv7 (p : Fin 8) (x : Fin 256) : k0_pay107 (F := Ideal) (runC.sl.r_49 (F := Ideal) c i arg8 harg8 arg16 harg16 x7 z3) (ix2 p x) = (runC.sl.r_49 (F := Ideal) c i arg8 harg8 arg16 harg16 x7 z3) (ix2 ⟨248 + p.val, by omega⟩ x) := by
  pointwise [k0_pay107]

theorem vc_mv7 (f : arg14.view.ty.Contents (Elt Ideal)) (y : S11x264x256.Idx) (h0 : (y 0).val ≤ 7) (h1 : (y 1).val < 8) : arg14.view.read (Elt Ideal) (arg14.view.writes (Elt Ideal) f (runC.sl.G1_17 (F := Ideal) c i arg8 harg8 arg16 harg16 x7 z3).tail) y = up X W ⟨248 + (y 1).val, by omega⟩ (2816 + (256 * (y 0).val + (y 2).val)) := by
  by_cases h : (y 0).val = 7
  · exact (hit8 arg14.view _ _ _ y (⟨(y 1).val, h1⟩ : Fin 8) (y 2 : Fin 256) h (Nat.zero_add _).symm rfl).trans ((vc_tv7 _ _).trans ((vc_uv7 hX hW hC hD hz0 hz1 _ _).trans (congrArg (up X W _) (by show _ = _; omega))))
  · exact (missc8 arg14.view _ _ _ y h).trans ((missr256 arg14.view _ _ _ y (by omega)).trans (vc_mv6 hX hW hC hD hz0 hz1 f y (by omega) h1))

omit hX hW hC hD hz0 hz1 in
theorem vc_tv8 (p : Fin 8) (x : Fin 256) : k0_pay117 (F := Ideal) (runC.sl.r_54 (F := Ideal) c i arg8 harg8 arg16 harg16 x7 z3) (ix2 p x) = (runC.sl.r_54 (F := Ideal) c i arg8 harg8 arg16 harg16 x7 z3) (ix2 ⟨248 + p.val, by omega⟩ x) := by
  pointwise [k0_pay117]

theorem vc_mv8 (f : arg14.view.ty.Contents (Elt Ideal)) (y : S11x264x256.Idx) (h0 : (y 0).val ≤ 8) (h1 : (y 1).val < 8) : arg14.view.read (Elt Ideal) (arg14.view.writes (Elt Ideal) f (runC.sl.G1_19 (F := Ideal) c i arg8 harg8 arg16 harg16 x7 z3).tail) y = up X W ⟨248 + (y 1).val, by omega⟩ (2816 + (256 * (y 0).val + (y 2).val)) := by
  by_cases h : (y 0).val = 8
  · exact (hit8 arg14.view _ _ _ y (⟨(y 1).val, h1⟩ : Fin 8) (y 2 : Fin 256) h (Nat.zero_add _).symm rfl).trans ((vc_tv8 _ _).trans ((vc_uv8 hX hW hC hD hz0 hz1 _ _).trans (congrArg (up X W _) (by show _ = _; omega))))
  · exact (missc8 arg14.view _ _ _ y h).trans ((missr256 arg14.view _ _ _ y (by omega)).trans (vc_mv7 hX hW hC hD hz0 hz1 f y (by omega) h1))

omit hX hW hC hD hz0 hz1 in
theorem vc_tv9 (p : Fin 8) (x : Fin 256) : k0_pay123 (F := Ideal) (runC.sl.r_59 (F := Ideal) c i arg8 harg8 arg16 harg16 x7 z3) (ix2 p x) = (runC.sl.r_59 (F := Ideal) c i arg8 harg8 arg16 harg16 x7 z3) (ix2 ⟨248 + p.val, by omega⟩ x) := by
  pointwise [k0_pay123]

theorem vc_mv9 (f : arg14.view.ty.Contents (Elt Ideal)) (y : S11x264x256.Idx) (h0 : (y 0).val ≤ 9) (h1 : (y 1).val < 8) : arg14.view.read (Elt Ideal) (arg14.view.writes (Elt Ideal) f (runC.sl.G1_21 (F := Ideal) c i arg8 harg8 arg16 harg16 x7 z3).tail) y = up X W ⟨248 + (y 1).val, by omega⟩ (2816 + (256 * (y 0).val + (y 2).val)) := by
  by_cases h : (y 0).val = 9
  · exact (hit8 arg14.view _ _ _ y (⟨(y 1).val, h1⟩ : Fin 8) (y 2 : Fin 256) h (Nat.zero_add _).symm rfl).trans ((vc_tv9 _ _).trans ((vc_uv9 hX hW hC hD hz0 hz1 _ _).trans (congrArg (up X W _) (by show _ = _; omega))))
  · exact (missc8 arg14.view _ _ _ y h).trans ((missr256 arg14.view _ _ _ y (by omega)).trans (vc_mv8 hX hW hC hD hz0 hz1 f y (by omega) h1))

omit hX hW hC hD hz0 hz1 in
theorem vc_tv10 (p : Fin 8) (x : Fin 256) : k0_pay133 (F := Ideal) (runC.sl.r_76 (F := Ideal) c i arg8 harg8 arg16 harg16 x7 z3) (ix2 p x) = (runC.sl.r_64 (F := Ideal) c i arg8 harg8 arg16 harg16 x7 z3) (ix2 ⟨248 + p.val, by omega⟩ x) := by
  pointwise [k0_pay133, runC.sl.r_76, k0_pay132]

theorem vc_mv10 (f : arg14.view.ty.Contents (Elt Ideal)) (y : S11x264x256.Idx) (h0 : (y 0).val ≤ 10) (h1 : (y 1).val < 8) : arg14.view.read (Elt Ideal) (arg14.view.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.2.1) y = up X W ⟨248 + (y 1).val, by omega⟩ (2816 + (256 * (y 0).val + (y 2).val)) := by
  by_cases h : (y 0).val = 10
  · exact (hit8 arg14.view _ _ _ y (⟨(y 1).val, h1⟩ : Fin 8) (y 2 : Fin 256) h (Nat.zero_add _).symm rfl).trans ((vc_tv10 _ _).trans ((vc_uv10 hX hW hC hD hz0 hz1 _ _).trans (congrArg (up X W _) (by show _ = _; omega))))
  · exact (missc8 arg14.view _ _ _ y h).trans ((missr256 arg14.view _ _ _ y (by omega)).trans (vc_mv9 hX hW hC hD hz0 hz1 f y (by omega) h1))

omit hX hW hC hD hz0 hz1 in
theorem vc_out (v : View sig .tc .vmem S1x256x1024 .f32) (f : v.ty.Contents (Elt Ideal)) (r : Fin 256) (e : Fin 1024) : v.read (Elt Ideal) (v.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).1) (ix3 (0 : Fin 1) r e)
    = nrm (fun x => (runC.sl.v866 (F := Ideal) c i arg8 harg8 arg9 harg9 arg10 harg10 arg12 arg13 harg13 arg14 harg14 arg15 harg15 arg16 harg16 x7 x8 x9 z0 z1 z2 z3) (ix3 (0 : Fin 1) r x)) (fun x => x10 (ix2 (0 : Fin 1) x)) e := by
  have h : View.readAt (Elt Ideal) arg11.view (Rect.unit (s := S1x1024) ![0, 0] S1x1024.size inb_S1x1024_S1x1024_0_0).toLoadRect (harg11.unread x10) = x10 := winAll arg11 harg11 x10 (by decide) _
  refine (covw v f (by decide) _ _ _ _).trans ((fin_at (runC.sl.v866 (F := Ideal) c i arg8 harg8 arg9 harg9 arg10 harg10 arg12 arg13 harg13 arg14 harg14 arg15 harg15 arg16 harg16 x7 x8 x9 z0 z1 z2 z3) (View.readAt (Elt Ideal) arg11.view (Rect.unit (s := S1x1024) ![0, 0] S1x1024.size inb_S1x1024_S1x1024_0_0).toLoadRect (harg11.unread x10)) r e).trans ?_)
  rw [h]

omit hX hW hC hD hz0 hz1 in
theorem vc_acc {z : S2x256x1024.Idx → Elt Ideal .f32} (hz : z2 = z) (s : Fin 2) (hoff : k0_off1 i = ![s.val, 0, 0]) (r : Fin 256) (k : Fin 1024) : (runC.sl.v315 (F := Ideal) c i arg12 arg15 harg15 z2) (ix3 (0 : Fin 1) r k) = z (ix3 s r k) := by
  subst hz
  exact (congrFun (covr arg12.view (by decide) (by decide) _ _ _ _) _).trans ((pay28_at _ r k).trans (slotr arg15 harg15 z2 s hoff _ r k))

omit hX hW hC hD hz0 hz1 in
theorem vc_xn {z : S2x256x1024.Idx → Elt Ideal .bf16} (hz : z3 = z) (s : Fin 2) (hoff : k0_off1 i = ![s.val, 0, 0]) (r : Fin 256) (k : Fin 1024) : (runC.sl.r (F := Ideal) c i arg16 harg16 z3) (ix2 r k) = z (ix3 s r k) := by
  subst hz
  exact (pay27_at _ r k).trans (slotr arg16 harg16 z3 s hoff _ r k)

omit hX hW hC hD hz0 hz1 in
theorem vc_hn (r : Fin 256) (k : Fin 1024) : (runC.sl.r_70 (F := Ideal) c arg1 harg1 arg2 harg2 arg3 harg3 arg4 harg4 arg5 harg5 arg6 harg6 arg17 x0 x1 x2 x3 x4 x5) (ix2 r k) = hn x0 x1 x2 x3 x4 x5 r k :=
  hn_of rfl (covr arg17.view (by decide) (by decide) _ _ _ _) (winAll _ _ _ (by decide) _) (winAll _ _ _ (by decide) _) (winAll _ _ _ (by decide) _) (winAll _ _ _ (by decide) _) (winAll _ _ _ (by decide) _) (winAll _ _ _ (by decide) _) r k

omit hX hW hC hD hz0 hz1 in
theorem vc_st2 (v : View sig .tc .vmem S2x256x1024 .f32) (f : v.ty.Contents (Elt Ideal)) (s : Fin 2) (hoff : k0_off2 i = ![s.val, 0, 0]) (r : Fin 256) (k : Fin 1024) : v.read (Elt Ideal) (v.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.2.2.1) (ix3 s r k) = hn x0 x1 x2 x3 x4 x5 r k :=
  (slotw v f s hoff _ (k0_pay126 (runC.sl.r_70 (F := Ideal) c arg1 harg1 arg2 harg2 arg3 harg3 arg4 harg4 arg5 harg5 arg6 harg6 arg17 x0 x1 x2 x3 x4 x5)) _ r k).trans ((pay126_at _ r k).trans (vc_hn r k))

omit hX hW hC hD hz0 hz1 in
theorem vc_st3 (v : View sig .tc .vmem S2x256x1024 .bf16) (f : v.ty.Contents (Elt Ideal)) (s : Fin 2) (hoff : k0_off2 i = ![s.val, 0, 0]) (r : Fin 256) (k : Fin 1024) : v.read (Elt Ideal) (v.writes (Elt Ideal) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 x0 x1 x2 x3 x4 x5 x6 x7 x8 x9 x10 z0 z1 z2 z3).2.2.2.2.1) (ix3 s r k) = nrm (hn x0 x1 x2 x3 x4 x5 r) (fun x => x6 (ix2 (0 : Fin 1) x)) k := by
  have h : View.readAt (Elt Ideal) arg7.view (Rect.unit (s := S1x1024) ![0, 0] S1x1024.size inb_S1x1024_S1x1024_0_0).toLoadRect (harg7.unread x6) = x6 := winAll arg7 harg7 x6 (by decide) _
  refine (slotw v f s hoff _ (k0_pay127 (runC.sl.r_70 (F := Ideal) c arg1 harg1 arg2 harg2 arg3 harg3 arg4 harg4 arg5 harg5 arg6 harg6 arg17 x0 x1 x2 x3 x4 x5) (View.readAt (Elt Ideal) arg7.view (Rect.unit (s := S1x1024) ![0, 0] S1x1024.size inb_S1x1024_S1x1024_0_0).toLoadRect (harg7.unread x6))) _ r k).trans ((pay127_at _ _ r k).trans ?_)
  rw [h]
  simp only [vc_hn]

end Cert.Kernel3Ideal.Ffn

end
-- ==== Proof.Ffn.Step.lean ====
/- What each point of the feed-forward's grid leaves, by the formula. -/
module

public import proofs.«01_k».proof.Proof.Ffn.Blk
public import proofs.«01_k».proof.Proof.Ffn.VA
public import proofs.«01_k».proof.Proof.Ffn.VB
public import proofs.«01_k».proof.Proof.Ffn.VC

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The two slots hold a tile's residual and its normalisation. -/
def slots (n : ℕ) (s : Fin 2) (z : St Ideal) : Prop :=
  (∀ r k, z.2.2.1 (ix3 s r k) = tH (inpm m c) n r k) ∧ ∀ r k, z.2.2.2 (ix3 s r k) = tX (inpm m c) n r k

/-- The first rows of each chunk's buffer hold the last rows of a tile's projection. -/
def rows (n : ℕ) (z : St Ideal) : Prop :=
  (∀ (y : S11x264x256.Idx) (h : (y 1).val < 8), z.1 y = up (tX (inpm m c) n) (inpm m c).wup ⟨248 + (y 1).val, by omega⟩ (256 * (y 0).val + (y 2).val))
    ∧ ∀ (y : S11x264x256.Idx) (h : (y 1).val < 8), z.2.1 y = up (tX (inpm m c) n) (inpm m c).wup ⟨248 + (y 1).val, by omega⟩ (2816 + (256 * (y 0).val + (y 2).val))

theorem slotsA (t : Fin cfg0.N) (h : t.val = 0) : slots m c (tl t) ⟨t.val % 2, by omega⟩ (outA m c t h).2 := by
  unfold slots outA
  dsimp only
  constructor
  · intro r k
    exact (va_st2 sc2.view _ ⟨t.val % 2, by omega⟩ (show (![0, 0, 0] : Fin 3 → ℕ) = ![t.val % 2, 0, 0] by rw [h]) r k).trans (hn_tile m c t r k)
  · intro r k
    refine (va_st3 sc3.view _ ⟨t.val % 2, by omega⟩ (show (![0, 0, 0] : Fin 3 → ℕ) = ![t.val % 2, 0, 0] by rw [h]) r k).trans ?_
    have e1 : hn (iblk m c 0 t) (iblk m c 1 t) (iblk m c 2 t) (iblk m c 3 t) (iblk m c 4 t) (iblk m c 5 t) r = tH (inpm m c) (tl t) r := funext fun k => hn_tile m c t r k
    have e2 : (fun x : Fin 1024 => iblk m c 6 t (ix2 (0 : Fin 1) x)) = (inpm m c).g2 := funext fun x => blk6 m c t x
    exact congrArg₂ (fun u g => nrm u g k) e1 e2

theorem slotsB (t : Fin cfg0.N) (h : ¬ t.val = 0) (h' : t.val % 8 = 1) (z : St Ideal) : slots m c (tl t) ⟨t.val % 2, by omega⟩ (outB m c t h h' z).2 := by
  unfold slots outB
  dsimp only
  constructor
  · intro r k
    exact (vb_st2 sc2.view _ ⟨t.val % 2, by omega⟩ (off2_eq t) r k).trans (hn_tile m c t r k)
  · intro r k
    refine (vb_st3 sc3.view _ ⟨t.val % 2, by omega⟩ (off2_eq t) r k).trans ?_
    have e1 : hn (iblk m c 0 t) (iblk m c 1 t) (iblk m c 2 t) (iblk m c 3 t) (iblk m c 4 t) (iblk m c 5 t) r = tH (inpm m c) (tl t) r := funext fun k => hn_tile m c t r k
    have e2 : (fun x : Fin 1024 => iblk m c 6 t (ix2 (0 : Fin 1) x)) = (inpm m c).g2 := funext fun x => blk6 m c t x
    exact congrArg₂ (fun u g => nrm u g k) e1 e2

theorem stepB (t : Fin cfg0.N) (h : ¬ t.val = 0) (h' : t.val % 8 = 1) (z : St Ideal) (hs : slots m c (t.val - 1) ⟨(t.val + 1) % 2, by omega⟩ z) :
    rows m c (t.val - 1) (outB m c t h h' z).2 ∧ ∀ (r : Fin 256) (e : Fin 1024), (outB m c t h h' z).1 (ix3 (0 : Fin 1) r e) = gF (inpm m c) (tb (t.val - 1)) (ts (t.val - 1) r) e := by
  have hX : ∀ (r : Fin 256) (k : Fin 1024), (runB.sl.r (F := Ideal) c (grid0.coords t) sc3 (Memref.isWhole_whole cc0_scratch3 : sc3.IsWhole) z.2.2.2) (ix2 r k) = tX (inpm m c) (t.val - 1) r k := fun r k =>
    (vb_xn rfl ⟨(t.val + 1) % 2, by omega⟩ (off1_eq t) r k).trans (hs.2 r k)
  have hH : ∀ (r : Fin 256) (k : Fin 1024), (runB.sl.v315 (F := Ideal) c (grid0.coords t) (ms11 t) sc2 (Memref.isWhole_whole cc0_scratch2 : sc2.IsWhole) z.2.2.1) (ix3 (0 : Fin 1) r k) = tH (inpm m c) (t.val - 1) r k := fun r k =>
    (vb_acc rfl ⟨(t.val + 1) % 2, by omega⟩ (off1_eq t) r k).trans (hs.1 r k)
  have hW := blk7 m c t
  have hC := blk8 m c t
  have hD := blk9 m c t
  have hh : tHist (inpm m c) (t.val - 1) = noHist := tHist_first _ _ (by omega)
  unfold rows outB
  dsimp only
  refine ⟨⟨fun y h1 => ?_, fun y h1 => ?_⟩, fun r e => ?_⟩
  · refine Eq.trans (vb_mg10 (c := c) (i := (grid0.coords t)) (arg1 := (ms0 t)) (harg1 := (hs0 t)) (arg2 := (ms1 t)) (harg2 := (hs1 t)) (arg3 := (ms2 t)) (harg3 := (hs2 t)) (arg4 := (ms3 t)) (harg4 := (hs3 t)) (arg5 := (ms4 t)) (harg5 := (hs4 t)) (arg6 := (ms5 t)) (harg6 := (hs5 t)) (arg7 := (ms6 t)) (harg7 := (hs6 t)) (arg8 := (ms7 t)) (harg8 := (hs7 t)) (arg9 := (ms8 t)) (harg9 := (hs8 t)) (arg10 := (ms9 t)) (harg10 := (hs9 t)) (arg11 := (ms10 t)) (harg11 := (hs10 t)) (arg12 := (ms11 t)) (harg12 := (hs11 t)) (arg13 := sc0) (harg13 := (Memref.isWhole_whole cc0_scratch0 : sc0.IsWhole)) (arg14 := sc1) (harg14 := (Memref.isWhole_whole cc0_scratch1 : sc1.IsWhole)) (arg15 := sc2) (harg15 := (Memref.isWhole_whole cc0_scratch2 : sc2.IsWhole)) (arg16 := sc3) (harg16 := (Memref.isWhole_whole cc0_scratch3 : sc3.IsWhole)) (arg17 := sc4) (harg17 := (Memref.isWhole_whole cc0_scratch4 : sc4.IsWhole)) (x0 := (iblk m c 0 t)) (x1 := (iblk m c 1 t)) (x2 := (iblk m c 2 t)) (x3 := (iblk m c 3 t)) (x4 := (iblk m c 4 t)) (x5 := (iblk m c 5 t)) (x6 := (iblk m c 6 t)) (x7 := (iblk m c 7 t)) (x8 := (iblk m c 8 t)) (x9 := (iblk m c 9 t)) (x10 := (iblk m c 10 t)) (z0 := z.1) (z1 := z.2.1) (z2 := z.2.2.1) (z3 := z.2.2.2) (X := tX (inpm m c) (t.val - 1)) (W := (inpm m c).wup) (Cw := (inpm m c).cw) (D := (inpm m c).wdn) hX hW hC hD _ y (by have := (y 0).isLt; change (y 0).val < 11 at this; omega) h1) ?_
    rw [Nat.zero_add]
  · exact vb_mv10 (c := c) (i := (grid0.coords t)) (arg1 := (ms0 t)) (harg1 := (hs0 t)) (arg2 := (ms1 t)) (harg2 := (hs1 t)) (arg3 := (ms2 t)) (harg3 := (hs2 t)) (arg4 := (ms3 t)) (harg4 := (hs3 t)) (arg5 := (ms4 t)) (harg5 := (hs4 t)) (arg6 := (ms5 t)) (harg6 := (hs5 t)) (arg7 := (ms6 t)) (harg7 := (hs6 t)) (arg8 := (ms7 t)) (harg8 := (hs7 t)) (arg9 := (ms8 t)) (harg9 := (hs8 t)) (arg10 := (ms9 t)) (harg10 := (hs9 t)) (arg11 := (ms10 t)) (harg11 := (hs10 t)) (arg12 := (ms11 t)) (harg12 := (hs11 t)) (arg13 := sc0) (harg13 := (Memref.isWhole_whole cc0_scratch0 : sc0.IsWhole)) (arg14 := sc1) (harg14 := (Memref.isWhole_whole cc0_scratch1 : sc1.IsWhole)) (arg15 := sc2) (harg15 := (Memref.isWhole_whole cc0_scratch2 : sc2.IsWhole)) (arg16 := sc3) (harg16 := (Memref.isWhole_whole cc0_scratch3 : sc3.IsWhole)) (arg17 := sc4) (harg17 := (Memref.isWhole_whole cc0_scratch4 : sc4.IsWhole)) (x0 := (iblk m c 0 t)) (x1 := (iblk m c 1 t)) (x2 := (iblk m c 2 t)) (x3 := (iblk m c 3 t)) (x4 := (iblk m c 4 t)) (x5 := (iblk m c 5 t)) (x6 := (iblk m c 6 t)) (x7 := (iblk m c 7 t)) (x8 := (iblk m c 8 t)) (x9 := (iblk m c 9 t)) (x10 := (iblk m c 10 t)) (z0 := z.1) (z1 := z.2.1) (z2 := z.2.2.1) (z3 := z.2.2.2) (X := tX (inpm m c) (t.val - 1)) (W := (inpm m c).wup) (Cw := (inpm m c).cw) (D := (inpm m c).wdn) hX hW hC hD _ y (by have := (y 0).isLt; change (y 0).val < 11 at this; omega) h1
  · refine (vb_out (c := c) (i := (grid0.coords t)) (arg1 := (ms0 t)) (harg1 := (hs0 t)) (arg2 := (ms1 t)) (harg2 := (hs1 t)) (arg3 := (ms2 t)) (harg3 := (hs2 t)) (arg4 := (ms3 t)) (harg4 := (hs3 t)) (arg5 := (ms4 t)) (harg5 := (hs4 t)) (arg6 := (ms5 t)) (harg6 := (hs5 t)) (arg7 := (ms6 t)) (harg7 := (hs6 t)) (arg8 := (ms7 t)) (harg8 := (hs7 t)) (arg9 := (ms8 t)) (harg9 := (hs8 t)) (arg10 := (ms9 t)) (harg10 := (hs9 t)) (arg11 := (ms10 t)) (harg11 := (hs10 t)) (arg12 := (ms11 t)) (harg12 := (hs11 t)) (arg13 := sc0) (harg13 := (Memref.isWhole_whole cc0_scratch0 : sc0.IsWhole)) (arg14 := sc1) (harg14 := (Memref.isWhole_whole cc0_scratch1 : sc1.IsWhole)) (arg15 := sc2) (harg15 := (Memref.isWhole_whole cc0_scratch2 : sc2.IsWhole)) (arg16 := sc3) (harg16 := (Memref.isWhole_whole cc0_scratch3 : sc3.IsWhole)) (arg17 := sc4) (harg17 := (Memref.isWhole_whole cc0_scratch4 : sc4.IsWhole)) (x0 := (iblk m c 0 t)) (x1 := (iblk m c 1 t)) (x2 := (iblk m c 2 t)) (x3 := (iblk m c 3 t)) (x4 := (iblk m c 4 t)) (x5 := (iblk m c 5 t)) (x6 := (iblk m c 6 t)) (x7 := (iblk m c 7 t)) (x8 := (iblk m c 8 t)) (x9 := (iblk m c 9 t)) (x10 := (iblk m c 10 t)) (z0 := z.1) (z1 := z.2.1) (z2 := z.2.2.1) (z3 := z.2.2.2) VO VO.junk r e).trans ?_
    have e1 : (fun x : Fin 1024 => (runB.sl.v866 (F := Ideal) c (grid0.coords t) (ms7 t) (hs7 t) (ms8 t) (hs8 t) (ms9 t) (hs9 t) (ms11 t) sc0 sc1 sc2 (Memref.isWhole_whole cc0_scratch2 : sc2.IsWhole) sc3 (Memref.isWhole_whole cc0_scratch3 : sc3.IsWhole) (iblk m c 7 t) (iblk m c 8 t) (iblk m c 9 t) z.2.2.1 z.2.2.2) (ix3 (0 : Fin 1) r x)) = gO (inpm m c) (tb (t.val - 1)) (ts (t.val - 1) r) := funext fun x =>
      (vb_o3 hX hW hC hD hH r x).trans (by rw [← hh]; exact out_tile (inpm m c) (t.val - 1) r x)
    have e2 : (fun x : Fin 1024 => iblk m c 10 t (ix2 (0 : Fin 1) x)) = (inpm m c).gf := funext fun x => blk10 m c t x
    exact congrArg₂ (fun u g => nrm u g e) e1 e2

theorem slotsC (t : Fin cfg0.N) (h : ¬ t.val = 0) (h' : ¬ t.val % 8 = 1) (z : St Ideal) : slots m c (tl t) ⟨t.val % 2, by omega⟩ (outC m c t h h' z).2 := by
  unfold slots outC
  dsimp only
  constructor
  · intro r k
    exact (vc_st2 sc2.view _ ⟨t.val % 2, by omega⟩ (off2_eq t) r k).trans (hn_tile m c t r k)
  · intro r k
    refine (vc_st3 sc3.view _ ⟨t.val % 2, by omega⟩ (off2_eq t) r k).trans ?_
    have e1 : hn (iblk m c 0 t) (iblk m c 1 t) (iblk m c 2 t) (iblk m c 3 t) (iblk m c 4 t) (iblk m c 5 t) r = tH (inpm m c) (tl t) r := funext fun k => hn_tile m c t r k
    have e2 : (fun x : Fin 1024 => iblk m c 6 t (ix2 (0 : Fin 1) x)) = (inpm m c).g2 := funext fun x => blk6 m c t x
    exact congrArg₂ (fun u g => nrm u g k) e1 e2

theorem stepC (t : Fin cfg0.N) (h : ¬ t.val = 0) (h' : ¬ t.val % 8 = 1) (z : St Ideal) (hs : slots m c (t.val - 1) ⟨(t.val + 1) % 2, by omega⟩ z)
    (hr : (¬ (t.val - 1) % 8 = 0) → rows m c (t.val - 1 - 1) z) :
    rows m c (t.val - 1) (outC m c t h h' z).2 ∧ ∀ (r : Fin 256) (e : Fin 1024), (outC m c t h h' z).1 (ix3 (0 : Fin 1) r e) = gF (inpm m c) (tb (t.val - 1)) (ts (t.val - 1) r) e := by
  have hX : ∀ (r : Fin 256) (k : Fin 1024), (runC.sl.r (F := Ideal) c (grid0.coords t) sc3 (Memref.isWhole_whole cc0_scratch3 : sc3.IsWhole) z.2.2.2) (ix2 r k) = tX (inpm m c) (t.val - 1) r k := fun r k =>
    (vc_xn rfl ⟨(t.val + 1) % 2, by omega⟩ (off1_eq t) r k).trans (hs.2 r k)
  have hH : ∀ (r : Fin 256) (k : Fin 1024), (runC.sl.v315 (F := Ideal) c (grid0.coords t) (ms11 t) sc2 (Memref.isWhole_whole cc0_scratch2 : sc2.IsWhole) z.2.2.1) (ix3 (0 : Fin 1) r k) = tH (inpm m c) (t.val - 1) r k := fun r k =>
    (vc_acc rfl ⟨(t.val + 1) % 2, by omega⟩ (off1_eq t) r k).trans (hs.1 r k)
  have hW := blk7 m c t
  have hC := blk8 m c t
  have hD := blk9 m c t
  have hz0 : ∀ y : S11x264x256.Idx, (y 1).val < 8 → z.1 y = tHist (inpm m c) (t.val - 1) (y 1).val (256 * (y 0).val + (y 2).val) := fun y h1 => by
    have hn8 : ¬ (t.val - 1) % 8 = 0 := by omega
    unfold tHist
    rw [if_neg hn8, dif_pos h1]
    exact (hr hn8).1 y h1
  have hz1 : ∀ y : S11x264x256.Idx, (y 1).val < 8 → z.2.1 y = tHist (inpm m c) (t.val - 1) (y 1).val (2816 + (256 * (y 0).val + (y 2).val)) := fun y h1 => by
    have hn8 : ¬ (t.val - 1) % 8 = 0 := by omega
    unfold tHist
    rw [if_neg hn8, dif_pos h1]
    exact (hr hn8).2 y h1
  unfold rows outC
  dsimp only
  refine ⟨⟨fun y h1 => ?_, fun y h1 => ?_⟩, fun r e => ?_⟩
  · refine Eq.trans (vc_mg10 (c := c) (i := (grid0.coords t)) (arg1 := (ms0 t)) (harg1 := (hs0 t)) (arg2 := (ms1 t)) (harg2 := (hs1 t)) (arg3 := (ms2 t)) (harg3 := (hs2 t)) (arg4 := (ms3 t)) (harg4 := (hs3 t)) (arg5 := (ms4 t)) (harg5 := (hs4 t)) (arg6 := (ms5 t)) (harg6 := (hs5 t)) (arg7 := (ms6 t)) (harg7 := (hs6 t)) (arg8 := (ms7 t)) (harg8 := (hs7 t)) (arg9 := (ms8 t)) (harg9 := (hs8 t)) (arg10 := (ms9 t)) (harg10 := (hs9 t)) (arg11 := (ms10 t)) (harg11 := (hs10 t)) (arg12 := (ms11 t)) (harg12 := (hs11 t)) (arg13 := sc0) (harg13 := (Memref.isWhole_whole cc0_scratch0 : sc0.IsWhole)) (arg14 := sc1) (harg14 := (Memref.isWhole_whole cc0_scratch1 : sc1.IsWhole)) (arg15 := sc2) (harg15 := (Memref.isWhole_whole cc0_scratch2 : sc2.IsWhole)) (arg16 := sc3) (harg16 := (Memref.isWhole_whole cc0_scratch3 : sc3.IsWhole)) (arg17 := sc4) (harg17 := (Memref.isWhole_whole cc0_scratch4 : sc4.IsWhole)) (x0 := (iblk m c 0 t)) (x1 := (iblk m c 1 t)) (x2 := (iblk m c 2 t)) (x3 := (iblk m c 3 t)) (x4 := (iblk m c 4 t)) (x5 := (iblk m c 5 t)) (x6 := (iblk m c 6 t)) (x7 := (iblk m c 7 t)) (x8 := (iblk m c 8 t)) (x9 := (iblk m c 9 t)) (x10 := (iblk m c 10 t)) (z0 := z.1) (z1 := z.2.1) (z2 := z.2.2.1) (z3 := z.2.2.2) (X := tX (inpm m c) (t.val - 1)) (W := (inpm m c).wup) (Cw := (inpm m c).cw) (D := (inpm m c).wdn) (hist := tHist (inpm m c) (t.val - 1)) hX hW hC hD hz0 hz1 _ y (by have := (y 0).isLt; change (y 0).val < 11 at this; omega) h1) ?_
    rw [Nat.zero_add]
  · exact vc_mv10 (c := c) (i := (grid0.coords t)) (arg1 := (ms0 t)) (harg1 := (hs0 t)) (arg2 := (ms1 t)) (harg2 := (hs1 t)) (arg3 := (ms2 t)) (harg3 := (hs2 t)) (arg4 := (ms3 t)) (harg4 := (hs3 t)) (arg5 := (ms4 t)) (harg5 := (hs4 t)) (arg6 := (ms5 t)) (harg6 := (hs5 t)) (arg7 := (ms6 t)) (harg7 := (hs6 t)) (arg8 := (ms7 t)) (harg8 := (hs7 t)) (arg9 := (ms8 t)) (harg9 := (hs8 t)) (arg10 := (ms9 t)) (harg10 := (hs9 t)) (arg11 := (ms10 t)) (harg11 := (hs10 t)) (arg12 := (ms11 t)) (harg12 := (hs11 t)) (arg13 := sc0) (harg13 := (Memref.isWhole_whole cc0_scratch0 : sc0.IsWhole)) (arg14 := sc1) (harg14 := (Memref.isWhole_whole cc0_scratch1 : sc1.IsWhole)) (arg15 := sc2) (harg15 := (Memref.isWhole_whole cc0_scratch2 : sc2.IsWhole)) (arg16 := sc3) (harg16 := (Memref.isWhole_whole cc0_scratch3 : sc3.IsWhole)) (arg17 := sc4) (harg17 := (Memref.isWhole_whole cc0_scratch4 : sc4.IsWhole)) (x0 := (iblk m c 0 t)) (x1 := (iblk m c 1 t)) (x2 := (iblk m c 2 t)) (x3 := (iblk m c 3 t)) (x4 := (iblk m c 4 t)) (x5 := (iblk m c 5 t)) (x6 := (iblk m c 6 t)) (x7 := (iblk m c 7 t)) (x8 := (iblk m c 8 t)) (x9 := (iblk m c 9 t)) (x10 := (iblk m c 10 t)) (z0 := z.1) (z1 := z.2.1) (z2 := z.2.2.1) (z3 := z.2.2.2) (X := tX (inpm m c) (t.val - 1)) (W := (inpm m c).wup) (Cw := (inpm m c).cw) (D := (inpm m c).wdn) (hist := tHist (inpm m c) (t.val - 1)) hX hW hC hD hz0 hz1 _ y (by have := (y 0).isLt; change (y 0).val < 11 at this; omega) h1
  · refine (vc_out (c := c) (i := (grid0.coords t)) (arg1 := (ms0 t)) (harg1 := (hs0 t)) (arg2 := (ms1 t)) (harg2 := (hs1 t)) (arg3 := (ms2 t)) (harg3 := (hs2 t)) (arg4 := (ms3 t)) (harg4 := (hs3 t)) (arg5 := (ms4 t)) (harg5 := (hs4 t)) (arg6 := (ms5 t)) (harg6 := (hs5 t)) (arg7 := (ms6 t)) (harg7 := (hs6 t)) (arg8 := (ms7 t)) (harg8 := (hs7 t)) (arg9 := (ms8 t)) (harg9 := (hs8 t)) (arg10 := (ms9 t)) (harg10 := (hs9 t)) (arg11 := (ms10 t)) (harg11 := (hs10 t)) (arg12 := (ms11 t)) (harg12 := (hs11 t)) (arg13 := sc0) (harg13 := (Memref.isWhole_whole cc0_scratch0 : sc0.IsWhole)) (arg14 := sc1) (harg14 := (Memref.isWhole_whole cc0_scratch1 : sc1.IsWhole)) (arg15 := sc2) (harg15 := (Memref.isWhole_whole cc0_scratch2 : sc2.IsWhole)) (arg16 := sc3) (harg16 := (Memref.isWhole_whole cc0_scratch3 : sc3.IsWhole)) (arg17 := sc4) (harg17 := (Memref.isWhole_whole cc0_scratch4 : sc4.IsWhole)) (x0 := (iblk m c 0 t)) (x1 := (iblk m c 1 t)) (x2 := (iblk m c 2 t)) (x3 := (iblk m c 3 t)) (x4 := (iblk m c 4 t)) (x5 := (iblk m c 5 t)) (x6 := (iblk m c 6 t)) (x7 := (iblk m c 7 t)) (x8 := (iblk m c 8 t)) (x9 := (iblk m c 9 t)) (x10 := (iblk m c 10 t)) (z0 := z.1) (z1 := z.2.1) (z2 := z.2.2.1) (z3 := z.2.2.2) VO VO.junk r e).trans ?_
    have e1 : (fun x : Fin 1024 => (runC.sl.v866 (F := Ideal) c (grid0.coords t) (ms7 t) (hs7 t) (ms8 t) (hs8 t) (ms9 t) (hs9 t) (ms11 t) sc0 (Memref.isWhole_whole cc0_scratch0 : sc0.IsWhole) sc1 (Memref.isWhole_whole cc0_scratch1 : sc1.IsWhole) sc2 (Memref.isWhole_whole cc0_scratch2 : sc2.IsWhole) sc3 (Memref.isWhole_whole cc0_scratch3 : sc3.IsWhole) (iblk m c 7 t) (iblk m c 8 t) (iblk m c 9 t) z.1 z.2.1 z.2.2.1 z.2.2.2) (ix3 (0 : Fin 1) r x)) = gO (inpm m c) (tb (t.val - 1)) (ts (t.val - 1) r) := funext fun x =>
      (vc_o3 hX hW hC hD hz0 hz1 hH r x).trans (out_tile (inpm m c) (t.val - 1) r x)
    have e2 : (fun x : Fin 1024 => iblk m c 10 t (ix2 (0 : Fin 1) x)) = (inpm m c).gf := funext fun x => blk10 m c t x
    exact congrArg₂ (fun u g => nrm u g e) e1 e2

end Cert.Kernel3Ideal.Ffn

end
-- ==== Proof.Ffn.Ref.lean ====
/- The feed-forward's reference, at an index. -/
module

public import proofs.«01_k».proof.Proof.Gen.Reference3Ideal.Run
public import proofs.«01_k».proof.Proof.Ffn.Blk
public import Idealize.ShloMosaic.Lib.IdealHost

@[expose] public section

set_option maxRecDepth 16384

noncomputable section

namespace Cert.Proof.FfnRef

open Cert.Reference3Ideal Cert.Reference3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Ffn (Inp inp gH gX gU gS gC gA gO gF nrm)

/-- The reference's residual. -/
def rH (x : FVec Ideal S8x2048x1024 .f32) (att : FVec Ideal S8x2048x512 .bf16) (ga mc : FVec Ideal S8x2048x1024 .f32) (wao : FVec Ideal S1x512x1024 .f32) (wo : FVec Ideal S1x1024x1024 .f32) : FVec Ideal S8x2048x1024 .f32 :=
  (addf x (Host.dotGeneral dot_S8x2048x1024_S1024x1024_S8x2048x1024_2_0_01_1_n_n none (addf (mulf ga (Host.dotGeneral dot_S8x2048x512_S512x1024_S8x2048x1024_2_0_01_1_n_n none (extf .f32 att bitsLt_bf16_f32) (shapeCast _ wao shapeCasts_S1x512x1024_S512x1024))) mc) (shapeCast _ wo shapeCasts_S1x1024x1024_S1024x1024)))

/-- Its normalisation. -/
def rX (x : FVec Ideal S8x2048x1024 .f32) (att : FVec Ideal S8x2048x512 .bf16) (ga mc : FVec Ideal S8x2048x1024 .f32) (wao : FVec Ideal S1x512x1024 .f32) (wo : FVec Ideal S1x1024x1024 .f32) (g2 : FVec Ideal S1x1024 .f32) : FVec Ideal S8x2048x1024 .f32 :=
  (mulf (mulf (rH x att ga mc wao wo) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (rH x att ga mc wao wo) (rH x att ga mc wao wo)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g2 shapeCasts_S1x1024_S1024))))

/-- Its up projection, two zero rows first. -/
def rPad (x : FVec Ideal S8x2048x1024 .f32) (att : FVec Ideal S8x2048x512 .bf16) (ga mc : FVec Ideal S8x2048x1024 .f32) (wao : FVec Ideal S1x512x1024 .f32) (wo : FVec Ideal S1x1024x1024 .f32) (g2 : FVec Ideal S1x1024 .f32) (wup : FVec Ideal S1x1024x5632 .f32) : FVec Ideal S8x2050x5632 .f32 :=
  (pad S8x2050x5632 ![0, 2, 0] ![0, 0, 0] ![0, 0, 0] (Host.dotGeneral dot_S8x2048x1024_S1024x5632_S8x2048x5632_2_0_01_1_n_n none (rX x att ga mc wao wo g2) (shapeCast _ wup shapeCasts_S1x1024x5632_S1024x5632)) (sitofp .f32 (constantI S_ 32 0#32)) pads_S8x2048x5632_S8x2050x5632_000_200_000 h_S_)

/-- Its convolution. -/
def rCv (x : FVec Ideal S8x2048x1024 .f32) (att : FVec Ideal S8x2048x512 .bf16) (ga mc : FVec Ideal S8x2048x1024 .f32) (wao : FVec Ideal S1x512x1024 .f32) (wo : FVec Ideal S1x1024x1024 .f32) (g2 : FVec Ideal S1x1024 .f32) (wup : FVec Ideal S1x1024x5632 .f32) (cw : FVec Ideal S1x3x5632 .f32) : FVec Ideal S8x2048x5632 .f32 :=
  (addf (addf (mulf (extractStridedSlice S8x2048x5632 ![0, 0, 0] (rPad x att ga mc wao wo g2 wup) slices_S8x2050x5632_S8x2048x5632_0_0_0) (broadcastInDim S8x2048x5632 ![0, 1, 2] bcast_S1x1x5632_S8x2048x5632_0_1_2 (broadcastInDim S1x1x5632 ![2] bcast_S5632_S1x1x5632_2 (shapeCast _ (extractStridedSlice S1x5632 ![0, 0] (shapeCast _ cw shapeCasts_S1x3x5632_S3x5632) slices_S3x5632_S1x5632_0_0) shapeCasts_S1x5632_S5632)))) (mulf (extractStridedSlice S8x2048x5632 ![0, 1, 0] (rPad x att ga mc wao wo g2 wup) slices_S8x2050x5632_S8x2048x5632_0_1_0) (broadcastInDim S8x2048x5632 ![0, 1, 2] bcast_S1x1x5632_S8x2048x5632_0_1_2 (broadcastInDim S1x1x5632 ![2] bcast_S5632_S1x1x5632_2 (shapeCast _ (extractStridedSlice S1x5632 ![1, 0] (shapeCast _ cw shapeCasts_S1x3x5632_S3x5632) slices_S3x5632_S1x5632_1_0) shapeCasts_S1x5632_S5632))))) (mulf (extractStridedSlice S8x2048x5632 ![0, 2, 0] (rPad x att ga mc wao wo g2 wup) slices_S8x2050x5632_S8x2048x5632_0_2_0) (broadcastInDim S8x2048x5632 ![0, 1, 2] bcast_S1x1x5632_S8x2048x5632_0_1_2 (broadcastInDim S1x1x5632 ![2] bcast_S5632_S1x1x5632_2 (shapeCast _ (extractStridedSlice S1x5632 ![2, 0] (shapeCast _ cw shapeCasts_S1x3x5632_S3x5632) slices_S3x5632_S1x5632_2_0) shapeCasts_S1x5632_S5632)))))

/-- Its residual after the feed-forward. -/
def rO (x : FVec Ideal S8x2048x1024 .f32) (att : FVec Ideal S8x2048x512 .bf16) (ga mc : FVec Ideal S8x2048x1024 .f32) (wao : FVec Ideal S1x512x1024 .f32) (wo : FVec Ideal S1x1024x1024 .f32) (g2 : FVec Ideal S1x1024 .f32) (wup : FVec Ideal S1x1024x5632 .f32) (cw : FVec Ideal S1x3x5632 .f32) (wdn : FVec Ideal S1x2816x1024 .f32) : FVec Ideal S8x2048x1024 .f32 :=
  (addf (rH x att ga mc wao wo) (Host.dotGeneral dot_S8x2048x2816_S2816x1024_S8x2048x1024_2_0_01_1_n_n none (mulf (mulf (extractStridedSlice S8x2048x2816 ![0, 0, 0] (rCv x att ga mc wao wo g2 wup cw) slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] (rCv x att ga mc wao wo g2 wup cw) slices_S8x2048x5632_S8x2048x2816_0_0_0)))))) (extractStridedSlice S8x2048x2816 ![0, 0, 2816] (rCv x att ga mc wao wo g2 wup cw) slices_S8x2048x5632_S8x2048x2816_0_0_2816)) (shapeCast _ wdn shapeCasts_S1x2816x1024_S2816x1024)))

/-- Its result. -/
def rF (x : FVec Ideal S8x2048x1024 .f32) (att : FVec Ideal S8x2048x512 .bf16) (ga mc : FVec Ideal S8x2048x1024 .f32) (wao : FVec Ideal S1x512x1024 .f32) (wo : FVec Ideal S1x1024x1024 .f32) (g2 : FVec Ideal S1x1024 .f32) (wup : FVec Ideal S1x1024x5632 .f32) (cw : FVec Ideal S1x3x5632 .f32) (wdn : FVec Ideal S1x2816x1024 .f32) (gf : FVec Ideal S1024 .f32) : FVec Ideal S8x2048x1024 .f32 :=
  mulf (mulf (rO x att ga mc wao wo g2 wup cw wdn) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (rO x att ga mc wao wo g2 wup cw wdn) (rO x att ga mc wao wo g2 wup cw wdn)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 gf))

variable {x : FVec Ideal S8x2048x1024 .f32} {att : FVec Ideal S8x2048x512 .bf16} {ga mc : FVec Ideal S8x2048x1024 .f32} {wao : FVec Ideal S1x512x1024 .f32} {wo : FVec Ideal S1x1024x1024 .f32} {g2 : FVec Ideal S1x1024 .f32} {wup : FVec Ideal S1x1024x5632 .f32} {cw : FVec Ideal S1x3x5632 .f32} {wdn : FVec Ideal S1x2816x1024 .f32} {gf : FVec Ideal S1024 .f32}

theorem rH_at (b : Fin 8) (s : Fin 2048) (e : Fin 1024) : rH x att ga mc wao wo (ix3 b s e) = gH (inp x att ga mc wao wo g2 wup cw wdn gf) b s e := by
  unfold rH gH
  pointwise
  rfl

theorem rX_at (b : Fin 8) (s : Fin 2048) (e : Fin 1024) : rX x att ga mc wao wo g2 (ix3 b s e) = gX (inp x att ga mc wao wo g2 wup cw wdn gf) b s e := by
  unfold rX gX nrm
  pointwise
  simp only [rH_at (g2 := g2) (wup := wup) (cw := cw) (wdn := wdn) (gf := gf)]
  rfl

theorem rPad_at (b : Fin 8) (q : Fin 2050) (n : Fin 5632) : rPad x att ga mc wao wo g2 wup (ix3 b q n) = if h : 2 ≤ q.val then gU (inp x att ga mc wao wo g2 wup cw wdn gf) b ⟨q.val - 2, by omega⟩ n.val else 0 := by
  unfold rPad
  pointwise
  by_cases h : 2 ≤ q.val
  · rw [dif_pos h, dif_pos ⟨h, by omega⟩]
    show (_ : EReal) = _
    unfold gU
    refine Finset.sum_congr rfl fun k _ => ?_
    rw [rX_at (wup := wup) (cw := cw) (wdn := wdn) (gf := gf)]
    show _ = _ * (if h : n.val < 5632 then wup (ix3 0 k ⟨n.val, h⟩) else 0)
    rw [dif_pos n.isLt]
  · rw [dif_neg h, dif_neg fun h' => h h'.1]
    show (((0#32 : BitVec 32).toInt : ℝ) : EReal) = 0
    simp

theorem cw_at (k : Fin 3) (n : Fin 5632) : (inp x att ga mc wao wo g2 wup cw wdn gf).cw k n.val = cw (ix3 0 k n) := dif_pos n.isLt

theorem wdn_at (k : Fin 2816) (e : Fin 1024) : (inp x att ga mc wao wo g2 wup cw wdn gf).wdn k.val e = wdn (ix3 0 k e) := dif_pos k.isLt

theorem rCv_at (b : Fin 8) (s : Fin 2048) (n : Fin 5632) : rCv x att ga mc wao wo g2 wup cw (ix3 b s n) = gC (inp x att ga mc wao wo g2 wup cw wdn gf) b s n.val := by
  unfold rCv gC gS
  pointwise
  simp only [rPad_at (cw := cw) (wdn := wdn) (gf := gf), cw_at]
  have e1 : (if h : 2 ≤ 1 + s.val then gU (inp x att ga mc wao wo g2 wup cw wdn gf) b ⟨1 + s.val - 2, by omega⟩ n.val else 0) = if 1 ≤ s.val then gU (inp x att ga mc wao wo g2 wup cw wdn gf) b ⟨s.val - 1, by omega⟩ n.val else 0 := by
    by_cases h : 1 ≤ s.val
    · rw [dif_pos (by omega), if_pos h]
      exact congrArg (fun q => gU (inp x att ga mc wao wo g2 wup cw wdn gf) b q n.val) (Fin.ext (by show 1 + s.val - 2 = s.val - 1; omega))
    · rw [dif_neg (by omega), if_neg h]
  have e2 : (if h : 2 ≤ 2 + s.val then gU (inp x att ga mc wao wo g2 wup cw wdn gf) b ⟨2 + s.val - 2, by omega⟩ n.val else 0) = gU (inp x att ga mc wao wo g2 wup cw wdn gf) b s n.val := by
    rw [dif_pos (by omega)]
    exact congrArg (fun q => gU (inp x att ga mc wao wo g2 wup cw wdn gf) b q n.val) (Fin.ext (by show 2 + s.val - 2 = s.val; omega))
  exact congrArg₂ (· + ·) (congrArg₂ (· + ·) rfl (congrArg (· * _) e1)) (congrArg (· * _) e2)

theorem rO_at (b : Fin 8) (s : Fin 2048) (e : Fin 1024) : rO x att ga mc wao wo g2 wup cw wdn (ix3 b s e) = gO (inp x att ga mc wao wo g2 wup cw wdn gf) b s e := by
  unfold rO gO gA
  pointwise
  simp only [rH_at (g2 := g2) (wup := wup) (cw := cw) (wdn := wdn) (gf := gf), rCv_at (wdn := wdn) (gf := gf)]
  show (_ : EReal) = _
  refine congrArg (fun q : EReal => gH (inp x att ga mc wao wo g2 wup cw wdn gf) b s e + q) (Finset.sum_congr rfl fun k _ => ?_)
  exact congrArg₂ (· * ·) rfl (wdn_at k e).symm

theorem rF_at (b : Fin 8) (s : Fin 2048) (e : Fin 1024) : rF x att ga mc wao wo g2 wup cw wdn gf (ix3 b s e) = gF (inp x att ga mc wao wo g2 wup cw wdn gf) b s e := by
  unfold rF gF nrm
  pointwise
  simp only [rO_at (gf := gf)]
  rfl

end Cert.Proof.FfnRef

end
-- ==== Proof.Ffn.Val.lean ====
/- The feed-forward call leaves what its plain form computes. -/
module

public import proofs.«01_k».proof.Proof.Ffn.Step
public import proofs.«01_k».proof.Proof.Ffn.Ref

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (c : Dev nD)

/-- After point `n` the slots hold tile `n`, and past the first point the chunk buffers and the output hold tile `n - 1`. -/
def After (n : ℕ) (hn : n < cfg0.N) : Prop :=
  slots m c (min n 63) ⟨n % 2, by omega⟩ (outs m c n hn).2
    ∧ (n ≠ 0 → rows m c (n - 1) (outs m c n hn).2 ∧ ∀ (r : Fin 256) (e : Fin 1024), (outs m c n hn).1 (ix3 (0 : Fin 1) r e) = gF (inpm m c) (tb (n - 1)) (ts (n - 1) r) e)

/-- It does after every point. -/
theorem after_all : ∀ (n : ℕ) (hn : n < cfg0.N), After m c n hn := by
  intro n
  induction n with
  | zero =>
    intro hn
    have e : outs m c 0 hn = outA m c ⟨0, hn⟩ rfl := outs_A m c ⟨0, hn⟩ rfl
    unfold After
    rw [e]
    exact ⟨slotsA m c ⟨0, hn⟩ rfl, fun h => absurd rfl h⟩
  | succ n ih =>
    intro hn
    have hN : cfg0.N = 65 := N_0
    have hp : n < cfg0.N := by omega
    obtain ⟨i1, i2⟩ := ih hp
    have hs : slots m c n ⟨(n + 1 + 1) % 2, by omega⟩ (outs m c n hp).2 := by
      have e1 : (⟨(n + 1 + 1) % 2, by omega⟩ : Fin 2) = ⟨n % 2, by omega⟩ := Fin.ext (by show (n + 1 + 1) % 2 = n % 2; omega)
      rw [e1]
      rw [min_eq_left (by omega : n ≤ 63)] at i1
      exact i1
    unfold After
    by_cases h' : (n + 1) % 8 = 1
    · have e : outs m c (n + 1) hn = outB m c ⟨n + 1, hn⟩ (Nat.succ_ne_zero n) h' (outs m c n hp).2 := outs_B m c ⟨n + 1, hn⟩ (Nat.succ_ne_zero n) h'
      rw [e]
      exact ⟨slotsB m c ⟨n + 1, hn⟩ (Nat.succ_ne_zero n) h' _, fun _ => stepB m c ⟨n + 1, hn⟩ (Nat.succ_ne_zero n) h' _ hs⟩
    · have e : outs m c (n + 1) hn = outC m c ⟨n + 1, hn⟩ (Nat.succ_ne_zero n) h' (outs m c n hp).2 := outs_C m c ⟨n + 1, hn⟩ (Nat.succ_ne_zero n) h'
      rw [e]
      exact ⟨slotsC m c ⟨n + 1, hn⟩ (Nat.succ_ne_zero n) h' _, fun _ => stepC m c ⟨n + 1, hn⟩ (Nat.succ_ne_zero n) h' _ hs fun hne => (i2 (fun h0 => hne (by subst h0; rfl))).1⟩

theorem idx11 : ∀ t : Fin cfg0.N, win0_11.index t = ![(t.val - 1) / 8, (t.val - 1) % 8, 0] := by decide +kernel

theorem flush11 : ∀ t : Fin cfg0.N, win0_11.flush t = true → t.val ≠ 0 := by decide +kernel

/-- The call's result is the plain form's. -/
theorem out11 : (dats m 0 c).arrAt 11 cfg0.N = Cert.Proof.FfnRef.rF (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  refine (dats m 0 c).arrAt_eq_of_covers 11 _ (show win0_11.Covers by decide +kernel) fun t hf y => ?_
  have hz : t.val ≠ 0 := flush11 t hf
  blk_simp
  rw [after11]
  have ht : t.val < 65 := t.isLt
  idx_vars y
  have hb : (tb (t.val - 1)).val = (t.val - 1) / 8 := by show (t.val - 1) / 8 % 8 = _; omega
  have hs : (ts (t.val - 1) y1).val = 256 * ((t.val - 1) % 8) + y1.val := rfl
  have e : ((View.whole main_v10).slice (win0_11.rect t)).emb (ix3 y0 y1 y2) = ix3 (tb (t.val - 1)) (ts (t.val - 1) y1) y2 := by
    generalize tb (t.val - 1) = b at hb ⊢
    generalize ts (t.val - 1) y1 = s at hs ⊢
    blk_ext [idx11 t]
  rw [e]
  have hy : y0 = (0 : Fin 1) := Subsingleton.elim _ _
  subst hy
  refine (((after_all m c t.val t.isLt).2 hz).2 y1 y2).trans ?_
  exact (Cert.Proof.FfnRef.rF_at _ _ _).symm

end Cert.Kernel3Ideal.Ffn

end
-- ==== Proof.Ffn.Exact.lean ====
/- The feed-forward call computes what its plain form computes. -/
module

public import proofs.«01_k».proof.Defs
public import proofs.«01_k».proof.Proof.Ffn.Val

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.Sem
open Idealize.ShloMosaic.Pipeline (Dat Cfg Window)

/-- From equal arguments the call and its plain form end with the same result, their arguments unchanged. -/
theorem equal : Cert.algebraic_Kernel3Ideal_Reference3Ideal := by
  intro m g m' g' _ hag
  refine ⟨fun c => Cert.Proof.FfnRef.rF (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (m (c.tc.loc Cert.Kernel3Ideal.main_arg5)) (m (c.tc.loc Cert.Kernel3Ideal.main_arg6)) (m (c.tc.loc Cert.Kernel3Ideal.main_arg7)) (m (c.tc.loc Cert.Kernel3Ideal.main_arg8)) (m (c.tc.loc Cert.Kernel3Ideal.main_arg9)) (m (c.tc.loc Cert.Kernel3Ideal.main_arg10)), ?_, ?_⟩
  · refine (θ_run _ _ _).mono (fun r h c => ?_) (run_main (F := Ideal) m g)
    exact ⟨((h c).1 11).trans (out11 m c),
      ((h c).1 0).trans (((dats m 0 c).arrAt_in 0 rfl _).trans ((A_eq m c 0).trans (V_arg0 m c))),
      ((h c).1 1).trans (((dats m 0 c).arrAt_in 1 rfl _).trans ((A_eq m c 1).trans (V_arg1 m c))),
      ((h c).1 2).trans (((dats m 0 c).arrAt_in 2 rfl _).trans ((A_eq m c 2).trans (V_arg2 m c))),
      ((h c).1 3).trans (((dats m 0 c).arrAt_in 3 rfl _).trans ((A_eq m c 3).trans (V_arg3 m c))),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).1 6).trans (((dats m 0 c).arrAt_in 6 rfl _).trans ((A_eq m c 6).trans (V_arg6 m c))),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c)⟩
  · refine (θ_run _ _ _).mono (fun r h c => ?_) (Cert.Reference3Ideal.Value.run (F := Ideal) m' g')
    obtain ⟨h0, hk⟩ := h c
    obtain ⟨e0, e1, e2, e3, e4, e5, e6, e7, e8, e9, e10⟩ := hag c
    refine ⟨h0.trans ?_, hk⟩
    unfold Cert.Reference3Ideal.Value.res_main_v65
    rw [e0, e1, e2, e3, e4, e5, e6, e7, e8, e9, e10]
    rfl

end Cert.Kernel3Ideal.Ffn

end
-- ==== Proof.lean ====
module

public import proofs.«01_k».proof.Defs
public import proofs.«01_k».proof.Proof.Gen.Kernel
public import proofs.«01_k».proof.Proof.Gen.Reference
public import proofs.«01_k».proof.Proof.Gen.On_casts_only
public import proofs.«01_k».proof.Proof.Attn.Exact
public import proofs.«01_k».proof.Proof.Gen.Reference.Run
public import proofs.«01_k».proof.Proof.Gen.Kernel2.Frame
public import proofs.«01_k».proof.Proof.Gen.Kernel2Ideal.Value
public import proofs.«01_k».proof.Proof.Gen.Reference2Ideal.Run
public import proofs.«01_k».proof.Proof.Proj.Exact
public import proofs.«01_k».proof.Proof.Gen.Kernel3
public import proofs.«01_k».proof.Proof.Gen.Kernel3Ideal
public import proofs.«01_k».proof.Proof.Gen.Kernel3.Points
public import proofs.«01_k».proof.Proof.Gen.Kernel3.Launch
public import proofs.«01_k».proof.Proof.Gen.Kernel3.Skeleton
public import proofs.«01_k».proof.Proof.Gen.Kernel3Ideal.Points
public import proofs.«01_k».proof.Proof.Gen.Kernel3Ideal.Launch
public import proofs.«01_k».proof.Proof.Gen.Kernel3Ideal.Skeleton
public import proofs.«01_k».proof.Proof.Ffn.Frame3
public import proofs.«01_k».proof.Proof.Ffn.Exact
public import proofs.«01_k».proof.Proof.Gen.Reference3Ideal.Run

@[expose] public section

noncomputable section

namespace Cert.Proof

open Idealize.ShloMosaic Idealize.SL.Sem

/-- The plain attention ends with its arguments as they were; it has no counters. -/
theorem frame_reference : Cert.quiescent_Reference := fun m g _ =>
  (θ_run Cert.Reference.defs _ _).mono (fun _ h => ⟨fun c => (h c).2.2.2.2.2, sem_eq_zero_of_no_sems (by decide) _⟩) (Cert.Reference.Value.run (F := Bits) m g)

/-- The projections' plain form ends with its arguments as they were; it has no counters. -/
theorem frame_reference2 : Cert.quiescent_Reference2Ideal := fun m g _ =>
  (θ_run Cert.Reference2Ideal.defs _ _).mono (fun _ h => ⟨fun c => (h c).2.2.2.2.2.2.2.2, sem_eq_zero_of_no_sems (by decide) _⟩) (Cert.Reference2Ideal.Value.run (F := Ideal) m g)

/-- The feed-forward's plain form ends with its arguments as they were; it has no counters. -/
theorem frame_reference3 : Cert.quiescent_Reference3Ideal := fun m g _ =>
  (θ_run Cert.Reference3Ideal.defs _ _).mono (fun _ h => ⟨fun c => (h c).2, sem_eq_zero_of_no_sems (by decide) _⟩) (Cert.Reference3Ideal.Value.run (F := Ideal) m g)

theorem claim : Cert.Claim :=
  ⟨Cert.Kernel.Gen.facts, Cert.Reference.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.On_casts_only.Gen.facts,
    Attn.frame_kernel, frame_reference, fun m ρ _ => Cert.Kernel2.Gen.frame m ρ, fun m ρ _ => Cert.Kernel2Ideal.Gen.frame m ρ, frame_reference2,
    Cert.Kernel3Ideal.Ffn.frame_bits, Cert.Kernel3Ideal.Ffn.frame_ideal, frame_reference3,
    Attn.casts_exact, trivial, Proj.equal, trivial, Cert.Kernel3Ideal.Ffn.equal⟩

end Cert.Proof

end
